-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1)
      ∧ r.2.mem ((c.tc : Thread Cert.BranchA.nD Cert.BranchA.τ).loc Cert.BranchA.main_arg2) = m ((c.tc : Thread Cert.BranchA.nD Cert.BranchA.τ).loc Cert.BranchA.main_arg2)
      ∧ r.2.mem ((c.tc : Thread Cert.BranchA.nD Cert.BranchA.τ).loc Cert.BranchA.main_arg3) = m ((c.tc : Thread Cert.BranchA.nD Cert.BranchA.τ).loc Cert.BranchA.main_arg3)
      ∧ r.2.mem ((c.tc : Thread Cert.BranchA.nD Cert.BranchA.τ).loc Cert.BranchA.main_arg4) = m ((c.tc : Thread Cert.BranchA.nD Cert.BranchA.τ).loc Cert.BranchA.main_arg4)
      ∧ r.2.mem ((c.tc : Thread Cert.BranchA.nD Cert.BranchA.τ).loc Cert.BranchA.main_arg5) = m ((c.tc : Thread Cert.BranchA.nD Cert.BranchA.τ).loc Cert.BranchA.main_arg5)
      ∧ r.2.mem ((c.tc : Thread Cert.BranchA.nD Cert.BranchA.τ).loc Cert.BranchA.main_arg6) = m ((c.tc : Thread Cert.BranchA.nD Cert.BranchA.τ).loc Cert.BranchA.main_arg6))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
      ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
      ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3)
      ∧ r.2.mem ((c.tc : Thread Cert.BranchAIdeal.nD Cert.BranchAIdeal.τ).loc Cert.BranchAIdeal.main_arg4) = m ((c.tc : Thread Cert.BranchAIdeal.nD Cert.BranchAIdeal.τ).loc Cert.BranchAIdeal.main_arg4)
      ∧ r.2.mem ((c.tc : Thread Cert.BranchAIdeal.nD Cert.BranchAIdeal.τ).loc Cert.BranchAIdeal.main_arg5) = m ((c.tc : Thread Cert.BranchAIdeal.nD Cert.BranchAIdeal.τ).loc Cert.BranchAIdeal.main_arg5)
      ∧ r.2.mem ((c.tc : Thread Cert.BranchAIdeal.nD Cert.BranchAIdeal.τ).loc Cert.BranchAIdeal.main_arg6) = m ((c.tc : Thread Cert.BranchAIdeal.nD Cert.BranchAIdeal.τ).loc Cert.BranchAIdeal.main_arg6))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1)
      ∧ r.2.mem ((c.tc : Thread Cert.BranchARefIdeal.nD Cert.BranchARefIdeal.τ).loc Cert.BranchARefIdeal.main_arg2) = m ((c.tc : Thread Cert.BranchARefIdeal.nD Cert.BranchARefIdeal.τ).loc Cert.BranchARefIdeal.main_arg2)
      ∧ r.2.mem ((c.tc : Thread Cert.BranchARefIdeal.nD Cert.BranchARefIdeal.τ).loc Cert.BranchARefIdeal.main_arg3) = m ((c.tc : Thread Cert.BranchARefIdeal.nD Cert.BranchARefIdeal.τ).loc Cert.BranchARefIdeal.main_arg3)
      ∧ r.2.mem ((c.tc : Thread Cert.BranchARefIdeal.nD Cert.BranchARefIdeal.τ).loc Cert.BranchARefIdeal.main_arg4) = m ((c.tc : Thread Cert.BranchARefIdeal.nD Cert.BranchARefIdeal.τ).loc Cert.BranchARefIdeal.main_arg4)
      ∧ r.2.mem ((c.tc : Thread Cert.BranchARefIdeal.nD Cert.BranchARefIdeal.τ).loc Cert.BranchARefIdeal.main_arg5) = m ((c.tc : Thread Cert.BranchARefIdeal.nD Cert.BranchARefIdeal.τ).loc Cert.BranchARefIdeal.main_arg5)
      ∧ r.2.mem ((c.tc : Thread Cert.BranchARefIdeal.nD Cert.BranchARefIdeal.τ).loc Cert.BranchARefIdeal.main_arg6) = m ((c.tc : Thread Cert.BranchARefIdeal.nD Cert.BranchARefIdeal.τ).loc Cert.BranchARefIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9)
      ∧ r.2.mem ((c.tc : Thread Cert.Router.nD Cert.Router.τ).loc Cert.Router.main_arg10) = m ((c.tc : Thread Cert.Router.nD Cert.Router.τ).loc Cert.Router.main_arg10))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9)
      ∧ r.2.mem ((c.tc : Thread Cert.RouterRefIdeal.nD Cert.RouterRefIdeal.τ).loc Cert.RouterRefIdeal.main_arg10) = m ((c.tc : Thread Cert.RouterRefIdeal.nD Cert.RouterRefIdeal.τ).loc Cert.RouterRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v6_0)) (v1 : (c : Dev Cert.ExpertsIdeal.nD) → Buf (Elt Ideal) ((c.tc : Thread Cert.ExpertsIdeal.nD Cert.ExpertsIdeal.τ).loc Cert.ExpertsIdeal.main_v6_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6_0) = v0 c
          ∧ r.2.mem ((c.tc : Thread Cert.ExpertsIdeal.nD Cert.ExpertsIdeal.τ).loc Cert.ExpertsIdeal.main_v6_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v64) = v0 c
          ∧ r.2.mem ((c.tc : Thread Cert.ExpertsRefIdeal.nD Cert.ExpertsRefIdeal.τ).loc Cert.ExpertsRefIdeal.main_v66) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)
      ∧ m' ((c.tc : Thread Cert.BranchARefIdeal.nD Cert.BranchARefIdeal.τ).loc Cert.BranchARefIdeal.main_arg2) = m ((c.tc : Thread Cert.BranchAIdeal.nD Cert.BranchAIdeal.τ).loc Cert.BranchAIdeal.main_arg2)
      ∧ m' ((c.tc : Thread Cert.BranchARefIdeal.nD Cert.BranchARefIdeal.τ).loc Cert.BranchARefIdeal.main_arg3) = m ((c.tc : Thread Cert.BranchAIdeal.nD Cert.BranchAIdeal.τ).loc Cert.BranchAIdeal.main_arg3)
      ∧ m' ((c.tc : Thread Cert.BranchARefIdeal.nD Cert.BranchARefIdeal.τ).loc Cert.BranchARefIdeal.main_arg4) = m ((c.tc : Thread Cert.BranchAIdeal.nD Cert.BranchAIdeal.τ).loc Cert.BranchAIdeal.main_arg4)
      ∧ m' ((c.tc : Thread Cert.BranchARefIdeal.nD Cert.BranchARefIdeal.τ).loc Cert.BranchARefIdeal.main_arg5) = m ((c.tc : Thread Cert.BranchAIdeal.nD Cert.BranchAIdeal.τ).loc Cert.BranchAIdeal.main_arg5)
      ∧ m' ((c.tc : Thread Cert.BranchARefIdeal.nD Cert.BranchARefIdeal.τ).loc Cert.BranchARefIdeal.main_arg6) = m ((c.tc : Thread Cert.BranchAIdeal.nD Cert.BranchAIdeal.τ).loc Cert.BranchAIdeal.main_arg6)) →
    ∃ (v0 : (c : Dev Cert.BranchAIdeal.nD) → Buf (Elt Ideal) ((c.tc : Thread Cert.BranchAIdeal.nD Cert.BranchAIdeal.τ).loc Cert.BranchAIdeal.main_v16)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v16) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
          ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
          ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3)
          ∧ r.2.mem ((c.tc : Thread Cert.BranchAIdeal.nD Cert.BranchAIdeal.τ).loc Cert.BranchAIdeal.main_arg4) = m ((c.tc : Thread Cert.BranchAIdeal.nD Cert.BranchAIdeal.τ).loc Cert.BranchAIdeal.main_arg4)
          ∧ r.2.mem ((c.tc : Thread Cert.BranchAIdeal.nD Cert.BranchAIdeal.τ).loc Cert.BranchAIdeal.main_arg5) = m ((c.tc : Thread Cert.BranchAIdeal.nD Cert.BranchAIdeal.τ).loc Cert.BranchAIdeal.main_arg5)
          ∧ r.2.mem ((c.tc : Thread Cert.BranchAIdeal.nD Cert.BranchAIdeal.τ).loc Cert.BranchAIdeal.main_arg6) = m ((c.tc : Thread Cert.BranchAIdeal.nD Cert.BranchAIdeal.τ).loc Cert.BranchAIdeal.main_arg6))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v71) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1)
          ∧ r.2.mem ((c.tc : Thread Cert.BranchARefIdeal.nD Cert.BranchARefIdeal.τ).loc Cert.BranchARefIdeal.main_arg2) = m' ((c.tc : Thread Cert.BranchARefIdeal.nD Cert.BranchARefIdeal.τ).loc Cert.BranchARefIdeal.main_arg2)
          ∧ r.2.mem ((c.tc : Thread Cert.BranchARefIdeal.nD Cert.BranchARefIdeal.τ).loc Cert.BranchARefIdeal.main_arg3) = m' ((c.tc : Thread Cert.BranchARefIdeal.nD Cert.BranchARefIdeal.τ).loc Cert.BranchARefIdeal.main_arg3)
          ∧ r.2.mem ((c.tc : Thread Cert.BranchARefIdeal.nD Cert.BranchARefIdeal.τ).loc Cert.BranchARefIdeal.main_arg4) = m' ((c.tc : Thread Cert.BranchARefIdeal.nD Cert.BranchARefIdeal.τ).loc Cert.BranchARefIdeal.main_arg4)
          ∧ r.2.mem ((c.tc : Thread Cert.BranchARefIdeal.nD Cert.BranchARefIdeal.τ).loc Cert.BranchARefIdeal.main_arg5) = m' ((c.tc : Thread Cert.BranchARefIdeal.nD Cert.BranchARefIdeal.τ).loc Cert.BranchARefIdeal.main_arg5)
          ∧ r.2.mem ((c.tc : Thread Cert.BranchARefIdeal.nD Cert.BranchARefIdeal.τ).loc Cert.BranchARefIdeal.main_arg6) = m' ((c.tc : Thread Cert.BranchARefIdeal.nD Cert.BranchARefIdeal.τ).loc Cert.BranchARefIdeal.main_arg6))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v21)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v21) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v44) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v19) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v14_0)) (v1 : (c : Dev Cert.RopeIdeal.nD) → Buf (Elt Ideal) ((c.tc : Thread Cert.RopeIdeal.nD Cert.RopeIdeal.τ).loc Cert.RopeIdeal.main_v14_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v14_0) = v0 c
          ∧ r.2.mem ((c.tc : Thread Cert.RopeIdeal.nD Cert.RopeIdeal.τ).loc Cert.RopeIdeal.main_v14_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v21) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)
      ∧ m' ((c.tc : Thread Cert.RouterRefIdeal.nD Cert.RouterRefIdeal.τ).loc Cert.RouterRefIdeal.main_arg8) = m ((c.tc : Thread Cert.RouterIdeal.nD Cert.RouterIdeal.τ).loc Cert.RouterIdeal.main_arg8)
      ∧ m' ((c.tc : Thread Cert.RouterRefIdeal.nD Cert.RouterRefIdeal.τ).loc Cert.RouterRefIdeal.main_arg9) = m ((c.tc : Thread Cert.RouterIdeal.nD Cert.RouterIdeal.τ).loc Cert.RouterIdeal.main_arg9)
      ∧ m' ((c.tc : Thread Cert.RouterRefIdeal.nD Cert.RouterRefIdeal.τ).loc Cert.RouterRefIdeal.main_arg10) = m ((c.tc : Thread Cert.RouterIdeal.nD Cert.RouterIdeal.τ).loc Cert.RouterIdeal.main_arg10)) →
    ∃ (v0 : (c : Dev Cert.RouterIdeal.nD) → Buf (Elt Ideal) ((c.tc : Thread Cert.RouterIdeal.nD Cert.RouterIdeal.τ).loc Cert.RouterIdeal.main_v21_0)) (v1 : (c : Dev Cert.RouterIdeal.nD) → Buf (Elt Ideal) ((c.tc : Thread Cert.RouterIdeal.nD Cert.RouterIdeal.τ).loc Cert.RouterIdeal.main_v21_5)) (v2 : (c : Dev Cert.RouterIdeal.nD) → Buf (Elt Ideal) ((c.tc : Thread Cert.RouterIdeal.nD Cert.RouterIdeal.τ).loc Cert.RouterIdeal.main_v21_6)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v21_0) = v0 c
          ∧ r.2.mem ((c.tc : Thread Cert.RouterIdeal.nD Cert.RouterIdeal.τ).loc Cert.RouterIdeal.main_v21_5) = v1 c
          ∧ r.2.mem ((c.tc : Thread Cert.RouterIdeal.nD Cert.RouterIdeal.τ).loc Cert.RouterIdeal.main_v21_6) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
          ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v11) = v0 c
          ∧ r.2.mem ((c.tc : Thread Cert.RouterRefIdeal.nD Cert.RouterRefIdeal.τ).loc Cert.RouterRefIdeal.main_v37) = v1 c
          ∧ r.2.mem ((c.tc : Thread Cert.RouterRefIdeal.nD Cert.RouterRefIdeal.τ).loc Cert.RouterRefIdeal.main_v39) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7)
          ∧ r.2.mem ((c.tc : Thread Cert.RouterRefIdeal.nD Cert.RouterRefIdeal.τ).loc Cert.RouterRefIdeal.main_arg8) = m' ((c.tc : Thread Cert.RouterRefIdeal.nD Cert.RouterRefIdeal.τ).loc Cert.RouterRefIdeal.main_arg8)
          ∧ r.2.mem ((c.tc : Thread Cert.RouterRefIdeal.nD Cert.RouterRefIdeal.τ).loc Cert.RouterRefIdeal.main_arg9) = m' ((c.tc : Thread Cert.RouterRefIdeal.nD Cert.RouterRefIdeal.τ).loc Cert.RouterRefIdeal.main_arg9)
          ∧ r.2.mem ((c.tc : Thread Cert.RouterRefIdeal.nD Cert.RouterRefIdeal.τ).loc Cert.RouterRefIdeal.main_arg10) = m' ((c.tc : Thread Cert.RouterRefIdeal.nD Cert.RouterRefIdeal.τ).loc Cert.RouterRefIdeal.main_arg10))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsRefIdeal : Cert.ExpertsRefIdeal.Facts) (hBranchA : Cert.BranchA.Facts) (hBranchAIdeal : Cert.BranchAIdeal.Facts) (hBranchARefIdeal : Cert.BranchARefIdeal.Facts) (hCombine : Cert.Combine.Facts) (hCombineIdeal : Cert.CombineIdeal.Facts) (hCombineRefIdeal : Cert.CombineRefIdeal.Facts) (hModulation : Cert.Modulation.Facts) (hModulationIdeal : Cert.ModulationIdeal.Facts) (hModulationRefIdeal : Cert.ModulationRefIdeal.Facts) (hRope : Cert.Rope.Facts) (hRopeIdeal : Cert.RopeIdeal.Facts) (hRopeRefIdeal : Cert.RopeRefIdeal.Facts) (hRouter : Cert.Router.Facts) (hRouterIdeal : Cert.RouterIdeal.Facts) (hRouterRefIdeal : Cert.RouterRefIdeal.Facts) (hPre_rows_in_range : Cert.Pre_rows_in_range.Facts) (hPre_experts_in_range : Cert.Pre_experts_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_BranchA (hBranchA := hBranchA)
    ∧ quiescent_BranchAIdeal (hBranchAIdeal := hBranchAIdeal)
    ∧ quiescent_BranchARefIdeal (hBranchARefIdeal := hBranchARefIdeal)
    ∧ quiescent_Combine (hCombine := hCombine)
    ∧ quiescent_CombineIdeal (hCombineIdeal := hCombineIdeal)
    ∧ quiescent_CombineRefIdeal (hCombineRefIdeal := hCombineRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Rope (hRope := hRope)
    ∧ quiescent_RopeIdeal (hRopeIdeal := hRopeIdeal)
    ∧ quiescent_RopeRefIdeal (hRopeRefIdeal := hRopeRefIdeal)
    ∧ quiescent_Router (hRouter := hRouter)
    ∧ quiescent_RouterIdeal (hRouterIdeal := hRouterIdeal)
    ∧ quiescent_RouterRefIdeal (hRouterRefIdeal := hRouterRefIdeal)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_BranchA_BranchAIdeal
    ∧ algebraic_BranchAIdeal_BranchARefIdeal (hBranchAIdeal := hBranchAIdeal) (hBranchARefIdeal := hBranchARefIdeal)
    ∧ preserves_Combine_CombineIdeal
    ∧ algebraic_CombineIdeal_CombineRefIdeal (hCombineIdeal := hCombineIdeal) (hCombineRefIdeal := hCombineRefIdeal)
    ∧ preserves_Modulation_ModulationIdeal
    ∧ algebraic_ModulationIdeal_ModulationRefIdeal (hModulationIdeal := hModulationIdeal) (hModulationRefIdeal := hModulationRefIdeal)
    ∧ preserves_Rope_RopeIdeal
    ∧ algebraic_RopeIdeal_RopeRefIdeal (hRopeIdeal := hRopeIdeal) (hRopeRefIdeal := hRopeRefIdeal)
    ∧ preserves_Router_RouterIdeal
    ∧ algebraic_RouterIdeal_RouterRefIdeal (hRouterIdeal := hRouterIdeal) (hRouterRefIdeal := hRouterRefIdeal)
-- ==== Pre_experts_in_range.lean ====
abbrev S147456x1024 : Shape := ⟨2, ![147456, 1024]⟩
abbrev S288 : Shape := ⟨1, ![288]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x1024 .f32) (main_arg1 : IVec S288 32) (main_arg2 : FVec F S2x32x1024x2048 .f32) (main_arg3 : FVec F S2x32x2048 .f32) (main_arg4 : FVec F S2x32x1024x1024 .f32) (main_arg5 : FVec F S2x32x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_rows_in_range.lean ====
abbrev S32768x256 : Shape := ⟨2, ![32768, 256]⟩
abbrev S147456 : Shape := ⟨1, ![147456]⟩
abbrev S_ : Shape := ⟨0, ![]⟩

class Facts : Prop where
  bcast_S_S147456 : S_.BroadcastsInDim S147456 (![] : Fin 0 → Fin S147456.rank)

variable [Facts]

def fn {F : FTy → Type} [FloatOps F] (main_arg0 : IVec S32768x256 32) (main_arg1 : IVec S147456 32) : IVec S147456 1 :=
  let main_c : IVec S_ 32 := constantI S_ 32 0#32
  let main_v0 : IVec S147456 32 := broadcastInDim S147456 ![] bcast_S_S147456 main_c
  let main_v1 : IVec S147456 1 := cmpi .sge main_arg1 main_v0
  let main_c_0 : IVec S_ 32 := constantI S_ 32 32768#32
  let main_v2 : IVec S147456 32 := broadcastInDim S147456 ![] bcast_S_S147456 main_c_0
  let main_v3 : IVec S147456 1 := cmpi .slt main_arg1 main_v2
  let main_v4 : IVec S147456 1 := andi main_v1 main_v3
  main_v4
-- ==== Kernel.lean ====
abbrev S32768x256 : Shape := ⟨2, ![32768, 256]⟩
abbrev S147456 : Shape := ⟨1, ![147456]⟩
abbrev S1x147456 : Shape := ⟨2, ![1, 147456]⟩
abbrev S147456x256 : Shape := ⟨2, ![147456, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S32768x128 : Shape := ⟨2, ![32768, 128]⟩

abbrev nBuf : Table → Nat
  | .hbm => 4
  | .local .scVector .vmem => 2
  | _ => 0

abbrev bufTy : (tb : Table) → Fin (nBuf tb) → BufTy
  | .hbm, ⟨0, _⟩ => ⟨S32768x256, .i32⟩
  | .hbm, ⟨1, _⟩ => ⟨S147456, .i32⟩
  | .hbm, ⟨2, _⟩ => ⟨S1x147456, .i32⟩
  | .hbm, ⟨3, _⟩ => ⟨S147456x256, .i32⟩
  | .local .scVector .vmem, ⟨0, _⟩ => ⟨S2x1x128, .i32⟩
  | .local .scVector .vmem, ⟨1, _⟩ => ⟨S2x128x256, .i32⟩
  | _, _ => ⟨S32768x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_27_r0 : BitVec 32 := 0#32
  let c0_i32_28_r0 : BitVec 32 := 0#32
  ![v21_r0.toNat, 0, 0]
def k0_off2 (i : grid0.Coords) : Fin 2 → Nat :=
  let c0_i32_29_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v7_r0 : BitVec 32 := Scalar.addi c0_i32_1_r0 v4
  let c36_i32_14_r0 : BitVec 32 := 36#32
  let c0_i32_15_r0 : BitVec 32 := 0#32
  let v22_r0 : BitVec 1 := Scalar.cmpi .eq c36_i32_14_r0 c0_i32_15_r0
  let c1_i32_16_r0 : BitVec 32 := 1#32
  let v23_r0 : BitVec 32 := Scalar.select v22_r0 c1_i32_16_r0 c36_i32_14_r0
  let v24_r0 : BitVec 32 := Scalar.remsi v7_r0 v23_r0
  let c0_i32_18_r0 : BitVec 32 := 0#32
  let v26_r0 : BitVec 1 := Scalar.cmpi .slt v24_r0 c0_i32_18_r0
  let c0_i32_19_r0 : BitVec 32 := 0#32
  let v27_r0 : BitVec 1 := Scalar.cmpi .slt v23_r0 c0_i32_19_r0
  let v28_r0 : BitVec 1 := Scalar.xori v26_r0 v27_r0
  let c0_i32_17_r0 : BitVec 32 := 0#32
  let v25_r0 : BitVec 1 := Scalar.cmpi .ne v24_r0 c0_i32_17_r0
  let v29_r0 : BitVec 1 := Scalar.andi v28_r0 v25_r0
  let v30_r0 : BitVec 32 := Scalar.addi v24_r0 v23_r0
  let v31_r0 : BitVec 32 := Scalar.select v29_r0 v30_r0 v24_r0
  let c32_i32_r0 : BitVec 32 := 32#32
  let v32_r0 : BitVec 32 := Scalar.muli v31_r0 c32_i32_r0
  let c0_i32_21_r0 : BitVec 32 := 0#32
  let v34_r0 : BitVec 1 := Scalar.cmpi .sgt v7_r0 c0_i32_21_r0
  let v35_r0 : BitVec 32 := Scalar.extui v34_r0
  let c0_i32_22_r0 : BitVec 32 := 0#32
  let v36_r0 : BitVec 1 := Scalar.cmpi .slt v7_r0 c0_i32_22_r0
  let v37_r0 : BitVec 32 := Scalar.extui v36_r0
  let v38_r0 : BitVec 32 := Scalar.subi v35_r0 v37_r0
  let c36_i32_20_r0 : BitVec 32 := 36#32
  let c0_i32_23_r0 : BitVec 32 := 0#32
  let v39_r0 : BitVec 1 := Scalar.cmpi .sgt c36_i32_20_r0 c0_i32_23_r0
  let v40_r0 : BitVec 32 := Scalar.extui v39_r0
  let c0_i32_24_r0 : BitVec 32 := 0#32
  let v41_r0 : BitVec 1 := Scalar.cmpi .slt c36_i32_20_r0 c0_i32_24_r0
  let v42_r0 : BitVec 32 := Scalar.extui v41_r0
  let v43_r0 : BitVec 32 := Scalar.subi v40_r0 v42_r0
  let v44_r0 : BitVec 1 := Scalar.cmpi .ne v38_r0 v43_r0
  let v45_r0 : BitVec 32 := Scalar.remsi v7_r0 c36_i32_20_r0
  let c0_i32_25_r0 : BitVec 32 := 0#32
  let v46_r0 : BitVec 1 := Scalar.cmpi .ne v45_r0 c0_i32_25_r0
  let v47_r0 : BitVec 1 := Scalar.andi v44_r0 v46_r0
  let v33_r0 : BitVec 32 := Scalar.divsi v7_r0 c36_i32_20_r0
  let c1_i32_26_r0 : BitVec 32 := 1#32
  let v48_r0 : BitVec 32 := Scalar.subi v33_r0 c1_i32_26_r0
  let v49_r0 : BitVec 32 := Scalar.select v47_r0 v48_r0 v33_r0
  let v50_r0 : BitVec 32 := Scalar.addi v32_r0 v49_r0
  let v51_r0 : BitVec 32 := Scalar.muli c128_i32_r0 v50_r0
  ![0, v51_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_39_r0 : BitVec 32 := 0#32
  let c36_i32_40_r0 : BitVec 32 := 36#32
  let v61_r0 : BitVec 32 := Scalar.addi c0_i32_39_r0 c36_i32_40_r0
  let c1_i32_41_r0 : BitVec 32 := 1#32
  ⟨c0_i32_39_r0, v61_r0, c1_i32_41_r0⟩
def k0_off4 (arg6_r0 : BitVec 32) : Fin 3 → Nat :=
  let c2_i32_211_r0 : BitVec 32 := 2#32
  let v376_r0 : BitVec 32 := Scalar.remui arg6_r0 c2_i32_211_r0
  let c0_i32_227_r0 : BitVec 32 := 0#32
  let c0_i32_228_r0 : BitVec 32 := 0#32
  ![v376_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_95_r0 : BitVec 32 := 36#32
  let c0_i32_96_r0 : BitVec 32 := 0#32
  let v140_r0 : BitVec 1 := Scalar.cmpi .eq c36_i32_95_r0 c0_i32_96_r0
  let c1_i32_97_r0 : BitVec 32 := 1#32
  let v141_r0 : BitVec 32 := Scalar.select v140_r0 c1_i32_97_r0 c36_i32_95_r0
  let v142_r0 : BitVec 32 := Scalar.remsi v124_r0 v141_r0
  let c0_i32_99_r0 : BitVec 32 := 0#32
  let v144_r0 : BitVec 1 := Scalar.cmpi .slt v142_r0 c0_i32_99_r0
  let c0_i32_100_r0 : BitVec 32 := 0#32
  let v145_r0 : BitVec 1 := Scalar.cmpi .slt v141_r0 c0_i32_100_r0
  let v146_r0 : BitVec 1 := Scalar.xori v144_r0 v145_r0
  let c0_i32_98_r0 : BitVec 32 := 0#32
  let v143_r0 : BitVec 1 := Scalar.cmpi .ne v142_r0 c0_i32_98_r0
  let v147_r0 : BitVec 1 := Scalar.andi v146_r0 v143_r0
  let v148_r0 : BitVec 32 := Scalar.addi v142_r0 v141_r0
  let v149_r0 : BitVec 32 := Scalar.select v147_r0 v148_r0 v142_r0
  let c32_i32_101_r0 : BitVec 32 := 32#32
  let v150_r0 : BitVec 32 := Scalar.muli v149_r0 c32_i32_101_r0
  let c0_i32_103_r0 : BitVec 32 := 0#32
  let v152_r0 : BitVec 1 := Scalar.cmpi .sgt v124_r0 c0_i32_103_r0
  let v153_r0 : BitVec 32 := Scalar.extui v152_r0
  let c0_i32_104_r0 : BitVec 32 := 0#32
  let v154_r0 : BitVec 1 := Scalar.cmpi .slt v124_r0 c0_i32_104_r0
  let v155_r0 : BitVec 32 := Scalar.extui v154_r0
  let v156_r0 : BitVec 32 := Scalar.subi v153_r0 v155_r0
  let c36_i32_102_r0 : BitVec 32 := 36#32
  let c0_i32_105_r0 : BitVec 32 := 0#32
  let v157_r0 : BitVec 1 := Scalar.cmpi .sgt c36_i32_102_r0 c0_i32_105_r0
  let v158_r0 : BitVec 32 := Scalar.extui v157_r0
  let c0_i32_106_r0 : BitVec 32 := 0#32
  let v159_r0 : BitVec 1 := Scalar.cmpi .slt c36_i32_102_r0 c0_i32_106_r0
  let v160_r0 : BitVec 32 := Scalar.extui v159_r0
  let v161_r0 : BitVec 32 := Scalar.subi v158_r0 v160_r0
  let v162_r0 : BitVec 1 := Scalar.cmpi .ne v156_r0 v161_r0
  let v163_r0 : BitVec 32 := Scalar.remsi v124_r0 c36_i32_102_r0
  let c0_i32_107_r0 : BitVec 32 := 0#32
  let v164_r0 : BitVec 1 := Scalar.cmpi .ne v163_r0 c0_i32_107_r0
  let v165_r0 : BitVec 1 := Scalar.andi v162_r0 v164_r0
  let v151_r0 : BitVec 32 := Scalar.divsi v124_r0 c36_i32_102_r0
  let c1_i32_108_r0 : BitVec 32 := 1#32
  let v166_r0 : BitVec 32 := Scalar.subi v151_r0 c1_i32_108_r0
  let v167_r0 : BitVec 32 := Scalar.select v165_r0 v166_r0 v151_r0
  let v168_r0 : BitVec 32 := Scalar.addi v150_r0 v167_r0
  let true_88_r0 : BitVec 1 := 1#1
  let c1_i32_87_r0 : BitVec 32 := 1#32
  let v130_r0 : BitVec 32 := Scalar.addi arg10_r0 c1_i32_87_r0
  let v131_r0 : BitVec 32 := Scalar.select true_88_r0 v130_r0 arg10_r0
  let c36_i32_89_r0 : BitVec 32 := 36#32
  let v132_r0 : BitVec 1 := Scalar.cmpi .eq v131_r0 c36_i32_89_r0
  let c0_i32_90_r0 : BitVec 32 := 0#32
  let v133_r0 : BitVec 32 := Scalar.select v132_r0 c0_i32_90_r0 v131_r0
  let v134_r0 : BitVec 32 := Scalar.addi v133_r0 v4
  let c36_i32_109_r0 : BitVec 32 := 36#32
  let c0_i32_110_r0 : BitVec 32 := 0#32
  let v169_r0 : BitVec 1 := Scalar.cmpi .eq c36_i32_109_r0 c0_i32_110_r0
  let c1_i32_111_r0 : BitVec 32 := 1#32
  let v170_r0 : BitVec 32 := Scalar.select v169_r0 c1_i32_111_r0 c36_i32_109_r0
  let v171_r0 : BitVec 32 := Scalar.remsi v134_r0 v170_r0
  let c0_i32_113_r0 : BitVec 32 := 0#32
  let v173_r0 : BitVec 1 := Scalar.cmpi .slt v171_r0 c0_i32_113_r0
  let c0_i32_114_r0 : BitVec 32 := 0#32
  let v174_r0 : BitVec 1 := Scalar.cmpi .slt v170_r0 c0_i32_114_r0
  let v175_r0 : BitVec 1 := Scalar.xori v173_r0 v174_r0
  let c0_i32_112_r0 : BitVec 32 := 0#32
  let v172_r0 : BitVec 1 := Scalar.cmpi .ne v171_r0 c0_i32_112_r0
  let v176_r0 : BitVec 1 := Scalar.andi v175_r0 v172_r0
  let v177_r0 : BitVec 32 := Scalar.addi v171_r0 v170_r0
  let v178_r0 : BitVec 32 := Scalar.select v176_r0 v177_r0 v171_r0
  let c32_i32_115_r0 : BitVec 32 := 32#32
  let v179_r0 : BitVec 32 := Scalar.muli v178_r0 c32_i32_115_r0
  let c0_i32_117_r0 : BitVec 32 := 0#32
  let v181_r0 : BitVec 1 := Scalar.cmpi .sgt v134_r0 c0_i32_117_r0
  let v182_r0 : BitVec 32 := Scalar.extui v181_r0
  let c0_i32_118_r0 : BitVec 32 := 0#32
  let v183_r0 : BitVec 1 := Scalar.cmpi .slt v134_r0 c0_i32_118_r0
  let v184_r0 : BitVec 32 := Scalar.extui v183_r0
  let v185_r0 : BitVec 32 := Scalar.subi v182_r0 v184_r0
  let c36_i32_116_r0 : BitVec 32 := 36#32
  let c0_i32_119_r0 : BitVec 32 := 0#32
  let v186_r0 : BitVec 1 := Scalar.cmpi .sgt c36_i32_116_r0 c0_i32_119_r0
  let v187_r0 : BitVec 32 := Scalar.extui v186_r0
  let c0_i32_120_r0 : BitVec 32 := 0#32
  let v188_r0 : BitVec 1 := Scalar.cmpi .slt c36_i32_116_r0 c0_i32_120_r0
  let v189_r0 : BitVec 32 := Scalar.extui v188_r0
  let v190_r0 : BitVec 32 := Scalar.subi v187_r0 v189_r0
  let v191_r0 : BitVec 1 := Scalar.cmpi .ne v185_r0 v190_r0
  let v192_r0 : BitVec 32 := Scalar.remsi v134_r0 c36_i32_116_r0
  let c0_i32_121_r0 : BitVec 32 := 0#32
  let v193_r0 : BitVec 1 := Scalar.cmpi .ne v192_r0 c0_i32_121_r0
  let v194_r0 : BitVec 1 := Scalar.andi v191_r0 v193_r0
  let v180_r0 : BitVec 32 := Scalar.divsi v134_r0 c36_i32_116_r0
  let c1_i32_122_r0 : BitVec 32 := 1#32
  let v195_r0 : BitVec 32 := Scalar.subi v180_r0 c1_i32_122_r0
  let v196_r0 : BitVec 32 := Scalar.select v194_r0 v195_r0 v180_r0
  let v197_r0 : BitVec 32 := Scalar.addi v179_r0 v196_r0
  let v198_r0 : BitVec 1 := Scalar.cmpi .ne v168_r0 v197_r0
  let c0_i32_39_r0 : BitVec 32 := 0#32
  let c1_i32_41_r0 : BitVec 32 := 1#32
  let arg5_r0 : BitVec 32 := Scf.iv c0_i32_39_r0 c1_i32_41_r0 k0_t1
  let c35_i32_123_r0 : BitVec 32 := 35#32
  let v199_r0 : BitVec 1 := Scalar.cmpi .sge arg5_r0 c35_i32_123_r0
  let true_124_r0 : BitVec 1 := 1#1
  let v200_r0 : BitVec 1 := Scalar.xori v199_r0 true_124_r0
  let v201_r0 : BitVec 1 := Scalar.andi v198_r0 v200_r0
  let true_125_r0 : BitVec 1 := 1#1
  let v202_r0 : BitVec 1 := Scalar.andi v201_r0 true_125_r0
  let v203_r0 : BitVec 32 := Scalar.extui v202_r0
  let c0_i32_126_r0 : BitVec 32 := 0#32
  let v204_r0 : BitVec 1 := Scalar.cmpi .ne v203_r0 c0_i32_126_r0
  v204_r0

def k0_off5 (i : grid0.Coords) (arg10_r0 : BitVec 32) : Fin 2 → Nat :=
  let c0_i32_229_r0 : BitVec 32 := 0#32
  let c128_i32_226_r0 : BitVec 32 := 128#32
  let true_88_r0 : BitVec 1 := 1#1
  let c1_i32_87_r0 : BitVec 32 := 1#32
  let v130_r0 : BitVec 32 := Scalar.addi arg10_r0 c1_i32_87_r0
  let v131_r0 : BitVec 32 := Scalar.select true_88_r0 v130_r0 arg10_r0
  let c36_i32_89_r0 : BitVec 32 := 36#32
  let v132_r0 : BitVec 1 := Scalar.cmpi .eq v131_r0 c36_i32_89_r0
  let c0_i32_90_r0 : BitVec 32 := 0#32
  let v133_r0 : BitVec 32 := Scalar.select v132_r0 c0_i32_90_r0 v131_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v134_r0 : BitVec 32 := Scalar.addi v133_r0 v4
  let c36_i32_212_r0 : BitVec 32 := 36#32
  let c0_i32_213_r0 : BitVec 32 := 0#32
  let v377_r0 : BitVec 1 := Scalar.cmpi .eq c36_i32_212_r0 c0_i32_213_r0
  let c1_i32_214_r0 : BitVec 32 := 1#32
  let v378_r0 : BitVec 32 := Scalar.select v377_r0 c1_i32_214_r0 c36_i32_212_r0
  let v379_r0 : BitVec 32 := Scalar.remsi v134_r0 v378_r0
  let c0_i32_216_r0 : BitVec 32 := 0#32
  let v381_r0 : BitVec 1 := Scalar.cmpi .slt v379_r0 c0_i32_216_r0
  let c0_i32_217_r0 : BitVec 32 := 0#32
  let v382_r0 : BitVec 1 := Scalar.cmpi .slt v378_r0 c0_i32_217_r0
  let v383_r0 : BitVec 1 := Scalar.xori v381_r0 v382_r0
  let c0_i32_215_r0 : BitVec 32 := 0#32
  let v380_r0 : BitVec 1 := Scalar.cmpi .ne v379_r0 c0_i32_215_r0
  let v384_r0 : BitVec 1 := Scalar.andi v383_r0 v380_r0
  let v385_r0 : BitVec 32 := Scalar.addi v379_r0 v378_r0
  let v386_r0 : BitVec 32 := Scalar.select v384_r0 v385_r0 v379_r0
  let c32_i32_218_r0 : BitVec 32 := 32#32
  let v387_r0 : BitVec 32 := Scalar.muli v386_r0 c32_i32_218_r0
  let c0_i32_220_r0 : BitVec 32 := 0#32
  let v389_r0 : BitVec 1 := Scalar.cmpi .sgt v134_r0 c0_i32_220_r0
  let v390_r0 : BitVec 32 := Scalar.extui v389_r0
  let c0_i32_221_r0 : BitVec 32 := 0#32
  let v391_r0 : BitVec 1 := Scalar.cmpi .slt v134_r0 c0_i32_221_r0
  let v392_r0 : BitVec 32 := Scalar.extui v391_r0
  let v393_r0 : BitVec 32 := Scalar.subi v390_r0 v392_r0
  let c36_i32_219_r0 : BitVec 32 := 36#32
  let c0_i32_222_r0 : BitVec 32 := 0#32
  let v394_r0 : BitVec 1 := Scalar.cmpi .sgt c36_i32_219_r0 c0_i32_222_r0
  let v395_r0 : BitVec 32 := Scalar.extui v394_r0
  let c0_i32_223_r0 : BitVec 32 := 0#32
  let v396_r0 : BitVec 1 := Scalar.cmpi .slt c36_i32_219_r0 c0_i32_223_r0
  let v397_r0 : BitVec 32 := Scalar.extui v396_r0
  let v398_r0 : BitVec 32 := Scalar.subi v395_r0 v397_r0
  let v399_r0 : BitVec 1 := Scalar.cmpi .ne v393_r0 v398_r0
  let v400_r0 : BitVec 32 := Scalar.remsi v134_r0 c36_i32_219_r0
  let c0_i32_224_r0 : BitVec 32 := 0#32
  let v401_r0 : BitVec 1 := Scalar.cmpi .ne v400_r0 c0_i32_224_r0
  let v402_r0 : BitVec 1 := Scalar.andi v399_r0 v401_r0
  let v388_r0 : BitVec 32 := Scalar.divsi v134_r0 c36_i32_219_r0
  let c1_i32_225_r0 : BitVec 32 := 1#32
  let v403_r0 : BitVec 32 := Scalar.subi v388_r0 c1_i32_225_r0
  let v404_r0 : BitVec 32 := Scalar.select v402_r0 v403_r0 v388_r0
  let v405_r0 : BitVec 32 := Scalar.addi v387_r0 v404_r0
  let v406_r0 : BitVec 32 := Scalar.muli c128_i32_226_r0 v405_r0
  ![0, v406_r0.toNat]
def k0_off6 (arg6_r0 : BitVec 32) : Fin 1 → Nat :=
  let c2_i32_211_r0 : BitVec 32 := 2#32
  let v376_r0 : BitVec 32 := Scalar.remui arg6_r0 c2_i32_211_r0
  ![v376_r0.toNat]
def k0_off7 (arg7_r0 : BitVec 32) : Fin 3 → Nat :=
  let c2_i32_226_r0 : BitVec 32 := 2#32
  let v406_r0 : BitVec 32 := Scalar.remui arg7_r0 c2_i32_226_r0
  let c0_i32_227_r0 : BitVec 32 := 0#32
  let c0_i32_228_r0 : BitVec 32 := 0#32
  ![v406_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_95_r0 : BitVec 32 := 36#32
  let c0_i32_96_r0 : BitVec 32 := 0#32
  let v140_r0 : BitVec 1 := Scalar.cmpi .eq c36_i32_95_r0 c0_i32_96_r0
  let c1_i32_97_r0 : BitVec 32 := 1#32
  let v141_r0 : BitVec 32 := Scalar.select v140_r0 c1_i32_97_r0 c36_i32_95_r0
  let v142_r0 : BitVec 32 := Scalar.remsi v124_r0 v141_r0
  let c0_i32_99_r0 : BitVec 32 := 0#32
  let v144_r0 : BitVec 1 := Scalar.cmpi .slt v142_r0 c0_i32_99_r0
  let c0_i32_100_r0 : BitVec 32 := 0#32
  let v145_r0 : BitVec 1 := Scalar.cmpi .slt v141_r0 c0_i32_100_r0
  let v146_r0 : BitVec 1 := Scalar.xori v144_r0 v145_r0
  let c0_i32_98_r0 : BitVec 32 := 0#32
  let v143_r0 : BitVec 1 := Scalar.cmpi .ne v142_r0 c0_i32_98_r0
  let v147_r0 : BitVec 1 := Scalar.andi v146_r0 v143_r0
  let v148_r0 : BitVec 32 := Scalar.addi v142_r0 v141_r0
  let v149_r0 : BitVec 32 := Scalar.select v147_r0 v148_r0 v142_r0
  let c32_i32_101_r0 : BitVec 32 := 32#32
  let v150_r0 : BitVec 32 := Scalar.muli v149_r0 c32_i32_101_r0
  let c0_i32_103_r0 : BitVec 32 := 0#32
  let v152_r0 : BitVec 1 := Scalar.cmpi .sgt v124_r0 c0_i32_103_r0
  let v153_r0 : BitVec 32 := Scalar.extui v152_r0
  let c0_i32_104_r0 : BitVec 32 := 0#32
  let v154_r0 : BitVec 1 := Scalar.cmpi .slt v124_r0 c0_i32_104_r0
  let v155_r0 : BitVec 32 := Scalar.extui v154_r0
  let v156_r0 : BitVec 32 := Scalar.subi v153_r0 v155_r0
  let c36_i32_102_r0 : BitVec 32 := 36#32
  let c0_i32_105_r0 : BitVec 32 := 0#32
  let v157_r0 : BitVec 1 := Scalar.cmpi .sgt c36_i32_102_r0 c0_i32_105_r0
  let v158_r0 : BitVec 32 := Scalar.extui v157_r0
  let c0_i32_106_r0 : BitVec 32 := 0#32
  let v159_r0 : BitVec 1 := Scalar.cmpi .slt c36_i32_102_r0 c0_i32_106_r0
  let v160_r0 : BitVec 32 := Scalar.extui v159_r0
  let v161_r0 : BitVec 32 := Scalar.subi v158_r0 v160_r0
  let v162_r0 : BitVec 1 := Scalar.cmpi .ne v156_r0 v161_r0
  let v163_r0 : BitVec 32 := Scalar.remsi v124_r0 c36_i32_102_r0
  let c0_i32_107_r0 : BitVec 32 := 0#32
  let v164_r0 : BitVec 1 := Scalar.cmpi .ne v163_r0 c0_i32_107_r0
  let v165_r0 : BitVec 1 := Scalar.andi v162_r0 v164_r0
  let v151_r0 : BitVec 32 := Scalar.divsi v124_r0 c36_i32_102_r0
  let c1_i32_108_r0 : BitVec 32 := 1#32
  let v166_r0 : BitVec 32 := Scalar.subi v151_r0 c1_i32_108_r0
  let v167_r0 : BitVec 32 := Scalar.select v165_r0 v166_r0 v151_r0
  let v168_r0 : BitVec 32 := Scalar.addi v150_r0 v167_r0
  let true_84_r0 : BitVec 1 := 1#1
  let c1_i32_83_r0 : BitVec 32 := 1#32
  let v125_r0 : BitVec 32 := Scalar.subi arg10_r0 c1_i32_83_r0
  let v126_r0 : BitVec 32 := Scalar.select true_84_r0 v125_r0 arg10_r0
  let c_m1_i32_85_r0 : BitVec 32 := 4294967295#32
  let v127_r0 : BitVec 1 := Scalar.cmpi .eq v126_r0 c_m1_i32_85_r0
  let c35_i32_86_r0 : BitVec 32 := 35#32
  let v128_r0 : BitVec 32 := Scalar.select v127_r0 c35_i32_86_r0 v126_r0
  let v129_r0 : BitVec 32 := Scalar.addi v128_r0 v4
  let c36_i32_159_r0 : BitVec 32 := 36#32
  let c0_i32_160_r0 : BitVec 32 := 0#32
  let v270_r0 : BitVec 1 := Scalar.cmpi .eq c36_i32_159_r0 c0_i32_160_r0
  let c1_i32_161_r0 : BitVec 32 := 1#32
  let v271_r0 : BitVec 32 := Scalar.select v270_r0 c1_i32_161_r0 c36_i32_159_r0
  let v272_r0 : BitVec 32 := Scalar.remsi v129_r0 v271_r0
  let c0_i32_163_r0 : BitVec 32 := 0#32
  let v274_r0 : BitVec 1 := Scalar.cmpi .slt v272_r0 c0_i32_163_r0
  let c0_i32_164_r0 : BitVec 32 := 0#32
  let v275_r0 : BitVec 1 := Scalar.cmpi .slt v271_r0 c0_i32_164_r0
  let v276_r0 : BitVec 1 := Scalar.xori v274_r0 v275_r0
  let c0_i32_162_r0 : BitVec 32 := 0#32
  let v273_r0 : BitVec 1 := Scalar.cmpi .ne v272_r0 c0_i32_162_r0
  let v277_r0 : BitVec 1 := Scalar.andi v276_r0 v273_r0
  let v278_r0 : BitVec 32 := Scalar.addi v272_r0 v271_r0
  let v279_r0 : BitVec 32 := Scalar.select v277_r0 v278_r0 v272_r0
  let c32_i32_165_r0 : BitVec 32 := 32#32
  let v280_r0 : BitVec 32 := Scalar.muli v279_r0 c32_i32_165_r0
  let c0_i32_167_r0 : BitVec 32 := 0#32
  let v282_r0 : BitVec 1 := Scalar.cmpi .sgt v129_r0 c0_i32_167_r0
  let v283_r0 : BitVec 32 := Scalar.extui v282_r0
  let c0_i32_168_r0 : BitVec 32 := 0#32
  let v284_r0 : BitVec 1 := Scalar.cmpi .slt v129_r0 c0_i32_168_r0
  let v285_r0 : BitVec 32 := Scalar.extui v284_r0
  let v286_r0 : BitVec 32 := Scalar.subi v283_r0 v285_r0
  let c36_i32_166_r0 : BitVec 32 := 36#32
  let c0_i32_169_r0 : BitVec 32 := 0#32
  let v287_r0 : BitVec 1 := Scalar.cmpi .sgt c36_i32_166_r0 c0_i32_169_r0
  let v288_r0 : BitVec 32 := Scalar.extui v287_r0
  let c0_i32_170_r0 : BitVec 32 := 0#32
  let v289_r0 : BitVec 1 := Scalar.cmpi .slt c36_i32_166_r0 c0_i32_170_r0
  let v290_r0 : BitVec 32 := Scalar.extui v289_r0
  let v291_r0 : BitVec 32 := Scalar.subi v288_r0 v290_r0
  let v292_r0 : BitVec 1 := Scalar.cmpi .ne v286_r0 v291_r0
  let v293_r0 : BitVec 32 := Scalar.remsi v129_r0 c36_i32_166_r0
  let c0_i32_171_r0 : BitVec 32 := 0#32
  let v294_r0 : BitVec 1 := Scalar.cmpi .ne v293_r0 c0_i32_171_r0
  let v295_r0 : BitVec 1 := Scalar.andi v292_r0 v294_r0
  let v281_r0 : BitVec 32 := Scalar.divsi v129_r0 c36_i32_166_r0
  let c1_i32_172_r0 : BitVec 32 := 1#32
  let v296_r0 : BitVec 32 := Scalar.subi v281_r0 c1_i32_172_r0
  let v297_r0 : BitVec 32 := Scalar.select v295_r0 v296_r0 v281_r0
  let v298_r0 : BitVec 32 := Scalar.addi v280_r0 v297_r0
  let v299_r0 : BitVec 1 := Scalar.cmpi .ne v168_r0 v298_r0
  let c0_i32_39_r0 : BitVec 32 := 0#32
  let c1_i32_41_r0 : BitVec 32 := 1#32
  let arg5_r0 : BitVec 32 := Scf.iv c0_i32_39_r0 c1_i32_41_r0 k0_t1
  let c0_i32_81_r0 : BitVec 32 := 0#32
  let v122_r0 : BitVec 1 := Scalar.cmpi .eq arg5_r0 c0_i32_81_r0
  let v300_r0 : BitVec 1 := Scalar.ori v299_r0 v122_r0
  let c0_i32_173_r0 : BitVec 32 := 0#32
  let v301_r0 : BitVec 1 := Scalar.cmpi .sge arg5_r0 c0_i32_173_r0
  let v302_r0 : BitVec 1 := Scalar.andi v300_r0 v301_r0
  let v303_r0 : BitVec 32 := Scalar.extui v302_r0
  let c0_i32_174_r0 : BitVec 32 := 0#32
  let v304_r0 : BitVec 1 := Scalar.cmpi .ne v303_r0 c0_i32_174_r0
  v304_r0

def k0_off8 (i : grid0.Coords) (arg10_r0 : BitVec 32) : Fin 2 → Nat :=
  let c0_i32_229_r0 : BitVec 32 := 0#32
  let c128_i32_225_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_211_r0 : BitVec 32 := 36#32
  let c0_i32_212_r0 : BitVec 32 := 0#32
  let v376_r0 : BitVec 1 := Scalar.cmpi .eq c36_i32_211_r0 c0_i32_212_r0
  let c1_i32_213_r0 : BitVec 32 := 1#32
  let v377_r0 : BitVec 32 := Scalar.select v376_r0 c1_i32_213_r0 c36_i32_211_r0
  let v378_r0 : BitVec 32 := Scalar.remsi v124_r0 v377_r0
  let c0_i32_215_r0 : BitVec 32 := 0#32
  let v380_r0 : BitVec 1 := Scalar.cmpi .slt v378_r0 c0_i32_215_r0
  let c0_i32_216_r0 : BitVec 32 := 0#32
  let v381_r0 : BitVec 1 := Scalar.cmpi .slt v377_r0 c0_i32_216_r0
  let v382_r0 : BitVec 1 := Scalar.xori v380_r0 v381_r0
  let c0_i32_214_r0 : BitVec 32 := 0#32
  let v379_r0 : BitVec 1 := Scalar.cmpi .ne v378_r0 c0_i32_214_r0
  let v383_r0 : BitVec 1 := Scalar.andi v382_r0 v379_r0
  let v384_r0 : BitVec 32 := Scalar.addi v378_r0 v377_r0
  let v385_r0 : BitVec 32 := Scalar.select v383_r0 v384_r0 v378_r0
  let c32_i32_217_r0 : BitVec 32 := 32#32
  let v386_r0 : BitVec 32 := Scalar.muli v385_r0 c32_i32_217_r0
  let c0_i32_219_r0 : BitVec 32 := 0#32
  let v388_r0 : BitVec 1 := Scalar.cmpi .sgt v124_r0 c0_i32_219_r0
  let v389_r0 : BitVec 32 := Scalar.extui v388_r0
  let c0_i32_220_r0 : BitVec 32 := 0#32
  let v390_r0 : BitVec 1 := Scalar.cmpi .slt v124_r0 c0_i32_220_r0
  let v391_r0 : BitVec 32 := Scalar.extui v390_r0
  let v392_r0 : BitVec 32 := Scalar.subi v389_r0 v391_r0
  let c36_i32_218_r0 : BitVec 32 := 36#32
  let c0_i32_221_r0 : BitVec 32 := 0#32
  let v393_r0 : BitVec 1 := Scalar.cmpi .sgt c36_i32_218_r0 c0_i32_221_r0
  let v394_r0 : BitVec 32 := Scalar.extui v393_r0
  let c0_i32_222_r0 : BitVec 32 := 0#32
  let v395_r0 : BitVec 1 := Scalar.cmpi .slt c36_i32_218_r0 c0_i32_222_r0
  let v396_r0 : BitVec 32 := Scalar.extui v395_r0
  let v397_r0 : BitVec 32 := Scalar.subi v394_r0 v396_r0
  let v398_r0 : BitVec 1 := Scalar.cmpi .ne v392_r0 v397_r0
  let v399_r0 : BitVec 32 := Scalar.remsi v124_r0 c36_i32_218_r0
  let c0_i32_223_r0 : BitVec 32 := 0#32
  let v400_r0 : BitVec 1 := Scalar.cmpi .ne v399_r0 c0_i32_223_r0
  let v401_r0 : BitVec 1 := Scalar.andi v398_r0 v400_r0
  let v387_r0 : BitVec 32 := Scalar.divsi v124_r0 c36_i32_218_r0
  let c1_i32_224_r0 : BitVec 32 := 1#32
  let v402_r0 : BitVec 32 := Scalar.subi v387_r0 c1_i32_224_r0
  let v403_r0 : BitVec 32 := Scalar.select v401_r0 v402_r0 v387_r0
  let v404_r0 : BitVec 32 := Scalar.addi v386_r0 v403_r0
  let v405_r0 : BitVec 32 := Scalar.muli c128_i32_225_r0 v404_r0
  ![0, v405_r0.toNat]
def k0_off9 (arg7_r0 : BitVec 32) : Fin 1 → Nat :=
  let c2_i32_226_r0 : BitVec 32 := 2#32
  let v406_r0 : BitVec 32 := Scalar.remui arg7_r0 c2_i32_226_r0
  ![v406_r0.toNat]
def k0_off10 (arg8_r0 : BitVec 32) : Fin 3 → Nat :=
  let c2_i32_192_r0 : BitVec 32 := 2#32
  let v341_r0 : BitVec 32 := Scalar.remui arg8_r0 c2_i32_192_r0
  let c0_i32_211_r1 : BitVec 32 := 0#32
  let c0_i32_212_r1 : BitVec 32 := 0#32
  ![v341_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_191_r0 : BitVec 32 := 2#32
  let v340_r0 : BitVec 32 := Scalar.remui arg7_r0 c2_i32_191_r0
  let c0_i32_215_r1 : BitVec 32 := 0#32
  let c0_i32_216_r1 : BitVec 32 := 0#32
  ![v340_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_211_r0 : BitVec 32 := 2#32
  let v376_r0 : BitVec 32 := Scalar.remui arg8_r0 c2_i32_211_r0
  let c0_i32_227_r0 : BitVec 32 := 0#32
  let c0_i32_228_r0 : BitVec 32 := 0#32
  ![v376_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_129_r0 : BitVec 32 := 36#32
  let c0_i32_130_r0 : BitVec 32 := 0#32
  let v208_r0 : BitVec 1 := Scalar.cmpi .eq c36_i32_129_r0 c0_i32_130_r0
  let c1_i32_131_r0 : BitVec 32 := 1#32
  let v209_r0 : BitVec 32 := Scalar.select v208_r0 c1_i32_131_r0 c36_i32_129_r0
  let v210_r0 : BitVec 32 := Scalar.remsi v124_r0 v209_r0
  let c0_i32_133_r0 : BitVec 32 := 0#32
  let v212_r0 : BitVec 1 := Scalar.cmpi .slt v210_r0 c0_i32_133_r0
  let c0_i32_134_r0 : BitVec 32 := 0#32
  let v213_r0 : BitVec 1 := Scalar.cmpi .slt v209_r0 c0_i32_134_r0
  let v214_r0 : BitVec 1 := Scalar.xori v212_r0 v213_r0
  let c0_i32_132_r0 : BitVec 32 := 0#32
  let v211_r0 : BitVec 1 := Scalar.cmpi .ne v210_r0 c0_i32_132_r0
  let v215_r0 : BitVec 1 := Scalar.andi v214_r0 v211_r0
  let v216_r0 : BitVec 32 := Scalar.addi v210_r0 v209_r0
  let v217_r0 : BitVec 32 := Scalar.select v215_r0 v216_r0 v210_r0
  let c32_i32_135_r0 : BitVec 32 := 32#32
  let v218_r0 : BitVec 32 := Scalar.muli v217_r0 c32_i32_135_r0
  let c0_i32_137_r0 : BitVec 32 := 0#32
  let v220_r0 : BitVec 1 := Scalar.cmpi .sgt v124_r0 c0_i32_137_r0
  let v221_r0 : BitVec 32 := Scalar.extui v220_r0
  let c0_i32_138_r0 : BitVec 32 := 0#32
  let v222_r0 : BitVec 1 := Scalar.cmpi .slt v124_r0 c0_i32_138_r0
  let v223_r0 : BitVec 32 := Scalar.extui v222_r0
  let v224_r0 : BitVec 32 := Scalar.subi v221_r0 v223_r0
  let c36_i32_136_r0 : BitVec 32 := 36#32
  let c0_i32_139_r0 : BitVec 32 := 0#32
  let v225_r0 : BitVec 1 := Scalar.cmpi .sgt c36_i32_136_r0 c0_i32_139_r0
  let v226_r0 : BitVec 32 := Scalar.extui v225_r0
  let c0_i32_140_r0 : BitVec 32 := 0#32
  let v227_r0 : BitVec 1 := Scalar.cmpi .slt c36_i32_136_r0 c0_i32_140_r0
  let v228_r0 : BitVec 32 := Scalar.extui v227_r0
  let v229_r0 : BitVec 32 := Scalar.subi v226_r0 v228_r0
  let v230_r0 : BitVec 1 := Scalar.cmpi .ne v224_r0 v229_r0
  let v231_r0 : BitVec 32 := Scalar.remsi v124_r0 c36_i32_136_r0
  let c0_i32_141_r0 : BitVec 32 := 0#32
  let v232_r0 : BitVec 1 := Scalar.cmpi .ne v231_r0 c0_i32_141_r0
  let v233_r0 : BitVec 1 := Scalar.andi v230_r0 v232_r0
  let v219_r0 : BitVec 32 := Scalar.divsi v124_r0 c36_i32_136_r0
  let c1_i32_142_r0 : BitVec 32 := 1#32
  let v234_r0 : BitVec 32 := Scalar.subi v219_r0 c1_i32_142_r0
  let v235_r0 : BitVec 32 := Scalar.select v233_r0 v234_r0 v219_r0
  let v236_r0 : BitVec 32 := Scalar.addi v218_r0 v235_r0
  let true_88_r0 : BitVec 1 := 1#1
  let c1_i32_87_r0 : BitVec 32 := 1#32
  let v130_r0 : BitVec 32 := Scalar.addi arg10_r0 c1_i32_87_r0
  let v131_r0 : BitVec 32 := Scalar.select true_88_r0 v130_r0 arg10_r0
  let c36_i32_89_r0 : BitVec 32 := 36#32
  let v132_r0 : BitVec 1 := Scalar.cmpi .eq v131_r0 c36_i32_89_r0
  let c0_i32_90_r0 : BitVec 32 := 0#32
  let v133_r0 : BitVec 32 := Scalar.select v132_r0 c0_i32_90_r0 v131_r0
  let v134_r0 : BitVec 32 := Scalar.addi v133_r0 v4
  let c36_i32_143_r0 : BitVec 32 := 36#32
  let c0_i32_144_r0 : BitVec 32 := 0#32
  let v237_r0 : BitVec 1 := Scalar.cmpi .eq c36_i32_143_r0 c0_i32_144_r0
  let c1_i32_145_r0 : BitVec 32 := 1#32
  let v238_r0 : BitVec 32 := Scalar.select v237_r0 c1_i32_145_r0 c36_i32_143_r0
  let v239_r0 : BitVec 32 := Scalar.remsi v134_r0 v238_r0
  let c0_i32_147_r0 : BitVec 32 := 0#32
  let v241_r0 : BitVec 1 := Scalar.cmpi .slt v239_r0 c0_i32_147_r0
  let c0_i32_148_r0 : BitVec 32 := 0#32
  let v242_r0 : BitVec 1 := Scalar.cmpi .slt v238_r0 c0_i32_148_r0
  let v243_r0 : BitVec 1 := Scalar.xori v241_r0 v242_r0
  let c0_i32_146_r0 : BitVec 32 := 0#32
  let v240_r0 : BitVec 1 := Scalar.cmpi .ne v239_r0 c0_i32_146_r0
  let v244_r0 : BitVec 1 := Scalar.andi v243_r0 v240_r0
  let v245_r0 : BitVec 32 := Scalar.addi v239_r0 v238_r0
  let v246_r0 : BitVec 32 := Scalar.select v244_r0 v245_r0 v239_r0
  let c32_i32_149_r0 : BitVec 32 := 32#32
  let v247_r0 : BitVec 32 := Scalar.muli v246_r0 c32_i32_149_r0
  let c0_i32_151_r0 : BitVec 32 := 0#32
  let v249_r0 : BitVec 1 := Scalar.cmpi .sgt v134_r0 c0_i32_151_r0
  let v250_r0 : BitVec 32 := Scalar.extui v249_r0
  let c0_i32_152_r0 : BitVec 32 := 0#32
  let v251_r0 : BitVec 1 := Scalar.cmpi .slt v134_r0 c0_i32_152_r0
  let v252_r0 : BitVec 32 := Scalar.extui v251_r0
  let v253_r0 : BitVec 32 := Scalar.subi v250_r0 v252_r0
  let c36_i32_150_r0 : BitVec 32 := 36#32
  let c0_i32_153_r0 : BitVec 32 := 0#32
  let v254_r0 : BitVec 1 := Scalar.cmpi .sgt c36_i32_150_r0 c0_i32_153_r0
  let v255_r0 : BitVec 32 := Scalar.extui v254_r0
  let c0_i32_154_r0 : BitVec 32 := 0#32
  let v256_r0 : BitVec 1 := Scalar.cmpi .slt c36_i32_150_r0 c0_i32_154_r0
  let v257_r0 : BitVec 32 := Scalar.extui v256_r0
  let v258_r0 : BitVec 32 := Scalar.subi v255_r0 v257_r0
  let v259_r0 : BitVec 1 := Scalar.cmpi .ne v253_r0 v258_r0
  let v260_r0 : BitVec 32 := Scalar.remsi v134_r0 c36_i32_150_r0
  let c0_i32_155_r0 : BitVec 32 := 0#32
  let v261_r0 : BitVec 1 := Scalar.cmpi .ne v260_r0 c0_i32_155_r0
  let v262_r0 : BitVec 1 := Scalar.andi v259_r0 v261_r0
  let v248_r0 : BitVec 32 := Scalar.divsi v134_r0 c36_i32_150_r0
  let c1_i32_156_r0 : BitVec 32 := 1#32
  let v263_r0 : BitVec 32 := Scalar.subi v248_r0 c1_i32_156_r0
  let v264_r0 : BitVec 32 := Scalar.select v262_r0 v263_r0 v248_r0
  let v265_r0 : BitVec 32 := Scalar.addi v247_r0 v264_r0
  let v347_r0 : BitVec 1 := Scalar.cmpi .ne v236_r0 v265_r0
  let c0_i32_39_r0 : BitVec 32 := 0#32
  let c1_i32_41_r0 : BitVec 32 := 1#32
  let arg5_r0 : BitVec 32 := Scf.iv c0_i32_39_r0 c1_i32_41_r0 k0_t1
  let c35_i32_82_r0 : BitVec 32 := 35#32
  let v123_r0 : BitVec 1 := Scalar.cmpi .eq arg5_r0 c35_i32_82_r0
  let v348_r0 : BitVec 1 := Scalar.ori v347_r0 v123_r0
  let v349_r0 : BitVec 32 := Scalar.extui v348_r0
  let c0_i32_196_r0 : BitVec 32 := 0#32
  let v350_r0 : BitVec 1 := Scalar.cmpi .ne v349_r0 c0_i32_196_r0
  v350_r0

def k0_off13 (i : grid0.Coords) (arg10_r0 : BitVec 32) : Fin 2 → Nat :=
  let c128_i32_226_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_212_r0 : BitVec 32 := 36#32
  let c0_i32_213_r0 : BitVec 32 := 0#32
  let v377_r0 : BitVec 1 := Scalar.cmpi .eq c36_i32_212_r0 c0_i32_213_r0
  let c1_i32_214_r0 : BitVec 32 := 1#32
  let v378_r0 : BitVec 32 := Scalar.select v377_r0 c1_i32_214_r0 c36_i32_212_r0
  let v379_r0 : BitVec 32 := Scalar.remsi v124_r0 v378_r0
  let c0_i32_216_r0 : BitVec 32 := 0#32
  let v381_r0 : BitVec 1 := Scalar.cmpi .slt v379_r0 c0_i32_216_r0
  let c0_i32_217_r0 : BitVec 32 := 0#32
  let v382_r0 : BitVec 1 := Scalar.cmpi .slt v378_r0 c0_i32_217_r0
  let v383_r0 : BitVec 1 := Scalar.xori v381_r0 v382_r0
  let c0_i32_215_r0 : BitVec 32 := 0#32
  let v380_r0 : BitVec 1 := Scalar.cmpi .ne v379_r0 c0_i32_215_r0
  let v384_r0 : BitVec 1 := Scalar.andi v383_r0 v380_r0
  let v385_r0 : BitVec 32 := Scalar.addi v379_r0 v378_r0
  let v386_r0 : BitVec 32 := Scalar.select v384_r0 v385_r0 v379_r0
  let c32_i32_218_r0 : BitVec 32 := 32#32
  let v387_r0 : BitVec 32 := Scalar.muli v386_r0 c32_i32_218_r0
  let c0_i32_220_r0 : BitVec 32 := 0#32
  let v389_r0 : BitVec 1 := Scalar.cmpi .sgt v124_r0 c0_i32_220_r0
  let v390_r0 : BitVec 32 := Scalar.extui v389_r0
  let c0_i32_221_r0 : BitVec 32 := 0#32
  let v391_r0 : BitVec 1 := Scalar.cmpi .slt v124_r0 c0_i32_221_r0
  let v392_r0 : BitVec 32 := Scalar.extui v391_r0
  let v393_r0 : BitVec 32 := Scalar.subi v390_r0 v392_r0
  let c36_i32_219_r0 : BitVec 32 := 36#32
  let c0_i32_222_r0 : BitVec 32 := 0#32
  let v394_r0 : BitVec 1 := Scalar.cmpi .sgt c36_i32_219_r0 c0_i32_222_r0
  let v395_r0 : BitVec 32 := Scalar.extui v394_r0
  let c0_i32_223_r0 : BitVec 32 := 0#32
  let v396_r0 : BitVec 1 := Scalar.cmpi .slt c36_i32_219_r0 c0_i32_223_r0
  let v397_r0 : BitVec 32 := Scalar.extui v396_r0
  let v398_r0 : BitVec 32 := Scalar.subi v395_r0 v397_r0
  let v399_r0 : BitVec 1 := Scalar.cmpi .ne v393_r0 v398_r0
  let v400_r0 : BitVec 32 := Scalar.remsi v124_r0 c36_i32_219_r0
  let c0_i32_224_r0 : BitVec 32 := 0#32
  let v401_r0 : BitVec 1 := Scalar.cmpi .ne v400_r0 c0_i32_224_r0
  let v402_r0 : BitVec 1 := Scalar.andi v399_r0 v401_r0
  let v388_r0 : BitVec 32 := Scalar.divsi v124_r0 c36_i32_219_r0
  let c1_i32_225_r0 : BitVec 32 := 1#32
  let v403_r0 : BitVec 32 := Scalar.subi v388_r0 c1_i32_225_r0
  let v404_r0 : BitVec 32 := Scalar.select v402_r0 v403_r0 v388_r0
  let v405_r0 : BitVec 32 := Scalar.addi v387_r0 v404_r0
  let v406_r0 : BitVec 32 := Scalar.muli c128_i32_226_r0 v405_r0
  let c0_i32_229_r0 : BitVec 32 := 0#32
  ![v406_r0.toNat, 0]
def k0_off14 (arg8_r0 : BitVec 32) : Fin 1 → Nat :=
  let c2_i32_211_r0 : BitVec 32 := 2#32
  let v376_r0 : BitVec 32 := Scalar.remui arg8_r0 c2_i32_211_r0
  ![v376_r0.toNat]
def k0_off15 (arg9_r0 : BitVec 32) : Fin 3 → Nat :=
  let c2_i32_211_r0 : BitVec 32 := 2#32
  let v376_r0 : BitVec 32 := Scalar.remui arg9_r0 c2_i32_211_r0
  let c0_i32_227_r0 : BitVec 32 := 0#32
  let c0_i32_228_r0 : BitVec 32 := 0#32
  ![v376_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v124_r0 : BitVec 32 := Scalar.addi arg10_r0 v4
  let c36_i32_129_r0 : BitVec 32 := 36#32
  let c0_i32_130_r0 : BitVec 32 := 0#32
  let v208_r0 : BitVec 1 := Scalar.cmpi .eq c36_i32_129_r0 c0_i32_130_r0
  let c1_i32_131_r0 : BitVec 32 := 1#32
  let v209_r0 : BitVec 32 := Scalar.select v208_r0 c1_i32_131_r0 c36_i32_129_r0
  let v210_r0 : BitVec 32 := Scalar.remsi v124_r0 v209_r0
  let c0_i32_133_r0 : BitVec 32 := 0#32
  let v212_r0 : BitVec 1 := Scalar.cmpi .slt v210_r0 c0_i32_133_r0
  let c0_i32_134_r0 : BitVec 32 := 0#32
  let v213_r0 : BitVec 1 := Scalar.cmpi .slt v209_r0 c0_i32_134_r0
  let v214_r0 : BitVec 1 := Scalar.xori v212_r0 v213_r0
  let c0_i32_132_r0 : BitVec 32 := 0#32
  let v211_r0 : BitVec 1 := Scalar.cmpi .ne v210_r0 c0_i32_132_r0
  let v215_r0 : BitVec 1 := Scalar.andi v214_r0 v211_r0
  let v216_r0 : BitVec 32 := Scalar.addi v210_r0 v209_r0
  let v217_r0 : BitVec 32 := Scalar.select v215_r0 v216_r0 v210_r0
  let c32_i32_135_r0 : BitVec 32 := 32#32
  let v218_r0 : BitVec 32 := Scalar.muli v217_r0 c32_i32_135_r0
  let c0_i32_137_r0 : BitVec 32 := 0#32
  let v220_r0 : BitVec 1 := Scalar.cmpi .sgt v124_r0 c0_i32_137_r0
  let v221_r0 : BitVec 32 := Scalar.extui v220_r0
  let c0_i32_138_r0 : BitVec 32 := 0#32
  let v222_r0 : BitVec 1 := Scalar.cmpi .slt v124_r0 c0_i32_138_r0
  let v223_r0 : BitVec 32 := Scalar.extui v222_r0
  let v224_r0 : BitVec 32 := Scalar.subi v221_r0 v223_r0
  let c36_i32_136_r0 : BitVec 32 := 36#32
  let c0_i32_139_r0 : BitVec 32 := 0#32
  let v225_r0 : BitVec 1 := Scalar.cmpi .sgt c36_i32_136_r0 c0_i32_139_r0
  let v226_r0 : BitVec 32 := Scalar.extui v225_r0
  let c0_i32_140_r0 : BitVec 32 := 0#32
  let v227_r0 : BitVec 1 := Scalar.cmpi .slt c36_i32_136_r0 c0_i32_140_r0
  let v228_r0 : BitVec 32 := Scalar.extui v227_r0
  let v229_r0 : BitVec 32 := Scalar.subi v226_r0 v228_r0
  let v230_r0 : BitVec 1 := Scalar.cmpi .ne v224_r0 v229_r0
  let v231_r0 : BitVec 32 := Scalar.remsi v124_r0 c36_i32_136_r0
  let c0_i32_141_r0 : BitVec 32 := 0#32
  let v232_r0 : BitVec 1 := Scalar.cmpi .ne v231_r0 c0_i32_141_r0
  let v233_r0 : BitVec 1 := Scalar.andi v230_r0 v232_r0
  let v219_r0 : BitVec 32 := Scalar.divsi v124_r0 c36_i32_136_r0
  let c1_i32_142_r0 : BitVec 32 := 1#32
  let v234_r0 : BitVec 32 := Scalar.subi v219_r0 c1_i32_142_r0
  let v235_r0 : BitVec 32 := Scalar.select v233_r0 v234_r0 v219_r0
  let v236_r0 : BitVec 32 := Scalar.addi v218_r0 v235_r0
  let true_84_r0 : BitVec 1 := 1#1
  let c1_i32_83_r0 : BitVec 32 := 1#32
  let v125_r0 : BitVec 32 := Scalar.subi arg10_r0 c1_i32_83_r0
  let v126_r0 : BitVec 32 := Scalar.select true_84_r0 v125_r0 arg10_r0
  let c_m1_i32_85_r0 : BitVec 32 := 4294967295#32
  let v127_r0 : BitVec 1 := Scalar.cmpi .eq v126_r0 c_m1_i32_85_r0
  let c35_i32_86_r0 : BitVec 32 := 35#32
  let v128_r0 : BitVec 32 := Scalar.select v127_r0 c35_i32_86_r0 v126_r0
  let v129_r0 : BitVec 32 := Scalar.addi v128_r0 v4
  let c36_i32_175_r0 : BitVec 32 := 36#32
  let c0_i32_176_r0 : BitVec 32 := 0#32
  let v305_r0 : BitVec 1 := Scalar.cmpi .eq c36_i32_175_r0 c0_i32_176_r0
  let c1_i32_177_r0 : BitVec 32 := 1#32
  let v306_r0 : BitVec 32 := Scalar.select v305_r0 c1_i32_177_r0 c36_i32_175_r0
  let v307_r0 : BitVec 32 := Scalar.remsi v129_r0 v306_r0
  let c0_i32_179_r0 : BitVec 32 := 0#32
  let v309_r0 : BitVec 1 := Scalar.cmpi .slt v307_r0 c0_i32_179_r0
  let c0_i32_180_r0 : BitVec 32 := 0#32
  let v310_r0 : BitVec 1 := Scalar.cmpi .slt v306_r0 c0_i32_180_r0
  let v311_r0 : BitVec 1 := Scalar.xori v309_r0 v310_r0
  let c0_i32_178_r0 : BitVec 32 := 0#32
  let v308_r0 : BitVec 1 := Scalar.cmpi .ne v307_r0 c0_i32_178_r0
  let v312_r0 : BitVec 1 := Scalar.andi v311_r0 v308_r0
  let v313_r0 : BitVec 32 := Scalar.addi v307_r0 v306_r0
  let v314_r0 : BitVec 32 := Scalar.select v312_r0 v313_r0 v307_r0
  let c32_i32_181_r0 : BitVec 32 := 32#32
  let v315_r0 : BitVec 32 := Scalar.muli v314_r0 c32_i32_181_r0
  let c0_i32_183_r0 : BitVec 32 := 0#32
  let v317_r0 : BitVec 1 := Scalar.cmpi .sgt v129_r0 c0_i32_183_r0
  let v318_r0 : BitVec 32 := Scalar.extui v317_r0
  let c0_i32_184_r0 : BitVec 32 := 0#32
  let v319_r0 : BitVec 1 := Scalar.cmpi .slt v129_r0 c0_i32_184_r0
  let v320_r0 : BitVec 32 := Scalar.extui v319_r0
  let v321_r0 : BitVec 32 := Scalar.subi v318_r0 v320_r0
  let c36_i32_182_r0 : BitVec 32 := 36#32
  let c0_i32_185_r0 : BitVec 32 := 0#32
  let v322_r0 : BitVec 1 := Scalar.cmpi .sgt c36_i32_182_r0 c0_i32_185_r0
  let v323_r0 : BitVec 32 := Scalar.extui v322_r0
  let c0_i32_186_r0 : BitVec 32 := 0#32
  let v324_r0 : BitVec 1 := Scalar.cmpi .slt c36_i32_182_r0 c0_i32_186_r0
  let v325_r0 : BitVec 32 := Scalar.extui v324_r0
  let v326_r0 : BitVec 32 := Scalar.subi v323_r0 v325_r0
  let v327_r0 : BitVec 1 := Scalar.cmpi .ne v321_r0 v326_r0
  let v328_r0 : BitVec 32 := Scalar.remsi v129_r0 c36_i32_182_r0
  let c0_i32_187_r0 : BitVec 32 := 0#32
  let v329_r0 : BitVec 1 := Scalar.cmpi .ne v328_r0 c0_i32_187_r0
  let v330_r0 : BitVec 1 := Scalar.andi v327_r0 v329_r0
  let v316_r0 : BitVec 32 := Scalar.divsi v129_r0 c36_i32_182_r0
  let c1_i32_188_r0 : BitVec 32 := 1#32
  let v331_r0 : BitVec 32 := Scalar.subi v316_r0 c1_i32_188_r0
  let v332_r0 : BitVec 32 := Scalar.select v330_r0 v331_r0 v316_r0
  let v333_r0 : BitVec 32 := Scalar.addi v315_r0 v332_r0
  let v360_r0 : BitVec 1 := Scalar.cmpi .ne v236_r0 v333_r0
  let c0_i32_39_r0 : BitVec 32 := 0#32
  let c1_i32_41_r0 : BitVec 32 := 1#32
  let arg5_r0 : BitVec 32 := Scf.iv c0_i32_39_r0 c1_i32_41_r0 k0_t1
  let c0_i32_81_r0 : BitVec 32 := 0#32
  let v122_r0 : BitVec 1 := Scalar.cmpi .eq arg5_r0 c0_i32_81_r0
  let true_202_r0 : BitVec 1 := 1#1
  let v361_r0 : BitVec 1 := Scalar.xori v122_r0 true_202_r0
  let v362_r0 : BitVec 1 := Scalar.andi v360_r0 v361_r0
  let v363_r0 : BitVec 32 := Scalar.extui v362_r0
  let c0_i32_203_r0 : BitVec 32 := 0#32
  let v364_r0 : BitVec 1 := Scalar.cmpi .ne v363_r0 c0_i32_203_r0
  v364_r0

def k0_off16 (i : grid0.Coords) (arg10_r0 : BitVec 32) : Fin 2 → Nat :=
  let c128_i32_226_r0 : BitVec 32 := 128#32
  let true_84_r0 : BitVec 1 := 1#1
  let c1_i32_83_r0 : BitVec 32 := 1#32
  let v125_r0 : BitVec 32 := Scalar.subi arg10_r0 c1_i32_83_r0
  let v126_r0 : BitVec 32 := Scalar.select true_84_r0 v125_r0 arg10_r0
  let c_m1_i32_85_r0 : BitVec 32 := 4294967295#32
  let v127_r0 : BitVec 1 := Scalar.cmpi .eq v126_r0 c_m1_i32_85_r0
  let c35_i32_86_r0 : BitVec 32 := 35#32
  let v128_r0 : BitVec 32 := Scalar.select v127_r0 c35_i32_86_r0 v126_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v129_r0 : BitVec 32 := Scalar.addi v128_r0 v4
  let c36_i32_212_r0 : BitVec 32 := 36#32
  let c0_i32_213_r0 : BitVec 32 := 0#32
  let v377_r0 : BitVec 1 := Scalar.cmpi .eq c36_i32_212_r0 c0_i32_213_r0
  let c1_i32_214_r0 : BitVec 32 := 1#32
  let v378_r0 : BitVec 32 := Scalar.select v377_r0 c1_i32_214_r0 c36_i32_212_r0
  let v379_r0 : BitVec 32 := Scalar.remsi v129_r0 v378_r0
  let c0_i32_216_r0 : BitVec 32 := 0#32
  let v381_r0 : BitVec 1 := Scalar.cmpi .slt v379_r0 c0_i32_216_r0
  let c0_i32_217_r0 : BitVec 32 := 0#32
  let v382_r0 : BitVec 1 := Scalar.cmpi .slt v378_r0 c0_i32_217_r0
  let v383_r0 : BitVec 1 := Scalar.xori v381_r0 v382_r0
  let c0_i32_215_r0 : BitVec 32 := 0#32
  let v380_r0 : BitVec 1 := Scalar.cmpi .ne v379_r0 c0_i32_215_r0
  let v384_r0 : BitVec 1 := Scalar.andi v383_r0 v380_r0
  let v385_r0 : BitVec 32 := Scalar.addi v379_r0 v378_r0
  let v386_r0 : BitVec 32 := Scalar.select v384_r0 v385_r0 v379_r0
  let c32_i32_218_r0 : BitVec 32 := 32#32
  let v387_r0 : BitVec 32 := Scalar.muli v386_r0 c32_i32_218_r0
  let c0_i32_220_r0 : BitVec 32 := 0#32
  let v389_r0 : BitVec 1 := Scalar.cmpi .sgt v129_r0 c0_i32_220_r0
  let v390_r0 : BitVec 32 := Scalar.extui v389_r0
  let c0_i32_221_r0 : BitVec 32 := 0#32
  let v391_r0 : BitVec 1 := Scalar.cmpi .slt v129_r0 c0_i32_221_r0
  let v392_r0 : BitVec 32 := Scalar.extui v391_r0
  let v393_r0 : BitVec 32 := Scalar.subi v390_r0 v392_r0
  let c36_i32_219_r0 : BitVec 32 := 36#32
  let c0_i32_222_r0 : BitVec 32 := 0#32
  let v394_r0 : BitVec 1 := Scalar.cmpi .sgt c36_i32_219_r0 c0_i32_222_r0
  let v395_r0 : BitVec 32 := Scalar.extui v394_r0
  let c0_i32_223_r0 : BitVec 32 := 0#32
  let v396_r0 : BitVec 1 := Scalar.cmpi .slt c36_i32_219_r0 c0_i32_223_r0
  let v397_r0 : BitVec 32 := Scalar.extui v396_r0
  let v398_r0 : BitVec 32 := Scalar.subi v395_r0 v397_r0
  let v399_r0 : BitVec 1 := Scalar.cmpi .ne v393_r0 v398_r0
  let v400_r0 : BitVec 32 := Scalar.remsi v129_r0 c36_i32_219_r0
  let c0_i32_224_r0 : BitVec 32 := 0#32
  let v401_r0 : BitVec 1 := Scalar.cmpi .ne v400_r0 c0_i32_224_r0
  let v402_r0 : BitVec 1 := Scalar.andi v399_r0 v401_r0
  let v388_r0 : BitVec 32 := Scalar.divsi v129_r0 c36_i32_219_r0
  let c1_i32_225_r0 : BitVec 32 := 1#32
  let v403_r0 : BitVec 32 := Scalar.subi v388_r0 c1_i32_225_r0
  let v404_r0 : BitVec 32 := Scalar.select v402_r0 v403_r0 v388_r0
  let v405_r0 : BitVec 32 := Scalar.addi v387_r0 v404_r0
  let v406_r0 : BitVec 32 := Scalar.muli c128_i32_226_r0 v405_r0
  let c0_i32_229_r0 : BitVec 32 := 0#32
  ![v406_r0.toNat, 0]
def k0_off17 (arg9_r0 : BitVec 32) : Fin 1 → Nat :=
  let c2_i32_211_r0 : BitVec 32 := 2#32
  let v376_r0 : BitVec 32 := Scalar.remui arg9_r0 c2_i32_211_r0
  ![v376_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x147456.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x147456.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S147456x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S147456x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x147456.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x147456.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S147456x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S147456x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v62_3_r0 : BitVec 32) : Fin 3 → Nat :=
  let c2_i32_59_r0 : BitVec 32 := 2#32
  let v83_r0 : BitVec 32 := Scalar.remui v62_3_r0 c2_i32_59_r0
  let c0_i32_75_r0 : BitVec 32 := 0#32
  let c0_i32_76_r0 : BitVec 32 := 0#32
  ![v83_r0.toNat, 0, 0]

def k0_off19 (i : grid0.Coords) (v62_4_r0 : BitVec 32) : Fin 2 → Nat :=
  let c128_i32_74_r0 : BitVec 32 := 128#32
  let true_44_r0 : BitVec 1 := 1#1
  let c1_i32_43_r0 : BitVec 32 := 1#32
  let v63_r0 : BitVec 32 := Scalar.subi v62_4_r0 c1_i32_43_r0
  let v64_r0 : BitVec 32 := Scalar.select true_44_r0 v63_r0 v62_4_r0
  let c_m1_i32_45_r0 : BitVec 32 := 4294967295#32
  let v65_r0 : BitVec 1 := Scalar.cmpi .eq v64_r0 c_m1_i32_45_r0
  let c35_i32_46_r0 : BitVec 32 := 35#32
  let v66_r0 : BitVec 32 := Scalar.select v65_r0 c35_i32_46_r0 v64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c36_i32 : BitVec 32 := 36#32
  let v4 : BitVec 32 := Scalar.muli v3 c36_i32
  let v67_r0 : BitVec 32 := Scalar.addi v66_r0 v4
  let c36_i32_60_r0 : BitVec 32 := 36#32
  let c0_i32_61_r0 : BitVec 32 := 0#32
  let v84_r0 : BitVec 1 := Scalar.cmpi .eq c36_i32_60_r0 c0_i32_61_r0
  let c1_i32_62_r0 : BitVec 32 := 1#32
  let v85_r0 : BitVec 32 := Scalar.select v84_r0 c1_i32_62_r0 c36_i32_60_r0
  let v86_r0 : BitVec 32 := Scalar.remsi v67_r0 v85_r0
  let c0_i32_64_r0 : BitVec 32 := 0#32
  let v88_r0 : BitVec 1 := Scalar.cmpi .slt v86_r0 c0_i32_64_r0
  let c0_i32_65_r0 : BitVec 32 := 0#32
  let v89_r0 : BitVec 1 := Scalar.cmpi .slt v85_r0 c0_i32_65_r0
  let v90_r0 : BitVec 1 := Scalar.xori v88_r0 v89_r0
  let c0_i32_63_r0 : BitVec 32 := 0#32
  let v87_r0 : BitVec 1 := Scalar.cmpi .ne v86_r0 c0_i32_63_r0
  let v91_r0 : BitVec 1 := Scalar.andi v90_r0 v87_r0
  let v92_r0 : BitVec 32 := Scalar.addi v86_r0 v85_r0
  let v93_r0 : BitVec 32 := Scalar.select v91_r0 v92_r0 v86_r0
  let c32_i32_66_r0 : BitVec 32 := 32#32
  let v94_r0 : BitVec 32 := Scalar.muli v93_r0 c32_i32_66_r0
  let c0_i32_68_r0 : BitVec 32 := 0#32
  let v96_r0 : BitVec 1 := Scalar.cmpi .sgt v67_r0 c0_i32_68_r0
  let v97_r0 : BitVec 32 := Scalar.extui v96_r0
  let c0_i32_69_r0 : BitVec 32 := 0#32
  let v98_r0 : BitVec 1 := Scalar.cmpi .slt v67_r0 c0_i32_69_r0
  let v99_r0 : BitVec 32 := Scalar.extui v98_r0
  let v100_r0 : BitVec 32 := Scalar.subi v97_r0 v99_r0
  let c36_i32_67_r0 : BitVec 32 := 36#32
  let c0_i32_70_r0 : BitVec 32 := 0#32
  let v101_r0 : BitVec 1 := Scalar.cmpi .sgt c36_i32_67_r0 c0_i32_70_r0
  let v102_r0 : BitVec 32 := Scalar.extui v101_r0
  let c0_i32_71_r0 : BitVec 32 := 0#32
  let v103_r0 : BitVec 1 := Scalar.cmpi .slt c36_i32_67_r0 c0_i32_71_r0
  let v104_r0 : BitVec 32 := Scalar.extui v103_r0
  let v105_r0 : BitVec 32 := Scalar.subi v102_r0 v104_r0
  let v106_r0 : BitVec 1 := Scalar.cmpi .ne v100_r0 v105_r0
  let v107_r0 : BitVec 32 := Scalar.remsi v67_r0 c36_i32_67_r0
  let c0_i32_72_r0 : BitVec 32 := 0#32
  let v108_r0 : BitVec 1 := Scalar.cmpi .ne v107_r0 c0_i32_72_r0
  let v109_r0 : BitVec 1 := Scalar.andi v106_r0 v108_r0
  let v95_r0 : BitVec 32 := Scalar.divsi v67_r0 c36_i32_67_r0
  let c1_i32_73_r0 : BitVec 32 := 1#32
  let v110_r0 : BitVec 32 := Scalar.subi v95_r0 c1_i32_73_r0
  let v111_r0 : BitVec 32 := Scalar.select v109_r0 v110_r0 v95_r0
  let v112_r0 : BitVec 32 := Scalar.addi v94_r0 v111_r0
  let v113_r0 : BitVec 32 := Scalar.muli c128_i32_74_r0 v112_r0
  let c0_i32_77_r0 : BitVec 32 := 0#32
  ![v113_r0.toNat, 0]

def k0_chk5 (i : grid0.Coords) (v62_4_r0 : BitVec 32) : Prop :=
  (∀ a, (k0_off19 i v62_4_r0) a + S128x256.size a ≤ S147456x256.size a)
theorem k0_off19_inb : ∀ (i : grid0.Coords) (v62_4_r0 : BitVec 32) (k0_hw5 : k0_chk5 i v62_4_r0), ∀ a, (k0_off19 i v62_4_r0) a + S128x256.size a ≤ S147456x256.size a := fun i v62_4_r0 k0_hw5 => k0_hw5

def k0_off20 (v62_3_r0 : BitVec 32) : Fin 1 → Nat :=
  let c2_i32_59_r0 : BitVec 32 := 2#32
  let v83_r0 : BitVec 32 := Scalar.remui v62_3_r0 c2_i32_59_r0
  ![v83_r0.toNat]
def k0_off21 (v62_3_r0 : BitVec 32) : Fin 3 → Nat :=
  let c2_i32_59_r0 : BitVec 32 := 2#32
  let v83_r0 : BitVec 32 := Scalar.remui v62_3_r0 c2_i32_59_r0
  let c0_i32_79_r0 : BitVec 32 := 0#32
  let c0_i32_80_r0 : BitVec 32 := 0#32
  ![v83_r0.toNat, 0, 0]

def k0_chk4 (v62_3_r0 : BitVec 32) : Prop :=
  (∀ a, (k0_off18 v62_3_r0) a + S1x128x256.size a ≤ S2x128x256.size a) ∧
  (∀ a, (k0_off20 v62_3_r0) a + S1.size a ≤ S2.size a) ∧
  (∀ a, (k0_off21 v62_3_r0) a + S1x128x256.size a ≤ S2x128x256.size a)
theorem k0_off18_inb : ∀ (v62_3_r0 : BitVec 32) (k0_hw4 : k0_chk4 v62_3_r0), ∀ a, (k0_off18 v62_3_r0) a + S1x128x256.size a ≤ S2x128x256.size a := fun v62_3_r0 k0_hw4 => k0_hw4.1
theorem k0_off20_inb : ∀ (v62_3_r0 : BitVec 32) (k0_hw4 : k0_chk4 v62_3_r0), ∀ a, (k0_off20 v62_3_r0) a + S1.size a ≤ S2.size a := fun v62_3_r0 k0_hw4 => k0_hw4.2.1
theorem k0_off21_inb : ∀ (v62_3_r0 : BitVec 32) (k0_hw4 : k0_chk4 v62_3_r0), ∀ a, (k0_off21 v62_3_r0) a + S1x128x256.size a ≤ S2x128x256.size a := fun v62_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32768x256 : Shape := ⟨2, ![32768, 256]⟩
abbrev S147456 : Shape := ⟨1, ![147456]⟩
abbrev S_ : Shape := ⟨0, ![]⟩
abbrev S147456x1 : Shape := ⟨2, ![147456, 1]⟩
abbrev S147456x256 : Shape := ⟨2, ![147456, 256]⟩

abbrev nBuf : Space → Nat
  | .hbm => 11
  | .vmem => 0
  | .smem => 0
  | _ => 0

abbrev bufTy : (tb : Table) → Fin (tcTables nBuf tb) → BufTy
  | .hbm, ⟨0, _⟩ => ⟨S32768x256, .i32⟩
  | .hbm, ⟨1, _⟩ => ⟨S147456, .i32⟩
  | .hbm, ⟨2, _⟩ => ⟨S_, .i32⟩
  | .hbm, ⟨3, _⟩ => ⟨S147456, .i32⟩
  | .hbm, ⟨4, _⟩ => ⟨S147456, .i1⟩
  | .hbm, ⟨5, _⟩ => ⟨S_, .i32⟩
  | .hbm, ⟨6, _⟩ => ⟨S147456, .i32⟩
  | .hbm, ⟨7, _⟩ => ⟨S147456, .i32⟩
  | .hbm, ⟨8, _⟩ => ⟨S147456, .i32⟩
  | .hbm, ⟨9, _⟩ => ⟨S147456x1, .i32⟩
  | .hbm, ⟨10, _⟩ => ⟨S147456x256, .i32⟩
  | _, _ => ⟨S32768x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Experts.lean ====
abbrev S147456x1024 : Shape := ⟨2, ![147456, 1024]⟩
abbrev S288 : Shape := ⟨1, ![288]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S147456x512 : Shape := ⟨2, ![147456, 512]⟩
abbrev S2x32x1x2048 : Shape := ⟨4, ![2, 32, 1, 2048]⟩
abbrev S2x32x1x1024 : Shape := ⟨4, ![2, 32, 1, 1024]⟩
abbrev S512x512 : Shape := ⟨2, ![512, 512]⟩
abbrev S1x1x1024x2048 : Shape := ⟨4, ![1, 1, 1024, 2048]⟩
abbrev S1 : Shape := ⟨1, ![1]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 13
  | .vmem => 18
  | .smem => 1
  | _ => 0

abbrev bufTy : (tb : Table) → Fin (tcTables nBuf tb) → BufTy
  | .hbm, ⟨0, _⟩ => ⟨S147456x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S147456x512, .f32⟩
  | .hbm, ⟨6, _⟩ => ⟨S147456x512, .bf16⟩
  | .hbm, ⟨7, _⟩ => ⟨S147456x512, .f32⟩
  | .hbm, ⟨8, _⟩ => ⟨S147456x512, .bf16⟩
  | .hbm, ⟨9, _⟩ => ⟨S2x32x1x2048, .f32⟩
  | .hbm, ⟨10, _⟩ => ⟨S2x32x1x1024, .f32⟩
  | .hbm, ⟨11, _⟩ => ⟨S147456x512, .bf16⟩
  | .hbm, ⟨12, _⟩ => ⟨S147456x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1x1024x2048, .f32⟩
  | .local _ .vmem, ⟨5, _⟩ => ⟨S1x1x1024x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x2048, .bf16⟩
  | .local _ .vmem, ⟨17, _⟩ => ⟨S1024x1024, .bf16⟩
  | .local _ .smem, ⟨0, _⟩ => ⟨S288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S147456x1024 : Shape := ⟨2, ![147456, 1024]⟩
abbrev S288 : Shape := ⟨1, ![288]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S147456x512 : Shape := ⟨2, ![147456, 512]⟩

abbrev nBuf : Space → Nat
  | .hbm => 93
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S1x32x1024x2048, .f32⟩
  | .hbm, ⟨7, _⟩ => ⟨S32x1024x2048, .f32⟩
  | .hbm, ⟨8, _⟩ => ⟨S1x32x2048, .f32⟩
  | .hbm, ⟨9, _⟩ => ⟨S32x2048, .f32⟩
  | .hbm, ⟨10, _⟩ => ⟨S1x32x1024x1024, .f32⟩
  | .hbm, ⟨11, _⟩ => ⟨S32x1024x1024, .f32⟩
  | .hbm, ⟨12, _⟩ => ⟨S1x32x1024, .f32⟩
  | .hbm, ⟨13, _⟩ => ⟨S32x1024, .f32⟩
  | .hbm, ⟨14, _⟩ => ⟨S288x512x1024, .f32⟩
  | .hbm, ⟨15, _⟩ => ⟨S_, .i32⟩
  | .hbm, ⟨16, _⟩ => ⟨S288, .i32⟩
  | .hbm, ⟨17, _⟩ => ⟨S288, .i1⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S288, .i32⟩
  | .hbm, ⟨22, _⟩ => ⟨S288x1, .i32⟩
  | .hbm, ⟨23, _⟩ => ⟨S288x1024x2048, .f32⟩
  | .hbm, ⟨24, _⟩ => ⟨S288x512x2048, .f32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S288x2048, .f32⟩
  | .hbm, ⟨34, _⟩ => ⟨S288x1x2048, .f32⟩
  | .hbm, ⟨35, _⟩ => ⟨S288x512x2048, .f32⟩
  | .hbm, ⟨36, _⟩ => ⟨S288x512x2048, .f32⟩
  | .hbm, ⟨37, _⟩ => ⟨S288x512x1024, .f32⟩
  | .hbm, ⟨38, _⟩ => ⟨S288x512x1024, .f32⟩
  | .hbm, ⟨39, _⟩ => ⟨S_, .f32⟩
  | .hbm, ⟨40, _⟩ => ⟨S288x512x1024, .f32⟩
  | .hbm, ⟨41, _⟩ => ⟨S288x512x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S288x512x1024, .f32⟩
  | .hbm, ⟨49, _⟩ => ⟨S288x512x1024, .f32⟩
  | .hbm, ⟨50, _⟩ => ⟨S_, .f32⟩
  | .hbm, ⟨51, _⟩ => ⟨S288x512x1024, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S288x512x1024, .f32⟩
  | .hbm, ⟨66, _⟩ => ⟨S_, .i32⟩
  | .hbm, ⟨67, _⟩ => ⟨S288, .i32⟩
  | .hbm, ⟨68, _⟩ => ⟨S288, .i1⟩
  | .hbm, ⟨69, _⟩ => ⟨S_, .i32⟩
  | .hbm, ⟨70, _⟩ => ⟨S288, .i32⟩
  | .hbm, ⟨71, _⟩ => ⟨S288, .i32⟩
  | .hbm, ⟨72, _⟩ => ⟨S288, .i32⟩
  | .hbm, ⟨73, _⟩ => ⟨S288x1, .i32⟩
  | .hbm, ⟨74, _⟩ => ⟨S288x1024x1024, .f32⟩
  | .hbm, ⟨75, _⟩ => ⟨S288x512x1024, .f32⟩
  | .hbm, ⟨76, _⟩ => ⟨S_, .i32⟩
  | .hbm, ⟨77, _⟩ => ⟨S288, .i32⟩
  | .hbm, ⟨78, _⟩ => ⟨S288, .i1⟩
  | .hbm, ⟨79, _⟩ => ⟨S_, .i32⟩
  | .hbm, ⟨80, _⟩ => ⟨S288, .i32⟩
  | .hbm, ⟨81, _⟩ => ⟨S288, .i32⟩
  | .hbm, ⟨82, _⟩ => ⟨S288, .i32⟩
  | .hbm, ⟨83, _⟩ => ⟨S288x1, .i32⟩
  | .hbm, ⟨84, _⟩ => ⟨S288x1024, .f32⟩
  | .hbm, ⟨85, _⟩ => ⟨S288x1x1024, .f32⟩
  | .hbm, ⟨86, _⟩ => ⟨S288x512x1024, .f32⟩
  | .hbm, ⟨87, _⟩ => ⟨S288x512x1024, .f32⟩
  | .hbm, ⟨88, _⟩ => ⟨S147456x1024, .f32⟩
  | .hbm, ⟨89, _⟩ => ⟨S147456x512, .f32⟩
  | .hbm, ⟨90, _⟩ => ⟨S147456x512, .bf16⟩
  | .hbm, ⟨91, _⟩ => ⟨S147456x512, .f32⟩
  | .hbm, ⟨92, _⟩ => ⟨S147456x512, .bf16⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== BranchA.lean ====
abbrev S16x2048x1024 : Shape := ⟨3, ![16, 2048, 1024]⟩
abbrev S16x1024 : Shape := ⟨2, ![16, 1024]⟩
abbrev S2x1024 : Shape := ⟨2, ![2, 1024]⟩
abbrev S2x1024x9728 : Shape := ⟨3, ![2, 1024, 9728]⟩
abbrev S2x3x512 : Shape := ⟨3, ![2, 3, 512]⟩
abbrev S2x512x1024 : Shape := ⟨3, ![2, 512, 1024]⟩
abbrev S1x1024x9728 : Shape := ⟨3, ![1, 1024, 9728]⟩
abbrev S1024x9728 : Shape := ⟨2, ![1024, 9728]⟩
abbrev S1024x3072 : Shape := ⟨2, ![1024, 3072]⟩
abbrev S1x1024 : Shape := ⟨2, ![1, 1024]⟩
abbrev S1024 : Shape := ⟨1, ![1024]⟩
abbrev S16x1x1024 : Shape := ⟨3, ![16, 1, 1024]⟩
abbrev S1024x1536 : Shape := ⟨2, ![1024, 1536]⟩
abbrev S1024x1024 : Shape := ⟨2, ![1024, 1024]⟩
abbrev S1x3x512 : Shape := ⟨3, ![1, 3, 512]⟩
abbrev S3x512 : Shape := ⟨2, ![3, 512]⟩
abbrev S1x512x1024 : Shape := ⟨3, ![1, 512, 1024]⟩
abbrev S512x1024 : Shape := ⟨2, ![512, 1024]⟩
abbrev S1x1x1024 : Shape := ⟨3, ![1, 1, 1024]⟩
abbrev S520x512 : Shape := ⟨2, ![520, 512]⟩
abbrev S8x512 : Shape := ⟨2, ![8, 512]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S1x512 : Shape := ⟨2, ![1, 512]⟩

abbrev nBuf : Space → Nat
  | .hbm => 24
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S2x1024, .f32⟩
  | .hbm, ⟨4, _⟩ => ⟨S2x1024x9728, .f32⟩
  | .hbm, ⟨5, _⟩ => ⟨S2x3x512, .f32⟩
  | .hbm, ⟨6, _⟩ => ⟨S2x512x1024, .f32⟩
  | .hbm, ⟨7, _⟩ => ⟨S1x1024x9728, .f32⟩
  | .hbm, ⟨8, _⟩ => ⟨S1024x9728, .f32⟩
  | .hbm, ⟨9, _⟩ => ⟨S1024x9728, .bf16⟩
  | .hbm, ⟨10, _⟩ => ⟨S1024x3072, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16x1x1024, .f32⟩
  | .hbm, ⟨15, _⟩ => ⟨S16x1x1024, .f32⟩
  | .hbm, ⟨16, _⟩ => ⟨S1024x1536, .bf16⟩
  | .hbm, ⟨17, _⟩ => ⟨S1024x1024, .bf16⟩
  | .hbm, ⟨18, _⟩ => ⟨S1x3x512, .f32⟩
  | .hbm, ⟨19, _⟩ => ⟨S3x512, .f32⟩
  | .hbm, ⟨20, _⟩ => ⟨S1x512x1024, .f32⟩
  | .hbm, ⟨21, _⟩ => ⟨S512x1024, .f32⟩
  | .hbm, ⟨22, _⟩ => ⟨S512x1024, .bf16⟩
  | .hbm, ⟨23, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x1024, .bf16⟩
  | .local _ .vmem, ⟨9, _⟩ => ⟨S3x512, .f32⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S520x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BranchARefIdeal.lean ====
abbrev S16x2048x1024 : Shape := ⟨3, ![16, 2048, 1024]⟩
abbrev S16x1024 : Shape := ⟨2, ![16, 1024]⟩
abbrev S2x1024 : Shape := ⟨2, ![2, 1024]⟩
abbrev S2x1024x9728 : Shape := ⟨3, ![2, 1024, 9728]⟩
abbrev S2x3x512 : Shape := ⟨3, ![2, 3, 512]⟩
abbrev S2x512x1024 : Shape := ⟨3, ![2, 512, 1024]⟩
abbrev S1x1024 : Shape := ⟨2, ![1, 1024]⟩
abbrev S1024 : Shape := ⟨1, ![1024]⟩
abbrev S1x1024x9728 : Shape := ⟨3, ![1, 1024, 9728]⟩
abbrev S1024x9728 : Shape := ⟨2, ![1024, 9728]⟩
abbrev S1x3x512 : Shape := ⟨3, ![1, 3, 512]⟩
abbrev S3x512 : Shape := ⟨2, ![3, 512]⟩
abbrev S1x512x1024 : Shape := ⟨3, ![1, 512, 1024]⟩
abbrev S512x1024 : Shape := ⟨2, ![512, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x9728 : Shape := ⟨3, ![16, 2048, 9728]⟩
abbrev S16x2048x1536 : Shape := ⟨3, ![16, 2048, 1536]⟩
abbrev S16x2048x4096 : Shape := ⟨3, ![16, 2048, 4096]⟩
abbrev S16x2048x3072 : Shape := ⟨3, ![16, 2048, 3072]⟩
abbrev S16x2048x512 : Shape := ⟨3, ![16, 2048, 512]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S2x1024, .f32⟩
  | .hbm, ⟨4, _⟩ => ⟨S2x1024x9728, .f32⟩
  | .hbm, ⟨5, _⟩ => ⟨S2x3x512, .f32⟩
  | .hbm, ⟨6, _⟩ => ⟨S2x512x1024, .f32⟩
  | .hbm, ⟨7, _⟩ => ⟨S1x1024, .f32⟩
  | .hbm, ⟨8, _⟩ => ⟨S1024, .f32⟩
  | .hbm, ⟨9, _⟩ => ⟨S1x1024x9728, .f32⟩
  | .hbm, ⟨10, _⟩ => ⟨S1024x9728, .f32⟩
  | .hbm, ⟨11, _⟩ => ⟨S1x3x512, .f32⟩
  | .hbm, ⟨12, _⟩ => ⟨S3x512, .f32⟩
  | .hbm, ⟨13, _⟩ => ⟨S1x512x1024, .f32⟩
  | .hbm, ⟨14, _⟩ => ⟨S512x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x1x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x2048x1024, .f32⟩
  | .hbm, ⟨36, _⟩ => ⟨S16x2048x1024, .f32⟩
  | .hbm, ⟨37, _⟩ => ⟨S16x1x1024, .f32⟩
  | .hbm, ⟨38, _⟩ => ⟨S16x2048x1024, .f32⟩
  | .hbm, ⟨39, _⟩ => ⟨S16x2048x1024, .f32⟩
  | .hbm, ⟨40, _⟩ => ⟨S16x2048x9728, .f32⟩
  | .hbm, ⟨41, _⟩ => ⟨S16x2048x1536, .f32⟩
  | .hbm, ⟨42, _⟩ => ⟨S16x2048x4096, .f32⟩
  | .hbm, ⟨43, _⟩ => ⟨S16x2048x1024, .f32⟩
  | .hbm, ⟨44, _⟩ => ⟨S16x2048x3072, .f32⟩
  | .hbm, ⟨45, _⟩ => ⟨S16x2048x512, .f32⟩
  | .hbm, ⟨46, _⟩ => ⟨S16x2048x512, .f32⟩
  | .hbm, ⟨47, _⟩ => ⟨S16x2048x512, .f32⟩
  | .hbm, ⟨48, _⟩ => ⟨S16x2048x512, .f32⟩
  | .hbm, ⟨49, _⟩ => ⟨S_, .i32⟩
  | .hbm, ⟨50, _⟩ => ⟨S_, .f32⟩
  | .hbm, ⟨51, _⟩ => ⟨S16x2050x512, .f32⟩
  | .hbm, ⟨52, _⟩ => ⟨S1x512, .f32⟩
  | .hbm, ⟨53, _⟩ => ⟨S512, .f32⟩
  | .hbm, ⟨54, _⟩ => ⟨S16x2048x512, .f32⟩
  | .hbm, ⟨55, _⟩ => ⟨S1x1x512, .f32⟩
  | .hbm, ⟨56, _⟩ => ⟨S16x2048x512, .f32⟩
  | .hbm, ⟨57, _⟩ => ⟨S16x2048x512, .f32⟩
  | .hbm, ⟨58, _⟩ => ⟨S1x512, .f32⟩
  | .hbm, ⟨59, _⟩ => ⟨S512, .f32⟩
  | .hbm, ⟨60, _⟩ => ⟨S16x2048x512, .f32⟩
  | .hbm, ⟨61, _⟩ => ⟨S1x1x512, .f32⟩
  | .hbm, ⟨62, _⟩ => ⟨S16x2048x512, .f32⟩
  | .hbm, ⟨63, _⟩ => ⟨S16x2048x512, .f32⟩
  | .hbm, ⟨64, _⟩ => ⟨S16x2048x512, .f32⟩
  | .hbm, ⟨65, _⟩ => ⟨S1x512, .f32⟩
  | .hbm, ⟨66, _⟩ => ⟨S512, .f32⟩
  | .hbm, ⟨67, _⟩ => ⟨S16x2048x512, .f32⟩
  | .hbm, ⟨68, _⟩ => ⟨S1x1x512, .f32⟩
  | .hbm, ⟨69, _⟩ => ⟨S16x2048x512, .f32⟩
  | .hbm, ⟨70, _⟩ => ⟨S16x2048x512, .f32⟩
  | .hbm, ⟨71, _⟩ => ⟨S16x2048x512, .f32⟩
  | .hbm, ⟨72, _⟩ => ⟨S16x2048x512, .f32⟩
  | .hbm, ⟨73, _⟩ => ⟨S16x2048x1024, .f32⟩
  | .hbm, ⟨74, _⟩ => ⟨S16x2048x3072, .f32⟩
  | .hbm, ⟨75, _⟩ => ⟨S16x2048x3072, .f32⟩
  | .hbm, ⟨76, _⟩ => ⟨S_, .f32⟩
  | .hbm, ⟨77, _⟩ => ⟨S16x2048x3072, .f32⟩
  | .hbm, ⟨78, _⟩ => ⟨S16x2048x3072, .f32⟩
  | .hbm, ⟨79, _⟩ => ⟨S_, .f32⟩
  | .hbm, ⟨80, _⟩ => ⟨S16x2048x3072, .f32⟩
  | .hbm, ⟨81, _⟩ => ⟨S16x2048x3072, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_3 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== Combine.lean ====
abbrev S147456x256 : Shape := ⟨2, ![147456, 256]⟩
abbrev S32768x4 : Shape := ⟨2, ![32768, 4]⟩
abbrev S16x2048x1024 : Shape := ⟨3, ![16, 2048, 1024]⟩
abbrev S16x1024 : Shape := ⟨2, ![16, 1024]⟩
abbrev S16x2048x128 : Shape := ⟨3, ![16, 2048, 128]⟩
abbrev S1024 : Shape := ⟨1, ![1024]⟩
abbrev S64x512x4 : Shape := ⟨3, ![64, 512, 4]⟩
abbrev S64x4x512 : Shape := ⟨3, ![64, 4, 512]⟩
abbrev S131072 : Shape := ⟨1, ![131072]⟩
abbrev S_ : Shape := ⟨0, ![]⟩
abbrev S131072x1 : Shape := ⟨2, ![131072, 1]⟩
abbrev S131072x256 : Shape := ⟨2, ![131072, 256]⟩
abbrev S32768x1024 : Shape := ⟨2, ![32768, 1024]⟩
abbrev S16x1x1024 : Shape := ⟨3, ![16, 1, 1024]⟩
abbrev S32768x128 : Shape := ⟨2, ![32768, 128]⟩
abbrev S1x1024 : Shape := ⟨2, ![1, 1024]⟩
abbrev S2048x256 : Shape := ⟨2, ![2048, 256]⟩
abbrev S512x1024 : Shape := ⟨2, ![512, 1024]⟩
abbrev S1x1x1024 : Shape := ⟨3, ![1, 1, 1024]⟩
abbrev S512x128 : Shape := ⟨2, ![512, 128]⟩
abbrev S512x1 : Shape := ⟨2, ![512, 1]⟩
abbrev S512x256 : Shape := ⟨2, ![512, 256]⟩
abbrev S512 : Shape := ⟨1, ![512]⟩

abbrev nBuf : Space → Nat
  | .hbm => 33
  | .vmem => 13
  | .smem => 0
  | _ => 0

abbrev bufTy : (tb : Table) → Fin (tcTables nBuf tb) → BufTy
  | .hbm, ⟨0, _⟩ => ⟨S147456x256, .i32⟩
  | .hbm, ⟨1, _⟩ => ⟨S147456x256, .i32⟩
  | .hbm, ⟨2, _⟩ => ⟨S32768x4, .i32⟩
  | .hbm, ⟨3, _⟩ => ⟨S16x2048x1024, .f32⟩
  | .hbm, ⟨4, _⟩ => ⟨S16x1024, .f32⟩
  | .hbm, ⟨5, _⟩ => ⟨S16x2048x128, .f32⟩
  | .hbm, ⟨6, _⟩ => ⟨S1024, .f32⟩
  | .hbm, ⟨7, _⟩ => ⟨S64x512x4, .i32⟩
  | .hbm, ⟨8, _⟩ => ⟨S64x4x512, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S131072x256, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x256, .i32⟩
  | .hbm, ⟨28, _⟩ => ⟨S32768x1024, .f32⟩
  | .hbm, ⟨29, _⟩ => ⟨S16x1x1024, .f32⟩
  | .hbm, ⟨30, _⟩ => ⟨S32768x128, .f32⟩
  | .hbm, ⟨31, _⟩ => ⟨S1x1024, .f32⟩
  | .hbm, ⟨32, _⟩ => ⟨S32768x1024, .f32⟩
  | .local _ .vmem, ⟨0, _⟩ => ⟨S2048x256, .i32⟩
  | .local _ .vmem, ⟨1, _⟩ => ⟨S2048x256, .i32⟩
  | .local _ .vmem, ⟨2, _⟩ => ⟨S2048x256, .i32⟩
  | .local _ .vmem, ⟨3, _⟩ => ⟨S2048x256, .i32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x128, .f32⟩
  | .local _ .vmem, ⟨9, _⟩ => ⟨S512x128, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S147456x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S147456x256 : Shape := ⟨2, ![147456, 256]⟩
abbrev S32768x4 : Shape := ⟨2, ![32768, 4]⟩
abbrev S16x2048x1024 : Shape := ⟨3, ![16, 2048, 1024]⟩
abbrev S16x1024 : Shape := ⟨2, ![16, 1024]⟩
abbrev S16x2048x128 : Shape := ⟨3, ![16, 2048, 128]⟩
abbrev S1024 : Shape := ⟨1, ![1024]⟩
abbrev S_ : Shape := ⟨0, ![]⟩
abbrev S147456x1024 : Shape := ⟨2, ![147456, 1024]⟩
abbrev S32768x4x1 : Shape := ⟨3, ![32768, 4, 1]⟩
abbrev S32768x4x1024 : Shape := ⟨3, ![32768, 4, 1024]⟩
abbrev S32768x128 : Shape := ⟨2, ![32768, 128]⟩
abbrev S32768x1024 : Shape := ⟨2, ![32768, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S147456x256, .i32⟩
  | .hbm, ⟨1, _⟩ => ⟨S147456x256, .i32⟩
  | .hbm, ⟨2, _⟩ => ⟨S32768x4, .i32⟩
  | .hbm, ⟨3, _⟩ => ⟨S16x2048x1024, .f32⟩
  | .hbm, ⟨4, _⟩ => ⟨S16x1024, .f32⟩
  | .hbm, ⟨5, _⟩ => ⟨S16x2048x128, .f32⟩
  | .hbm, ⟨6, _⟩ => ⟨S1024, .f32⟩
  | .hbm, ⟨7, _⟩ => ⟨S_, .i32⟩
  | .hbm, ⟨8, _⟩ => ⟨S147456x256, .i32⟩
  | .hbm, ⟨9, _⟩ => ⟨S147456x256, .i32⟩
  | .hbm, ⟨10, _⟩ => ⟨S147456x256, .f32⟩
  | .hbm, ⟨11, _⟩ => ⟨S_, .i32⟩
  | .hbm, ⟨12, _⟩ => ⟨S147456x256, .i32⟩
  | .hbm, ⟨13, _⟩ => ⟨S147456x256, .i32⟩
  | .hbm, ⟨14, _⟩ => ⟨S147456x256, .f32⟩
  | .hbm, ⟨15, _⟩ => ⟨S_, .i32⟩
  | .hbm, ⟨16, _⟩ => ⟨S147456x256, .i32⟩
  | .hbm, ⟨17, _⟩ => ⟨S147456x256, .i32⟩
  | .hbm, ⟨18, _⟩ => ⟨S147456x256, .f32⟩
  | .hbm, ⟨19, _⟩ => ⟨S_, .i32⟩
  | .hbm, ⟨20, _⟩ => ⟨S147456x256, .i32⟩
  | .hbm, ⟨21, _⟩ => ⟨S147456x256, .i32⟩
  | .hbm, ⟨22, _⟩ => ⟨S147456x256, .f32⟩
  | .hbm, ⟨23, _⟩ => ⟨S147456x1024, .f32⟩
  | .hbm, ⟨24, _⟩ => ⟨S_, .i32⟩
  | .hbm, ⟨25, _⟩ => ⟨S32768x4, .i32⟩
  | .hbm, ⟨26, _⟩ => ⟨S32768x4, .i1⟩
  | .hbm, ⟨27, _⟩ => ⟨S_, .i32⟩
  | .hbm, ⟨28, _⟩ => ⟨S32768x4, .i32⟩
  | .hbm, ⟨29, _⟩ => ⟨S32768x4, .i32⟩
  | .hbm, ⟨30, _⟩ => ⟨S32768x4, .i32⟩
  | .hbm, ⟨31, _⟩ => ⟨S32768x4x1, .i32⟩
  | .hbm, ⟨32, _⟩ => ⟨S32768x4x1024, .f32⟩
  | .hbm, ⟨33, _⟩ => ⟨S32768x128, .f32⟩
  | .hbm, ⟨34, _⟩ => ⟨S32768x4, .f32⟩
  | .hbm, ⟨35, _⟩ => ⟨S32768x4x1, .f32⟩
  | .hbm, ⟨36, _⟩ => ⟨S32768x4x1024, .f32⟩
  | .hbm, ⟨37, _⟩ => ⟨S32768x4x1024, .f32⟩
  | .hbm, ⟨38, _⟩ => ⟨S_, .f32⟩
  | .hbm, ⟨39, _⟩ => ⟨S32768x1024, .f32⟩
  | .hbm, ⟨40, _⟩ => ⟨S16x1x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S32768x1024, .f32⟩
  | _, _ => ⟨S147456x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Rope.lean ====
abbrev S16x2048 : Shape := ⟨2, ![16, 2048]⟩
abbrev S64 : Shape := ⟨1, ![64]⟩
abbrev S_ : Shape := ⟨0, ![]⟩
abbrev S128 : Shape := ⟨1, ![128]⟩
abbrev S1x128 : Shape := ⟨2, ![1, 128]⟩
abbrev S16x2048x1 : Shape := ⟨3, ![16, 2048, 1]⟩
abbrev S16x2048x128 : Shape := ⟨3, ![16, 2048, 128]⟩
abbrev S1x1024x1 : Shape := ⟨3, ![1, 1024, 1]⟩
abbrev S1x1024x128 : Shape := ⟨3, ![1, 1024, 128]⟩
abbrev S1024x1 : Shape := ⟨2, ![1024, 1]⟩
abbrev S1024x128 : Shape := ⟨2, ![1024, 128]⟩

abbrev nBuf : Space → Nat
  | .hbm => 22
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S16x2048x1, .i32⟩
  | .hbm, ⟨20, _⟩ => ⟨S16x2048x128, .f32⟩
  | .hbm, ⟨21, _⟩ => ⟨S16x2048x128, .f32⟩
  | .local _ .vmem, ⟨0, _⟩ => ⟨S1x1024x1, .i32⟩
  | .local _ .vmem, ⟨1, _⟩ => ⟨S1x1024x1, .i32⟩
  | .local _ .vmem, ⟨2, _⟩ => ⟨S1x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RopeRefIdeal.lean ====
abbrev S16x2048 : Shape := ⟨2, ![16, 2048]⟩
abbrev S64 : Shape := ⟨1, ![64]⟩
abbrev S_ : Shape := ⟨0, ![]⟩
abbrev S16x2048x1 : Shape := ⟨3, ![16, 2048, 1]⟩
abbrev S1x1x64 : Shape := ⟨3, ![1, 1, 64]⟩
abbrev S16x2048x64 : Shape := ⟨3, ![16, 2048, 64]⟩
abbrev S16x2048x128 : Shape := ⟨3, ![16, 2048, 128]⟩

abbrev nBuf : Space → Nat
  | .hbm => 28
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S16x2048, .f32⟩
  | .hbm, ⟨18, _⟩ => ⟨S16x2048x1, .f32⟩
  | .hbm, ⟨19, _⟩ => ⟨S1x1x64, .f32⟩
  | .hbm, ⟨20, _⟩ => ⟨S16x2048x64, .f32⟩
  | .hbm, ⟨21, _⟩ => ⟨S16x2048x64, .f32⟩
  | .hbm, ⟨22, _⟩ => ⟨S16x2048x64, .f32⟩
  | .hbm, ⟨23, _⟩ => ⟨S16x2048x64, .f32⟩
  | .hbm, ⟨24, _⟩ => ⟨S16x2048x64, .f32⟩
  | .hbm, ⟨25, _⟩ => ⟨S16x2048x128, .f32⟩
  | .hbm, ⟨26, _⟩ => ⟨S16x2048x64, .f32⟩
  | .hbm, ⟨27, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Router.lean ====
abbrev S16x2048x1024 : Shape := ⟨3, ![16, 2048, 1024]⟩
abbrev S16x1024 : Shape := ⟨2, ![16, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S_ : Shape := ⟨0, ![]⟩
abbrev S2x1024x128 : Shape := ⟨3, ![2, 1024, 128]⟩
abbrev S1 : Shape := ⟨1, ![1]⟩
abbrev S2x1x128 : Shape := ⟨3, ![2, 1, 128]⟩
abbrev S2 : Shape := ⟨1, ![2]⟩
abbrev S16x1x1024 : Shape := ⟨3, ![16, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x128 : Shape := ⟨3, ![1, 1024, 128]⟩
abbrev S1024x128 : Shape := ⟨2, ![1024, 128]⟩
abbrev S1x1x128 : Shape := ⟨3, ![1, 1, 128]⟩
abbrev S1x128 : Shape := ⟨2, ![1, 128]⟩
abbrev S16x2048x128 : Shape := ⟨3, ![16, 2048, 128]⟩
abbrev S32768x512 : Shape := ⟨2, ![32768, 512]⟩
abbrev S1x512x1024 : Shape := ⟨3, ![1, 512, 1024]⟩
abbrev S1x1x1024 : Shape := ⟨3, ![1, 1, 1024]⟩
abbrev S1x512x128 : Shape := ⟨3, ![1, 512, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S128 : Shape := ⟨1, ![128]⟩

abbrev nBuf : Space → Nat
  | .hbm => 44
  | .vmem => 32
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x1024, .f32⟩
  | .hbm, ⟨4, _⟩ => ⟨S16x1024, .f32⟩
  | .hbm, ⟨5, _⟩ => ⟨S2x1024x1024, .f32⟩
  | .hbm, ⟨6, _⟩ => ⟨S2x1024, .f32⟩
  | .hbm, ⟨7, _⟩ => ⟨S16x1024, .f32⟩
  | .hbm, ⟨8, _⟩ => ⟨S16x1024, .f32⟩
  | .hbm, ⟨9, _⟩ => ⟨S2x1024x32, .f32⟩
  | .hbm, ⟨10, _⟩ => ⟨S2x32, .f32⟩
  | .hbm, ⟨11, _⟩ => ⟨S_, .f32⟩
  | .hbm, ⟨12, _⟩ => ⟨S2x1024x128, .f32⟩
  | .hbm, ⟨13, _⟩ => ⟨S_, .i32⟩
  | .hbm, ⟨14, _⟩ => ⟨S1, .i32⟩
  | .hbm, ⟨15, _⟩ => ⟨S2x1024x128, .f32⟩
  | .hbm, ⟨16, _⟩ => ⟨S_, .f32⟩
  | .hbm, ⟨17, _⟩ => ⟨S2x1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S2x1x128, .f32⟩
  | .hbm, ⟨24, _⟩ => ⟨S16x1x1024, .f32⟩
  | .hbm, ⟨25, _⟩ => ⟨S1x1024x1024, .f32⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16x1x1024, .f32⟩
  | .hbm, ⟨32, _⟩ => ⟨S16x1x1024, .f32⟩
  | .hbm, ⟨33, _⟩ => ⟨S1x1024x128, .f32⟩
  | .hbm, ⟨34, _⟩ => ⟨S1024x128, .f32⟩
  | .hbm, ⟨35, _⟩ => ⟨S1x1x128, .f32⟩
  | .hbm, ⟨36, _⟩ => ⟨S1x128, .f32⟩
  | .hbm, ⟨37, _⟩ => ⟨S16x2048x1024, .f32⟩
  | .hbm, ⟨38, _⟩ => ⟨S16x2048x128, .i32⟩
  | .hbm, ⟨39, _⟩ => ⟨S16x2048x128, .f32⟩
  | .hbm, ⟨40, _⟩ => ⟨S16x2048x128, .i32⟩
  | .hbm, ⟨41, _⟩ => ⟨S1x128, .f32⟩
  | .hbm, ⟨42, _⟩ => ⟨S32768x512, .bf16⟩
  | .hbm, ⟨43, _⟩ => ⟨S32768x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .f32⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x128, .i32⟩
  | .local _ .vmem, ⟨21, _⟩ => ⟨S1x512x128, .i32⟩
  | .local _ .vmem, ⟨22, _⟩ => ⟨S1x512x128, .f32⟩
  | .local _ .vmem, ⟨23, _⟩ => ⟨S1x512x128, .f32⟩
  | .local _ .vmem, ⟨24, _⟩ => ⟨S1x512x128, .i32⟩
  | .local _ .vmem, ⟨25, _⟩ => ⟨S1x512x128, .i32⟩
  | .local _ .vmem, ⟨26, _⟩ => ⟨S1x128, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S1x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_c_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== RouterRefIdeal.lean ====
abbrev S16x2048x1024 : Shape := ⟨3, ![16, 2048, 1024]⟩
abbrev S16x1024 : Shape := ⟨2, ![16, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S16x1x1024 : Shape := ⟨3, ![16, 1, 1024]⟩
abbrev S1x1024x1024 : Shape := ⟨3, ![1, 1024, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩
abbrev S32768x512 : Shape := ⟨2, ![32768, 512]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x1024, .f32⟩
  | .hbm, ⟨4, _⟩ => ⟨S16x1024, .f32⟩
  | .hbm, ⟨5, _⟩ => ⟨S2x1024x1024, .f32⟩
  | .hbm, ⟨6, _⟩ => ⟨S2x1024, .f32⟩
  | .hbm, ⟨7, _⟩ => ⟨S16x1024, .f32⟩
  | .hbm, ⟨8, _⟩ => ⟨S16x1024, .f32⟩
  | .hbm, ⟨9, _⟩ => ⟨S2x1024x32, .f32⟩
  | .hbm, ⟨10, _⟩ => ⟨S2x32, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S1x1024x1024, .f32⟩
  | .hbm, ⟨18, _⟩ => ⟨S1024x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S16x1x1024, .f32⟩
  | .hbm, ⟨42, _⟩ => ⟨S_, .f32⟩
  | .hbm, ⟨43, _⟩ => ⟨S16x1x1024, .f32⟩
  | .hbm, ⟨44, _⟩ => ⟨S16x1x1024, .f32⟩
  | .hbm, ⟨45, _⟩ => ⟨S16x2048x1024, .f32⟩
  | .hbm, ⟨46, _⟩ => ⟨S16x2048x1024, .f32⟩
  | .hbm, ⟨47, _⟩ => ⟨S16x1x1024, .f32⟩
  | .hbm, ⟨48, _⟩ => ⟨S16x2048x1024, .f32⟩
  | .hbm, ⟨49, _⟩ => ⟨S16x2048x1024, .f32⟩
  | .hbm, ⟨50, _⟩ => ⟨S32768x1024, .f32⟩
  | .hbm, ⟨51, _⟩ => ⟨S32768x512, .f32⟩
  | .hbm, ⟨52, _⟩ => ⟨S32768x512, .bf16⟩
  | .hbm, ⟨53, _⟩ => ⟨S32768x512, .f32⟩
  | .hbm, ⟨54, _⟩ => ⟨S32768x512, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Words.lean ====
/-
  The words of the pipelined gather in closed form. Tile `(c, s)` works on the windows `32 t + 16 c + s`, `t = 0 … 35`.
  Before trip `t` the loop carries: fetches issued `min (t + 1) 36`, fetches waited for `t`, write-outs issued `t`,
  write-outs waited for `t - 1`, and the step `t` (zero again after the last). Every offset, condition and side
  condition of the body at those words is a finite table, evaluated here.
-/
module

public import proofs.«01_k».proof.KernelIdeal
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic

/-- The coordinates of tile `(c, s)`. -/
def coordsV (c : Fin 2) (s : Fin 16) : grid0.Coords :=
  fun | 0 => c | 1 => s | ⟨_ + 2, h⟩ => absurd h (Nat.not_lt.2 (Nat.le_add_left _ _))

/-- The window tile `(c, s)` works on at step `t`. -/
abbrev win (c : Fin 2) (s : Fin 16) (t : ℕ) : ℕ := 32 * t + 16 * c.val + s.val

theorem trips_eq : k0_t1_loop.trips = 36 := by decide +kernel

/-- The carried words before trip `t`. -/
def w6 (t : ℕ) : BitVec 32 := BitVec.ofNat 32 (min (t + 1) 36)
def w7 (t : ℕ) : BitVec 32 := BitVec.ofNat 32 t
def w9 (t : ℕ) : BitVec 32 := BitVec.ofNat 32 (t - 1)
def w10 (t : ℕ) : BitVec 32 := BitVec.ofNat 32 (t % 36)

theorem off1 : k0_off1 = ![0, 0, 0] := by decide +kernel
theorem off3 : k0_off3 = ![0] := by decide +kernel
theorem off2 : ∀ (c : Fin 2) (s : Fin 16), k0_off2 (coordsV c s) = ![0, 128 * win c s 0] := by decide +kernel

theorem off4 : ∀ t : Fin 36, k0_off4 (w6 t) = ![min (t.val + 1) 36 % 2, 0, 0] := by decide +kernel
theorem off6 : ∀ t : Fin 36, k0_off6 (w6 t) = ![min (t.val + 1) 36 % 2] := by decide +kernel
theorem off7 : ∀ t : Fin 36, k0_off7 (w7 t) = ![t.val % 2, 0, 0] := by decide +kernel
theorem off9 : ∀ t : Fin 36, k0_off9 (w7 t) = ![t.val % 2] := by decide +kernel
theorem off10 : ∀ t : Fin 36, k0_off10 (w7 t) = ![t.val % 2, 0, 0] := by decide +kernel
theorem off11 : ∀ t : Fin 36, k0_off11 (w7 t) = ![t.val % 2, 0, 0] := by decide +kernel
theorem off12 : ∀ t : Fin 36, k0_off12 (w7 t) = ![t.val % 2, 0, 0] := by decide +kernel
theorem off14 : ∀ t : Fin 36, k0_off14 (w7 t) = ![t.val % 2] := by decide +kernel
theorem off15 : ∀ t : Fin 36, k0_off15 (w9 t) = ![(t.val - 1) % 2, 0, 0] := by decide +kernel
theorem off17 : ∀ t : Fin 36, k0_off17 (w9 t) = ![(t.val - 1) % 2] := by decide +kernel
theorem off18 : k0_off18 (w9 36) = ![1, 0, 0] := by decide +kernel
theorem off20 : k0_off20 (w9 36) = ![1] := by decide +kernel
theorem off21 : k0_off21 (w9 36) = ![1, 0, 0] := by decide +kernel

theorem off5 : ∀ (c : Fin 2) (s : Fin 16) (t : Fin 36), t.val < 35 → k0_off5 (coordsV c s) (w10 t) = ![0, 128 * win c s (t + 1)] := by decide +kernel
theorem off8 : ∀ (c : Fin 2) (s : Fin 16) (t : Fin 36), k0_off8 (coordsV c s) (w10 t) = ![0, 128 * win c s t] := by decide +kernel
theorem off13 : ∀ (c : Fin 2) (s : Fin 16) (t : Fin 36), k0_off13 (coordsV c s) (w10 t) = ![128 * win c s t, 0] := by decide +kernel
theorem off16 : ∀ (c : Fin 2) (s : Fin 16) (t : Fin 36), 0 < t.val → k0_off16 (coordsV c s) (w10 t) = ![128 * win c s (t - 1), 0] := by decide +kernel
theorem off19 : ∀ (c : Fin 2) (s : Fin 16), k0_off19 (coordsV c s) (w10 36) = ![128 * win c s 35, 0] := by decide +kernel

theorem cond1 : ∀ (c : Fin 2) (s : Fin 16) (t : Fin 36), k0_cond1 (coordsV c s) (t.cast trips_eq.symm) (w10 t) = if t.val < 35 then 1#1 else 0#1 := by decide +kernel
theorem cond2 : ∀ (c : Fin 2) (s : Fin 16) (t : Fin 36), k0_cond2 (coordsV c s) (t.cast trips_eq.symm) (w10 t) = 1#1 := by decide +kernel
theorem cond5 : ∀ (c : Fin 2) (s : Fin 16) (t : Fin 36), k0_cond5 (coordsV c s) (t.cast trips_eq.symm) (w10 t) = 1#1 := by decide +kernel
theorem cond7 : ∀ (c : Fin 2) (s : Fin 16) (t : Fin 36), k0_cond7 (coordsV c s) (t.cast trips_eq.symm) (w10 t) = if 0 < t.val then 1#1 else 0#1 := by decide +kernel

theorem chk3 : ∀ t : Fin 36, k0_chk3 (w7 t) := by decide +kernel
theorem chk2 : ∀ t : Fin 36, k0_chk2 (w7 t) := by decide +kernel
theorem chk1 : ∀ (c : Fin 2) (s : Fin 16) (t : Fin 36),
    k0_chk1 (coordsV c s) (t.cast trips_eq.symm) (w6 t) (w7 t) (w7 t) (w9 t) (w10 t) := by decide +kernel
theorem chk5 : ∀ (c : Fin 2) (s : Fin 16), k0_chk5 (coordsV c s) (w10 36) := by decide +kernel
theorem chk4 : k0_chk4 (w9 36) := by decide +kernel

end Cert.Proof.Sc

end
-- ==== Proof.Views.lean ====
/-
  The memory of one tile of the gather, named. The index ring and the row ring have two slots; the index list and the
  result are cut into 1152 windows of 128 elements, resp. 128 rows. Each slot and window is the set of elements with a
  given leading coordinate (or leading coordinate over 128), and each is the set of the view the program addresses it
  by; what a transfer through such a view leaves there is given element by element.
-/
module

public import proofs.«01_k».proof.KernelIdeal
public import proofs.«01_k».proof.Proof.Gen.KernelIdeal
public import proofs.«01_k».proof.Proof.Gen.KernelIdeal.Skeleton
public import Idealize.ShloMosaic.Lib.SparseCore.Stream
public import Idealize.ShloMosaic.Lib.ValueLayout
public import proofs.«01_k».proof.Proof.Words

@[expose] public section

noncomputable section

namespace Cert.Proof.Sc

open Cert.KernelIdeal Cert.KernelIdeal.Gen
open Idealize.ShloMosaic
open Idealize.ShloMosaic.ValueIdx (ix1 ix2 ix3 eq_ix1 eq_ix2 eq_ix3)

variable {F : FTy → Type}

abbrev iV : Memref sig .scVector .hbm S1x147456 .i32 := Memref.whole main_v0_scv
abbrev xV : Memref sig .scVector .hbm S32768x256 .i32 := Memref.whole main_arg0_scv
abbrev oV : Memref sig .scVector .hbm S147456x256 .i32 := Memref.whole main_v1_scv
abbrev aV : Memref sig .scVector .vmem S2x1x128 .i32 := Memref.whole cc0_scoped0
abbrev bV : Memref sig .scVector .vmem S2x128x256 .i32 := Memref.whole cc0_scoped2

/-! ## Slots, windows and semaphores as the program addresses them, at an offset -/

abbrev aSl (o : Fin 3 → ℕ) (h : ∀ a, o a + S1x1x128.size a ≤ S2x1x128.size a) : Memref sig .scVector .vmem S1x128 .i32 :=
  (aV.slice (Rect.unit (s := S2x1x128) o S1x1x128.size h) (fun _ => rfl)).squeeze S1x128 squeezes_S1x1x128_S1x128
abbrev bSl (o : Fin 3 → ℕ) (h : ∀ a, o a + S1x128x256.size a ≤ S2x128x256.size a) : Memref sig .scVector .vmem S128x256 .i32 :=
  (bV.slice (Rect.unit (s := S2x128x256) o S1x128x256.size h) (fun _ => rfl)).squeeze S128x256 squeezes_S1x128x256_S128x256
abbrev iWin (o : Fin 2 → ℕ) (h : ∀ a, o a + S1x128.size a ≤ S1x147456.size a) : Memref sig .scVector .hbm S1x128 .i32 :=
  iV.slice (Rect.unit (s := S1x147456) o S1x128.size h) (fun _ => rfl)
abbrev oWin (o : Fin 2 → ℕ) (h : ∀ a, o a + S128x256.size a ≤ S147456x256.size a) : Memref sig .scVector .hbm S128x256 .i32 :=
  oV.slice (Rect.unit (s := S147456x256) o S128x256.size h) (fun _ => rfl)
abbrev aSm (o : Fin 1 → ℕ) (h : ∀ a, o a + S1.size a ≤ S2.size a) : DmaSem sig :=
  ((cc0_scoped1.slice (Rect.unit (s := S2) o S1.size h)).squeeze S_ squeezes_S1_S_).sem
abbrev bSm (o : Fin 1 → ℕ) (h : ∀ a, o a + S1.size a ≤ S2.size a) : DmaSem sig :=
  ((cc0_scoped3.slice (Rect.unit (s := S2) o S1.size h)).squeeze S_ squeezes_S1_S_).sem
/-- The half of a slot's 128 rows at columns `o 1 … o 1 + 127`, the list in an index slot, the same columns of the table. -/
abbrev bHalf (ob : Fin 3 → ℕ) (hb : ∀ a, ob a + S1x128x256.size a ≤ S2x128x256.size a) (o : Fin 2 → ℕ) (h : ∀ a, o a + S128x128.size a ≤ S128x256.size a) : Memref sig .scVector .vmem S128x128 .i32 :=
  (bSl ob hb).slice (Rect.unit (s := S128x256) o S128x128.size h) (fun _ => rfl)
abbrev aList (oa : Fin 3 → ℕ) (ha : ∀ a, oa a + S1x1x128.size a ≤ S2x1x128.size a) : Memref sig .scVector .vmem S128 .i32 :=
  ((aSl oa ha).slice (Rect.unit (s := S1x128) ![0, 0] S1x128.size inb_S1x128_S1x128_0_0) (fun _ => rfl)).squeeze S128 squeezes_S1x128_S128
abbrev xHalf (o : Fin 2 → ℕ) (h : ∀ a, o a + S32768x128.size a ≤ S32768x256.size a) : Memref sig .scVector .hbm S32768x128 .i32 :=
  xV.slice (Rect.unit (s := S32768x256) o S32768x128.size h) (fun _ => rfl)

theorem inb1 (p : Fin 2) : ∀ a, (![p.val] : Fin 1 → ℕ) a + S1.size a ≤ S2.size a := by revert p; decide

/-- The semaphores of slot `p` of the two rings. -/
def aSem (p : Fin 2) : DmaSem sig := aSm ![p.val] (inb1 p)
def bSem (p : Fin 2) : DmaSem sig := bSm ![p.val] (inb1 p)

theorem aSm_eq {o : Fin 1 → ℕ} {h} {p : Fin 2} (e : o = ![p.val]) : aSm o h = aSem p := by subst e; rfl
theorem bSm_eq {o : Fin 1 → ℕ} {h} {p : Fin 2} (e : o = ![p.val]) : bSm o h = bSem p := by subst e; rfl

/-! ## Their sets -/

def aSet (p : Fin 2) : Finset S2x1x128.Idx := Finset.univ.filter fun j => (j 0).val = p.val
def bSet (p : Fin 2) : Finset S2x128x256.Idx := Finset.univ.filter fun j => (j 0).val = p.val
def iSet (w : ℕ) : Finset S1x147456.Idx := Finset.univ.filter fun j => (j 1).val / 128 = w
def oSet (w : ℕ) : Finset S147456x256.Idx := Finset.univ.filter fun j => (j 0).val / 128 = w

theorem set_aSl {o : Fin 3 → ℕ} {h} {p : Fin 2} (e : o = ![p.val, 0, 0]) : (aSl o h).view.set = aSet p := by
  subst e
  show (((View.whole cc0_scoped0).slice _).reshape S1x128 _).set = _
  rw [View.set_reshape, View.set_slice_whole]
  ext j
  rw [Rect.mem_set_unit, aSet, Finset.mem_filter]
  have h1 : (j 1).val < 1 := (j 1).isLt
  have h2 : (j 2).val < 128 := (j 2).isLt
  constructor
  · intro H; have := H 0; exact ⟨Finset.mem_univ _, by change p.val ≤ (j 0).val ∧ (j 0).val < p.val + 1 at this; omega⟩
  · rintro ⟨-, H⟩ a
    match a with
    | 0 => show p.val ≤ (j 0).val ∧ (j 0).val < p.val + 1; omega
    | 1 => show 0 ≤ (j 1).val ∧ (j 1).val < 0 + 1; omega
    | 2 => show 0 ≤ (j 2).val ∧ (j 2).val < 0 + 128; omega

theorem set_bSl {o : Fin 3 → ℕ} {h} {p : Fin 2} (e : o = ![p.val, 0, 0]) : (bSl o h).view.set = bSet p := by
  subst e
  show (((View.whole cc0_scoped2).slice _).reshape S128x256 _).set = _
  rw [View.set_reshape, View.set_slice_whole]
  ext j
  rw [Rect.mem_set_unit, bSet, Finset.mem_filter]
  have h1 : (j 1).val < 128 := (j 1).isLt
  have h2 : (j 2).val < 256 := (j 2).isLt
  constructor
  · intro H; have := H 0; exact ⟨Finset.mem_univ _, by change p.val ≤ (j 0).val ∧ (j 0).val < p.val + 1 at this; omega⟩
  · rintro ⟨-, H⟩ a
    match a with
    | 0 => show p.val ≤ (j 0).val ∧ (j 0).val < p.val + 1; omega
    | 1 => show 0 ≤ (j 1).val ∧ (j 1).val < 0 + 128; omega
    | 2 => show 0 ≤ (j 2).val ∧ (j 2).val < 0 + 256; omega

theorem set_iWin {o : Fin 2 → ℕ} {h} {w : ℕ} (e : o = ![0, 128 * w]) : (iWin o h).view.set = iSet w := by
  subst e
  show ((View.whole main_v0_scv).slice _).set = _
  rw [View.set_slice_whole]
  ext j
  rw [Rect.mem_set_unit, iSet, Finset.mem_filter]
  have h0 : (j 0).val < 1 := (j 0).isLt
  constructor
  · intro H; have := H 1; exact ⟨Finset.mem_univ _, by change 128 * w ≤ (j 1).val ∧ (j 1).val < 128 * w + 128 at this; omega⟩
  · rintro ⟨-, H⟩ a
    match a with
    | 0 => show 0 ≤ (j 0).val ∧ (j 0).val < 0 + 1; omega
    | 1 => show 128 * w ≤ (j 1).val ∧ (j 1).val < 128 * w + 128; omega

theorem set_oWin {o : Fin 2 → ℕ} {h} {w : ℕ} (e : o = ![128 * w, 0]) : (oWin o h).view.set = oSet w := by
  subst e
  show ((View.whole main_v1_scv).slice _).set = _
  rw [View.set_slice_whole]
  ext j
  rw [Rect.mem_set_unit, oSet, Finset.mem_filter]
  have h1 : (j 1).val < 256 := (j 1).isLt
  constructor
  · intro H; have := H 0; exact ⟨Finset.mem_univ _, by change 128 * w ≤ (j 0).val ∧ (j 0).val < 128 * w + 128 at this; omega⟩
  · rintro ⟨-, H⟩ a
    match a with
    | 0 => show 128 * w ≤ (j 0).val ∧ (j 0).val < 128 * w + 128; omega
    | 1 => show 0 ≤ (j 1).val ∧ (j 1).val < 0 + 256; omega

/-- The list of an index slot is the whole slot. -/
theorem set_aList {o : Fin 3 → ℕ} {h} {p : Fin 2} (e : o = ![p.val, 0, 0]) : (aList o h).view.set = aSet p := by
  rw [← set_aSl (h := h) e]
  show ((((aSl o h).view).slice _).reshape S128 _).set = _
  rw [View.set_reshape, View.set_slice]
  rw [show (Rect.unit (s := S1x128) ![0, 0] S1x128.size inb_S1x128_S1x128_0_0).set = Finset.univ from ?_]
  · rfl
  · ext j
    rw [Rect.mem_set_unit]
    have h0 : (j 0).val < 1 := (j 0).isLt
    have h1 : (j 1).val < 128 := (j 1).isLt
    refine ⟨fun _ => Finset.mem_univ _, fun _ a => ?_⟩
    match a with
    | 0 => show 0 ≤ (j 0).val ∧ (j 0).val < 0 + 1; omega
    | 1 => show 0 ≤ (j 1).val ∧ (j 1).val < 0 + 128; omega

/-! ## The element a view's index names -/

theorem aSl_emb {o : Fin 3 → ℕ} {h} {p : Fin 2} (e : o = ![p.val, 0, 0]) (x : S1x128.Idx) :
    (aSl o h).view.emb x = (ix3 p (0 : Fin 1) (x 1) : S2x1x128.Idx) := by
  subst e
  show (Rect.unit (s := S2x1x128) ![p.val, 0, 0] S1x1x128.size h).emb (Shape.reshapeEquiv (s := S1x1x128) squeezes_S1x1x128_S1x128.numel_eq x) = _
  rw [show x = ix2 (x 0) (x 1) from eq_ix2 x]
  erw [Idealize.ShloMosaic.ValueIdx.reshapeEquiv_ix2_1ab]
  have h0 : (x 0).val < 1 := (x 0).isLt
  funext a; apply Fin.ext
  match a with
  | 0 => show p.val + 1 * 0 = p.val; omega
  | 1 => show 0 + 1 * (x 0).val = 0; omega
  | 2 => show 0 + 1 * (x 1).val = (x 1).val; omega

theorem bSl_emb {o : Fin 3 → ℕ} {h} {p : Fin 2} (e : o = ![p.val, 0, 0]) (x : S128x256.Idx) :
    (bSl o h).view.emb x = (ix3 p (x 0) (x 1) : S2x128x256.Idx) := by
  subst e
  show (Rect.unit (s := S2x128x256) ![p.val, 0, 0] S1x128x256.size h).emb (Shape.reshapeEquiv (s := S1x128x256) squeezes_S1x128x256_S128x256.numel_eq x) = _
  rw [show x = ix2 (x 0) (x 1) from eq_ix2 x]
  erw [Idealize.ShloMosaic.ValueIdx.reshapeEquiv_ix2_1ab]
  funext a; apply Fin.ext
  match a with
  | 0 => show p.val + 1 * 0 = p.val; omega
  | 1 => show 0 + 1 * (x 0).val = (x 0).val; omega
  | 2 => show 0 + 1 * (x 1).val = (x 1).val; omega

theorem aList_emb {o : Fin 3 → ℕ} {h} {p : Fin 2} (e : o = ![p.val, 0, 0]) (x : S128.Idx) :
    (aList o h).view.emb x = (ix3 p (0 : Fin 1) (x 0) : S2x1x128.Idx) := by
  show (aSl o h).view.emb ((Rect.unit (s := S1x128) ![0, 0] S1x128.size inb_S1x128_S1x128_0_0).emb
    (Shape.reshapeEquiv (s := S1x128) squeezes_S1x128_S128.numel_eq x)) = _
  rw [aSl_emb e]
  have hr := Shape.reshapeEquiv_cons_one (d := ![128]) squeezes_S1x128_S128.numel_eq x
  erw [hr]
  funext a; apply Fin.ext
  match a with
  | 0 => rfl
  | 1 => rfl
  | 2 => show 0 + 1 * (x 0).val = (x 0).val; omega

theorem bHalf_emb {o : Fin 3 → ℕ} {h} {p : Fin 2} (e : o = ![p.val, 0, 0]) {g : ℕ} {hg} (x : S128x128.Idx) :
    ∀ z : Fin 256, z.val = g + (x 1).val → (bHalf o h ![0, g] hg).view.emb x = (ix3 p (x 0) z : S2x128x256.Idx) := by
  intro z hz
  show (bSl o h).view.emb ((Rect.unit (s := S128x256) ![0, g] S128x128.size hg).emb x) = _
  rw [bSl_emb e]
  funext a; apply Fin.ext
  match a with
  | 0 => rfl
  | 1 => show 0 + 1 * (x 0).val = (x 0).val; omega
  | 2 => show g + 1 * (x 1).val = z.val; omega

theorem iWin_emb {o : Fin 2 → ℕ} {h} {w : ℕ} (e : o = ![0, 128 * w]) (x : S1x128.Idx) :
    (((iWin o h).view.emb x : S1x147456.Idx) 1).val = 128 * w + (x 1).val := by
  subst e; show 128 * w + 1 * (x 1).val = _; omega

theorem oWin_emb0 {o : Fin 2 → ℕ} {h} {w : ℕ} (e : o = ![128 * w, 0]) (x : S128x256.Idx) :
    (((oWin o h).view.emb x : S147456x256.Idx) 0).val = 128 * w + (x 0).val := by
  subst e; show 128 * w + 1 * (x 0).val = _; omega
theorem oWin_emb1 {o : Fin 2 → ℕ} {h} {w : ℕ} (e : o = ![128 * w, 0]) (x : S128x256.Idx) :
    (((oWin o h).view.emb x : S147456x256.Idx) 1).val = (x 1).val := by
  subst e; show 0 + 1 * (x 1).val = _; omega

theorem xHalf_emb0 {g : ℕ} {h} (x : S32768x128.Idx) : (((xHalf ![0, g] h).view.emb x : S32768x256.Idx) 0).val = (x 0).val := by
  show 0 + 1 * (x 0).val = _; omega
theorem xHalf_emb1 {g : ℕ} {h} (x : S32768x128.Idx) : (((xHalf ![0, g] h).view.emb x : S32768x256.Idx) 1).val = g + (x 1).val := by
  show g + 1 * (x 1).val = _; omega

/-- Half `g` (columns `128 g … 128 g + 127`) of row slot `p`. -/
def bHSet (p : Fin 2) (g : ℕ) : Finset S2x128x256.Idx := Finset.univ.filter fun j => (j 0).val = p.val ∧ (j 2).val / 128 = g

theorem set_bHalf {o : Fin 3 → ℕ} {h} {p : Fin 2} (e : o = ![p.val, 0, 0]) {g : ℕ} {hg} (hg2 : g < 2) :
    (bHalf o h ![0, 128 * g] hg).view.set = bHSet p g := by
  ext j
  rw [View.set, Finset.mem_map, bHSet, Finset.mem_filter]
  have h2 : (j 2).val < 256 := (j 2).isLt
  constructor
  · rintro ⟨x, -, rfl⟩
    have hx : (x 1).val < 128 := (x 1).isLt
    rw [bHalf_emb e x ⟨128 * g + (x 1).val, by omega⟩ rfl]
    exact ⟨Finset.mem_univ _, rfl, by show (128 * g + (x 1).val) / 128 = g; omega⟩
  · rintro ⟨-, h0, hd⟩
    refine ⟨ix2 (j 1) ⟨(j 2).val - 128 * g, by omega⟩, Finset.mem_univ _, ?_⟩
    rw [bHalf_emb e _ (j 2) (by show (j 2).val = 128 * g + ((j 2).val - 128 * g); omega)]
    funext a; apply Fin.ext
    match a with
    | 0 => exact h0.symm
    | 1 => rfl
    | 2 => rfl

theorem bSet_halves (p : Fin 2) : bSet p = bHSet p 0 ∪ bHSet p 1 := by
  ext j
  have h2 : (j 2).val < 256 := (j 2).isLt
  simp only [bSet, bHSet, Finset.mem_union, Finset.mem_filter, Finset.mem_univ, true_and]
  omega
theorem bHSet_disjoint (p : Fin 2) : Disjoint (bHSet p 0) (bHSet p 1) :=
  Finset.disjoint_left.mpr fun j h h' => by
    simp only [bHSet, Finset.mem_filter, Finset.mem_univ, true_and] at h h'
    omega

/-! ## What the buffers hold -/

variable (iw : ℕ → BitVec 32) (xw : ℕ → ℕ → BitVec 32)

/-- The row of the table the list's element `n` names, and column `l` of it. -/
def pick (n l : ℕ) : BitVec 32 := xw (iw n).toNat l

def IV : S1x147456.Idx → BitVec 32 := fun j => iw (j 1).val
def XV : S32768x256.Idx → BitVec 32 := fun j => xw (j 0).val (j 1).val
def OV : S147456x256.Idx → BitVec 32 := fun j => pick iw xw (j 0).val (j 1).val
/-- The index ring after window `w` of the list came in; the row ring after the rows it names did. -/
def AV (w : ℕ) : S2x1x128.Idx → BitVec 32 := fun j => iw (128 * w + (j 2).val)
def BV (w : ℕ) : S2x128x256.Idx → BitVec 32 := fun j => pick iw xw (128 * w + (j 1).val) (j 2).val

end Cert.Proof.Sc

end
-- ==== Proof.Tile.lean ====
/-
  One tile of the gather. It fetches its 36 windows of the index list into a ring of two slots, one trip ahead; for each
  it gathers the rows the window names, in two halves, into a ring of two row slots; and it writes each row slot out to
  its window of the result, waiting for the write-out of a trip in the next one. The transfers in flight between trips
  are the loop's invariant; every transfer's delivery is stated at what the tile's buffers and the result hold in the
  end (`AV`, `BV`, `OV`).
-/
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words
public import proofs.«01_k».proof.Proof.Views

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]
variable (iw : ℕ → BitVec 32) (xw : ℕ → ℕ → BitVec 32)
variable (d : Dev nD) (c : Fin 2) (s : Fin 16)

/-- Tile `(c, s)` of device `d`. -/
abbrev th (d : Dev nD) (c : Fin 2) (s : Fin 16) : Thread nD τ := V d ((coordsV c s 0).castLE hcore0) ((coordsV c s 1).castLE hsub0)

abbrev xLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1
abbrev aLoc (d : Dev nD) (c : Fin 2) (s : Fin 16) : Loc nD τ sig := (th d c s).loc cc0_scoped0
abbrev bLoc (d : Dev nD) (c : Fin 2) (s : Fin 16) : Loc nD τ sig := (th d c s).loc cc0_scoped2

abbrev iPts (w : ℕ) : sProp 𝕄 := iLoc d ↦[iSet w]{fullShare} (IV iw : Buf (Elt F) (iLoc d))
abbrev aPts (p : Fin 2) (w : ℕ) : sProp 𝕄 := aLoc d c s ↦[aSet p]{fullShare} (AV iw w : Buf (Elt F) (aLoc d c s))
abbrev bPts (p : Fin 2) (w : ℕ) : sProp 𝕄 := bLoc d c s ↦[bSet p]{fullShare} (BV iw xw w : Buf (Elt F) (bLoc d c s))
abbrev oPts (w : ℕ) : sProp 𝕄 := oLoc d ↦[oSet w]{fullShare} (OV iw xw : Buf (Elt F) (oLoc d))
abbrev xPts (q : PosShare TreeShare) : sProp 𝕄 := xLoc d ↦{q} (XV xw : Buf (Elt F) (xLoc d))
abbrev aZero (p : Fin 2) : sProp 𝕄 := semVal (th d c s, SemLoc.dma (aSem p)) 0
abbrev bZero (p : Fin 2) : sProp 𝕄 := semVal (th d c s, SemLoc.dma (bSem p)) 0

/-- A slot at rest: its semaphore at zero, its elements at some contents. -/
abbrev aFree (p : Fin 2) : sProp 𝕄 := iprop(aZero d c s p ∗ ∃ f, aLoc d c s ↦[aSet p]{fullShare} f)
abbrev bFree (p : Fin 2) : sProp 𝕄 := iprop(bZero d c s p ∗ ∃ f, bLoc d c s ↦[bSet p]{fullShare} f)

theorem inbA : ∀ a, (![0, 0, 0] : Fin 3 → ℕ) a + S1x1x128.size a ≤ S2x1x128.size a := by decide
theorem inbB : ∀ a, (![0, 0, 0] : Fin 3 → ℕ) a + S1x128x256.size a ≤ S2x128x256.size a := by decide
theorem inbO : ∀ a, (![0, 0] : Fin 2 → ℕ) a + S128x256.size a ≤ S147456x256.size a := by decide
abbrev NA : ℕ := (aSl ![0, 0, 0] inbA).view.dmaCredit
abbrev NO : ℕ := (oWin ![0, 0] inbO).view.dmaCredit
abbrev NG : ℕ := (bHalf ![0, 0, 0] inbB ![0, 0] inb_S128x256_S128x128_0_0).view.dmaCredit

/-- The fetch of window `w` of the list into index slot `p`, in flight; the write-out of row slot `p` to window `w`. -/
abbrev FA (p : Fin 2) (w : ℕ) : sProp 𝕄 :=
  Transfers.Flight countersEmb (th d c s) (.dma (aSem p)) (default : HIx 1) NA iprop(aPts (F := F) iw d c s p w ∗ iPts (F := F) iw d w)
abbrev FB (p : Fin 2) (w : ℕ) : sProp 𝕄 :=
  Transfers.Flight countersEmb (th d c s) (.dma (bSem p)) (default : HIx 1) NO iprop(oPts (F := F) iw xw d w ∗ bPts (F := F) iw xw d c s p w)

/-- What the core owes, with the waits recorded since the task began all at no index. -/
abbrev OW (O : CellTallies nD τ sig (HIx 1)) (W : Waits sig (HIx 1)) : sProp 𝕄 :=
  iprop(∃ W', ⌜∀ p ∈ W', p ∈ W ∨ p.2 = none⌝ ∗ owes (th d c s) O W')

abbrev LV : sProp 𝕄 := levAts (K (F := F)).L (K (F := F)).lev

/-! ## What a view's write leaves -/

omit [FloatOps F] in
theorem write_at {κ : Kind} {sp : Space} {sh : Shape} {e : EltTy} (v : View sig κ sp sh e) {I : Finset v.ty.Idx} (hI : v.set = I)
    (fd g : v.ty.Contents (Elt F)) (pay : sh.Idx → Elt F e) (hv : ∀ x, g (v.emb x) = cast (congrArg (Elt F) v.elt_eq.symm) (pay x)) :
    ∀ i ∈ I, v.write (Elt F) fd pay Finset.univ i = g i := by
  subst hI
  intro i hi
  obtain ⟨x, -, rfl⟩ := Finset.mem_map.mp hi
  rw [View.write_emb_of_mem _ _ (Finset.mem_univ x), hv]

section Ops

variable {O : CellTallies nD τ sig (HIx 1)} {W : Waits sig (HIx 1)}

/-- A wait on one of the tile's own semaphores, what the tile owes and has recorded along. -/
theorem wait_own {α : Type} {k : PUnit → Prog (TpuEff nD τ sig (Elt F) Λ₀ (th d c s).2) α} {Φ : α → sProp 𝕄}
    (hO : ∀ g, O g none = 0) {sp sp' : Space} {sh sh' : Shape} {e e' : EltTy} {sem sem' : DmaSem sig} (es : sem' = sem)
    {srcw : Memref sig (th d c s).2.kind sp' sh' e'} {dstw : Memref sig (th d c s).2.kind sp sh e}
    {hsrc : srcw.view.WordExact} {hdst : dstw.view.WordExact} {N : ℕ} (hN : dstw.view.dmaCredit = N) {R : sProp 𝕄} :
    iprop(LV (F := F) ∗ Transfers.Flight countersEmb (th d c s) (.dma sem) (default : HIx 1) N R ∗ OW (F := F) d c s O W)
      ⊢ iprop((iprop(R ∗ semVal (th d c s, SemLoc.dma sem) 0 ∗ OW (F := F) d c s O W)
            -∗ wp frame (wpE (defs₀ (F := F)) 𝒱₀ (th d c s) none) Set.univ (k ⟨⟩) Φ)
          -∗ wp frame (wpE (defs₀ (F := F)) 𝒱₀ (th d c s) none) Set.univ (.op (.waitDma2 sem' srcw dstw hsrc hdst) k) Φ) := by
  subst es
  iintro ⟨#Hlv, Hf, %W', %hW', HO⟩ Hk
  ihave Hmw := (show levAts (K (F := F)).L (K (F := F)).lev ⊢ Transfers.MayWaits (th d c s) (default : HIx 1) O from
    (K (F := F)).mayWaits_none (thr := th d c s) hO) $$ Hlv
  iapply (Transfers.wp_waitLocalO countersEmb 𝒱₀ (th d c s) none (default : HIx 1) hN) $$ [Hf HO Hmw]
  · isplitl [Hf]; · iexact Hf
    isplitl [HO]; · iexact HO
    iapply (Transfers.MayWaits.elim (SemLoc.dma sem')) $$ Hmw
  iintro ⟨HR, Hz, HO⟩
  iapply Hk
  isplitl [HR]; · iexact HR
  isplitl [Hz]; · iexact Hz
  iexists _; isplitr
  swap; · iexact HO
  ipureintro; intro p hp
  rcases Finset.mem_insert.mp hp with hp | hp
  · exact .inr (hp ▸ rfl)
  · exact hW' p hp

/-- The fetch of window `w` into slot `p` starts. -/
theorem fetch_issue {α : Type} {k : PUnit → Prog (TpuEff nD τ sig (Elt F) Λ₀ (th d c s).2) α} {Φ : α → sProp 𝕄}
    {o1 : Fin 3 → ℕ} {h1} {o2 : Fin 2 → ℕ} {h2} {o3 : Fin 1 → ℕ} {h3} {p : Fin 2} {w : ℕ}
    (e1 : o1 = ![p.val, 0, 0]) (e2 : o2 = ![0, 128 * w]) (e3 : o3 = ![p.val]) {hsrc hdst hsem} :
    iprop(iPts (F := F) iw d w ∗ aFree (F := F) d c s p)
      ⊢ iprop((FA (F := F) iw d c s p w -∗ wp frame (wpE (defs₀ (F := F)) 𝒱₀ (th d c s) none) Set.univ (k ⟨⟩) Φ)
          -∗ wp frame (wpE (defs₀ (F := F)) 𝒱₀ (th d c s) none) Set.univ
              (.op (.enqueueDma (iWin o2 h2) (.here (aSl o1 h1)) (.dma (aSm o3 h3)) hsrc hdst hsem) k) Φ) := by
  have hs : aSm o3 h3 = aSem p := aSm_eq e3
  generalize aSm o3 h3 = sm at hs hsem ⊢
  subst hs
  iintro ⟨Hi, Hz, %f, Ha⟩ Hk
  ihave Hi' := (Entails.of_eq (show iPts (F := F) iw d w = ((iWin o2 h2).view.loc (th d c s) ↦[(iWin o2 h2).view.set]{fullShare} (IV iw : Buf (Elt F) (iLoc d)) : sProp 𝕄) by
    rw [set_iWin e2])) $$ Hi
  iapply (Transfers.wp_dmaLocal countersEmb 𝒱₀ (th d c s) none (dst := aSl o1 h1) (via := .same) (Sd := aSet p) (default : HIx 1) NA rfl (View.dmaCredit_pos _ (by decide))
    (by rw [set_aSl e1])) $$ [Hi' Ha Hz]
  · isplitl [Hi']; · iexact Hi'
    isplitl [Ha]; · iexact Ha
    iexact Hz
  iintro Hf
  iapply Hk
  iapply (Transfers.Flight_mono countersEmb (th d c s) (show _ ⊢ iprop(aPts (F := F) iw d c s p w ∗ iPts (F := F) iw d w) from ?_)) $$ Hf
  refine Laws.sep_mono ?_ ?_
  · refine Entails.of_eq (pointsTo_congr (write_at (aSl o1 h1).view (set_aSl e1) f (AV iw w) _ fun x => ?_))
    rw [aSl_emb e1]
    show iw (128 * w + (x 1).val) = iw _
    exact congrArg iw (iWin_emb e2 x).symm
  · rw [set_iWin e2]

/-- The write-out of slot `p` to window `w` starts. -/
theorem out_issue {α : Type} {k : PUnit → Prog (TpuEff nD τ sig (Elt F) Λ₀ (th d c s).2) α} {Φ : α → sProp 𝕄}
    {o1 : Fin 3 → ℕ} {h1} {o2 : Fin 2 → ℕ} {h2} {o3 : Fin 1 → ℕ} {h3} {p : Fin 2} {w : ℕ}
    (e1 : o1 = ![p.val, 0, 0]) (e2 : o2 = ![128 * w, 0]) (e3 : o3 = ![p.val]) {hsrc hdst hsem} (f : Buf (Elt F) (oLoc d)) :
    iprop(bPts (F := F) iw xw d c s p w ∗ (oLoc d ↦[oSet w]{fullShare} f) ∗ bZero (F := F) d c s p)
      ⊢ iprop((FB (F := F) iw xw d c s p w -∗ wp frame (wpE (defs₀ (F := F)) 𝒱₀ (th d c s) none) Set.univ (k ⟨⟩) Φ)
          -∗ wp frame (wpE (defs₀ (F := F)) 𝒱₀ (th d c s) none) Set.univ
              (.op (.enqueueDma (bSl o1 h1) (.here (oWin o2 h2)) (.dma (bSm o3 h3)) hsrc hdst hsem) k) Φ) := by
  have hs : bSm o3 h3 = bSem p := bSm_eq e3
  generalize bSm o3 h3 = sm at hs hsem ⊢
  subst hs
  iintro ⟨Hb, Ho, Hz⟩ Hk
  ihave Hb' := (Entails.of_eq (show bPts (F := F) iw xw d c s p w = ((bSl o1 h1).view.loc (th d c s) ↦[(bSl o1 h1).view.set]{fullShare} (BV iw xw w : Buf (Elt F) (bLoc d c s)) : sProp 𝕄) by
    rw [set_bSl e1])) $$ Hb
  iapply (Transfers.wp_dmaLocal countersEmb 𝒱₀ (th d c s) none (dst := oWin o2 h2) (via := .same) (Sd := oSet w) (default : HIx 1) NO rfl (View.dmaCredit_pos _ (by decide))
    (by rw [set_oWin e2])) $$ [Hb' Ho Hz]
  · isplitl [Hb']; · iexact Hb'
    isplitl [Ho]; · iexact Ho
    iexact Hz
  iintro Hf
  iapply Hk
  iapply (Transfers.Flight_mono countersEmb (th d c s) (show _ ⊢ iprop(oPts (F := F) iw xw d w ∗ bPts (F := F) iw xw d c s p w) from ?_)) $$ Hf
  refine Laws.sep_mono ?_ ?_
  · refine Entails.of_eq (pointsTo_congr (write_at (oWin o2 h2).view (set_oWin e2) f (OV iw xw) _ fun x => ?_))
    show pick iw xw _ _ = BV iw xw w ((bSl o1 h1).view.emb x)
    rw [bSl_emb e1, oWin_emb0 e2, oWin_emb1 e2]
    rfl
  · rw [set_bSl e1]

/-! ### A half of the gather -/

/-- Columns `128 g … 128 g + 127` of the table, at the share `q`; the other columns. -/
abbrev xS (g : ℕ) : Finset S32768x256.Idx := Finset.univ.filter fun j => (j 1).val / 128 = g
abbrev xPart (q : PosShare TreeShare) (g : ℕ) : sProp 𝕄 := xLoc d ↦[xS g]{q} (XV xw : Buf (Elt F) (xLoc d))
abbrev xRest (q : PosShare TreeShare) (g : ℕ) : sProp 𝕄 := xLoc d ↦[Finset.univ \ xS g]{q} (XV xw : Buf (Elt F) (xLoc d))
abbrev bHPts (p : Fin 2) (g w : ℕ) : sProp 𝕄 := bLoc d c s ↦[bHSet p g]{fullShare} (BV iw xw w : Buf (Elt F) (bLoc d c s))
/-- Half `g` of the gather of window `w` into row slot `p`, in flight on the semaphore `sem`. -/
abbrev FG (sem : DmaSem sig) (q : PosShare TreeShare) (p : Fin 2) (g w : ℕ) : sProp 𝕄 :=
  Transfers.Flight countersEmb (th d c s) (.dma sem) (default : HIx 1) NG
    iprop(bHPts (F := F) iw xw d c s p g w ∗ xPart (F := F) xw d q g ∗ aPts (F := F) iw d c s p w)

omit [FloatOps F] in
theorem x_parts (q : PosShare TreeShare) (g : ℕ) :
    (xPts (F := F) xw d q : sProp 𝕄) ⊣⊢ iprop(xPart (F := F) xw d q g ∗ xRest (F := F) xw d q g) :=
  pointsTo_split_subset (Finset.subset_univ _)

omit [FloatOps F] in
theorem b_halves (p : Fin 2) (f : Buf (Elt F) (bLoc d c s)) :
    (bLoc d c s ↦[bSet p]{fullShare} f : sProp 𝕄) ⊣⊢ iprop((bLoc d c s ↦[bHSet p 0]{fullShare} f) ∗ bLoc d c s ↦[bHSet p 1]{fullShare} f) := by
  rw [bSet_halves]; exact pointsTo_union (bHSet_disjoint p)

omit [FloatOps F] in
theorem set_xHalf {oc : Fin 2 → ℕ} {h} {g : ℕ} (e : oc = ![0, 128 * g]) : (xHalf oc h).view.set = xS g := by
  subst e
  show ((View.whole main_arg0_scv).slice _).set = _
  rw [View.set_slice_whole]
  ext j
  rw [Rect.mem_set_unit, xS, Finset.mem_filter]
  have h0 : (j 0).val < 32768 := (j 0).isLt
  constructor
  · intro H; have := H 1; exact ⟨Finset.mem_univ _, by change 128 * g ≤ (j 1).val ∧ (j 1).val < 128 * g + 128 at this; omega⟩
  · rintro ⟨-, H⟩ a
    match a with
    | 0 => show 0 ≤ (j 0).val ∧ (j 0).val < 0 + 32768; omega
    | 1 => show 128 * g ≤ (j 1).val ∧ (j 1).val < 128 * g + 128; omega

theorem NG_rows {ob : Fin 3 → ℕ} {hb} {oc : Fin 2 → ℕ} {hc} : ∀ h : S32768x128.Gathers 0 S128x128,
    ∑ j, ((bHalf ob hb oc hc).slice (S128x128.rowRect h.axis' j) (S128x128.stride_rowRect h.axis' j)).view.dmaCredit = NG := by
  intro h
  refine (Finset.sum_congr rfl fun j _ => (rfl : _ =
    ((bHalf ![0, 0, 0] inbB ![0, 0] inb_S128x256_S128x128_0_0).slice (S128x128.rowRect h.axis' ⟨0, show 0 < 128 by decide⟩) (S128x128.stride_rowRect h.axis' ⟨0, show 0 < 128 by decide⟩)).view.dmaCredit)).trans ?_
  rw [Finset.sum_const]
  revert h; decide +kernel

theorem symm128 (n : Fin S128.numel) : ((S128.rowMajor.symm n) 0).val = n.val := by
  have h := Shape.rowMajor_val_one (d := ![128]) (S128.rowMajor.symm n)
  rw [Equiv.apply_symm_apply] at h
  exact h.symm

omit [FloatOps F] in
/-- What half `g` of the gather brings to element `x` of its half slot: the table's row the list names, at the half's column. -/
theorem gather_val {oa : Fin 3 → ℕ} {ha} {ob : Fin 3 → ℕ} {hb} {oc : Fin 2 → ℕ} {hc} {hx} {p : Fin 2} {g w : ℕ}
    (ea : oa = ![p.val, 0, 0]) (eb : ob = ![p.val, 0, 0]) (ec : oc = ![0, 128 * g]) (hg2 : g < 2)
    {hn : S128.numel = S128x128.size gathers_S32768x128_S128x128.axis'}
    (hread : ∀ x : S128.Idx, (aList oa ha).view.read (Elt F) (AV iw w) x = iw (128 * w + (x 0).val))
    (hin : ∀ x, ((aList oa ha).view.read (Elt F) (AV iw w) x).toNat < S32768x128.size gathers_S32768x128_S128x128.axis)
    (x : S128x128.Idx) :
    BV iw xw w ((bHalf ob hb oc hc).view.emb x)
      = SparseCore.gatherPayload (F := F) (e := .i32) gathers_S32768x128_S128x128 ((xHalf oc hx).view.read (Elt F) (XV xw))
          (SparseCore.rows (F := F) ((aList oa ha).view.read (Elt F) (AV iw w)) hn hin) x := by
  subst ec
  have hx1 : (x 1).val < 128 := (x 1).isLt
  rw [bHalf_emb eb x ⟨128 * g + (x 1).val, by omega⟩ rfl]
  generalize hR : SparseCore.rows (F := F) _ _ hin = R
  have h0 : ((gathers_S32768x128_S128x128.idx R x) 0).val = (iw (128 * w + (x 0).val)).toNat := by
    refine (congrArg Fin.val (gathers_S32768x128_S128x128.idx_axis R x)).trans ?_
    rw [← hR]
    show ((aList oa ha).view.read (Elt F) (AV iw w) (S128.rowMajor.symm _)).toNat = _
    rw [hread, symm128]
    rfl
  have h1 : ((gathers_S32768x128_S128x128.idx R x) 1).val = (x 1).val :=
    gathers_S32768x128_S128x128.idx_of_ne R x 1 (by decide)
  show xw (iw (128 * w + (x 0).val)).toNat (128 * g + (x 1).val)
    = xw (((xHalf ![0, 128 * g] hx).view.emb (gathers_S32768x128_S128x128.idx R x) : S32768x256.Idx) 0).val
        (((xHalf ![0, 128 * g] hx).view.emb (gathers_S32768x128_S128x128.idx R x) : S32768x256.Idx) 1).val
  rw [xHalf_emb0, xHalf_emb1, h0, h1]

/-- Half `g` of the gather of the rows window `w` names starts. -/
theorem gather_issue (hrow : ∀ n, (iw n).toNat < 32768) {α : Type} {k : PUnit → Prog (TpuEff nD τ sig (Elt F) Λ₀ (th d c s).2) α} {Φ : α → sProp 𝕄}
    {oa : Fin 3 → ℕ} {ha} {ob : Fin 3 → ℕ} {hb} {oc : Fin 2 → ℕ} {hc} {hx} {p : Fin 2} {g w : ℕ} (hg2 : g < 2)
    (ea : oa = ![p.val, 0, 0]) (eb : ob = ![p.val, 0, 0]) (ec : oc = ![0, 128 * g]) {sem : DmaSem sig}
    {hn : S128.numel = S128x128.size gathers_S32768x128_S128x128.axis'} {hp} {hsrc} {he} {hsp} {hr} (q : PosShare TreeShare) (f : Buf (Elt F) (bLoc d c s)) :
    iprop(xPart (F := F) xw d q g ∗ aPts (F := F) iw d c s p w ∗ (bLoc d c s ↦[bHSet p g]{fullShare} f) ∗ semVal (th d c s, SemLoc.dma sem) 0)
      ⊢ iprop((FG (F := F) iw xw d c s sem q p g w -∗ wp frame (wpE (defs₀ (F := F)) 𝒱₀ (th d c s) none) Set.univ (k ⟨⟩) Φ)
          -∗ wp frame (wpE (defs₀ (F := F)) 𝒱₀ (th d c s) none) Set.univ
              (SparseCore.enqueueIndirectGather hp (xHalf oc hx) (bHalf ob hb oc hc) gathers_S32768x128_S128x128 (aList oa ha) hn sem hsrc he hsp hr >>= k) Φ) := by
  have hread : ∀ x : S128.Idx, (aList oa ha).view.read (Elt F) (AV iw w : Buf (Elt F) (aLoc d c s)) x = iw (128 * w + (x 0).val) := fun x => by
    show AV iw w ((aList oa ha).view.emb x) = _
    rw [aList_emb ea]; rfl
  have hin : ∀ x, ((aList oa ha).view.read (Elt F) (AV iw w : Buf (Elt F) (aLoc d c s)) x).toNat < S32768x128.size gathers_S32768x128_S128x128.axis := fun x => by
    rw [hread]; exact hrow _
  iintro ⟨Hx, Ha, Hb, Hz⟩ Hk
  ihave Hx' := (Entails.of_eq (show xPart (F := F) xw d q g = ((xHalf oc hx).view.loc (th d c s) ↦[(xHalf oc hx).view.set]{q} (XV xw : Buf (Elt F) (xLoc d)) : sProp 𝕄) by
    rw [set_xHalf ec])) $$ Hx
  ihave Ha' := (Entails.of_eq (show aPts (F := F) iw d c s p w = ((aList oa ha).view.loc (th d c s) ↦[(aList oa ha).view.set]{fullShare} (AV iw w : Buf (Elt F) (aLoc d c s)) : sProp 𝕄) by
    rw [set_aList ea])) $$ Ha
  have hsb : (bHalf ob hb oc hc).view.set = bHSet p g := by subst ec; exact set_bHalf eb hg2
  ihave Hb' := (Entails.of_eq (show (bLoc d c s ↦[bHSet p g]{fullShare} f : sProp 𝕄) = ((bHalf ob hb oc hc).view.loc (th d c s) ↦[(bHalf ob hb oc hc).view.set]{fullShare} f : sProp 𝕄) by
    rw [hsb])) $$ Hb
  iapply (SparseCore.wp_indirectGatherLocal countersEmb 𝒱₀ (th d c s) none (hg := gathers_S32768x128_S128x128) (default : HIx 1) NG (NG_rows _) (by decide) hin) $$ [Hx' Ha' Hb' Hz]
  · isplitl [Hx']; · iexact Hx'
    isplitl [Hb']; · iexact Hb'
    isplitl [Ha']; · iexact Ha'
    iexact Hz
  iintro Hf
  iapply Hk
  iapply (Transfers.Flight_mono countersEmb (th d c s) (show _ ⊢ iprop(bHPts (F := F) iw xw d c s p g w ∗ xPart (F := F) xw d q g ∗ aPts (F := F) iw d c s p w) from ?_)) $$ Hf
  refine Laws.sep_mono ?_ (Laws.sep_mono ?_ ?_)
  · rw [hsb]
    refine Entails.of_eq (pointsTo_congr (write_at (bHalf ob hb oc hc).view hsb f (BV iw xw w) _ fun x => ?_))
    exact gather_val iw xw ea eb ec hg2 hread hin x
  · rw [set_xHalf ec]
  · rw [set_aList ea]

end Ops

end Cert.Proof.Sc

end
-- ==== Proof.Vals.lean ====
/-
  The words a trip of the gather's loop computes, part by part, and those it hands to the next trip.
-/
module

public import proofs.«01_k».proof.KernelIdeal
public import proofs.«01_k».proof.Proof.Gen.KernelIdeal
public import proofs.«01_k».proof.Proof.Gen.KernelIdeal.Skeleton

public import proofs.«01_k».proof.Proof.Words

@[expose] public section

noncomputable section

namespace Cert.Proof.Sc

open Cert.KernelIdeal Cert.KernelIdeal.Gen
open Idealize.ShloMosaic

/-- The words part 5 of a trip hands on. -/
def val5 (v4 : BitVec 32) (c0_i32_39 : BitVec 32) (c1_i32_41 : BitVec 32) (k0_t1 : Fin k0_t1_loop.trips) (arg10 : BitVec 32) :
    Σ' (arg5 : BitVec 32) (v122 : BitVec 1) (v123 : BitVec 1) (v124 : BitVec 32) (v129 : BitVec 32) (v134 : BitVec 32) (v150 : BitVec 32) (c36_i32_102 : BitVec 32) (v151 : BitVec 32) (v153 : BitVec 32), BitVec 32 :=
  let arg5 : BitVec 32 := Scf.iv c0_i32_39 c1_i32_41 k0_t1
  let v122 : BitVec 1 := Scalar.cmpi .eq arg5 0#32
  let v123 : BitVec 1 := Scalar.cmpi .eq arg5 35#32
  let v124 : BitVec 32 := Scalar.addi arg10 v4
  let v125 : BitVec 32 := Scalar.subi arg10 1#32
  let v126 : BitVec 32 := Scalar.select 1#1 v125 arg10
  let v127 : BitVec 1 := Scalar.cmpi .eq v126 4294967295#32
  let v128 : BitVec 32 := Scalar.select v127 35#32 v126
  let v129 : BitVec 32 := Scalar.addi v128 v4
  let v130 : BitVec 32 := Scalar.addi arg10 1#32
  let v131 : BitVec 32 := Scalar.select 1#1 v130 arg10
  let v132 : BitVec 1 := Scalar.cmpi .eq v131 36#32
  let v133 : BitVec 32 := Scalar.select v132 0#32 v131
  let v134 : BitVec 32 := Scalar.addi v133 v4
  let v140 : BitVec 1 := Scalar.cmpi .eq 36#32 0#32
  let v141 : BitVec 32 := Scalar.select v140 1#32 36#32
  let v142 : BitVec 32 := Scalar.remsi v124 v141
  let v143 : BitVec 1 := Scalar.cmpi .ne v142 0#32
  let v144 : BitVec 1 := Scalar.cmpi .slt v142 0#32
  let v145 : BitVec 1 := Scalar.cmpi .slt v141 0#32
  let v146 : BitVec 1 := Scalar.xori v144 v145
  let v147 : BitVec 1 := Scalar.andi v146 v143
  let v148 : BitVec 32 := Scalar.addi v142 v141
  let v149 : BitVec 32 := Scalar.select v147 v148 v142
  let v150 : BitVec 32 := Scalar.muli v149 32#32
  let v151 : BitVec 32 := Scalar.divsi v124 36#32
  let v152 : BitVec 1 := Scalar.cmpi .sgt v124 0#32
  let v153 : BitVec 32 := Scalar.extui v152
  ⟨arg5, v122, v123, v124, v129, v134, v150, 36#32, v151, v153, 0#32⟩

/-- The words part 6 of a trip hands on. -/
def val6 (v124 : BitVec 32) (v134 : BitVec 32) (v150 : BitVec 32) (c36_i32_102 : BitVec 32) (v151 : BitVec 32) (v153 : BitVec 32) (c0_i32_104 : BitVec 32) :
    Σ' (v168 : BitVec 32) (v179 : BitVec 32) (v180 : BitVec 32) (v194 : BitVec 1), BitVec 32 :=
  let v154 : BitVec 1 := Scalar.cmpi .slt v124 c0_i32_104
  let v155 : BitVec 32 := Scalar.extui v154
  let v156 : BitVec 32 := Scalar.subi v153 v155
  let v157 : BitVec 1 := Scalar.cmpi .sgt c36_i32_102 0#32
  let v158 : BitVec 32 := Scalar.extui v157
  let v159 : BitVec 1 := Scalar.cmpi .slt c36_i32_102 0#32
  let v160 : BitVec 32 := Scalar.extui v159
  let v161 : BitVec 32 := Scalar.subi v158 v160
  let v162 : BitVec 1 := Scalar.cmpi .ne v156 v161
  let v163 : BitVec 32 := Scalar.remsi v124 c36_i32_102
  let v164 : BitVec 1 := Scalar.cmpi .ne v163 0#32
  let v165 : BitVec 1 := Scalar.andi v162 v164
  let v166 : BitVec 32 := Scalar.subi v151 1#32
  let v167 : BitVec 32 := Scalar.select v165 v166 v151
  let v168 : BitVec 32 := Scalar.addi v150 v167
  let v169 : BitVec 1 := Scalar.cmpi .eq 36#32 0#32
  let v170 : BitVec 32 := Scalar.select v169 1#32 36#32
  let v171 : BitVec 32 := Scalar.remsi v134 v170
  let v172 : BitVec 1 := Scalar.cmpi .ne v171 0#32
  let v173 : BitVec 1 := Scalar.cmpi .slt v171 0#32
  let v174 : BitVec 1 := Scalar.cmpi .slt v170 0#32
  let v175 : BitVec 1 := Scalar.xori v173 v174
  let v176 : BitVec 1 := Scalar.andi v175 v172
  let v177 : BitVec 32 := Scalar.addi v171 v170
  let v178 : BitVec 32 := Scalar.select v176 v177 v171
  let v179 : BitVec 32 := Scalar.muli v178 32#32
  let v180 : BitVec 32 := Scalar.divsi v134 36#32
  let v181 : BitVec 1 := Scalar.cmpi .sgt v134 0#32
  let v182 : BitVec 32 := Scalar.extui v181
  let v183 : BitVec 1 := Scalar.cmpi .slt v134 0#32
  let v184 : BitVec 32 := Scalar.extui v183
  let v185 : BitVec 32 := Scalar.subi v182 v184
  let v186 : BitVec 1 := Scalar.cmpi .sgt 36#32 0#32
  let v187 : BitVec 32 := Scalar.extui v186
  let v188 : BitVec 1 := Scalar.cmpi .slt 36#32 0#32
  let v189 : BitVec 32 := Scalar.extui v188
  let v190 : BitVec 32 := Scalar.subi v187 v189
  let v191 : BitVec 1 := Scalar.cmpi .ne v185 v190
  let v192 : BitVec 32 := Scalar.remsi v134 36#32
  let v193 : BitVec 1 := Scalar.cmpi .ne v192 0#32
  let v194 : BitVec 1 := Scalar.andi v191 v193
  let v195 : BitVec 32 := Scalar.subi v180 1#32
  ⟨v168, v179, v180, v194, v195⟩

/-- The words part 7 of a trip hands on. -/
def val7 (arg6 : BitVec 32) (arg5 : BitVec 32) (v124 : BitVec 32) (v168 : BitVec 32) (v179 : BitVec 32) (v180 : BitVec 32) (v194 : BitVec 1) (v195 : BitVec 32) :
    Σ' (v197 : BitVec 32) (v207 : BitVec 32) (v218 : BitVec 32) (v219 : BitVec 32) (v233 : BitVec 1), BitVec 32 :=
  let v196 : BitVec 32 := Scalar.select v194 v195 v180
  let v197 : BitVec 32 := Scalar.addi v179 v196
  let v198 : BitVec 1 := Scalar.cmpi .ne v168 v197
  let v199 : BitVec 1 := Scalar.cmpi .sge arg5 35#32
  let v200 : BitVec 1 := Scalar.xori v199 1#1
  let v201 : BitVec 1 := Scalar.andi v198 v200
  let v205 : BitVec 1 := Scalar.andi v201 1#1
  let v206 : BitVec 32 := Scalar.addi arg6 1#32
  let v207 : BitVec 32 := Scalar.select v205 v206 arg6
  let v208 : BitVec 1 := Scalar.cmpi .eq 36#32 0#32
  let v209 : BitVec 32 := Scalar.select v208 1#32 36#32
  let v210 : BitVec 32 := Scalar.remsi v124 v209
  let v211 : BitVec 1 := Scalar.cmpi .ne v210 0#32
  let v212 : BitVec 1 := Scalar.cmpi .slt v210 0#32
  let v213 : BitVec 1 := Scalar.cmpi .slt v209 0#32
  let v214 : BitVec 1 := Scalar.xori v212 v213
  let v215 : BitVec 1 := Scalar.andi v214 v211
  let v216 : BitVec 32 := Scalar.addi v210 v209
  let v217 : BitVec 32 := Scalar.select v215 v216 v210
  let v218 : BitVec 32 := Scalar.muli v217 32#32
  let v219 : BitVec 32 := Scalar.divsi v124 36#32
  let v220 : BitVec 1 := Scalar.cmpi .sgt v124 0#32
  let v221 : BitVec 32 := Scalar.extui v220
  let v222 : BitVec 1 := Scalar.cmpi .slt v124 0#32
  let v223 : BitVec 32 := Scalar.extui v222
  let v224 : BitVec 32 := Scalar.subi v221 v223
  let v225 : BitVec 1 := Scalar.cmpi .sgt 36#32 0#32
  let v226 : BitVec 32 := Scalar.extui v225
  let v227 : BitVec 1 := Scalar.cmpi .slt 36#32 0#32
  let v228 : BitVec 32 := Scalar.extui v227
  let v229 : BitVec 32 := Scalar.subi v226 v228
  let v230 : BitVec 1 := Scalar.cmpi .ne v224 v229
  let v231 : BitVec 32 := Scalar.remsi v124 36#32
  let v232 : BitVec 1 := Scalar.cmpi .ne v231 0#32
  let v233 : BitVec 1 := Scalar.andi v230 v232
  let v234 : BitVec 32 := Scalar.subi v219 1#32
  ⟨v197, v207, v218, v219, v233, v234⟩

/-- The words part 8 of a trip hands on. -/
def val8 (v129 : BitVec 32) (v134 : BitVec 32) (v218 : BitVec 32) (v219 : BitVec 32) (v233 : BitVec 1) (v234 : BitVec 32) :
    Σ' (v236 : BitVec 32) (v265 : BitVec 32) (v271 : BitVec 32) (v272 : BitVec 32) (v273 : BitVec 1), BitVec 32 :=
  let v235 : BitVec 32 := Scalar.select v233 v234 v219
  let v236 : BitVec 32 := Scalar.addi v218 v235
  let v237 : BitVec 1 := Scalar.cmpi .eq 36#32 0#32
  let v238 : BitVec 32 := Scalar.select v237 1#32 36#32
  let v239 : BitVec 32 := Scalar.remsi v134 v238
  let v240 : BitVec 1 := Scalar.cmpi .ne v239 0#32
  let v241 : BitVec 1 := Scalar.cmpi .slt v239 0#32
  let v242 : BitVec 1 := Scalar.cmpi .slt v238 0#32
  let v243 : BitVec 1 := Scalar.xori v241 v242
  let v244 : BitVec 1 := Scalar.andi v243 v240
  let v245 : BitVec 32 := Scalar.addi v239 v238
  let v246 : BitVec 32 := Scalar.select v244 v245 v239
  let v247 : BitVec 32 := Scalar.muli v246 32#32
  let v248 : BitVec 32 := Scalar.divsi v134 36#32
  let v249 : BitVec 1 := Scalar.cmpi .sgt v134 0#32
  let v250 : BitVec 32 := Scalar.extui v249
  let v251 : BitVec 1 := Scalar.cmpi .slt v134 0#32
  let v252 : BitVec 32 := Scalar.extui v251
  let v253 : BitVec 32 := Scalar.subi v250 v252
  let v254 : BitVec 1 := Scalar.cmpi .sgt 36#32 0#32
  let v255 : BitVec 32 := Scalar.extui v254
  let v256 : BitVec 1 := Scalar.cmpi .slt 36#32 0#32
  let v257 : BitVec 32 := Scalar.extui v256
  let v258 : BitVec 32 := Scalar.subi v255 v257
  let v259 : BitVec 1 := Scalar.cmpi .ne v253 v258
  let v260 : BitVec 32 := Scalar.remsi v134 36#32
  let v261 : BitVec 1 := Scalar.cmpi .ne v260 0#32
  let v262 : BitVec 1 := Scalar.andi v259 v261
  let v263 : BitVec 32 := Scalar.subi v248 1#32
  let v264 : BitVec 32 := Scalar.select v262 v263 v248
  let v265 : BitVec 32 := Scalar.addi v247 v264
  let v270 : BitVec 1 := Scalar.cmpi .eq 36#32 0#32
  let v271 : BitVec 32 := Scalar.select v270 1#32 36#32
  let v272 : BitVec 32 := Scalar.remsi v129 v271
  let v273 : BitVec 1 := Scalar.cmpi .ne v272 0#32
  ⟨v236, v265, v271, v272, v273, 0#32⟩

/-- The words part 9 of a trip hands on. -/
def val9 (v129 : BitVec 32) (v271 : BitVec 32) (v272 : BitVec 32) (v273 : BitVec 1) (c0_i32_163 : BitVec 32) :
    Σ' (v298 : BitVec 32) (v314 : BitVec 32), BitVec 32 :=
  let v274 : BitVec 1 := Scalar.cmpi .slt v272 c0_i32_163
  let v275 : BitVec 1 := Scalar.cmpi .slt v271 0#32
  let v276 : BitVec 1 := Scalar.xori v274 v275
  let v277 : BitVec 1 := Scalar.andi v276 v273
  let v278 : BitVec 32 := Scalar.addi v272 v271
  let v279 : BitVec 32 := Scalar.select v277 v278 v272
  let v280 : BitVec 32 := Scalar.muli v279 32#32
  let v281 : BitVec 32 := Scalar.divsi v129 36#32
  let v282 : BitVec 1 := Scalar.cmpi .sgt v129 0#32
  let v283 : BitVec 32 := Scalar.extui v282
  let v284 : BitVec 1 := Scalar.cmpi .slt v129 0#32
  let v285 : BitVec 32 := Scalar.extui v284
  let v286 : BitVec 32 := Scalar.subi v283 v285
  let v287 : BitVec 1 := Scalar.cmpi .sgt 36#32 0#32
  let v288 : BitVec 32 := Scalar.extui v287
  let v289 : BitVec 1 := Scalar.cmpi .slt 36#32 0#32
  let v290 : BitVec 32 := Scalar.extui v289
  let v291 : BitVec 32 := Scalar.subi v288 v290
  let v292 : BitVec 1 := Scalar.cmpi .ne v286 v291
  let v293 : BitVec 32 := Scalar.remsi v129 36#32
  let v294 : BitVec 1 := Scalar.cmpi .ne v293 0#32
  let v295 : BitVec 1 := Scalar.andi v292 v294
  let v296 : BitVec 32 := Scalar.subi v281 1#32
  let v297 : BitVec 32 := Scalar.select v295 v296 v281
  let v298 : BitVec 32 := Scalar.addi v280 v297
  let v305 : BitVec 1 := Scalar.cmpi .eq 36#32 0#32
  let v306 : BitVec 32 := Scalar.select v305 1#32 36#32
  let v307 : BitVec 32 := Scalar.remsi v129 v306
  let v308 : BitVec 1 := Scalar.cmpi .ne v307 0#32
  let v309 : BitVec 1 := Scalar.cmpi .slt v307 0#32
  let v310 : BitVec 1 := Scalar.cmpi .slt v306 0#32
  let v311 : BitVec 1 := Scalar.xori v309 v310
  let v312 : BitVec 1 := Scalar.andi v311 v308
  let v313 : BitVec 32 := Scalar.addi v307 v306
  let v314 : BitVec 32 := Scalar.select v312 v313 v307
  ⟨v298, v314, 32#32⟩

/-- The words part 10 of a trip hands on. -/
def val10 (v129 : BitVec 32) (v314 : BitVec 32) (c32_i32_181 : BitVec 32) :
    BitVec 32 :=
  let v315 : BitVec 32 := Scalar.muli v314 c32_i32_181
  let v316 : BitVec 32 := Scalar.divsi v129 36#32
  let v317 : BitVec 1 := Scalar.cmpi .sgt v129 0#32
  let v318 : BitVec 32 := Scalar.extui v317
  let v319 : BitVec 1 := Scalar.cmpi .slt v129 0#32
  let v320 : BitVec 32 := Scalar.extui v319
  let v321 : BitVec 32 := Scalar.subi v318 v320
  let v322 : BitVec 1 := Scalar.cmpi .sgt 36#32 0#32
  let v323 : BitVec 32 := Scalar.extui v322
  let v324 : BitVec 1 := Scalar.cmpi .slt 36#32 0#32
  let v325 : BitVec 32 := Scalar.extui v324
  let v326 : BitVec 32 := Scalar.subi v323 v325
  let v327 : BitVec 1 := Scalar.cmpi .ne v321 v326
  let v328 : BitVec 32 := Scalar.remsi v129 36#32
  let v329 : BitVec 1 := Scalar.cmpi .ne v328 0#32
  let v330 : BitVec 1 := Scalar.andi v327 v329
  let v331 : BitVec 32 := Scalar.subi v316 1#32
  let v332 : BitVec 32 := Scalar.select v330 v331 v316
  let v333 : BitVec 32 := Scalar.addi v315 v332
  v333

/-- The words the loop carries into trip `t`. -/
def carried (t : ℕ) : BitVec 32 × BitVec 32 × BitVec 32 × BitVec 32 × BitVec 32 := (w6 t, w7 t, w7 t, w9 t, w10 t)

/-- The number of the tile's first window, as the program computes it. -/
def v4w (c : Fin 2) (s : Fin 16) : BitVec 32 :=
  Scalar.muli (Scalar.addi (Scalar.addi 0#32 (Scalar.muli (BitVec.ofNat 32 s.val) 1#32)) (Scalar.muli (BitVec.ofNat 32 c.val) 16#32)) 36#32

/-- The words a trip hands on, from the words of its parts. -/
def last (a7 a8 a9 a10 v207 v168 v197 v236 v265 v333 : BitVec 32) (v122 v123 : BitVec 1) : BitVec 32 × BitVec 32 × BitVec 32 × BitVec 32 × BitVec 32 :=
  let v347 : BitVec 1 := Scalar.cmpi .ne v236 v265
  let v348 : BitVec 1 := Scalar.ori v347 v123
  let v351 : BitVec 1 := Scalar.andi v348 1#1
  let v352 : BitVec 32 := Scalar.addi a8 1#32
  let v353 : BitVec 32 := Scalar.select v351 v352 a8
  let v360 : BitVec 1 := Scalar.cmpi .ne v236 v333
  let v361 : BitVec 1 := Scalar.xori v122 1#1
  let v362 : BitVec 1 := Scalar.andi v360 v361
  let v365 : BitVec 1 := Scalar.andi v362 1#1
  let v366 : BitVec 32 := Scalar.addi a9 1#32
  let v367 : BitVec 32 := Scalar.select v365 v366 a9
  let v368 : BitVec 1 := Scalar.cmpi .ne v168 v197
  let v369 : BitVec 1 := Scalar.ori v368 v123
  let v370 : BitVec 32 := Scalar.addi a7 1#32
  let v371 : BitVec 32 := Scalar.select v369 v370 a7
  let v372 : BitVec 32 := Scalar.addi a10 1#32
  let v373 : BitVec 32 := Scalar.select 1#1 v372 a10
  let v374 : BitVec 1 := Scalar.cmpi .eq v373 36#32
  let v375 : BitVec 32 := Scalar.select v374 0#32 v373
  (v207, v371, v353, v367, v375)

def nextW (v4 : BitVec 32) (t : Fin k0_t1_loop.trips) (a6 a7 a8 a9 a10 : BitVec 32) : BitVec 32 × BitVec 32 × BitVec 32 × BitVec 32 × BitVec 32 :=
  let r5 := val5 v4 0#32 1#32 t a10
  match r5 with
  | ⟨arg5, v122, v123, v124, v129, v134, v150, c36, v151, v153, c0⟩ =>
  match val6 v124 v134 v150 c36 v151 v153 c0 with
  | ⟨v168, v179, v180, v194, v195⟩ =>
  match val7 a6 arg5 v124 v168 v179 v180 v194 v195 with
  | ⟨v197, v207, v218, v219, v233, v234⟩ =>
  match val8 v129 v134 v218 v219 v233 v234 with
  | ⟨v236, v265, v271, v272, v273, c0'⟩ =>
  match val9 v129 v271 v272 v273 c0' with
  | ⟨_, v314, c32⟩ =>
    last a7 a8 a9 a10 v207 v168 v197 v236 v265 (val10 v129 v314 c32) v122 v123

theorem nextW_eq : ∀ (c : Fin 2) (s : Fin 16) (t : Fin 36),
    nextW (v4w c s) (t.cast trips_eq.symm) (w6 t) (w7 t) (w7 t) (w9 t) (w10 t) = carried (t + 1) := by decide +kernel

end Cert.Proof.Sc

end
-- ==== Proof.Trip.lean ====
/-
  One trip of the gather's loop, and the loop's invariant.
-/
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words
public import proofs.«01_k».proof.Proof.Views
public import proofs.«01_k».proof.Proof.Tile
public import proofs.«01_k».proof.Proof.Vals

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (iw : ℕ → BitVec 32) (xw : ℕ → ℕ → BitVec 32)
variable (d : Dev nD) (c : Fin 2) (s : Fin 16)

/-! ## Families over the trips -/

/-- The trips from `n` on; the trips below `n`. -/
def fromT (n : ℕ) : Finset (Fin 36) := Finset.univ.filter fun t => n ≤ t.val
def belowT (n : ℕ) : Finset (Fin 36) := Finset.univ.filter fun t => t.val < n
theorem fromT_zero : fromT 0 = Finset.univ := Finset.filter_eq_self.mpr fun _ _ => Nat.zero_le _
theorem fromT_end : fromT 36 = ∅ := Finset.filter_eq_empty_iff.mpr fun t _ h => absurd t.isLt (Nat.not_lt.mpr h)
theorem fromT_end' : fromT 37 = ∅ := Finset.filter_eq_empty_iff.mpr fun t _ h => absurd t.isLt (by omega)
theorem belowT_zero : belowT 0 = ∅ := Finset.filter_eq_empty_iff.mpr fun _ _ h => absurd h (Nat.not_lt_zero _)
theorem belowT_end : belowT 36 = Finset.univ := Finset.filter_eq_self.mpr fun t _ => t.isLt
theorem fromT_succ (n : ℕ) (hn : n < 36) : fromT n = insert ⟨n, hn⟩ (fromT (n + 1)) := by
  ext t; simp only [fromT, Finset.mem_insert, Finset.mem_filter, Finset.mem_univ, true_and, Fin.ext_iff]; omega
theorem notMem_fromT (n : ℕ) (hn : n < 36) : (⟨n, hn⟩ : Fin 36) ∉ fromT (n + 1) := by
  simp only [fromT, Finset.mem_filter, Finset.mem_univ, true_and]; omega
theorem belowT_succ (n : ℕ) (hn : n < 36) : belowT (n + 1) = insert ⟨n, hn⟩ (belowT n) := by
  ext t; simp only [belowT, Finset.mem_insert, Finset.mem_filter, Finset.mem_univ, true_and, Fin.ext_iff]; omega
theorem notMem_belowT (n : ℕ) (hn : n < 36) : (⟨n, hn⟩ : Fin 36) ∉ belowT n := by
  simp only [belowT, Finset.mem_filter, Finset.mem_univ, true_and]; omega
omit [FloatOps F] in
theorem bigSep_fromT (n : ℕ) (hn : n < 36) (Ψ : Fin 36 → sProp 𝕄) : bigSep (fromT n) Ψ = iprop(Ψ ⟨n, hn⟩ ∗ bigSep (fromT (n + 1)) Ψ) := by
  rw [fromT_succ n hn, SparseCore.bigSep_insert' (notMem_fromT n hn)]
omit [FloatOps F] in
theorem bigSep_belowT (n : ℕ) (hn : n < 36) (Ψ : Fin 36 → sProp 𝕄) : bigSep (belowT (n + 1)) Ψ = iprop(Ψ ⟨n, hn⟩ ∗ bigSep (belowT n) Ψ) := by
  rw [belowT_succ n hn, SparseCore.bigSep_insert' (notMem_belowT n hn)]
attribute [irreducible] fromT belowT

/-! ## The invariant -/

/-- The slot of trip `t`. -/
def pr (t : ℕ) : Fin 2 := ⟨t % 2, Nat.mod_lt _ (by decide)⟩
theorem pr_two (t : ℕ) : pr (t + 2) = pr t := Fin.ext (by simp [pr])

/-- Index slot `t % 2` before trip `t`: its window in flight, or, after the last trip, at rest. -/
def sA (t : ℕ) : sProp 𝕄 := if t < 36 then FA (F := F) iw d c s (pr t) (win c s t) else aFree (F := F) d c s (pr t)
/-- Row slot `(t - 1) % 2` before trip `t`: the write-out of trip `t - 1` in flight, or, before the first, at rest. -/
def sB (t : ℕ) : sProp 𝕄 := if 1 ≤ t then FB (F := F) iw xw d c s (pr (t + 1)) (win c s (t - 1)) else bFree (F := F) d c s (pr (t + 1))

/-- The two gather semaphores at zero. -/
abbrev gZeros : sProp 𝕄 := iprop(semVal (th d c s, SemLoc.dma cc0_scoped4.sem) 0 ∗ semVal (th d c s, SemLoc.dma cc0_scoped5.sem) 0)

def Inv (q : PosShare TreeShare) (f : Buf (Elt F) (oLoc d)) (O : CellTallies nD τ sig (HIx 1)) (W : Waits sig (HIx 1)) (t : ℕ)
    (acc : BitVec 32 × BitVec 32 × BitVec 32 × BitVec 32 × BitVec 32) : sProp 𝕄 :=
  iprop(⌜acc = carried t⌝ ∗ LV (F := F) ∗ OW (F := F) d c s O W
    ∗ sA (F := F) iw d c s t ∗ aFree (F := F) d c s (pr (t + 1)) ∗ sB (F := F) iw xw d c s t ∗ bFree (F := F) d c s (pr t)
    ∗ gZeros (F := F) d c s ∗ xPts (F := F) xw d q
    ∗ (bigSep (fromT (t + 1)) fun u => iPts (F := F) iw d (win c s u)) ∗ (bigSep (belowT t) fun u => iPts (F := F) iw d (win c s u))
    ∗ (bigSep (fromT t) fun u => oLoc d ↦[oSet (win c s u)]{fullShare} f) ∗ (bigSep (belowT (t - 1)) fun u => oPts (F := F) iw xw d (win c s u)))

section Trip

variable (hrow : ∀ n, (iw n).toNat < 32768) (q : PosShare TreeShare) (f : Buf (Elt F) (oLoc d))
  (O : CellTallies nD τ sig (HIx 1)) (hO : ∀ g, O g none = 0) (W : Waits sig (HIx 1))

/-- Trip `t`'s region on tile `(c, s)`. -/
abbrev tripProg (x y z : BitVec 32) (t : Fin 36) : Prog (TpuEff nD τ sig (Elt F) Λ₀ (th d c s).2) (BitVec 32 × BitVec 32 × BitVec 32 × BitVec 32 × BitVec 32) :=
  k0_t1_body (F := F) (coordsV c s) xV (Memref.isWhole_whole _) iV (Memref.isWhole_whole _) oV (Memref.isWhole_whole _) aV (Memref.isWhole_whole _)
    cc0_scoped1 bV (Memref.isWhole_whole _) cc0_scoped3 cc0_scoped4 cc0_scoped5 (v4w c s) x y z (t.cast trips_eq.symm) (carried t)

omit [FloatOps F] in
theorem sA_of_lt {t : ℕ} (h : t < 36) : sA (F := F) iw d c s t = FA (F := F) iw d c s (pr t) (win c s t) := if_pos h
omit [FloatOps F] in
theorem sA_of_le {t : ℕ} (h : ¬ t < 36) : sA (F := F) iw d c s t = aFree (F := F) d c s (pr t) := if_neg h
omit [FloatOps F] in
theorem sB_of_pos {t : ℕ} (h : 1 ≤ t) : sB (F := F) iw xw d c s t = FB (F := F) iw xw d c s (pr (t + 1)) (win c s (t - 1)) := if_pos h
omit [FloatOps F] in
theorem sB_zero {t : ℕ} (h : ¬ 1 ≤ t) : sB (F := F) iw xw d c s t = bFree (F := F) d c s (pr (t + 1)) := if_neg h

/-! ## The waits -/

include hO in
/-- The wait for a window of the list. -/
theorem waitA {α : Type} {k : PUnit → Prog (TpuEff nD τ sig (Elt F) Λ₀ (th d c s).2) α} {Φ : α → sProp 𝕄}
    {sem sem' : DmaSem sig} (es : sem' = sem) {sp' : Space} {sh' : Shape} {e' : EltTy} {srcw : Memref sig (th d c s).2.kind sp' sh' e'}
    {o : Fin 3 → ℕ} {h} {hsrc} {hdst} {R : sProp 𝕄} :
    iprop(LV (F := F) ∗ Transfers.Flight countersEmb (th d c s) (.dma sem) (default : HIx 1) NA R ∗ OW (F := F) d c s O W)
      ⊢ iprop((iprop(R ∗ semVal (th d c s, SemLoc.dma sem) 0 ∗ OW (F := F) d c s O W) -∗ wp frame (wpE (defs₀ (F := F)) 𝒱₀ (th d c s) none) Set.univ (k ⟨⟩) Φ)
          -∗ wp frame (wpE (defs₀ (F := F)) 𝒱₀ (th d c s) none) Set.univ (.op (.waitDma2 sem' srcw (aSl o h) hsrc hdst) k) Φ) :=
  wait_own (F := F) d c s hO es (srcw := srcw) (dstw := aSl o h) (hsrc := hsrc) (hdst := hdst) rfl

include hO in
/-- The wait for a write-out. -/
theorem waitO {α : Type} {k : PUnit → Prog (TpuEff nD τ sig (Elt F) Λ₀ (th d c s).2) α} {Φ : α → sProp 𝕄}
    {sem sem' : DmaSem sig} (es : sem' = sem) {sp' : Space} {sh' : Shape} {e' : EltTy} {srcw : Memref sig (th d c s).2.kind sp' sh' e'}
    {o : Fin 2 → ℕ} {h} {hsrc} {hdst} {R : sProp 𝕄} :
    iprop(LV (F := F) ∗ Transfers.Flight countersEmb (th d c s) (.dma sem) (default : HIx 1) NO R ∗ OW (F := F) d c s O W)
      ⊢ iprop((iprop(R ∗ semVal (th d c s, SemLoc.dma sem) 0 ∗ OW (F := F) d c s O W) -∗ wp frame (wpE (defs₀ (F := F)) 𝒱₀ (th d c s) none) Set.univ (k ⟨⟩) Φ)
          -∗ wp frame (wpE (defs₀ (F := F)) 𝒱₀ (th d c s) none) Set.univ (.op (.waitDma2 sem' srcw (oWin o h) hsrc hdst) k) Φ) :=
  wait_own (F := F) d c s hO es (srcw := srcw) (dstw := oWin o h) (hsrc := hsrc) (hdst := hdst) rfl

include hO in
/-- The wait for half a gather. -/
theorem waitG {α : Type} {k : PUnit → Prog (TpuEff nD τ sig (Elt F) Λ₀ (th d c s).2) α} {Φ : α → sProp 𝕄}
    {sem sem' : DmaSem sig} (es : sem' = sem) {sp' : Space} {sh' : Shape} {e' : EltTy} {srcw : Memref sig (th d c s).2.kind sp' sh' e'}
    {ob : Fin 3 → ℕ} {hb} {oc : Fin 2 → ℕ} {hc} {hsrc} {hdst} {R : sProp 𝕄} :
    iprop(LV (F := F) ∗ Transfers.Flight countersEmb (th d c s) (.dma sem) (default : HIx 1) NG R ∗ OW (F := F) d c s O W)
      ⊢ iprop((iprop(R ∗ semVal (th d c s, SemLoc.dma sem) 0 ∗ OW (F := F) d c s O W) -∗ wp frame (wpE (defs₀ (F := F)) 𝒱₀ (th d c s) none) Set.univ (k ⟨⟩) Φ)
          -∗ wp frame (wpE (defs₀ (F := F)) 𝒱₀ (th d c s) none) Set.univ (.op (.waitDma2 sem' srcw (bHalf ob hb oc hc) hsrc hdst) k) Φ) :=
  wait_own (F := F) d c s hO es (srcw := srcw) (dstw := bHalf ob hb oc hc) (hsrc := hsrc) (hdst := hdst) rfl

/-! ## The parts of a trip, for any words -/

/-- A part first, the rest on what it leaves. -/
theorem wp_seq {α β : Type} {p : Prog (TpuEff nD τ sig (Elt F) Λ₀ (th d c s).2) α} {k : α → Prog (TpuEff nD τ sig (Elt F) Λ₀ (th d c s).2) β}
    {P : sProp 𝕄} {Q : α → sProp 𝕄} {Φ : β → sProp 𝕄} (h : P ⊢ wp frame (wpE (defs₀ (F := F)) 𝒱₀ (th d c s) none) Set.univ p Q) :
    P ⊢ iprop((∀ a, Q a -∗ wp frame (wpE (defs₀ (F := F)) 𝒱₀ (th d c s) none) Set.univ (k a) Φ) -∗ wp frame (wpE (defs₀ (F := F)) 𝒱₀ (th d c s) none) Set.univ (p >>= k) Φ) := by
  iintro HP Hk
  rw [wp_bind]
  iapply (wp_wand_r (Fr := frame) (wpE := wpE (defs₀ (F := F)) 𝒱₀ (th d c s) none) (E := Set.univ) (p := p) (Q := Q)
    (Q' := fun a => wp frame (wpE (defs₀ (F := F)) 𝒱₀ (th d c s) none) Set.univ (k a) Φ))
  isplitl [HP]
  · iapply h $$ HP
  · iexact Hk

theorem part5_eq (v4 : BitVec 32) (t : Fin 36) :
    (LV (F := F) : sProp 𝕄) ⊢ wp frame (wpE (defs₀ (F := F)) 𝒱₀ (th d c s) none) Set.univ (k0_part5 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 v4 0#32 1#32 (t.cast trips_eq.symm) (w6 t) (w7 t) (w7 t) (w9 t) (w10 t))
      fun r => iprop(⌜r.2.2.2 = val5 v4 0#32 1#32 (t.cast trips_eq.symm) (w10 t)⌝) := by
  rw [k0_part5_eq_skeleton]; unfold k0_part5_skel
  simp only [Prog.lift, Prog.bind_op, Prog.bind_ret, Prog.pure_eq_ret, Prog.bind_assoc]
  rw [wp_assume_of 𝒱₀ _ _ _ (chk3 t), wp_assume_of 𝒱₀ _ _ _ (chk2 t), wp_assume_of 𝒱₀ _ _ _ (chk1 c s t)]
  rw [wp_ret]
  iintro #Hlv
  imodintro
  ipureintro
  rfl

theorem part7_ok (t : Fin 36) (hw1 : k0_chk1 (coordsV c s) (t.cast trips_eq.symm) (w6 t) (w7 t) (w7 t) (w9 t) (w10 t))
    (a5 v124 v134 v168 v179 v180 : BitVec 32) (v194 : BitVec 1) (v195 : BitVec 32) :
    iprop(aFree (F := F) d c s (pr (t + 1)) ∗ bigSep (fromT (t + 1)) fun u => iPts (F := F) iw d (win c s u))
      ⊢ wp frame (wpE (defs₀ (F := F)) 𝒱₀ (th d c s) none) Set.univ (k0_part7 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 (t.cast trips_eq.symm) (w6 t) (w7 t) (w7 t) (w9 t) (w10 t) hw1 a5 v124 v134 v168 v179 v180 v194 v195)
          fun r => iprop(⌜r = val7 (w6 t) a5 v124 v168 v179 v180 v194 v195⌝ ∗ sA (F := F) iw d c s (t + 1)
            ∗ bigSep (fromT (t + 1 + 1)) fun u => iPts (F := F) iw d (win c s u)) := by
  rw [k0_part7_eq_skeleton]; unfold k0_part7_skel
  iintro ⟨HA, Hi⟩
  by_cases h1 : t.val + 1 < 36
  · rw [dif_pos (show k0_cond1 (coordsV c s) (t.cast trips_eq.symm) (w10 t) = 1#1 from (cond1 c s t).trans (if_pos (by omega)))]
    rw [k0_part1_eq_skeleton]; unfold k0_part1_skel
    simp only [Prog.lift, Prog.bind_op, Prog.bind_ret, Prog.pure_eq_ret, Prog.bind_assoc]
    ihave Hi' := (Entails.of_eq (bigSep_fromT (F := F) (t.val + 1) h1 _)) $$ Hi
    icases Hi' with ⟨Hw, Hi⟩
    iapply (fetch_issue (F := F) iw d c s (p := pr (t.val + 1)) (w := win c s (t.val + 1))
      ((off4 t).trans (by rw [Nat.min_eq_left (by omega)]; rfl)) (off5 c s t (by omega)) ((off6 t).trans (by rw [Nat.min_eq_left (by omega)]; rfl))) $$ [Hw HA]
    · isplitl [Hw] <;> iassumption
    iintro HF
    rw [wp_ret]
    imodintro
    isplitr
    · ipureintro; rfl
    isplitl [HF]
    · iapply (Entails.of_eq (sA_of_lt (F := F) iw d c s h1).symm) $$ HF
    · iexact Hi
  · rw [dif_neg (show ¬ k0_cond1 (coordsV c s) (t.cast trips_eq.symm) (w10 t) = 1#1 by rw [cond1 c s t, if_neg (by omega)]; decide)]
    simp only [Prog.lift, Prog.bind_op, Prog.bind_ret, Prog.pure_eq_ret, Prog.bind_assoc]
    rw [wp_ret]
    imodintro
    isplitr
    · ipureintro; rfl
    isplitl [HA]
    · iapply (Entails.of_eq (sA_of_le (F := F) iw d c s h1).symm) $$ HA
    · have e : fromT (t.val + 1) = fromT (t.val + 1 + 1) := by
        unfold fromT; ext u; simp only [Finset.mem_filter, Finset.mem_univ, true_and]; omega
      rw [← e]; iexact Hi

include hO in
theorem part9_ok (t : Fin 36) (hw1 : k0_chk1 (coordsV c s) (t.cast trips_eq.symm) (w6 t) (w7 t) (w7 t) (w9 t) (w10 t))
    (a5 : BitVec 32) (v122 : BitVec 1) (v124 v129 v168 v271 v272 : BitVec 32) (v273 : BitVec 1) (c0 : BitVec 32) :
    iprop(LV (F := F) ∗ OW (F := F) d c s O W ∗ sA (F := F) iw d c s t)
      ⊢ wp frame (wpE (defs₀ (F := F)) 𝒱₀ (th d c s) none) Set.univ (k0_part9 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 (t.cast trips_eq.symm) (w6 t) (w7 t) (w7 t) (w9 t) (w10 t) hw1 a5 v122 v124 v129 v168 v271 v272 v273 c0)
          fun r => iprop(⌜r = val9 v129 v271 v272 v273 c0⌝ ∗ OW (F := F) d c s O W
            ∗ aPts (F := F) iw d c s (pr t) (win c s t) ∗ iPts (F := F) iw d (win c s t) ∗ aZero (F := F) d c s (pr t)) := by
  rw [k0_part9_eq_skeleton]; unfold k0_part9_skel
  iintro ⟨#Hlv, HO, HA⟩
  rw [dif_pos (cond2 c s t)]
  rw [k0_part2_eq_skeleton]; unfold k0_part2_skel
  simp only [Prog.lift, Prog.bind_op, Prog.bind_ret, Prog.pure_eq_ret, Prog.bind_assoc]
  ihave HA' := (Entails.of_eq (sA_of_lt (F := F) iw d c s t.isLt)) $$ HA
  iapply (waitA (F := F) d c s O hO W (sem := aSem (pr t)) (aSm_eq (off9 t))) $$ [HA' HO]
  · isplitr; · iexact Hlv
    isplitl [HA'] <;> iassumption
  iintro ⟨⟨Ha, Hi⟩, Hz, HO⟩
  rw [wp_ret]
  imodintro
  isplitr
  · ipureintro; rfl
  isplitl [HO]; · iexact HO
  isplitl [Ha]; · iexact Ha
  isplitl [Hi]; · iexact Hi
  iexact Hz

include hrow in
theorem part10_ok (t : Fin 36) (hw3 : k0_chk3 (w7 t)) (hw2 : k0_chk2 (w7 t)) (a5 : BitVec 32) (v122 : BitVec 1) (v129 v236 v314 c32 : BitVec 32) :
    iprop(xPts (F := F) xw d q ∗ aPts (F := F) iw d c s (pr t) (win c s t) ∗ (∃ f, bLoc d c s ↦[bSet (pr t)]{fullShare} f)
        ∗ semVal (th d c s, SemLoc.dma cc0_scoped4.sem) 0)
      ⊢ wp frame (wpE (defs₀ (F := F)) 𝒱₀ (th d c s) none) Set.univ (k0_part10 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 (w7 t) (w7 t) hw3 hw2 a5 v122 v129 v236 v314 c32)
          fun r => iprop(⌜r = val10 v129 v314 c32⌝ ∗ FG (F := F) iw xw d c s cc0_scoped4.sem q (pr t) 0 (win c s t) ∗ xRest (F := F) xw d q 0
            ∗ ∃ f, bLoc d c s ↦[bHSet (pr t) 1]{fullShare} f) := by
  rw [k0_part10_eq_skeleton]; unfold k0_part10_skel
  simp only [ite_self, Prog.lift, Prog.bind_op, Prog.bind_ret, Prog.pure_eq_ret, Prog.bind_assoc]
  iintro ⟨Hx, Ha, ⟨%fb, Hb⟩, Hz⟩
  ihave Hb' := (b_halves (F := F) d c s (pr t) fb).1 $$ Hb
  icases Hb' with ⟨Hb0, Hb1⟩
  ihave Hx' := (x_parts (F := F) xw d q 0).1 $$ Hx
  icases Hx' with ⟨Hx0, Hxr⟩
  iapply (gather_issue (F := F) iw xw d c s hrow (p := pr t) (g := 0) (w := win c s t) (by decide) (off11 t) (off10 t) rfl q fb) $$ [Hx0 Ha Hb0 Hz]
  · isplitl [Hx0]; · iexact Hx0
    isplitl [Ha]; · iexact Ha
    isplitl [Hb0] <;> iassumption
  iintro HF
  rw [wp_ret]
  imodintro
  isplitr
  · ipureintro; rfl
  isplitl [HF]; · iexact HF
  isplitl [Hxr]; · iexact Hxr
  iexists fb; iexact Hb1

include hrow hO in
theorem part11_ok (t : Fin 36) (hw3 : k0_chk3 (w7 t)) (hw2 : k0_chk2 (w7 t)) (v123 : BitVec 1) (v168 v197 : BitVec 32) :
    iprop(LV (F := F) ∗ OW (F := F) d c s O W ∗ FG (F := F) iw xw d c s cc0_scoped4.sem q (pr t) 0 (win c s t) ∗ xRest (F := F) xw d q 0
        ∗ (∃ f, bLoc d c s ↦[bHSet (pr t) 1]{fullShare} f) ∗ semVal (th d c s, SemLoc.dma cc0_scoped5.sem) 0)
      ⊢ wp frame (wpE (defs₀ (F := F)) 𝒱₀ (th d c s) none) Set.univ (k0_part11 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 (w7 t) (w7 t) hw3 hw2 v123 v168 v197)
          fun r => iprop(OW (F := F) d c s O W ∗ gZeros (F := F) d c s ∗ xPts (F := F) xw d q ∗ aPts (F := F) iw d c s (pr t) (win c s t)
            ∗ bPts (F := F) iw xw d c s (pr t) (win c s t)) := by
  rw [k0_part11_eq_skeleton]; unfold k0_part11_skel
  simp only [ite_self, SparseCore.waitIndirectGather_bind, Prog.lift, Prog.bind_op, Prog.bind_ret, Prog.pure_eq_ret, Prog.bind_assoc]
  iintro ⟨#Hlv, HO, HF, Hxr, ⟨%fb, Hb1⟩, Hz⟩
  iapply (waitG (F := F) d c s O hO W rfl) $$ [HF HO]
  · isplitr; · iexact Hlv
    isplitl [HF] <;> iassumption
  iintro ⟨⟨Hb0, Hx0, Ha⟩, Hz4, HO⟩
  simp only [Prog.bind]
  ihave Hx := (x_parts (F := F) xw d q 0).2 $$ [Hx0 Hxr]
  · isplitl [Hx0] <;> iassumption
  ihave Hx' := (x_parts (F := F) xw d q 1).1 $$ Hx
  icases Hx' with ⟨Hx0, Hxr⟩
  iapply (gather_issue (F := F) iw xw d c s hrow (p := pr t) (g := 1) (w := win c s t) (by decide) (off11 t) (off10 t) rfl q fb) $$ [Hx0 Ha Hb1 Hz]
  · isplitl [Hx0]; · iexact Hx0
    isplitl [Ha]; · iexact Ha
    isplitl [Hb1] <;> iassumption
  iintro HF
  simp only [SparseCore.waitIndirectGather_bind, Prog.lift, Prog.bind_op, Prog.bind_ret, Prog.pure_eq_ret, Prog.bind_assoc]
  iapply (waitG (F := F) d c s O hO W rfl) $$ [HF HO]
  · isplitr; · iexact Hlv
    isplitl [HF] <;> iassumption
  iintro ⟨⟨Hb1, Hx0, Ha⟩, Hz5, HO⟩
  simp only [Prog.bind, Prog.bind_ret]
  rw [wp_ret]
  imodintro
  isplitl [HO]; · iexact HO
  isplitl [Hz4 Hz5]; · isplitl [Hz4] <;> iassumption
  isplitl [Hx0 Hxr]
  · iapply (x_parts (F := F) xw d q 1).2
    isplitl [Hx0] <;> iassumption
  isplitl [Ha]; · iexact Ha
  iapply (b_halves (F := F) d c s (pr t) _).2
  isplitl [Hb0] <;> iassumption

theorem part6_eq (v124 v134 v150 c36 v151 v153 c0 : BitVec 32) :
    k0_part6 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 v124 v134 v150 c36 v151 v153 c0 = .ret (val6 v124 v134 v150 c36 v151 v153 c0) := rfl

theorem part8_eq (a5 v129 v134 v218 v219 : BitVec 32) (v233 : BitVec 1) (v234 : BitVec 32) :
    k0_part8 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 a5 v129 v134 v218 v219 v233 v234 = .ret (val8 v129 v134 v218 v219 v233 v234) := rfl

/-! ## A trip -/

include hrow hO in
theorem trip (x y z : BitVec 32) (t : Fin 36) :
    Inv (F := F) iw xw d c s q f O W t (carried t)
      ⊢ wp frame (wpE (defs₀ (F := F)) 𝒱₀ (th d c s) none) Set.univ (tripProg (F := F) d c s x y z t)
          fun acc => Inv (F := F) iw xw d c s q f O W (t + 1) acc := by
  have hn := nextW_eq c s t
  unfold nextW at hn
  unfold tripProg carried k0_t1_body Inv
  iintro ⟨-, #Hlv, HO, HA, Ha2, HB, ⟨Hbz, Hb2⟩, ⟨Hg1, Hg2⟩, Hx, Hif, Hib, Hof, Hob⟩
  iapply (wp_seq (F := F) d c s (part5_eq (F := F) d c s (v4w c s) t)) $$ []
  · iexact Hlv
  iintro %r5 %h5
  obtain ⟨hw3, hw2, hw1, a5, v122, v123, v124, v129, v134, v150, c36, v151, v153, c0⟩ := r5
  rw [← h5] at hn
  dsimp only at hn ⊢
  rw [part6_eq (F := F) c s, Prog.bind_ret]
  generalize val6 v124 v134 v150 c36 v151 v153 c0 = r6 at hn ⊢
  obtain ⟨v168, v179, v180, v194, v195⟩ := r6
  dsimp only at hn ⊢
  iapply (wp_seq (F := F) d c s (part7_ok (F := F) iw d c s t hw1 a5 v124 v134 v168 v179 v180 v194 v195)) $$ [Ha2 Hif]
  · isplitl [Ha2] <;> iassumption
  iintro %r7 ⟨%h7, HA2, Hif⟩
  obtain ⟨v197, v207, v218, v219, v233, v234⟩ := r7
  rw [← h7] at hn
  dsimp only at hn ⊢
  rw [part8_eq (F := F) c s, Prog.bind_ret]
  generalize val8 v129 v134 v218 v219 v233 v234 = r8 at hn ⊢
  obtain ⟨v236, v265, v271, v272, v273, c0'⟩ := r8
  dsimp only at hn ⊢
  iapply (wp_seq (F := F) d c s (part9_ok (F := F) iw d c s O hO W t hw1 a5 v122 v124 v129 v168 v271 v272 v273 c0')) $$ [HO HA]
  · isplitr; · iexact Hlv
    isplitl [HO] <;> iassumption
  iintro %r9 ⟨%h9, HO, Ha, Hi, Haz⟩
  obtain ⟨v298, v314, c32⟩ := r9
  rw [← h9] at hn
  dsimp only at hn ⊢
  iapply (wp_seq (F := F) d c s (part10_ok (F := F) iw xw d c s hrow q t hw3 hw2 a5 v122 v129 v236 v314 c32)) $$ [Hx Ha Hb2 Hg1]
  · isplitl [Hx]; · iexact Hx
    isplitl [Ha]; · iexact Ha
    isplitl [Hb2] <;> iassumption
  iintro %v333 ⟨%h10, HF, Hxr, Hb2⟩
  rw [← h10] at hn
  iapply (wp_seq (F := F) d c s (part11_ok (F := F) iw xw d c s hrow q O hO W t hw3 hw2 v123 v168 v197)) $$ [HO HF Hxr Hb2 Hg2]
  · isplitr; · iexact Hlv
    isplitl [HO]; · iexact HO
    isplitl [HF]; · iexact HF
    isplitl [Hxr]; · iexact Hxr
    isplitl [Hb2] <;> iassumption
  iintro %r11 ⟨HO, Hg, Hx, Ha, Hb⟩
  obtain ⟨v343, vf⟩ := r11
  dsimp only
  rw [dif_pos (cond5 c s t), k0_part3_eq_skeleton]
  unfold k0_part3_skel
  simp only [ite_self, Prog.lift, Prog.bind_op, Prog.bind_ret, Prog.pure_eq_ret, Prog.bind_assoc]
  ihave Hof' := (Entails.of_eq (bigSep_fromT (F := F) t.val t.isLt _)) $$ Hof
  icases Hof' with ⟨Ho, Hof⟩
  iapply (out_issue (F := F) iw xw d c s (p := pr t) (w := win c s t) (off12 t) (off13 c s t) (off14 t) f) $$ [Hb Ho Hbz]
  · isplitl [Hb]; · iexact Hb
    isplitl [Ho] <;> iassumption
  iintro HF
  by_cases h7 : 0 < t.val
  · rw [dif_pos (show k0_cond7 (coordsV c s) (t.cast trips_eq.symm) (w10 t) = 1#1 from (cond7 c s t).trans (if_pos h7)), k0_part4_eq_skeleton]
    unfold k0_part4_skel
    simp only [Prog.lift, Prog.bind_op, Prog.bind_ret, Prog.pure_eq_ret, Prog.bind_assoc]
    have hp : (t.val - 1) % 2 = (pr (t.val + 1)).val := by show _ = (t.val + 1) % 2; omega
    ihave HB' := (Entails.of_eq (sB_of_pos (F := F) iw xw d c s h7)) $$ HB
    iapply (waitO (F := F) d c s O hO W (sem := bSem (pr (t.val + 1))) (bSm_eq ((off17 t).trans (by rw [hp])))) $$ [HB' HO]
    · isplitr; · iexact Hlv
      isplitl [HB'] <;> iassumption
    iintro ⟨⟨How, Hbw⟩, Hbz, HO⟩
    ihave HB : bFree (F := F) d c s (pr (t.val + 1)) $$ [Hbw Hbz]
    · isplitl [Hbz]; · iexact Hbz
      iexists _; iexact Hbw
    ihave Hob := (Entails.of_eq ((bigSep_belowT (F := F) (t.val - 1) (by omega) (fun u => oPts (F := F) iw xw d (win c s u))).symm.trans
      (by rw [Nat.sub_add_cancel h7]; rfl)) : _ ⊢ bigSep (belowT (t.val + 1 - 1)) fun u => oPts (F := F) iw xw d (win c s u)) $$ [How Hob]
    · isplitl [How] <;> iassumption
    rw [wp_ret]
    imodintro
    isplitr
    · ipureintro; exact hn
    isplitr; · iexact Hlv
    isplitl [HO]; · iexact HO
    isplitl [HA2]; · iexact HA2
    isplitl [Haz Ha]
    · iapply (Entails.of_eq (show aFree (F := F) d c s (pr t.val) = aFree (F := F) d c s (pr (t.val + 1 + 1)) by rw [← pr_two t.val]))
      isplitl [Haz]; · iexact Haz
      iexists _; iexact Ha
    isplitl [HF]
    · iapply (Entails.of_eq (show FB (F := F) iw xw d c s (pr t.val) (win c s t.val) = sB (F := F) iw xw d c s (t.val + 1) by
        rw [sB_of_pos (F := F) iw xw d c s (by omega), ← pr_two t.val]; rfl)) $$ HF
    isplitl [HB]; · iexact HB
    isplitl [Hg]; · iexact Hg
    isplitl [Hx]; · iexact Hx
    isplitl [Hif]; · iexact Hif
    isplitl [Hib Hi]
    · iapply (Entails.of_eq (bigSep_belowT (F := F) t.val t.isLt _).symm)
      isplitl [Hi] <;> iassumption
    isplitl [Hof]; · iexact Hof
    iexact Hob
  · rw [dif_neg (show ¬ k0_cond7 (coordsV c s) (t.cast trips_eq.symm) (w10 t) = 1#1 by rw [cond7 c s t, if_neg h7]; decide)]
    ihave HB := (Entails.of_eq (sB_zero (F := F) iw xw d c s h7)) $$ HB
    ihave Hob := (Entails.of_eq (show _ = bigSep (belowT (t.val + 1 - 1)) fun u => oPts (F := F) iw xw d (win c s u) by
      rw [show t.val + 1 - 1 = t.val - 1 by omega])) $$ Hob
    rw [wp_ret]
    imodintro
    isplitr
    · ipureintro; exact hn
    isplitr; · iexact Hlv
    isplitl [HO]; · iexact HO
    isplitl [HA2]; · iexact HA2
    isplitl [Haz Ha]
    · iapply (Entails.of_eq (show aFree (F := F) d c s (pr t.val) = aFree (F := F) d c s (pr (t.val + 1 + 1)) by rw [← pr_two t.val]))
      isplitl [Haz]; · iexact Haz
      iexists _; iexact Ha
    isplitl [HF]
    · iapply (Entails.of_eq (show FB (F := F) iw xw d c s (pr t.val) (win c s t.val) = sB (F := F) iw xw d c s (t.val + 1) by
        rw [sB_of_pos (F := F) iw xw d c s (by omega), ← pr_two t.val]; rfl)) $$ HF
    isplitl [HB]; · iexact HB
    isplitl [Hg]; · iexact Hg
    isplitl [Hx]; · iexact Hx
    isplitl [Hif]; · iexact Hif
    isplitl [Hib Hi]
    · iapply (Entails.of_eq (bigSep_belowT (F := F) t.val t.isLt _).symm)
      isplitl [Hi] <;> iassumption
    isplitl [Hof]; · iexact Hof
    iexact Hob

end Trip

end Cert.Proof.Sc

end
-- ==== Proof.Body.lean ====
/-
  A tile's whole task: the first fetch, the loop, the last wait.
-/
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words
public import proofs.«01_k».proof.Proof.Views
public import proofs.«01_k».proof.Proof.Tile
public import proofs.«01_k».proof.Proof.Vals
public import proofs.«01_k».proof.Proof.Trip

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (iw : ℕ → BitVec 32) (xw : ℕ → ℕ → BitVec 32)
variable (d : Dev nD) (c : Fin 2) (s : Fin 16)

variable (hrow : ∀ n, (iw n).toNat < 32768) (q : PosShare TreeShare) (f : Buf (Elt F) (oLoc d))
  (O : CellTallies nD τ sig (HIx 1)) (hO : ∀ g, O g none = 0) (W : Waits sig (HIx 1))

omit [FloatOps F] in
theorem bigSep_none (Ψ : Fin 36 → sProp 𝕄) {n : ℕ} (h : 36 ≤ n) : bigSep (fromT n) Ψ = iprop(emp) := by
  rw [show fromT n = ∅ by unfold fromT; ext t; simp; omega]; exact bigSep_empty
omit [FloatOps F] in
theorem bigSep_below0 (Ψ : Fin 36 → sProp 𝕄) : bigSep (belowT 0) Ψ = iprop(emp) := by
  rw [show belowT 0 = ∅ by unfold belowT; ext t; simp]; exact bigSep_empty
theorem fromT_univ : fromT 0 = Finset.univ := by unfold fromT; ext t; simp
theorem belowT_univ : belowT 36 = Finset.univ := by unfold belowT; ext t; simp

/-- What a tile holds but for what it owes and the windows: the four slots at rest, the gathers' semaphores, the table. -/
abbrev Rest : sProp 𝕄 :=
  iprop(aFree (F := F) d c s 0 ∗ aFree (F := F) d c s 1 ∗ bFree (F := F) d c s 0 ∗ bFree (F := F) d c s 1 ∗ gZeros (F := F) d c s ∗ xPts (F := F) xw d q)
abbrev iAll : sProp 𝕄 := bigSep Finset.univ fun u : Fin 36 => iPts (F := F) iw d (win c s u)
abbrev oAll : sProp 𝕄 := bigSep Finset.univ fun u : Fin 36 => (oLoc d ↦[oSet (win c s u)]{fullShare} f : sProp 𝕄)
abbrev oDone : sProp 𝕄 := bigSep Finset.univ fun u : Fin 36 => oPts (F := F) iw xw d (win c s u)

/-- Before the first trip. -/
theorem inv_start :
    iprop(LV (F := F) ∗ OW (F := F) d c s O W ∗ FA (F := F) iw d c s 0 (win c s 0) ∗ aFree (F := F) d c s 1 ∗ bFree (F := F) d c s 0 ∗ bFree (F := F) d c s 1
        ∗ gZeros (F := F) d c s ∗ xPts (F := F) xw d q ∗ (bigSep (fromT 1) fun u => iPts (F := F) iw d (win c s u)) ∗ oAll (F := F) d c s f)
      ⊢ Inv (F := F) iw xw d c s q f O W 0 (carried 0) := by
  unfold Inv
  rw [sA_of_lt (F := F) iw d c s (by decide), sB_zero (F := F) iw xw d c s (by decide), bigSep_below0, bigSep_below0, fromT_univ]
  iintro ⟨#Hlv, HO, HF, Ha, Hb0, Hb1, Hg, Hx, Hi, Ho⟩
  isplitr; · ipureintro; rfl
  isplitr; · iexact Hlv
  isplitl [HO]; · iexact HO
  isplitl [HF]; · iexact HF
  isplitl [Ha]; · iexact Ha
  isplitl [Hb1]; · iexact Hb1
  isplitl [Hb0]; · iexact Hb0
  isplitl [Hg]; · iexact Hg
  isplitl [Hx]; · iexact Hx
  isplitl [Hi]; · iexact Hi
  isplitr; · iempintro
  isplitl [Ho]; · iexact Ho
  iempintro

/-- After the last trip. -/
theorem inv_end (acc : BitVec 32 × BitVec 32 × BitVec 32 × BitVec 32 × BitVec 32) :
    Inv (F := F) iw xw d c s q f O W 36 acc
      ⊢ iprop(⌜acc = carried 36⌝ ∗ OW (F := F) d c s O W ∗ FB (F := F) iw xw d c s 1 (win c s 35) ∗ aFree (F := F) d c s 0 ∗ aFree (F := F) d c s 1 ∗ bFree (F := F) d c s 0
        ∗ gZeros (F := F) d c s ∗ xPts (F := F) xw d q ∗ iAll (F := F) iw d c s ∗ bigSep (belowT 35) fun u => oPts (F := F) iw xw d (win c s u)) := by
  unfold Inv
  rw [sA_of_le (F := F) iw d c s (by decide), sB_of_pos (F := F) iw xw d c s (by decide), bigSep_none _ (by decide), bigSep_none _ (by decide), belowT_univ]
  iintro ⟨%hacc, -, HO, Ha0, Ha1, HB, Hb0, Hg, Hx, -, Hi, -, Ho⟩
  isplitr; · ipureintro; exact hacc
  isplitl [HO]; · iexact HO
  isplitl [HB]; · iexact HB
  isplitl [Ha0]; · iexact Ha0
  isplitl [Ha1]; · iexact Ha1
  isplitl [Hb0]; · iexact Hb0
  isplitl [Hg]; · iexact Hg
  isplitl [Hx]; · iexact Hx
  isplitl [Hi]; · iexact Hi
  iexact Ho

include hrow hO in
theorem part13_ok (x y z : BitVec 32) :
    iprop(LV (F := F) ∗ OW (F := F) d c s O W ∗ Rest (F := F) xw d c s q ∗ iAll (F := F) iw d c s ∗ oAll (F := F) d c s f)
      ⊢ wp frame (wpE (defs₀ (F := F)) 𝒱₀ (th d c s) none) Set.univ (k0_part13 (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5 (v4w c s) x y z)
          fun r => iprop(⌜r.1 = w9 36 ∧ r.2.1 = w10 36⌝ ∗ Inv (F := F) iw xw d c s q f O W 36 (carried 36)) := by
  rw [k0_part13_eq_skeleton]; unfold k0_part13_skel
  simp only [Prog.lift, Prog.bind_op, Prog.bind_ret, Prog.pure_eq_ret, Prog.bind_assoc]
  iintro ⟨#Hlv, HO, ⟨Ha0, Ha1, Hb0, Hb1, Hg, Hx⟩, Hi, Ho⟩
  ihave Hi' := (Entails.of_eq (show iAll (F := F) iw d c s = _ by unfold iAll; rw [← fromT_univ, bigSep_fromT (F := F) 0 (by decide)])) $$ Hi
  icases Hi' with ⟨Hw, Hi⟩
  iapply (fetch_issue (F := F) iw d c s (p := 0) (w := win c s 0) off1 (off2 c s) off3) $$ [Hw Ha0]
  · isplitl [Hw] <;> iassumption
  iintro HF
  ihave HI := (inv_start (F := F) iw xw d c s q f O W) $$ [HO HF Ha1 Hb0 Hb1 Hg Hx Hi Ho]
  · isplitr; · iexact Hlv
    isplitl [HO]; · iexact HO
    isplitl [HF]; · iexact HF
    isplitl [Ha1]; · iexact Ha1
    isplitl [Hb0]; · iexact Hb0
    isplitl [Hb1]; · iexact Hb1
    isplitl [Hg]; · iexact Hg
    isplitl [Hx]; · iexact Hx
    isplitl [Hi]; · iexact Hi
    iexact Ho
  iapply (Scf.wp_for_bind frame (wpE (defs₀ (F := F)) 𝒱₀ (th d c s) none) Set.univ _ _ _ _ _ _ (Inv (F := F) iw xw d c s q f O W) (fun t acc => by
    iintro HI
    ihave HI' := (show Inv (F := F) iw xw d c s q f O W t acc ⊢ iprop(⌜acc = carried t⌝ ∗ Inv (F := F) iw xw d c s q f O W t acc) by
      unfold Inv
      iintro ⟨%h, H⟩
      isplitr
      · ipureintro; exact h
      isplitr
      · ipureintro; exact h
      iexact H) $$ HI
    icases HI' with ⟨%h, HI⟩
    subst h
    iapply (show Inv (F := F) iw xw d c s q f O W t (carried t) ⊢ _ from trip (F := F) iw xw d c s hrow q f O hO W x y z (t.cast trips_eq)) $$ HI)) $$ HI
  iintro %acc HI
  ihave HI := (Entails.of_eq (show Inv (F := F) iw xw d c s q f O W (Scf.trips _ _ _) acc = Inv (F := F) iw xw d c s q f O W 36 acc from
    congrArg (fun n => Inv (F := F) iw xw d c s q f O W n acc) trips_eq)) $$ HI
  ihave HI' := (show Inv (F := F) iw xw d c s q f O W 36 acc ⊢ iprop(⌜acc = carried 36⌝ ∗ Inv (F := F) iw xw d c s q f O W 36 acc) by
    unfold Inv
    iintro ⟨%h, H⟩
    isplitr
    · ipureintro; exact h
    isplitr
    · ipureintro; exact h
    iexact H) $$ HI
  icases HI' with ⟨%h, HI⟩
  subst h
  unfold carried
  dsimp only
  rw [wp_assume_of 𝒱₀ _ _ _ (chk5 c s), wp_assume_of 𝒱₀ _ _ _ chk4, wp_ret]
  imodintro
  isplitr
  · ipureintro; exact ⟨rfl, rfl⟩
  iexact HI

include hrow hO in
theorem task_ok :
    iprop(LV (F := F) ∗ OW (F := F) d c s O W ∗ Rest (F := F) xw d c s q ∗ iAll (F := F) iw d c s ∗ oAll (F := F) d c s f)
      ⊢ wp frame (wpE (defs₀ (F := F)) 𝒱₀ (th d c s) none) Set.univ (cc0_gather_kernel (F := F) (coordsV c s) xV (Memref.isWhole_whole _) iV (Memref.isWhole_whole _) oV (Memref.isWhole_whole _) aV (Memref.isWhole_whole _)
      cc0_scoped1 bV (Memref.isWhole_whole _) cc0_scoped3 cc0_scoped4 cc0_scoped5)
          fun _ => iprop(OW (F := F) d c s O W ∗ Rest (F := F) xw d c s q ∗ iAll (F := F) iw d c s ∗ oDone (F := F) iw xw d c s) := by
  unfold cc0_gather_kernel
  rw [k0_part12_eq_skeleton]; unfold k0_part12_skel
  simp only [Prog.bind_ret, Prog.pure_eq_ret]
  iintro ⟨#Hlv, HH⟩
  iapply (wp_seq (F := F) d c s (part13_ok (F := F) iw xw d c s hrow q f O hO W _ _ _)) $$ [HH]
  · isplitr; · iexact Hlv
    iexact HH
  iintro %r ⟨%hr, HI⟩
  obtain ⟨v3, v4, hw5, hw4, v63⟩ := r
  obtain ⟨e3, e4⟩ := hr
  dsimp only at e3 e4
  subst e3 e4
  dsimp only
  rw [k0_part14_eq_skeleton]; unfold k0_part14_skel
  simp only [Prog.lift, Prog.bind_op, Prog.bind_ret, Prog.pure_eq_ret, Prog.bind_assoc]
  ihave HI' := (inv_end (F := F) iw xw d c s q f O W _) $$ HI
  icases HI' with ⟨-, HO, HB, Ha0, Ha1, Hb0, Hg, Hx, Hi, Ho⟩
  iapply (waitO (F := F) d c s O hO W (sem := bSem 1) (bSm_eq off20)) $$ [HB HO]
  · isplitr; · iexact Hlv
    isplitl [HB] <;> iassumption
  iintro ⟨⟨How, Hbw⟩, Hbz, HO⟩
  rw [wp_ret]
  imodintro
  isplitl [HO]; · iexact HO
  isplitl [Ha0 Ha1 Hb0 Hg Hx Hbw Hbz]
  · isplitl [Ha0]; · iexact Ha0
    isplitl [Ha1]; · iexact Ha1
    isplitl [Hb0]; · iexact Hb0
    isplitl [Hbw Hbz]
    · isplitl [Hbz]; · iexact Hbz
      iexists _; iexact Hbw
    isplitl [Hg]; · iexact Hg
    iexact Hx
  isplitl [Hi]; · iexact Hi
  unfold oDone
  rw [← belowT_univ, bigSep_belowT (F := F) 35 (by decide)]
  isplitl [How] <;> iassumption

end Cert.Proof.Sc

end
-- ==== Proof.Launch.lean ====
/-
  The gather as the launch theorem sees it. Each tile is handed a share of the table, its 36 windows of the index list
  and its 36 windows of the result, and hands them back with the result's windows at the rows the list names (`task_ok`);
  the two cores' 32 tiles together hold the table, the list and the result whole. Around the call, @main reshapes the
  index list on the host. Every semaphore counter ends at zero.
-/
module

public import proofs.«01_k».proof.Proof.Body

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_eq (q : Fin 1) : (K (F := F)).nSub q = 16 := by obtain rfl : q = 0 := Subsingleton.elim _ _; rfl
theorem nCore_eq (q : Fin 1) : (K (F := F)).nCore q = 2 := by obtain rfl : q = 0 := Subsingleton.elim _ _; rfl
abbrev D [FloatOps F] : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory, read as functions of numbers -/

variable (m : (ℓ : Loc nD τ sig) → Buf (Elt F) ℓ) (ρ : Dev nD → PrngReg)

abbrev lLoc (d : Dev nD) : Loc nD τ sig := (SparseCore.T d).loc main_arg1

/-- Element `n` of the index list; column `l` of row `r` of the table. -/
def iwOf (d : Dev nD) (n : ℕ) : BitVec 32 := (m (lLoc d) : S147456.Idx → BitVec 32) (ix1 ⟨n % 147456, Nat.mod_lt _ (by decide)⟩)
def xwOf (d : Dev nD) (r l : ℕ) : BitVec 32 :=
  (m (xLoc d) : S32768x256.Idx → BitVec 32) (ix2 ⟨r % 32768, Nat.mod_lt _ (by decide)⟩ ⟨l % 256, Nat.mod_lt _ (by decide)⟩)

/-- Every word of the index list names a row of the table. -/
def PreOK : Prop := ∀ (d : Dev nD) (j : S147456.Idx), ((m (lLoc d) : S147456.Idx → BitVec 32) j).toNat < 32768

theorem XV_eq (d : Dev nD) : (XV (xwOf m d) : S32768x256.Idx → BitVec 32) = m (xLoc d) := by
  funext j
  unfold XV xwOf
  have h0 : (j 0).val < 32768 := (j 0).isLt
  have h1 : (j 1).val < 256 := (j 1).isLt
  refine congrArg (m (xLoc d) : S32768x256.Idx → BitVec 32) ?_
  funext a; apply Fin.ext
  match a with
  | 0 => exact Nat.mod_eq_of_lt h0
  | 1 => exact Nat.mod_eq_of_lt h1

theorem IV_eq (d : Dev nD) (h : S147456.ShapeCasts S1x147456) :
    (IV (iwOf m d) : S1x147456.Idx → BitVec 32) = shapeCast S1x147456 (m (lLoc d) : S147456.Idx → BitVec 32) h := by
  funext j
  unfold IV iwOf shapeCast
  have h0 : (j 0).val < 1 := (j 0).isLt
  have h1 : (j 1).val < 147456 := (j 1).isLt
  refine congrArg (m (lLoc d) : S147456.Idx → BitVec 32) ?_
  have hj : Shape.reshapeEquiv (s := S1x147456) h.symm (ix1 (j 1) : S147456.Idx) = j := by
    rw [Shape.reshapeEquiv_cons_one (d := ![147456]) h.symm (ix1 (j 1) : S147456.Idx)]
    funext a; apply Fin.ext
    match a with
    | 0 => show 0 = (j 0).val; omega
    | 1 => rfl
  have hk : Shape.reshapeEquiv h j = (ix1 (j 1) : S147456.Idx) := by
    conv_lhs => rw [← hj]
    rw [Shape.reshapeEquiv_reshapeEquiv, Shape.reshapeEquiv_self]
  rw [hk]
  funext a; apply Fin.ext
  match a with
  | 0 => exact Nat.mod_eq_of_lt h1

variable [FloatOps F]

/-! ## What one tile owns -/

section Tile

variable (d : Dev nD) (c : Fin 2) (s : Fin 16)

abbrev aCell (p : Fin 2) : GSem nD τ sig := (th d c s, .dma (aSem p))
abbrev bCell (p : Fin 2) : GSem nD τ sig := (th d c s, .dma (bSem p))
abbrev gCell : GSem nD τ sig := (th d c s, .dma cc0_scoped4.sem)
abbrev hCell : GSem nD τ sig := (th d c s, .dma cc0_scoped5.sem)

/-- The tile's six semaphores and the rest of its own. -/
abbrev semsRest : sProp 𝕄 :=
  bigSep ((((((((ownCells (th d c s)).erase (aCell d c s 0)).erase (aCell d c s 1)).erase (bCell d c s 0)).erase (bCell d c s 1)).erase (gCell d c s)).erase (hCell d c s)))
    fun g => semVal g 0

omit [FloatOps F] in
theorem own_cell {x : DmaSem sig} (hx : (SemLoc.dma x : SemLoc sig).isScoped .scVector = true) : ((th d c s, .dma x) : GSem nD τ sig) ∈ ownCells (th d c s) :=
  mem_ownCells.mpr ⟨rfl, hx⟩

omit [FloatOps F] in
theorem cell_ne {x y : DmaSem sig} (h : x ≠ y) : ((th d c s, .dma x) : GSem nD τ sig) ≠ (th d c s, .dma y) :=
  fun e => h (by injection e with _ e; injection e)

omit [FloatOps F] in
theorem ownSems0_V :
    (ownSems0 (th d c s) : sProp 𝕄)
      = iprop(aZero d c s 0 ∗ aZero d c s 1 ∗ bZero d c s 0 ∗ bZero d c s 1 ∗ semVal (gCell d c s) 0 ∗ semVal (hCell d c s) 0 ∗ semsRest (F := F) d c s) := by
  unfold SparseCore.Cfg.ownSems0
  rw [SparseCore.bigSep_erase' (own_cell d c s (x := aSem 0) (by decide)),
    SparseCore.bigSep_erase' (Finset.mem_erase.mpr ⟨cell_ne d c s (x := aSem 1) (by decide), own_cell d c s (by decide)⟩),
    SparseCore.bigSep_erase' (Finset.mem_erase.mpr ⟨cell_ne d c s (x := bSem 0) (by decide), Finset.mem_erase.mpr ⟨cell_ne d c s (by decide), own_cell d c s (by decide)⟩⟩),
    SparseCore.bigSep_erase' (Finset.mem_erase.mpr ⟨cell_ne d c s (x := bSem 1) (by decide), Finset.mem_erase.mpr ⟨cell_ne d c s (by decide),
      Finset.mem_erase.mpr ⟨cell_ne d c s (by decide), own_cell d c s (by decide)⟩⟩⟩),
    SparseCore.bigSep_erase' (Finset.mem_erase.mpr ⟨cell_ne d c s (x := cc0_scoped4.sem) (by decide), Finset.mem_erase.mpr ⟨cell_ne d c s (by decide),
      Finset.mem_erase.mpr ⟨cell_ne d c s (by decide), Finset.mem_erase.mpr ⟨cell_ne d c s (by decide), own_cell d c s (by decide)⟩⟩⟩⟩),
    SparseCore.bigSep_erase' (Finset.mem_erase.mpr ⟨cell_ne d c s (x := cc0_scoped5.sem) (by decide), Finset.mem_erase.mpr ⟨cell_ne d c s (by decide),
      Finset.mem_erase.mpr ⟨cell_ne d c s (by decide), Finset.mem_erase.mpr ⟨cell_ne d c s (by decide), Finset.mem_erase.mpr ⟨cell_ne d c s (by decide), own_cell d c s (by decide)⟩⟩⟩⟩⟩)]

abbrev tp : Proc τ := .scVector ((coordsV c s 0).castLE hcore0) ((coordsV c s 1).castLE hsub0)

abbrev bufsRest : sProp 𝕄 :=
  bigSep (((ownRefs (τ := τ) (sig := sig) (tp c s)).erase ((tp c s).devRef cc0_scoped0)).erase ((tp c s).devRef cc0_scoped2))
    fun b => iprop(∃ f, ((d, b) : Loc nD τ sig) ↦{fullShare} f)

omit [FloatOps F] in
theorem ownBufs_V :
    (ownBufs (th d c s) : sProp 𝕄)
      = iprop((∃ f, aLoc d c s ↦{fullShare} f) ∗ (∃ f, bLoc d c s ↦{fullShare} f) ∗ bufsRest (F := F) d c s) := by
  unfold SparseCore.Cfg.ownBufs
  refine (SparseCore.bigSep_erase' (SparseCore.Cfg.mem_ownRefs_of_owner (p := tp c s) (b := (tp c s).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := tp c s) (b := (tp c s).devRef cc0_scoped2) rfl⟩)]

/-! The two slots of a ring are the ring. -/

omit [FloatOps F] in
theorem two_slots {ℓ : Loc nD τ sig} (I J : Finset (Idx ℓ)) (hd : Disjoint I J) (hu : I ∪ J = Finset.univ) :
    (iprop(∃ f, ℓ ↦{fullShare} f) : sProp 𝕄) ⊣⊢ iprop((∃ f, ℓ ↦[I]{fullShare} f) ∗ ∃ f, ℓ ↦[J]{fullShare} f) := by
  constructor
  · iintro ⟨%f, H⟩
    ihave H' := (Entails.of_eq (show (ℓ ↦{fullShare} f : sProp 𝕄) = ℓ ↦[I ∪ J]{fullShare} f by rw [hu])) $$ H
    ihave H'' := (pointsTo_union hd).1 $$ H'
    icases H'' with ⟨H1, H2⟩
    isplitl [H1] <;> (iexists f; iassumption)
  · iintro ⟨⟨%f, H1⟩, %g, H2⟩
    ihave H := (pointsTo_join (f := f) (g := g) hd) $$ [H1 H2]
    · isplitl [H1] <;> iassumption
    ihave H' := (Entails.of_eq (show (ℓ ↦[I ∪ J]{fullShare} (J.piecewise g f) : sProp 𝕄) = ℓ ↦{fullShare} (J.piecewise g f) by rw [hu])) $$ H
    iexists _; iexact H'

theorem aSet_disjoint : Disjoint (aSet 0) (aSet 1) :=
  Finset.disjoint_left.mpr fun j h h' => by
    simp only [aSet, Finset.mem_filter, Finset.mem_univ, true_and] at h h'; rw [h] at h'; exact absurd h' (by decide)
theorem aSet_cover : aSet 0 ∪ aSet 1 = Finset.univ := by
  ext j
  have h : (j 0).val < 2 := (j 0).isLt
  simp only [aSet, Finset.mem_union, Finset.mem_filter, Finset.mem_univ, true_and, iff_true]
  show (j 0).val = 0 ∨ (j 0).val = 1
  omega
theorem bSet_disjoint : Disjoint (bSet 0) (bSet 1) :=
  Finset.disjoint_left.mpr fun j h h' => by
    simp only [bSet, Finset.mem_filter, Finset.mem_univ, true_and] at h h'; rw [h] at h'; exact absurd h' (by decide)
theorem bSet_cover : bSet 0 ∪ bSet 1 = Finset.univ := by
  ext j
  have h : (j 0).val < 2 := (j 0).isLt
  simp only [bSet, Finset.mem_union, Finset.mem_filter, Finset.mem_univ, true_and, iff_true]
  show (j 0).val = 0 ∨ (j 0).val = 1
  omega

/-- Tile `(c, s)`'s share of the table. -/
abbrev sh (c : Fin 2) (s : Fin 16) : PosShare TreeShare :=
  pieceOf (pieceOf fullShare 2 (by decide) c) 16 (by decide) s

/-- What a tile is handed and what it hands back. -/
def GO : sProp 𝕄 := iprop(xPts (F := F) (xwOf m d) d (sh c s) ∗ iAll (F := F) (iwOf m d) d c s ∗ oAll (F := F) d c s (m (oLoc d)))
def TD : sProp 𝕄 := iprop(xPts (F := F) (xwOf m d) d (sh c s) ∗ iAll (F := F) (iwOf m d) d c s ∗ oDone (F := F) (iwOf m d) (xwOf m d) d c s)

instance GO_storable : BI.Storable (upEmb : UEmb _ 𝕄) (GO m d c s) := by unfold GO; infer_instance
instance TD_storable : BI.Storable (upEmb : UEmb _ 𝕄) (TD m d c s) := by unfold TD; infer_instance

theorem row_lt (hpre : PreOK m) (n : ℕ) : (iwOf m d n).toNat < 32768 := hpre d _

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ GO m d c s
        ∗ scopedBufs (th d c s) ∗ scopedSems0 (th d c s) ∗ owes (th d c s) O W)
      ⊢ wp frame (wpE (defs₀ (F := F)) 𝒱₀ (th d c s) none) Set.univ
          (cc0_gather_kernel (F := F) (coordsV c s) xV (Memref.isWhole_whole _) iV (Memref.isWhole_whole _) oV (Memref.isWhole_whole _)
            aV (Memref.isWhole_whole _) cc0_scoped1 bV (Memref.isWhole_whole _) cc0_scoped3 cc0_scoped4 cc0_scoped5)
          fun _ => iprop(TD m d c s ∗ scopedBufs (th d c s) ∗ scopedSems0 (th d c s)
            ∗ ∃ W', ⌜∀ p ∈ W', p ∈ W ∨ p.2 = none⌝ ∗ owes (th d c s) O W') := by
  rw [(K (F := F)).scopedBufs_V hF d _ _, SparseCore.Cfg.scopedSems0_V (Val := Elt F) d _ _, ownSems0_V, ownBufs_V]
  unfold GO TD
  iintro ⟨#Hlv, -, ⟨Hx, Hi, Ho⟩, ⟨Ha, Hb, Hbufs⟩, ⟨Ha0, Ha1, Hb0, Hb1, Hg, Hh, Hsems⟩, HO⟩
  ihave Ha' := (two_slots (F := F) (ℓ := aLoc d c s) (aSet 0) (aSet 1) aSet_disjoint aSet_cover).1 $$ Ha
  ihave Hb' := (two_slots (F := F) (ℓ := bLoc d c s) (bSet 0) (bSet 1) bSet_disjoint bSet_cover).1 $$ Hb
  icases Ha' with ⟨Hp0, Hp1⟩
  icases Hb' with ⟨Hq0, Hq1⟩
  iapply (wp_wand_r frame (wpE (defs₀ (F := F)) 𝒱₀ (th d c s) none) Set.univ)
  isplitl [Hx Hi Ho Hp0 Hp1 Hq0 Hq1 Ha0 Ha1 Hb0 Hb1 Hg Hh HO]
  · iapply (task_ok (F := F) (iwOf m d) (xwOf m d) d c s (row_lt m d hpre) (sh c s) (m (oLoc d)) O hO W)
    isplitr; · iexact Hlv
    isplitl [HO]
    · iexists W
      isplitr
      · ipureintro; exact fun p hp => .inl hp
      iexact HO
    isplitl [Ha0 Ha1 Hb0 Hb1 Hg Hh Hp0 Hp1 Hq0 Hq1 Hx]
    · isplitl [Ha0 Hp0]; · isplitl [Ha0] <;> iassumption
      isplitl [Ha1 Hp1]; · isplitl [Ha1] <;> iassumption
      isplitl [Hb0 Hq0]; · isplitl [Hb0] <;> iassumption
      isplitl [Hb1 Hq1]; · isplitl [Hb1] <;> iassumption
      isplitl [Hg Hh]; · isplitl [Hg] <;> iassumption
      iexact Hx
    isplitl [Hi] <;> iassumption
  iintro %_ ⟨HO, ⟨⟨Ha0, Hp0⟩, ⟨Ha1, Hp1⟩, ⟨Hb0, Hq0⟩, ⟨Hb1, Hq1⟩, ⟨Hg, Hh⟩, Hx⟩, Hi, Ho⟩
  isplitl [Hx Hi Ho]
  · isplitl [Hx]; · iexact Hx
    isplitl [Hi] <;> iassumption
  isplitl [Hp0 Hp1 Hq0 Hq1 Hbufs]
  · isplitl [Hp0 Hp1]
    · iapply (two_slots (F := F) (ℓ := aLoc d c s) (aSet 0) (aSet 1) aSet_disjoint aSet_cover).2
      isplitl [Hp0] <;> iassumption
    isplitl [Hq0 Hq1]
    · iapply (two_slots (F := F) (ℓ := bLoc d c s) (bSet 0) (bSet 1) bSet_disjoint bSet_cover).2
      isplitl [Hq0] <;> iassumption
    iexact Hbufs
  isplitr [HO]
  · isplitl [Ha0]; · iexact Ha0
    isplitl [Ha1]; · iexact Ha1
    isplitl [Hb0]; · iexact Hb0
    isplitl [Hb1]; · iexact Hb1
    isplitl [Hg]; · iexact Hg
    isplitl [Hh]; · iexact Hh
    iexact Hsems
  iexact HO

end Tile

/-! ## What the handshakes carry -/

/-- A core is handed what its sixteen tiles are, each tile its own. -/
def P : (K (F := F)).Pay (nD := nD) (Val := Elt F) (Name := ℕ) (U := UU) where
  st := fun q d c => bigSep Finset.univ fun s : Fin 16 => GO m d (Fin.cast (nCore_eq q) c) s
  dn := fun q d c => bigSep Finset.univ fun s : Fin 16 => TD m d (Fin.cast (nCore_eq q) c) s
  go := fun q d c i => GO m d (Fin.cast (nCore_eq q) c) (Fin.cast (nSub_eq q) i)
  td := fun q d c i => TD m d (Fin.cast (nCore_eq q) c) (Fin.cast (nSub_eq q) i)
  x := fun _ _ => iprop(emp)

instance P_storable : (P (F := F) m).IsStorable where
  st q d c := (inferInstance : BI.Storable (upEmb : UEmb _ 𝕄) (bigSep Finset.univ fun s : Fin 16 => GO m d (Fin.cast (nCore_eq q) c) s))
  dn q d c := (inferInstance : BI.Storable (upEmb : UEmb _ 𝕄) (bigSep Finset.univ fun s : Fin 16 => TD m d (Fin.cast (nCore_eq q) c) s))
  go q d c i := (inferInstance : BI.Storable (upEmb : UEmb _ 𝕄) (GO m d (Fin.cast (nCore_eq q) c) (Fin.cast (nSub_eq q) i)))
  td q d c i := (inferInstance : BI.Storable (upEmb : UEmb _ 𝕄) (TD m d (Fin.cast (nCore_eq q) c) (Fin.cast (nSub_eq q) i)))

theorem defs₀_vector (c : Fin τ.nSC) (s : Fin τ.nSub) :
    defs₀ (F := F) (.scVector c s) 0 ()
      = SparseCore.onTile hcore0 hsub0 (fun c s => cc0_gather_kernel (F := F) (coordsV c s) xV (Memref.isWhole_whole _) iV (Memref.isWhole_whole _) oV (Memref.isWhole_whole _)
            aV (Memref.isWhole_whole _) cc0_scoped1 bV (Memref.isWhole_whole _) cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

theorem vecSplit : (K (F := F)).VecSplit' (P m) 0 := by
  intro d c
  show (bigSep Finset.univ fun s : Fin 16 => GO m d (Fin.cast (nCore_eq 0) c) s) ⊢ |={Set.univ}=> iprop(
      (bigSep Finset.univ fun i : Fin ((K (F := F)).nSub 0) => GO m d (Fin.cast (nCore_eq 0) c) (Fin.cast (nSub_eq 0) i))
      ∗ ((bigSep Finset.univ fun i : Fin ((K (F := F)).nSub 0) => TD m d (Fin.cast (nCore_eq 0) c) (Fin.cast (nSub_eq 0) i))
          -∗ bigSep Finset.univ fun s : Fin 16 => TD m d (Fin.cast (nCore_eq 0) c) s))
  rw [bigSep_tasks (F := F) (fun s => GO m d (Fin.cast (nCore_eq 0) c) s), bigSep_tasks (F := F) (fun s => TD m d (Fin.cast (nCore_eq 0) c) s)]
  iintro H; imodintro
  isplitl [H]; · iexact H
  iintro H; iexact H

/-! ## The windows and the shares of all tiles together -/

omit [FloatOps F] in
/-- The 1152 windows of a buffer, by core, tile and step. -/
theorem pts_win {ℓ : Loc nD τ sig} (φ : Idx ℓ → ℕ) (hφ : ∀ j, φ j < 1152) (I : ℕ → Finset (Idx ℓ)) (hI : ∀ w j, j ∈ I w ↔ φ j = w) (f : Buf (Elt F) ℓ) :
    (ℓ ↦{fullShare} f : sProp 𝕄)
      = bigSep Finset.univ fun c : Fin 2 => bigSep Finset.univ fun s : Fin 16 => bigSep Finset.univ fun u : Fin 36 => ℓ ↦[I (win c s u)]{fullShare} f := by
  have hcover : (Finset.univ : Finset (Fin 2 × Fin 16 × Fin 36)).biUnion (fun t => I (win t.1 t.2.1 t.2.2)) = Finset.univ := by
    ext j
    simp only [Finset.mem_biUnion, Finset.mem_univ, true_and, iff_true]
    have := hφ j
    refine ⟨(⟨φ j % 32 / 16, by omega⟩, ⟨φ j % 16, by omega⟩, ⟨φ j / 32, by omega⟩), (hI _ _).mpr ?_⟩
    show φ j = 32 * (φ j / 32) + 16 * (φ j % 32 / 16) + φ j % 16
    omega
  have hdisj : ∀ t ∈ (Finset.univ : Finset (Fin 2 × Fin 16 × Fin 36)), ∀ t' ∈ (Finset.univ : Finset (Fin 2 × Fin 16 × Fin 36)), t ≠ t' →
      Disjoint (I (win t.1 t.2.1 t.2.2)) (I (win t'.1 t'.2.1 t'.2.2)) := by
    rintro ⟨c, s, u⟩ - ⟨c', s', u'⟩ - hne
    refine Finset.disjoint_left.mpr fun j h h' => hne ?_
    have e := (hI _ _).mp h
    have e' := (hI _ _).mp h'
    change φ j = 32 * u.val + 16 * c.val + s.val at e
    change φ j = 32 * u'.val + 16 * c'.val + s'.val at e'
    have hc : c = c' := Fin.ext (by omega)
    have hs : s = s' := Fin.ext (by omega)
    have hu : u = u' := Fin.ext (by omega)
    rw [hc, hs, hu]
  have h : (ℓ ↦[(Finset.univ : Finset (Fin 2 × Fin 16 × Fin 36)).biUnion (fun t => I (win t.1 t.2.1 t.2.2))]{fullShare} f : sProp 𝕄)
      = bigSep Finset.univ fun t : Fin 2 × Fin 16 × Fin 36 => ℓ ↦[I (win t.1 t.2.1 t.2.2)]{fullShare} f :=
    pointsTo_biUnion Finset.univ _ hdisj
  rw [hcover] at h
  refine h.trans ?_
  rw [BI.bigSep_univ_prod]
  refine bigSep_congr fun c _ => ?_
  rw [BI.bigSep_univ_prod]

theorem div_lt (n : ℕ) (h : n < 147456) : n / 128 < 1152 := by omega

omit [FloatOps F] in
theorem iPts_tiles (d : Dev nD) (f : Buf (Elt F) (iLoc d)) :
    (iLoc d ↦{fullShare} f : sProp 𝕄)
      = bigSep Finset.univ fun c : Fin 2 => bigSep Finset.univ fun s : Fin 16 => bigSep Finset.univ fun u : Fin 36 => iLoc d ↦[iSet (win c s u)]{fullShare} f :=
  pts_win (ℓ := iLoc d) (fun j : S1x147456.Idx => (j 1).val / 128) (fun j => div_lt _ (j 1).isLt) iSet
    (fun w j => by simp [iSet]) f
omit [FloatOps F] in
theorem oPts_tiles (d : Dev nD) (f : Buf (Elt F) (oLoc d)) :
    (oLoc d ↦{fullShare} f : sProp 𝕄)
      = bigSep Finset.univ fun c : Fin 2 => bigSep Finset.univ fun s : Fin 16 => bigSep Finset.univ fun u : Fin 36 => oLoc d ↦[oSet (win c s u)]{fullShare} f :=
  pts_win (ℓ := oLoc d) (fun j : S147456x256.Idx => (j 0).val / 128) (fun j => div_lt _ (j 0).isLt) oSet
    (fun w j => by simp [oSet]) f
omit [FloatOps F] in
theorem xPts_tiles (d : Dev nD) (f : Buf (Elt F) (xLoc d)) :
    (xLoc d ↦{fullShare} f : sProp 𝕄) = bigSep Finset.univ fun c : Fin 2 => bigSep Finset.univ fun s : Fin 16 => xLoc d ↦{sh c s} f :=
  (pointsTo_piecesOf Finset.univ f (by decide : 0 < 2) fullShare).trans
    (bigSep_congr fun c _ => pointsTo_piecesOf Finset.univ f (by decide : 0 < 16) _)

theorem st0_eq (d : Dev nD) : (bigSep Finset.univ fun c : Fin ((K (F := F)).nCore 0) => (P m).st 0 d c)
    = iprop((xLoc d ↦{fullShare} (XV (xwOf m d) : Buf (Elt F) (xLoc d))) ∗ (iLoc d ↦{fullShare} (IV (iwOf m d) : Buf (Elt F) (iLoc d))) ∗ oLoc d ↦{fullShare} m (oLoc d)) := by
  rw [xPts_tiles, iPts_tiles, oPts_tiles, ← bigSep_sep', ← bigSep_sep']
  refine (bigSep_cores (F := F) (fun c => bigSep Finset.univ fun s : Fin 16 => GO m d c s)).trans (bigSep_congr fun c _ => ?_)
  unfold GO
  rw [← bigSep_sep', ← bigSep_sep']
theorem dn0_eq (d : Dev nD) : (bigSep Finset.univ fun c : Fin ((K (F := F)).nCore 0) => (P m).dn 0 d c)
    = iprop((xLoc d ↦{fullShare} (XV (xwOf m d) : Buf (Elt F) (xLoc d))) ∗ (iLoc d ↦{fullShare} (IV (iwOf m d) : Buf (Elt F) (iLoc d)))
        ∗ oLoc d ↦{fullShare} (OV (iwOf m d) (xwOf m d) : Buf (Elt F) (oLoc d))) := by
  rw [xPts_tiles, iPts_tiles, oPts_tiles, ← bigSep_sep', ← bigSep_sep']
  refine (bigSep_cores (F := F) (fun c => bigSep Finset.univ fun s : Fin 16 => TD m d c s)).trans (bigSep_congr fun c _ => ?_)
  unfold TD
  rw [← bigSep_sep', ← bigSep_sep']

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev l' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg1 main_v0 (rfl : (.i32 : EltTy) = .i32) shapeCasts_S147456_S1x147456

/-- The table, the list, the list as the call takes it, the result. -/
abbrev S4 : Finset (DevRef τ sig) := {x', l', i', o'}

omit [FloatOps F] in
theorem held_S4 (d : Dev nD) (W : Valuation τ sig (Elt F)) :
    (held (T d) S4 W : sProp 𝕄)
      = iprop((xLoc d ↦{fullShare} W x') ∗ (lLoc d ↦{fullShare} W l') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  unfold unscopedBufs
  rw [held_S4, show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem held_V1 (d : Dev nD) :
    (held (T d) S4 ((opR (F := F)).result (V0 m d)) : sProp 𝕄)
      = iprop((xLoc d ↦{fullShare} (XV (xwOf m d) : Buf (Elt F) (xLoc d))) ∗ (lLoc d ↦{fullShare} m (lLoc d))
          ∗ (iLoc d ↦{fullShare} (IV (iwOf m d) : Buf (Elt F) (iLoc d))) ∗ oLoc d ↦{fullShare} m (oLoc d)) := by
  have hi : (opR (F := F)).result (V0 m d) i' = (IV (iwOf m d) : Buf (Elt F) (iLoc d)) :=
    (StableHlo.reshape_result' _ _ _ _ _).trans (IV_eq m d shapeCasts_S147456_S1x147456).symm
  rw [held_S4, hi, (opR (F := F)).result_of_not_mem (V0 m d) (b := x') (show x' ∉ ({i'} : Finset (DevRef τ sig)) by decide),
    (opR (F := F)).result_of_not_mem (V0 m d) (b := l') (show l' ∉ ({i'} : Finset (DevRef τ sig)) by decide),
    (opR (F := F)).result_of_not_mem (V0 m d) (b := o') (show o' ∉ ({i'} : Finset (DevRef τ sig)) by decide),
    show V0 m d x' = (XV (xwOf m d) : Buf (Elt F) (xLoc d)) from (XV_eq m d).symm]
  rfl

theorem hR : (opR (F := F)).bufs ⊆ S4 := show ({l', i'} : Finset (DevRef τ sig)) ⊆ S4 by decide

/-- What @main leaves: the table and the list as they were, the result at the rows the list names. -/
abbrev FIN (d : Dev nD) : sProp 𝕄 :=
  iprop((xLoc d ↦{fullShare} m (xLoc d)) ∗ (lLoc d ↦{fullShare} m (lLoc d)) ∗ oLoc d ↦{fullShare} (OV (iwOf m d) (xwOf m d) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Hl, Hi, Ho⟩
  iapply ((K (F := F)).wp_run (D (F := F)) 𝒱 (EH := EH) (P := P m) κ d 0) $$ [Hst Hx Hl Hi Ho Hb Hts]
  isplitr; · iexact Hctx
  isplitl [Hst]; · iexact Hst
  isplitl [Hx Hi Ho]
  · rw [st0_eq]
    isplitl [Hx]; · iexact Hx
    isplitl [Hi] <;> iassumption
  iintro ⟨Hst, Hdn⟩
  ihave Hdn' := (Entails.of_eq (dn0_eq m d)) $$ Hdn
  icases Hdn' with ⟨Hx, -, Ho⟩
  imodintro
  isplitl [Hst]; · iexact Hst
  isplitr [Hb Hts]
  · isplitl [Hx]
    · iapply (Entails.of_eq (congrArg (fun f : Buf (Elt F) (xLoc d) => (xLoc d ↦{fullShare} f : sProp 𝕄)) (XV_eq m d))); iexact Hx
    isplitl [Hl] <;> iassumption
  isplitl [Hb] <;> iassumption

def fq (d : Dev nD) (s' : Phys nD τ sig (Elt F)) : Prop :=
  s'.mem.mem (oLoc d) = (OV (iwOf m d) (xwOf m d) : Buf (Elt F) (oLoc d)) ∧ s'.mem.mem (xLoc d) = m (xLoc d) ∧ s'.mem.mem (lLoc d) = m (lLoc d)

set_option maxRecDepth 16384 in
theorem hfin (d : Dev nD) (s' : Phys nD τ sig (Elt F)) : iprop(FIN m d ∗ SI s') ⊢ (⌜fq m d s'⌝ : sProp 𝕄) := by
  iintro ⟨⟨Hx, Hl, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := oLoc d) (I := Finset.univ) (q := fullShare) (f := (OV (iwOf m d) (xwOf m d) : Buf (Elt F) (oLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = (OV (iwOf m c) (xwOf m c) : Buf (Elt F) (oLoc c)) ∧ r.2.mem (xLoc c) = m (xLoc c) ∧ r.2.mem (lLoc c) = m (lLoc c))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc

end
-- ==== Proof.Ref.lean ====
/-
  The reference: `src[indices]` as jax writes it (a negative index wraps, then a gather of whole rows), run as the host
  operations it is. Where every index is below the number of rows, no index wraps and none is clamped, and row `n` of the
  result is the row of `src` that `indices` names at `n`.
-/
module

public import proofs.«01_k».proof.ReferenceIdeal
public import proofs.«01_k».proof.Pre_rows_in_range
public import proofs.«01_k».proof.Proof.Gen.ReferenceIdeal
public import Idealize.ShloMosaic.Lib.Claim
public import Idealize.ShloMosaic.Lib.ValueIdxCore

@[expose] public section

noncomputable section

namespace Cert.Proof.RefRun

open Cert.ReferenceIdeal Cert.ReferenceIdeal.Gen
open Idealize.ShloMosaic Idealize.ShloMosaic.StableHlo Idealize.SL.Sem
open Idealize.ShloMosaic.ValueIdx (ix1 ix2)

variable {F : FTy → Type} [FloatOps F]

/-! ## The gather of whole rows -/

/-- Element `(n, l)` of the gather is column `l` of the row that start index `n` names, read as a signed number and kept
    inside the table. -/
theorem gather_rows {α : Type} (x : S32768x256.Idx → α) (ix : IVec S147456x1 32) (y : S147456x256.Idx) :
    Host.gather gather_S32768x256_S147456x1_S147456x256_1_0_n_n_0_1_1256 x ix y
      = x (ix2 ⟨min (ix (ix2 (y 0) 0)).toInt.toNat 32767, by omega⟩ (y 1)) := by
  unfold Host.gather
  congr 1
  funext a
  refine Fin.ext ?_
  match a with
  | ⟨0, _⟩ =>
    have hsi : gather_S32768x256_S147456x1_S147456x256_1_0_n_n_0_1_1256.siIdx y ⟨0, by decide⟩ = ix2 (y 0) 0 := by
      funext b
      match b with
      | ⟨0, _⟩ => rfl
      | ⟨1, _⟩ => rfl
    exact congrArg (fun k => min (ix k).toInt.toNat 32767) hsi
  | ⟨1, _⟩ =>
    show _ = (y 1).val
    exact Nat.zero_add _

/-! ## The run -/

/-- The index list after its negative words are wrapped, as one column. -/
def wrapped (l : IVec S147456 32) : IVec S147456x1 32 :=
  broadcastInDim S147456x1 ![0] Facts₀.bcast_S147456_S147456x1_0
    (select (cmpi .slt l (broadcastInDim S147456 ![] Facts₀.bcast_S_S147456 (constantI S_ 32 0#32)))
      (addi l (broadcastInDim S147456 ![] Facts₀.bcast_S_S147456 (constantI S_ 32 32768#32))) l)

variable (m : (ℓ : Loc nD τ sig) → Buf (Elt F) ℓ) (ρ : Dev nD → PrngReg)

theorem run_main : θ_run (defs (F := F)) (onTc (τ := τ) (main (F := F))) ⟨m, fun _ => 0, ρ⟩ fun r =>
    (∀ c : Dev nD,
      r.2.mem ((c.tc : Thread nD τ).loc main_v6)
          = Host.gather gather_S32768x256_S147456x1_S147456x256_1_0_n_n_0_1_1256 (m ((c.tc : Thread nD τ).loc main_arg0))
              (wrapped (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 := by
  refine (θ_run _ _ _).mono (fun r h => ⟨fun c => ⟨?_, ?_, ?_⟩, sem_eq_zero_of_no_sems (by decide) r.2⟩)
    (run_hlo _ _ (by hlo_seq) (by decide) (by decide) (by simp)
      (by intro _ h; (repeat (cases h with | head => rfl | tail _ h => ?_)); exact nomatch h) m ρ)
  · refine (h c main_v6).trans ?_
    after_results
    rfl
  · refine (h c main_arg0).trans ?_
    after_results
  · refine (h c main_arg1).trans ?_
    after_results

/-! ## The result where every index is a row's number -/

theorem wrapped_of_lt (l : IVec S147456 32) (hl : ∀ j, (l j).toNat < 32768) (j : S147456x1.Idx) : wrapped l j = l (ix1 (j 0)) := by
  have hj : ∀ k : S147456.Idx, IntOp.cmpi .slt (l k) 0#32 = 0#1 := by
    intro k
    have := hl k
    have hs : (l k).slt 0#32 = false := by
      rw [BitVec.slt_eq_decide, decide_eq_false_iff_not]
      simp only [BitVec.toInt_eq_toNat_cond, BitVec.toNat_ofNat]
      omega
    simp only [IntOp.cmpi, hs]
    decide
  unfold wrapped
  simp only [broadcastInDim, select, cmpi, addi, constantI, hj]
  refine (if_neg (by decide)).trans (congrArg l ?_)
  funext a
  match a with
  | ⟨0, _⟩ => rfl

theorem gather_of_lt {α : Type} (x : S32768x256.Idx → α) (l : IVec S147456 32) (hl : ∀ j, (l j).toNat < 32768) (y : S147456x256.Idx) :
    Host.gather gather_S32768x256_S147456x1_S147456x256_1_0_n_n_0_1_1256 x (wrapped l) y
      = x (ix2 ⟨(l (ix1 (y 0))).toNat, hl _⟩ (y 1)) := by
  rw [gather_rows]
  have e : wrapped l (ix2 (y 0) 0) = l (ix1 (y 0)) := wrapped_of_lt l hl _
  have := hl (ix1 (y 0))
  have e2 : min (wrapped l (ix2 (y 0) 0)).toInt.toNat 32767 = (l (ix1 (y 0))).toNat := by
    rw [e, BitVec.toInt_eq_toNat_cond]
    omega
  congr 2
  exact Fin.ext e2

/-- The precondition — every index at least 0 and below the number of rows, as jax computes it — read word by word. -/
theorem lt_of_pre [Cert.Pre_rows_in_range.Facts] (x : IVec S32768x256 32) (l : IVec S147456 32)
    (h : Cert.Pre_rows_in_range.fn (F := F) x l = fun _ => 1#1) (j : S147456.Idx) : (l j).toNat < 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h j
  simp only [Cert.Pre_rows_in_range.fn, andi, cmpi, broadcastInDim, constantI] at e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.RefRun

end
-- ==== Proof.Ex.Body.lean ====
/-
  The experts' body at one grid point: what it leaves in its two staged results and in the two scratches that
  carry the current expert's weights.
-/
module

public import proofs.«01_k».proof.ExpertsIdeal
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Frame
public import Idealize.ShloMosaic.Lib.Pipeline.FrameBody
public import Idealize.ShloMosaic.Lib.Pipeline.TableIdle
public import Idealize.ShloMosaic.Lib.VecWindow
public import Idealize.ShloMosaic.Lib.Tactic

@[expose] public section

set_option maxRecDepth 16384

noncomputable section

namespace Cert.Proof.Ex

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.Rounds

variable {F : FTy → Type} [FloatOps F]

local notation "𝕄" => MT nD τ sig Unit (Elt F) ℕ (UR sig nD τ) ℕ

/-- The table of experts and the two weight scratches, as the body is handed them. -/
abbrev tbM : Memref sig .tc .smem S288 .i32 := Memref.whole main_arg1
abbrev scA : Memref sig .tc .vmem S1024x2048 .bf16 := Memref.whole cc0_scratch0
abbrev scB : Memref sig .tc .vmem S1024x1024 .bf16 := Memref.whole cc0_scratch1

/-- The left half of a block's result, from the token block's halves, the two weight blocks and the two bias rows. -/
def outL (x0 x1 : FVec F S512x512 .bf16) (w1 : FVec F S1024x2048 .bf16) (b1 : FVec F S1x1x1x2048 .f32)
    (w2 : FVec F S1024x1024 .bf16) (b2 : FVec F S1x1x1x1024 .f32) : FVec F S512x512 .bf16 :=
  k0_pay2 (k0_pay7 x0 x1 w1 b1) (k0_pay8 x0 x1 w1 b1) (k0_pay9 x0 x1 w1 b1) w2 b2

/-- The right half. -/
def outR (x0 x1 : FVec F S512x512 .bf16) (w1 : FVec F S1024x2048 .bf16) (b1 : FVec F S1x1x1x2048 .f32)
    (w2 : FVec F S1024x1024 .bf16) (b2 : FVec F S1x1x1x1024 .f32) : FVec F S512x512 .bf16 :=
  k0_pay3 (k0_pay7 x0 x1 w1 b1) (k0_pay8 x0 x1 w1 b1) (k0_pay9 x0 x1 w1 b1) w2 b2

/-- What the body tests before it refreshes the scratches. -/
abbrev Fresh (i : grid0.Coords) (T0 : S288.Idx → BitVec 32) : Prop :=
  (Scalar.cmpi .ne (Scalar.extui (Scalar.ori (Scalar.cmpi .eq (BitVec.ofNat 32 (i 0).val) 0#32)
    (Scalar.cmpi .ne
      (View.readAt (Elt F) tbM.view (Rect.unit (s := S288) (k0_off1 i) S1.size (k0_off1_inb i)).toLoadRect T0 (Shape.Idx.first (numel1_S1.symm ▸ Nat.one_pos)))
      (View.readAt (Elt F) tbM.view (Rect.unit (s := S288) (k0_off2 i) S1.size (k0_off2_inb i)).toLoadRect T0 (Shape.Idx.first (numel1_S1.symm ▸ Nat.one_pos)))))) 0#32) = 1#1

section
variable (c : Dev nD) (i : grid0.Coords)
  (arg2 : Memref sig .tc .vmem S512x512 .bf16) (harg2 : arg2.IsWhole) (arg3 : Memref sig .tc .vmem S512x512 .bf16) (harg3 : arg3.IsWhole)
  (arg4 : Memref sig .tc .vmem S1x1x1024x2048 .f32) (harg4 : arg4.IsWhole) (arg5 : Memref sig .tc .vmem S1x1x1x2048 .f32) (harg5 : arg5.IsWhole)
  (arg6 : Memref sig .tc .vmem S1x1x1024x1024 .f32) (harg6 : arg6.IsWhole) (arg7 : Memref sig .tc .vmem S1x1x1x1024 .f32) (harg7 : arg7.IsWhole)
  (arg8 : Memref sig .tc .vmem S512x512 .bf16) (harg8 : arg8.IsWhole) (arg9 : Memref sig .tc .vmem S512x512 .bf16) (harg9 : arg9.IsWhole)
  (T0 : S288.Idx → Elt F .i32)
  (x0 x1 : S512x512.Idx → Elt F .bf16) (x2 : S1x1x1024x2048.Idx → Elt F .f32) (x3 : S1x1x1x2048.Idx → Elt F .f32)
  (x4 : S1x1x1024x1024.Idx → Elt F .f32) (x5 : S1x1x1x1024.Idx → Elt F .f32)

/-- The body's resources: its six staged operands, the table, the two staged results and the two scratches. -/
def res (y6 y7 : S512x512.Idx → Elt F .bf16) (wa : S1024x2048.Idx → Elt F .bf16) (wb : S1024x1024.Idx → Elt F .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ (tbM.view.loc (c : Thread nD τ) ↦{fullShare.right} T0)
    ∗ owns (c : Thread nD τ) arg8 fullShare y6 ∗ owns (c : Thread nD τ) arg9 fullShare y7
    ∗ owns (c : Thread nD τ) scA fullShare wa ∗ owns (c : Thread nD τ) scB fullShare wb)

theorem ldA (f : scA.view.ty.Contents (Elt F)) :
    scA.view.readAt (Elt F) (Rect.unit (s := S1024x2048) ![0, 0] S1024x2048.size inb_S1024x2048_S1024x2048_0_0).toLoadRect f = scA.view.read (Elt F) f := View.readAt_full _ _ _
theorem ldB (f : scB.view.ty.Contents (Elt F)) :
    scB.view.readAt (Elt F) (Rect.unit (s := S1024x1024) ![0, 0] S1024x1024.size inb_S1024x1024_S1024x1024_0_0).toLoadRect f = scB.view.read (Elt F) f := View.readAt_full _ _ _

/-! A load of a staged operand's own sizes reads the operand. -/

theorem ldX (M : Memref sig .tc .vmem S512x512 .bf16) (f : M.view.ty.Contents (Elt F)) :
    M.view.readAt (Elt F) (Rect.unit (s := S512x512) ![0, 0] S512x512.size inb_S512x512_S512x512_0_0).toLoadRect f = M.view.read (Elt F) f := View.readAt_full _ _ _
theorem ldW1 (M : Memref sig .tc .vmem S1x1x1024x2048 .f32) (f : M.view.ty.Contents (Elt F)) :
    M.view.readAt (Elt F) (Rect.unit (s := S1x1x1024x2048) ![0, 0, 0, 0] S1x1x1024x2048.size inb_S1x1x1024x2048_S1x1x1024x2048_0_0_0_0).toLoadRect f = M.view.read (Elt F) f := View.readAt_full _ _ _
theorem ldB1 (M : Memref sig .tc .vmem S1x1x1x2048 .f32) (f : M.view.ty.Contents (Elt F)) :
    M.view.readAt (Elt F) (Rect.unit (s := S1x1x1x2048) ![0, 0, 0, 0] S1x1x1x2048.size inb_S1x1x1x2048_S1x1x1x2048_0_0_0_0).toLoadRect f = M.view.read (Elt F) f := View.readAt_full _ _ _
theorem ldW2 (M : Memref sig .tc .vmem S1x1x1024x1024 .f32) (f : M.view.ty.Contents (Elt F)) :
    M.view.readAt (Elt F) (Rect.unit (s := S1x1x1024x1024) ![0, 0, 0, 0] S1x1x1024x1024.size inb_S1x1x1024x1024_S1x1x1024x1024_0_0_0_0).toLoadRect f = M.view.read (Elt F) f := View.readAt_full _ _ _
theorem ldB2 (M : Memref sig .tc .vmem S1x1x1x1024 .f32) (f : M.view.ty.Contents (Elt F)) :
    M.view.readAt (Elt F) (Rect.unit (s := S1x1x1x1024) ![0, 0, 0, 0] S1x1x1x1024.size inb_S1x1x1x1024_S1x1x1x1024_0_0_0_0).toLoadRect f = M.view.read (Elt F) f := View.readAt_full _ _ _

set_option maxHeartbeats 8000000 in
/-- A point that finds the expert changed (or is the first): both scratches are refreshed, and the block's result is
    computed from the refreshed weights. -/
theorem run_fresh (hc : Fresh (F := F) i T0) (y6 y7 : S512x512.Idx → Elt F .bf16) (wa : S1024x2048.Idx → Elt F .bf16) (wb : S1024x1024.Idx → Elt F .bf16)
    (K : PUnit → sProp 𝕄) :
    iprop(res c arg2 arg3 arg4 arg5 arg6 arg7 arg8 arg9 T0 x0 x1 x2 x3 x4 x5 y6 y7 wa wb
        ∗ (res c arg2 arg3 arg4 arg5 arg6 arg7 arg8 arg9 T0 x0 x1 x2 x3 x4 x5
            (outL x0 x1 (k0_pay4 x2) x3 (k0_pay5 x4) x5) (outR x0 x1 (k0_pay4 x2) x3 (k0_pay5 x4) x5) (k0_pay4 x2) (k0_pay5 x4) -∗ K ⟨⟩))
      ⊢ wp frame (wpE (defs₀ (F := F)) Variants.none c none) Set.univ
          (cc0_experts i tbM (Memref.isWhole_whole _) arg2 harg2 arg3 harg3 arg4 harg4 arg5 harg5 arg6 harg6 arg7 harg7 arg8 harg8 arg9 harg9
            scA (Memref.isWhole_whole _) scB (Memref.isWhole_whole _)) K := by
  unfold res owns
  rw [cc0_experts_eq_skeleton]; unfold cc0_experts_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, ⟨%f6, -, HO6⟩, ⟨%f7, -, HO7⟩, ⟨%fa, -, HS0⟩, ⟨%fb, -, HS1⟩⟩, Hk⟩
  have hS0 : scA.IsWhole := Memref.isWhole_whole _
  have hS1 : scB.IsWhole := Memref.isWhole_whole _
  have hT0 : tbM.IsWhole := Memref.isWhole_whole _
  sl_exec! (disch := first | (guard_target = Scalar.cmpi = _; exact hc))
  have v19 : run_fresh.sl.v19 c arg4 f2 = k0_pay4 x2 := by
    subst e2
    unfold run_fresh.sl.v19 run_fresh.sl.HS0_1
    refine (View.readCov_full _ _ _ _ _).trans ?_
    rw [ldW1]
  have v46 : run_fresh.sl.v46 c arg6 f4 = k0_pay5 x4 := by
    subst e4
    unfold run_fresh.sl.v46 run_fresh.sl.HS1_1
    refine (View.readCov_full _ _ _ _ _).trans ?_
    rw [ldW2]
  have h2 : run_fresh.sl.r_2 c arg2 arg3 arg4 arg5 f0 f1 f2 f3 = k0_pay7 x0 x1 (k0_pay4 x2) x3 := by
    unfold run_fresh.sl.r_2
    rw [ldX, ldX, v19, ldB1, e0, e1, e3]
  have h3 : run_fresh.sl.r_3 c arg2 arg3 arg4 arg5 f0 f1 f2 f3 = k0_pay8 x0 x1 (k0_pay4 x2) x3 := by
    unfold run_fresh.sl.r_3
    rw [ldX, ldX, v19, ldB1, e0, e1, e3]
  have h4 : run_fresh.sl.r_4 c arg2 arg3 arg4 arg5 f0 f1 f2 f3 = k0_pay9 x0 x1 (k0_pay4 x2) x3 := by
    unfold run_fresh.sl.r_4
    rw [ldX, ldX, v19, ldB1, e0, e1, e3]
  have h6 : arg8.view.read (Elt F) (arg8.view.writes (Elt F) arg8.view.junk (run_fresh.sl.HO6_1 c arg2 arg3 arg4 arg5 arg6 arg7 f0 f1 f2 f3 f4 f5)) = outL x0 x1 (k0_pay4 x2) x3 (k0_pay5 x4) x5 := by
    unfold run_fresh.sl.HO6_1
    refine (View.read_writes_full _ _ _ _ _).trans ?_
    rw [ldB2, h2, h3, h4, v46, e5, outL]
  have h7 : arg9.view.read (Elt F) (arg9.view.writes (Elt F) arg9.view.junk (run_fresh.sl.HO7_1 c arg2 arg3 arg4 arg5 arg6 arg7 f0 f1 f2 f3 f4 f5)) = outR x0 x1 (k0_pay4 x2) x3 (k0_pay5 x4) x5 := by
    unfold run_fresh.sl.HO7_1
    refine (View.read_writes_full _ _ _ _ _).trans ?_
    rw [ldB2, h2, h3, h4, v46, e5, outR]
  have h8 : scA.view.read (Elt F) (scA.view.writes (Elt F) scA.view.junk (run_fresh.sl.HS0_1 c arg4 f2)) = k0_pay4 x2 := by
    unfold run_fresh.sl.HS0_1
    refine (View.read_writes_full _ _ _ _ _).trans ?_
    rw [ldW1, e2]
  have h9 : scB.view.read (Elt F) (scB.view.writes (Elt F) scB.view.junk (run_fresh.sl.HS1_1 c arg6 f4)) = k0_pay5 x4 := by
    unfold run_fresh.sl.HS1_1
    refine (View.read_writes_full _ _ _ _ _).trans ?_
    rw [ldW2, e4]
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [HT0]; · iexact HT0
  isplitl [HO6]
  · iexists _; isplitr; swap; · iexact HO6
    ipureintro; exact h6
  isplitl [HO7]
  · iexists _; isplitr; swap; · iexact HO7
    ipureintro; exact h7
  isplitl [HS0]
  · iexists _; isplitr; swap; · iexact HS0
    ipureintro; exact h8
  iexists _; isplitr; swap; · iexact HS1
  ipureintro; exact h9

set_option maxHeartbeats 8000000 in
/-- A point whose expert is the previous point's: the scratches stay, and the block's result is computed from them. -/
theorem run_kept (hc : ¬ Fresh (F := F) i T0) (y6 y7 : S512x512.Idx → Elt F .bf16) (wa : S1024x2048.Idx → Elt F .bf16) (wb : S1024x1024.Idx → Elt F .bf16)
    (K : PUnit → sProp 𝕄) :
    iprop(res c arg2 arg3 arg4 arg5 arg6 arg7 arg8 arg9 T0 x0 x1 x2 x3 x4 x5 y6 y7 wa wb
        ∗ (res c arg2 arg3 arg4 arg5 arg6 arg7 arg8 arg9 T0 x0 x1 x2 x3 x4 x5 (outL x0 x1 wa x3 wb x5) (outR x0 x1 wa x3 wb x5) wa wb -∗ K ⟨⟩))
      ⊢ wp frame (wpE (defs₀ (F := F)) Variants.none c none) Set.univ
          (cc0_experts i tbM (Memref.isWhole_whole _) arg2 harg2 arg3 harg3 arg4 harg4 arg5 harg5 arg6 harg6 arg7 harg7 arg8 harg8 arg9 harg9
            scA (Memref.isWhole_whole _) scB (Memref.isWhole_whole _)) K := by
  unfold res owns
  rw [cc0_experts_eq_skeleton]; unfold cc0_experts_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, ⟨%f6, -, HO6⟩, ⟨%f7, -, HO7⟩, ⟨%fa, %ea, HS0⟩, ⟨%fb, %eb, HS1⟩⟩, Hk⟩
  have hS0 : scA.IsWhole := Memref.isWhole_whole _
  have hS1 : scB.IsWhole := Memref.isWhole_whole _
  have hT0 : tbM.IsWhole := Memref.isWhole_whole _
  sl_exec! (disch := first | (guard_target = ¬ (Scalar.cmpi = _); exact hc))
  have h2 : run_kept.sl.r_2 c arg2 arg3 arg5 f0 f1 f3 fa = k0_pay7 x0 x1 wa x3 := by
    unfold run_kept.sl.r_2
    rw [ldX, ldX, ldA, ldB1, e0, e1, ea, e3]
  have h3 : run_kept.sl.r_3 c arg2 arg3 arg5 f0 f1 f3 fa = k0_pay8 x0 x1 wa x3 := by
    unfold run_kept.sl.r_3
    rw [ldX, ldX, ldA, ldB1, e0, e1, ea, e3]
  have h4 : run_kept.sl.r_4 c arg2 arg3 arg5 f0 f1 f3 fa = k0_pay9 x0 x1 wa x3 := by
    unfold run_kept.sl.r_4
    rw [ldX, ldX, ldA, ldB1, e0, e1, ea, e3]
  have h6 : arg8.view.read (Elt F) (arg8.view.writes (Elt F) arg8.view.junk (run_kept.sl.HO6_1 c arg2 arg3 arg5 arg7 f0 f1 f3 f5 fa fb)) = outL x0 x1 wa x3 wb x5 := by
    unfold run_kept.sl.HO6_1
    refine (View.read_writes_full _ _ _ _ _).trans ?_
    rw [ldB2, ldB, h2, h3, h4, e5, eb, outL]
  have h7 : arg9.view.read (Elt F) (arg9.view.writes (Elt F) arg9.view.junk (run_kept.sl.HO7_1 c arg2 arg3 arg5 arg7 f0 f1 f3 f5 fa fb)) = outR x0 x1 wa x3 wb x5 := by
    unfold run_kept.sl.HO7_1
    refine (View.read_writes_full _ _ _ _ _).trans ?_
    rw [ldB2, ldB, h2, h3, h4, e5, eb, outR]
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [HT0]; · iexact HT0
  isplitl [HO6]
  · iexists _; isplitr; swap; · iexact HO6
    ipureintro; exact h6
  isplitl [HO7]
  · iexists _; isplitr; swap; · iexact HO7
    ipureintro; exact h7
  isplitl [HS0]
  · iexists _; isplitr; swap; · iexact HS0
    ipureintro; exact ea
  iexists _; isplitr; swap; · iexact HS1
  ipureintro; exact eb

end

end Cert.Proof.Ex

end
-- ==== Proof.Ex.Data.lean ====
/-
  The experts' pipeline at any admissible table of experts: the windows' blocks, what the body leaves point by point,
  and what it carries from one point to the next.
-/
module

public import proofs.«01_k».proof.Proof.Ex.Body
public import Idealize.ShloMosaic.Lib.Pipeline.ValueKit

@[expose] public section

set_option maxRecDepth 16384

noncomputable section

namespace Cert.Proof.Ex

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.Rounds

variable {F : FTy → Type} [FloatOps F]

local notation "𝕄" => MT nD τ sig Unit (Elt F) ℕ (UR sig nD τ) ℕ

/-! ## The table's words -/

/-- The index of the table's entry `n`. -/
def cell (n : ℕ) : S288.Idx := fun a => ⟨n % 288, by have : S288.size a = 288 := by { fin_cases a; rfl }
                                                     omega⟩

theorem read1 (T0 : S288.Idx → BitVec 32) (i : grid0.Coords) :
    View.readAt (Elt F) tbM.view (Rect.unit (s := S288) (k0_off1 i) S1.size (k0_off1_inb i)).toLoadRect T0 (Shape.Idx.first (numel1_S1.symm ▸ Nat.one_pos))
      = T0 (cell (i 0).val) := by
  have hi : (i 0).val < 288 := (i 0).isLt
  refine congrArg T0 (funext fun a => Fin.ext ?_)
  have e := congrFun (k0_off1_eq i) a
  fin_cases a
  show k0_off1 i 0 + 1 * 0 = (i 0).val % 288
  rw [show k0_off1 i 0 = (i 0).val from e]
  omega

theorem off2_eq (n : Fin 288) (h : n.val ≠ 0) : (Scalar.indexCast (Scalar.maxsi (Scalar.subi (BitVec.ofNat 32 n.val) 1#32) 0#32)).toNat = n.val - 1 := by
  revert n; decide +kernel

theorem read2 (T0 : S288.Idx → BitVec 32) (i : grid0.Coords) (h : (i 0).val ≠ 0) :
    View.readAt (Elt F) tbM.view (Rect.unit (s := S288) (k0_off2 i) S1.size (k0_off2_inb i)).toLoadRect T0 (Shape.Idx.first (numel1_S1.symm ▸ Nat.one_pos))
      = T0 (cell ((i 0).val - 1)) := by
  have hi : (i 0).val < 288 := (i 0).isLt
  refine congrArg T0 (funext fun a => Fin.ext ?_)
  fin_cases a
  show k0_off2 i 0 + 1 * 0 = ((i 0).val - 1) % 288
  rw [show k0_off2 i 0 = (i 0).val - 1 from off2_eq (i 0) h]
  omega

/-- Where the body keeps its scratches, there is a point before and the table names one expert at both. -/
theorem not_fresh (T0 : S288.Idx → BitVec 32) (i : grid0.Coords) (h : ¬ Fresh (F := F) i T0) :
    ∃ h0 : (i 0).val ≠ 0, T0 (cell (i 0).val) = T0 (cell ((i 0).val - 1)) := by
  have hi : (i 0).val < 288 := (i 0).isLt
  have key : ∀ (n : Fin 288) (u v : BitVec 32), ¬ (Scalar.cmpi .ne (Scalar.extui (Scalar.ori (Scalar.cmpi .eq (BitVec.ofNat 32 n.val) 0#32)
      (Scalar.cmpi .ne u v))) 0#32) = 1#1 → n.val ≠ 0 ∧ u = v := by
    intro n u v hh
    by_cases huv : u = v
    · refine ⟨fun h0 => hh ?_, huv⟩
      rw [h0, huv]
      show IntOp.cmpi .ne (Scalar.extui (IntOp.ori (IntOp.cmpi .eq _ _) (BitVec.ofBool (v != v)))) _ = _
      rw [show (v != v) = false from by simp]
      decide
    · refine absurd ?_ hh
      show IntOp.cmpi .ne (Scalar.extui (IntOp.ori (BitVec.ofBool (BitVec.ofNat 32 n.val == 0#32)) (BitVec.ofBool (u != v)))) _ = _
      rw [show (u != v) = true from by simpa using huv]
      generalize (BitVec.ofNat 32 n.val == 0#32) = b
      cases b <;> decide
  obtain ⟨h0, e⟩ := key (i 0) _ _ h
  exact ⟨h0, (read1 (F := F) T0 i).symm.trans (e.trans (read2 (F := F) T0 i h0))⟩

/-! ## The windows' blocks -/

variable (a : (pcfg0 (F := F)).Adm) (V : (c : Dev nD) → (b : Ref sig .tc) → Buf (Elt F) ((c : Thread nD τ).loc b))

/-- The table. -/
abbrev tab : S288.Idx → BitVec 32 := a.1 0
abbrev crd (t : Fin (cfg0 a).N) : grid0.Coords := grid0.coords t

theorem crd_val (t : Fin (cfg0 a).N) : ((crd a t) 0).val = t.val := by
  have h : t.val < 288 := t.isLt.trans_eq N_0
  rw [crd, Pipeline.Grid.coords_val (S := 1) (B := 288) t 0 (show grid0.stride 0 = 1 by decide) rfl]; omega

/-- Window `w`'s block at point `t`. -/
def blk (c : Dev nD) (w : Fin (cfg0 a).W) (t : Fin (cfg0 a).N) : (((cfg0 a).win w).xblock (crd a t)).Idx → Elt F ((cfg0 a).win w).elt :=
  (((cfg0 a).win w).blk t).view.read (Elt F) (V c (Pipeline.arrRef (cfg0 a).spec w))

/-- The current weights, as the scratches hold them after point `t`. -/
def W1 (c : Dev nD) (t : Fin (cfg0 a).N) : FVec F S1024x2048 .bf16 := k0_pay4 (blk a V c (2 : Fin 8) t)
def W2 (c : Dev nD) (t : Fin (cfg0 a).N) : FVec F S1024x1024 .bf16 := k0_pay5 (blk a V c (4 : Fin 8) t)

/-- What the body leaves in its two staged results. -/
def resL (c : Dev nD) (t : Fin (cfg0 a).N) : FVec F S512x512 .bf16 :=
  outL (blk a V c (0 : Fin 8) t) (blk a V c (1 : Fin 8) t) (W1 a V c t) (blk a V c (3 : Fin 8) t) (W2 a V c t) (blk a V c (5 : Fin 8) t)
def resR (c : Dev nD) (t : Fin (cfg0 a).N) : FVec F S512x512 .bf16 :=
  outR (blk a V c (0 : Fin 8) t) (blk a V c (1 : Fin 8) t) (W1 a V c t) (blk a V c (3 : Fin 8) t) (W2 a V c t) (blk a V c (5 : Fin 8) t)

/-- The invariant before point `t`: after the first point the scratches hold the weights of the point before; the
    table and the generator's register are at hand. -/
def Phi (c : Dev nD) (t : Fin ((cfg0 a).N + 1)) : sProp 𝕄 :=
  iprop((∃ x, ⌜∀ h : t.val ≠ 0, x = W1 a V c ⟨t.val - 1, by omega⟩⌝ ∗ owns (c : Thread nD τ) scA fullShare x)
    ∗ (∃ x, ⌜∀ h : t.val ≠ 0, x = W2 a V c ⟨t.val - 1, by omega⟩⌝ ∗ owns (c : Thread nD τ) scB fullShare x)
    ∗ (tbM.view.loc (c : Thread nD τ) ↦{fullShare.right} tab a) ∗ (∃ r, prngReg c r))

/-- The proof data. -/
def dats (_ : Fin 1) (c : Dev nD) : Dat τ (Elt F) Unit ℕ (UR sig nD τ) ℕ (cfg0 a) c where
  A w := V c (Pipeline.arrRef (cfg0 a).spec w)
  after w t := match w with
    | ⟨0, _⟩ => blk a V c (0 : Fin 8) t
    | ⟨1, _⟩ => blk a V c (1 : Fin 8) t
    | ⟨2, _⟩ => blk a V c (2 : Fin 8) t
    | ⟨3, _⟩ => blk a V c (3 : Fin 8) t
    | ⟨4, _⟩ => blk a V c (4 : Fin 8) t
    | ⟨5, _⟩ => blk a V c (5 : Fin 8) t
    | ⟨6, _⟩ => resL a V c t
    | ⟨7, _⟩ => resR a V c t
  Φ t := Phi a V c t
  q _ := fullShare
  owed _ := 0

theorem before0 (c : Dev nD) (t : Fin (cfg0 a).N) (d) : (dats a V 0 c).before (0 : Fin 8) t d = blk a V c (0 : Fin 8) t :=
  (dats a V 0 c).before_in_eq_fetched (0 : Fin 8) rfl (fun _ => rfl) (fun _ _ _ => rfl) (fun _ => rfl) t d
theorem before1 (c : Dev nD) (t : Fin (cfg0 a).N) (d) : (dats a V 0 c).before (1 : Fin 8) t d = blk a V c (1 : Fin 8) t :=
  (dats a V 0 c).before_in_eq_fetched (1 : Fin 8) rfl (fun _ => rfl) (fun _ _ _ => rfl) (fun _ => rfl) t d
theorem before2 (c : Dev nD) (t : Fin (cfg0 a).N) (d) : (dats a V 0 c).before (2 : Fin 8) t d = blk a V c (2 : Fin 8) t :=
  (dats a V 0 c).before_in_eq_fetched (2 : Fin 8) rfl (fun _ => rfl) (fun _ _ _ => rfl) (fun _ => rfl) t d
theorem before3 (c : Dev nD) (t : Fin (cfg0 a).N) (d) : (dats a V 0 c).before (3 : Fin 8) t d = blk a V c (3 : Fin 8) t :=
  (dats a V 0 c).before_in_eq_fetched (3 : Fin 8) rfl (fun _ => rfl) (fun _ _ _ => rfl) (fun _ => rfl) t d
theorem before4 (c : Dev nD) (t : Fin (cfg0 a).N) (d) : (dats a V 0 c).before (4 : Fin 8) t d = blk a V c (4 : Fin 8) t :=
  (dats a V 0 c).before_in_eq_fetched (4 : Fin 8) rfl (fun _ => rfl) (fun _ _ _ => rfl) (fun _ => rfl) t d
theorem before5 (c : Dev nD) (t : Fin (cfg0 a).N) (d) : (dats a V 0 c).before (5 : Fin 8) t d = blk a V c (5 : Fin 8) t :=
  (dats a V 0 c).before_in_eq_fetched (5 : Fin 8) rfl (fun _ => rfl) (fun _ _ _ => rfl) (fun _ => rfl) t d

/-! ## One expert at two points: one block of weights -/

theorem ix2_eq (t : Fin (cfg0 a).N) : ((cfg0 a).win (2 : Fin 8)).index t = ![0, (tab a (cell t.val)).toNat, 0, 0] := by
  have h : ((cfg0 a).win (2 : Fin 8)).index t = ![0, (View.readAt (Elt F) tbM.view (Rect.unit (s := S288) (k0_off1 (crd a t)) S1.size (k0_off1_inb (crd a t))).toLoadRect (tab a) (Shape.Idx.first (numel1_S1.symm ▸ Nat.one_pos))).toNat, 0, 0] := rfl
  rw [h, read1]; simp only [crd_val]

theorem ix4_eq (t : Fin (cfg0 a).N) : ((cfg0 a).win (4 : Fin 8)).index t = ![0, (tab a (cell t.val)).toNat, 0, 0] := by
  have h : ((cfg0 a).win (4 : Fin 8)).index t = ![0, (View.readAt (Elt F) tbM.view (Rect.unit (s := S288) (k0_off1 (crd a t)) S1.size (k0_off1_inb (crd a t))).toLoadRect (tab a) (Shape.Idx.first (numel1_S1.symm ▸ Nat.one_pos))).toNat, 0, 0] := rfl
  rw [h, read1]; simp only [crd_val]

theorem kept_weights (c : Dev nD) (t : Fin (cfg0 a).N) (h : ¬ Fresh (F := F) (crd a t) (tab a)) :
    ∃ h0 : t.val ≠ 0, W1 a V c ⟨t.val - 1, by omega⟩ = W1 a V c t ∧ W2 a V c ⟨t.val - 1, by omega⟩ = W2 a V c t := by
  obtain ⟨h0, e⟩ := not_fresh _ _ h
  simp only [crd_val] at h0 e
  have e2 := (dats a V 0 c).fetched_congr (2 : Fin 8) (t := t) (t' := ⟨t.val - 1, by omega⟩) (by rw [ix2_eq, ix2_eq, e]) rfl (blk a V c (2 : Fin 8) t)
  have e4 := (dats a V 0 c).fetched_congr (4 : Fin 8) (t := t) (t' := ⟨t.val - 1, by omega⟩) (by rw [ix4_eq, ix4_eq, e]) rfl (blk a V c (4 : Fin 8) t)
  exact ⟨h0, (congrArg k0_pay4 e2).symm, (congrArg k0_pay5 e4).symm⟩

/-! ## The body at a point -/

/-- The body as the pipeline calls it at point `t`. -/
abbrev bodyAt (t : Fin (cfg0 a).N) := cc0_experts (F := F) (crd a t) tbM (Memref.isWhole_whole _) (((cfg0 a).win (0 : Fin 8)).stage ((cfg0 a).slots t (0 : Fin 8))) (hstage0_0 (((cfg0 a).slots t (0 : Fin 8)).cast nbuf0_0)) (((cfg0 a).win (1 : Fin 8)).stage ((cfg0 a).slots t (1 : Fin 8))) (hstage0_1 (((cfg0 a).slots t (1 : Fin 8)).cast nbuf0_1)) (((cfg0 a).win (2 : Fin 8)).stage ((cfg0 a).slots t (2 : Fin 8))) (hstage0_2 (((cfg0 a).slots t (2 : Fin 8)).cast nbuf0_2)) (((cfg0 a).win (3 : Fin 8)).stage ((cfg0 a).slots t (3 : Fin 8))) (hstage0_3 (((cfg0 a).slots t (3 : Fin 8)).cast nbuf0_3)) (((cfg0 a).win (4 : Fin 8)).stage ((cfg0 a).slots t (4 : Fin 8))) (hstage0_4 (((cfg0 a).slots t (4 : Fin 8)).cast nbuf0_4)) (((cfg0 a).win (5 : Fin 8)).stage ((cfg0 a).slots t (5 : Fin 8))) (hstage0_5 (((cfg0 a).slots t (5 : Fin 8)).cast nbuf0_5)) (((cfg0 a).win (6 : Fin 8)).stage ((cfg0 a).slots t (6 : Fin 8))) (hstage0_6 (((cfg0 a).slots t (6 : Fin 8)).cast nbuf0_6)) (((cfg0 a).win (7 : Fin 8)).stage ((cfg0 a).slots t (7 : Fin 8))) (hstage0_7 (((cfg0 a).slots t (7 : Fin 8)).cast nbuf0_7))
  scA (Memref.isWhole_whole _) scB (Memref.isWhole_whole _)

/-- What the body holds at point `t`: the staged blocks, the table, and the results and scratches at the given contents. -/
abbrev resAt (c : Dev nD) (t : Fin (cfg0 a).N) (y6 y7 : S512x512.Idx → Elt F .bf16) (wa : S1024x2048.Idx → Elt F .bf16) (wb : S1024x1024.Idx → Elt F .bf16) : sProp 𝕄 :=
  res c (((cfg0 a).win (0 : Fin 8)).stage ((cfg0 a).slots t (0 : Fin 8))) (((cfg0 a).win (1 : Fin 8)).stage ((cfg0 a).slots t (1 : Fin 8))) (((cfg0 a).win (2 : Fin 8)).stage ((cfg0 a).slots t (2 : Fin 8))) (((cfg0 a).win (3 : Fin 8)).stage ((cfg0 a).slots t (3 : Fin 8))) (((cfg0 a).win (4 : Fin 8)).stage ((cfg0 a).slots t (4 : Fin 8))) (((cfg0 a).win (5 : Fin 8)).stage ((cfg0 a).slots t (5 : Fin 8))) (((cfg0 a).win (6 : Fin 8)).stage ((cfg0 a).slots t (6 : Fin 8))) (((cfg0 a).win (7 : Fin 8)).stage ((cfg0 a).slots t (7 : Fin 8))) (tab a) (blk a V c (0 : Fin 8) t) (blk a V c (1 : Fin 8) t) (blk a V c (2 : Fin 8) t) (blk a V c (3 : Fin 8) t) (blk a V c (4 : Fin 8) t) (blk a V c (5 : Fin 8) t) y6 y7 wa wb

/-- Whatever the results' staging buffers hold, the body leaves the point's results there and the point's weights in the
    scratches. -/
theorem run_at (c : Dev nD) (t : Fin (cfg0 a).N) (y6 y7 : S512x512.Idx → Elt F .bf16) (wa : S1024x2048.Idx → Elt F .bf16) (wb : S1024x1024.Idx → Elt F .bf16)
    (ha : ∀ h : t.val ≠ 0, wa = W1 a V c ⟨t.val - 1, by omega⟩) (hb : ∀ h : t.val ≠ 0, wb = W2 a V c ⟨t.val - 1, by omega⟩) (K : PUnit → sProp 𝕄) :
    iprop(resAt a V c t y6 y7 wa wb ∗ (resAt a V c t (resL a V c t) (resR a V c t) (W1 a V c t) (W2 a V c t) -∗ K ⟨⟩))
      ⊢ wp frame (wpE (defs₀ (F := F)) Variants.none c none) Set.univ (bodyAt a t) K := by
  by_cases hc : Fresh (F := F) (crd a t) (tab a)
  · exact run_fresh c (crd a t) (((cfg0 a).win (0 : Fin 8)).stage ((cfg0 a).slots t (0 : Fin 8))) (hstage0_0 (((cfg0 a).slots t (0 : Fin 8)).cast nbuf0_0)) (((cfg0 a).win (1 : Fin 8)).stage ((cfg0 a).slots t (1 : Fin 8))) (hstage0_1 (((cfg0 a).slots t (1 : Fin 8)).cast nbuf0_1)) (((cfg0 a).win (2 : Fin 8)).stage ((cfg0 a).slots t (2 : Fin 8))) (hstage0_2 (((cfg0 a).slots t (2 : Fin 8)).cast nbuf0_2)) (((cfg0 a).win (3 : Fin 8)).stage ((cfg0 a).slots t (3 : Fin 8))) (hstage0_3 (((cfg0 a).slots t (3 : Fin 8)).cast nbuf0_3)) (((cfg0 a).win (4 : Fin 8)).stage ((cfg0 a).slots t (4 : Fin 8))) (hstage0_4 (((cfg0 a).slots t (4 : Fin 8)).cast nbuf0_4)) (((cfg0 a).win (5 : Fin 8)).stage ((cfg0 a).slots t (5 : Fin 8))) (hstage0_5 (((cfg0 a).slots t (5 : Fin 8)).cast nbuf0_5)) (((cfg0 a).win (6 : Fin 8)).stage ((cfg0 a).slots t (6 : Fin 8))) (hstage0_6 (((cfg0 a).slots t (6 : Fin 8)).cast nbuf0_6)) (((cfg0 a).win (7 : Fin 8)).stage ((cfg0 a).slots t (7 : Fin 8))) (hstage0_7 (((cfg0 a).slots t (7 : Fin 8)).cast nbuf0_7)) (tab a) (blk a V c (0 : Fin 8) t) (blk a V c (1 : Fin 8) t) (blk a V c (2 : Fin 8) t) (blk a V c (3 : Fin 8) t) (blk a V c (4 : Fin 8) t) (blk a V c (5 : Fin 8) t) hc y6 y7 wa wb K
  · obtain ⟨h0, e1, e2⟩ := kept_weights a V c t hc
    obtain rfl : wa = W1 a V c t := (ha h0).trans e1
    obtain rfl : wb = W2 a V c t := (hb h0).trans e2
    exact run_kept c (crd a t) (((cfg0 a).win (0 : Fin 8)).stage ((cfg0 a).slots t (0 : Fin 8))) (hstage0_0 (((cfg0 a).slots t (0 : Fin 8)).cast nbuf0_0)) (((cfg0 a).win (1 : Fin 8)).stage ((cfg0 a).slots t (1 : Fin 8))) (hstage0_1 (((cfg0 a).slots t (1 : Fin 8)).cast nbuf0_1)) (((cfg0 a).win (2 : Fin 8)).stage ((cfg0 a).slots t (2 : Fin 8))) (hstage0_2 (((cfg0 a).slots t (2 : Fin 8)).cast nbuf0_2)) (((cfg0 a).win (3 : Fin 8)).stage ((cfg0 a).slots t (3 : Fin 8))) (hstage0_3 (((cfg0 a).slots t (3 : Fin 8)).cast nbuf0_3)) (((cfg0 a).win (4 : Fin 8)).stage ((cfg0 a).slots t (4 : Fin 8))) (hstage0_4 (((cfg0 a).slots t (4 : Fin 8)).cast nbuf0_4)) (((cfg0 a).win (5 : Fin 8)).stage ((cfg0 a).slots t (5 : Fin 8))) (hstage0_5 (((cfg0 a).slots t (5 : Fin 8)).cast nbuf0_5)) (((cfg0 a).win (6 : Fin 8)).stage ((cfg0 a).slots t (6 : Fin 8))) (hstage0_6 (((cfg0 a).slots t (6 : Fin 8)).cast nbuf0_6)) (((cfg0 a).win (7 : Fin 8)).stage ((cfg0 a).slots t (7 : Fin 8))) (hstage0_7 (((cfg0 a).slots t (7 : Fin 8)).cast nbuf0_7)) (tab a) (blk a V c (0 : Fin 8) t) (blk a V c (1 : Fin 8) t) (blk a V c (2 : Fin 8) t) (blk a V c (3 : Fin 8) t) (blk a V c (4 : Fin 8) t) (blk a V c (5 : Fin 8) t) hc y6 y7 _ _ K

set_option maxHeartbeats 2000000 in
/-- The pipeline's obligation, at every point. -/
theorem obligation (c : Dev nD) : BodyObligation (dats a V 0 c) (defs₀ (F := F)) Variants.none () Set.univ := fun t => by
  rw [bigSep_W0, bigSep_W0]
  simp only [before0, before1, before2, before3, before4, before5]
  show iprop(Phi a V c t.castSucc ∗ _) ⊢ wp frame _ _ (bodyAt a t) fun _ => iprop(Phi a V c t.succ ∗ (dats a V 0 c).owesAt () t.castSucc ∗ _)
  unfold Phi
  iintro ⟨⟨⟨%wa, %ha, HS0⟩, ⟨%wb, %hb, HS1⟩, HT, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at a V c t _ _ wa wb ha hb _)
  unfold resAt res
  isplitl [H0 H1 H2 H3 H4 H5 HT H6 H7 HS0 HS1]
  · isplitl [H0]; · iexact H0
    isplitl [H1]; · iexact H1
    isplitl [H2]; · iexact H2
    isplitl [H3]; · iexact H3
    isplitl [H4]; · iexact H4
    isplitl [H5]; · iexact H5
    isplitl [HT]; · iexact HT
    isplitl [H6]; · iexact H6
    isplitl [H7]; · iexact H7
    isplitl [HS0]; · iexact HS0
    iexact HS1
  iintro ⟨H0, H1, H2, H3, H4, H5, HT, H6, H7, HS0, HS1⟩
  isplitl [HS0 HS1 HT Hp]
  · isplitl [HS0]
    · iexists _; isplitr; swap
      · iexact HS0
      · ipureintro; intro _; rfl
    isplitl [HS1]
    · iexists _; isplitr; swap
      · iexact HS1
      · ipureintro; intro _; rfl
    isplitl [HT]; · iexact HT
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Ex

end
-- ==== Proof.Ex.Launch.lean ====
/-
  The experts' run: from a table whose words are below 32, the six arguments end as they were, the two results hold what
  the pipeline writes back, and every semaphore counter ends at zero.
-/
module

public import proofs.«01_k».proof.Proof.Ex.Data

@[expose] public section

set_option maxRecDepth 16384

noncomputable section

namespace Cert.Proof.Ex

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents at launch. -/
abbrev tbl : S288.Idx → BitVec 32 := m (((0 : Dev nD) : Thread nD τ).loc main_arg1)

/-- Every word of the table names one of the 32 experts. -/
def InRange : Prop := ∀ j, (tbl m j).toNat < 32

def tabs : pre0.Contents (Elt F) := fun | ⟨0, _⟩ => tbl m

theorem word_eq (i : grid0.Coords) :
    (tabs m).at 0 (Rect.unit (s := S288) ![(Scalar.indexCast (BitVec.ofNat 32 (i 0).val)).toNat] S1.size (k0_off1_inb i)) numel1_S1 = tbl m (cell (i 0).val) :=
  read1 (F := F) (tbl m) i

theorem ok (h : InRange m) : ok0 (tabs m) := by
  have hw : ∀ i : grid0.Coords, ((tabs m).at 0 (Rect.unit (s := S288) ![(Scalar.indexCast (BitVec.ofNat 32 (i 0).val)).toNat] S1.size (k0_off1_inb i)) numel1_S1).toNat < 32 :=
    fun i => by rw [word_eq]; exact h _
  refine ⟨fun i => ⟨fun b => ?_, .inl rfl⟩, fun i => ⟨fun b => ?_, .inl rfl⟩, fun i => ⟨fun b => ?_, .inl rfl⟩, fun i => ⟨fun b => ?_, .inl rfl⟩⟩
  all_goals
    have h32 := hw i
    match b with
    | ⟨0, _⟩ => exact (by decide : (0 + 1) * 1 ≤ 2)
    | ⟨1, _⟩ => exact (Nat.mul_one _).trans_le h32
    | ⟨2, _⟩ => exact Nat.le_of_eq (Nat.one_mul _)
    | ⟨3, _⟩ => exact Nat.le_of_eq (Nat.one_mul _)

/-- The table as the pipeline runs at it. -/
def adm (h : InRange m) : (pcfg0 (F := F)).Adm := ⟨tabs m, ok m h⟩

/-- What the call finds in each buffer: the launch contents after the host operations before it. -/
abbrev Vm : (c : Dev nD) → (b : Ref sig .tc) → Buf (Elt F) ((c : Thread nD τ).loc b) :=
  fun c b => StableHlo.after hostOps0 (fun b => m (c, b)) b

/-- The two scratches with the generator's register, as the launch hands them over and takes them back. -/
theorem scratch_eq (c : Dev nD) : (Pipeline.ΦA spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ∗ (∃ r, prngReg c r)) := by
  unfold Pipeline.ΦA; rw [scopedRest0_eq]

/-- The table, as the launch hands it over. -/
theorem table_eq (v : pre0.Contents (Elt F)) (c : Dev nD) : (Pipeline.ΦT pre0 v c : sProp 𝕄) = iprop(((c : Thread nD τ).loc main_arg1) ↦{fullShare.right} v 0) := by
  unfold Pipeline.ΦT Pipeline.prefHeld
  rw [show (Finset.univ : Finset (Fin 1)) = {0} from by decide, bigSep_singleton]
  rfl

theorem own_scA (c : Dev nD) (f : Buf (Elt F) ((c : Thread nD τ).loc cc0_scratch0)) :
    (owns (c : Thread nD τ) scA fullShare f : sProp 𝕄) = iprop(((c : Thread nD τ).loc cc0_scratch0) ↦{fullShare} f) := owns_whole (c : Thread nD τ) cc0_scratch0 fullShare f
theorem own_scB (c : Dev nD) (f : Buf (Elt F) ((c : Thread nD τ).loc cc0_scratch1)) :
    (owns (c : Thread nD τ) scB fullShare f : sProp 𝕄) = iprop(((c : Thread nD τ).loc cc0_scratch1) ↦{fullShare} f) := owns_whole (c : Thread nD τ) cc0_scratch1 fullShare f

theorem phi_in (a : (pcfg0 (F := F)).Adm) (V : (c : Dev nD) → (b : Ref sig .tc) → Buf (Elt F) ((c : Thread nD τ).loc b)) (c : Dev nD) :
    (iprop(Pipeline.ΦA spec0 c ∗ Pipeline.ΦT pre0 a.1 c) : sProp 𝕄) ⊢ Phi a V c 0 := by
  rw [scratch_eq, table_eq]
  unfold Phi
  iintro ⟨⟨⟨⟨%x, HA⟩, ⟨%y, HB⟩⟩, Hp⟩, HT⟩
  isplitl [HA]
  · iexists x; isplitr; swap
    · iapply (Entails.of_eq (own_scA c x).symm); iexact HA
    · ipureintro; intro h; exact absurd rfl h
  isplitl [HB]
  · iexists y; isplitr; swap
    · iapply (Entails.of_eq (own_scB c y).symm); iexact HB
    · ipureintro; intro h; exact absurd rfl h
  isplitl [HT]; · iexact HT
  iexact Hp

theorem phi_out (a : (pcfg0 (F := F)).Adm) (V : (c : Dev nD) → (b : Ref sig .tc) → Buf (Elt F) ((c : Thread nD τ).loc b)) (c : Dev nD)
    (t : Fin ((cfg0 a).N + 1)) : (Phi a V c t : sProp 𝕄) ⊢ Pipeline.ΦA spec0 c := by
  rw [scratch_eq]
  unfold Phi
  iintro ⟨⟨%x, -, HA⟩, ⟨%y, -, HB⟩, -, Hp⟩
  isplitl [HA HB]
  · isplitl [HA]
    · iexists x; iapply (Entails.of_eq (own_scA c x)); iexact HA
    iexists y; iapply (Entails.of_eq (own_scB c y)); iexact HB
  iexact Hp

/-- The contents of the two results at the end. -/
abbrev endL (h : InRange m) (c : Dev nD) : S147456x512.Idx → Elt F .bf16 := (dats (adm m h) (Vm m) 0 c).arrAt (6 : Fin 8) (cfg0 (adm m h)).N
abbrev endR (h : InRange m) (c : Dev nD) : S147456x512.Idx → Elt F .bf16 := (dats (adm m h) (Vm m) 0 c).arrAt (7 : Fin 8) (cfg0 (adm m h)).N

theorem run_main (h : InRange m) : θ_run (defs (F := F)) (onTc (τ := τ) (main (F := F))) ⟨m, fun _ => 0, ρ⟩ fun r =>
    (∀ c : Dev nD,
      r.2.mem ((c : Thread nD τ).loc main_v6_0) = endL m h c
      ∧ r.2.mem ((c : Thread nD τ).loc main_v6_1) = endR m h c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0 := by
  have v0 : ∀ c, Vm m c main_arg0 = m ((c : Thread nD τ).loc main_arg0) := fun c => by show StableHlo.after _ _ _ = _; after_results
  have v1 : ∀ c, Vm m c main_arg1 = m ((c : Thread nD τ).loc main_arg1) := fun c => by show StableHlo.after _ _ _ = _; after_results
  have v2 : ∀ c, Vm m c main_arg2 = m ((c : Thread nD τ).loc main_arg2) := fun c => by show StableHlo.after _ _ _ = _; after_results
  have v3 : ∀ c, Vm m c main_arg3 = m ((c : Thread nD τ).loc main_arg3) := fun c => by show StableHlo.after _ _ _ = _; after_results
  have v4 : ∀ c, Vm m c main_arg4 = m ((c : Thread nD τ).loc main_arg4) := fun c => by show StableHlo.after _ _ _ = _; after_results
  have v5 : ∀ c, Vm m c main_arg5 = m ((c : Thread nD τ).loc main_arg5) := fun c => by show StableHlo.after _ _ _ = _; after_results
  refine Pipeline.θ_run_frameP_track (pcfgs (F := F)) (fun _ => adm m h) (dats (adm m h) (Vm m)) 0 (launch0 (F := F)) (defs₀ (F := F)) Variants.none m ρ (main (F := F))
    (fun c => (obligation (adm m h) (Vm m) c).loose) (fun c w => by unfold Dat.share; split <;> rfl) (fun _ _ => rfl) (Vm m)
    (Pipeline.hmainP_prefix (pcfgs (F := F)) 0 (defs₀ (F := F)) Variants.none m (main (F := F)) (hostOps0 (F := F)) (hostOps0_sub (F := F)) ⟨rfl, rfl, rfl, rfl, rfl, rfl⟩ (main_chain (F := F)))
    (fun _ _ => rfl) (fun c k => ?_) (fun c => phi_in _ _ c) (fun c => phi_out _ _ c _) _ ?_
  · match k with
    | ⟨0, _⟩ => exact (v1 c).trans (by rw [Subsingleton.elim c 0]; rfl)
  · rintro r ⟨hr, hs⟩
    refine ⟨fun c => ⟨(hr c).1 (6 : Fin 8), (hr c).1 (7 : Fin 8), ?_, ?_, ?_, ?_, ?_, ?_⟩, hs⟩
    · exact ((hr c).2 main_arg0 (Pipeline.mem_restRefs_of (win := spec0) _ rfl (by decide))).trans (v0 c)
    · exact ((hr c).2 main_arg1 (Pipeline.mem_restRefs_of (win := spec0) _ rfl (by decide))).trans (v1 c)
    · exact ((hr c).1 (2 : Fin 8)).trans (((dats (adm m h) (Vm m) 0 c).arrAt_in (2 : Fin 8) rfl _).trans (v2 c))
    · exact ((hr c).2 main_arg3 (Pipeline.mem_restRefs_of (win := spec0) _ rfl (by decide))).trans (v3 c)
    · exact ((hr c).1 (4 : Fin 8)).trans (((dats (adm m h) (Vm m) 0 c).arrAt_in (4 : Fin 8) rfl _).trans (v4 c))
    · exact ((hr c).2 main_arg5 (Pipeline.mem_restRefs_of (win := spec0) _ rfl (by decide))).trans (v5 c)

end Cert.Proof.Ex

end
-- ==== Proof.Ex.Spec.lean ====
/-
  One token row through one expert, at the extended reals: two affine maps around the clamped gated activation. Both
  programs are read as this function of a row and of one expert's weights and biases.
-/
module

public import Idealize.ShloMosaic.PureOps.Ideal.Laws
public import Idealize.ShloMosaic.Lib.ValueIdx

@[expose] public section

noncomputable section

namespace Cert.Proof.Ex

open Idealize.ShloMosaic
open Idealize.ShloMosaic.ValueIdx (ix1 ix2 ix3 ix4)
open scoped BigOperators

/-- The clamp `7`, its negative, the gate's slope `1.702` and `1`, as the programs spell them. -/
def seven : EReal := Ideal.ofBits .f32 0x40E00000#32
def negSeven : EReal := Ideal.ofBits .f32 0xC0E00000#32
def slope : EReal := Ideal.ofBits .f32 0x3FD9DB23#32
def one : EReal := Ideal.ofBits .f32 0x3F800000#32

variable (X : Fin 1024 → EReal) (W : Fin 1024 → Fin 2048 → EReal) (B : Fin 2048 → EReal)
  (W' : Fin 1024 → Fin 1024 → EReal) (B' : Fin 1024 → EReal)

/-- The first affine map. -/
def hid (f : Fin 2048) : EReal := (∑ d, X d * W d f) + B f

/-- The gate's argument: the hidden row's first half, at most `7`. -/
def gate (j : Fin 1024) : EReal := min (hid X W B ⟨j.val, by omega⟩) seven
/-- The other half, between `-7` and `7`. -/
def lin (j : Fin 1024) : EReal := min seven (max negSeven (hid X W B ⟨1024 + j.val, by omega⟩))

/-- The gated activation. -/
def act (j : Fin 1024) : EReal :=
  (gate X W B j * Ideal.div one (one + Ideal.exp (-(slope * gate X W B j)))) * (lin X W B j + one)

/-- The second affine map. -/
def out (q : Fin 1024) : EReal := (∑ j, act X W B j * W' j q) + B' q

/-- Row `n` of the result: the row's block of 512 names the expert, whose weights and biases are the first layer's. -/
def full (x : (⟨2, ![147456, 1024]⟩ : Shape).Idx → EReal) (be : (⟨1, ![288]⟩ : Shape).Idx → BitVec 32)
    (w1 : (⟨4, ![2, 32, 1024, 2048]⟩ : Shape).Idx → EReal) (b1 : (⟨3, ![2, 32, 2048]⟩ : Shape).Idx → EReal)
    (w2 : (⟨4, ![2, 32, 1024, 1024]⟩ : Shape).Idx → EReal) (b2 : (⟨3, ![2, 32, 1024]⟩ : Shape).Idx → EReal)
    (n : Fin 147456) : Fin 1024 → EReal :=
  let e : Fin 32 := ⟨(be (ix1 ⟨n.val / 512, by omega⟩)).toNat % 32, by omega⟩
  out (fun d => x (ix2 n d)) (fun d f => w1 (ix4 0 e d f)) (fun f => b1 (ix3 0 e f)) (fun j q => w2 (ix4 0 e j q)) (fun q => b2 (ix3 0 e q))

end Cert.Proof.Ex

end
-- ==== Proof.Ex.Value.lean ====
/-
  The experts' block values at the extended reals: what the body leaves in its two staged results is, row by row, the
  expert's map of the row.
-/
module

public import proofs.«01_k».proof.Proof.Ex.Spec
public import proofs.«01_k».proof.Proof.Ex.Body
public import Idealize.ShloMosaic.Lib.MatmulPlain
public import Idealize.ShloMosaic.Lib.Pipeline.Value

@[expose] public section

set_option maxRecDepth 16384

noncomputable section

namespace Cert.Proof.Ex

open Cert.ExpertsIdeal Cert.ExpertsIdeal.Gen
open Idealize.ShloMosaic
open Idealize.ShloMosaic.ValueIdx (ix2 ix4 eq_ix2 truncf_apply)
open scoped BigOperators

/-- A row of the token block, from its two halves. -/
def row (x0 x1 : FVec Ideal S512x512 .bf16) (r : Fin 512) (d : Fin 1024) : EReal :=
  if h : d.val < 512 then x0 (ix2 r ⟨d.val, h⟩) else x1 (ix2 r ⟨d.val - 512, by omega⟩)

theorem pay6_apply (x0 x1 : FVec Ideal S512x512 .bf16) (w1 : FVec Ideal S1024x2048 .bf16) (b1 : FVec Ideal S1x1x1x2048 .f32) (r : Fin 512) (f : Fin 2048) :
    k0_pay6 (F := Ideal) x0 x1 w1 b1 (ix2 r f) = hid (row x0 x1 r) (fun d f => w1 (ix2 d f)) (fun f => b1 (ix4 0 0 0 f)) f := by
  unfold k0_pay6 hid
  refine congrArg₂ (fun a b : EReal => a + b) ?_ ?_
  · refine (Ideal.matmul_plain_apply (M := 512) (K := 1024) (N := 2048) none _ w1 _ r f).trans ?_
    refine (congrArg₂ (fun a b : EReal => a + b) Ideal.ofBits_zero_f32 (Finset.sum_congr rfl fun d _ => congrArg (fun a : EReal => a * w1 (ix2 d f)) ?_)).trans (zero_add _)
    refine (truncf_apply (φ := .f32) (ψ := .bf16) _ bitsLt_bf16_f32 _).trans ?_
    unfold row
    split
    · rename_i h
      refine Eq.trans (α := EReal) (concatenate_pair_apply_left (t := S512x1024) (s₁ := S512x512) (s₂ := S512x512) (1 : Fin 2) _ _ _ (ix2 r d) rfl (ix2 r (⟨d.val, h⟩ : Fin 512)) (fun b => ?_)) ?_
      · match b with
        | ⟨0, _⟩ => rfl
        | ⟨1, _⟩ => rfl
      · exact congrFun (shapeCast_self x0 _) _
    · rename_i h
      refine Eq.trans (α := EReal) (concatenate_pair_apply_right (t := S512x1024) (s₁ := S512x512) (s₂ := S512x512) (1 : Fin 2) _ _ _ (ix2 r d) rfl rfl (ix2 r (⟨d.val - 512, by omega⟩ : Fin 512)) (fun b hb => ?_) ?_) ?_
      · match b with
        | ⟨0, _⟩ => rfl
        | ⟨1, _⟩ => exact absurd rfl hb
      · show d.val - 512 + 512 = d.val
        omega
      · exact congrFun (shapeCast_self x1 _) _
  · refine (broadcastTo_apply _ _ (ix2 r f) (ix2 (0 : Fin 1) f) (fun a => ?_)).trans ?_
    · match a with
      | ⟨0, _⟩ => rfl
      | ⟨1, _⟩ => rfl
    · refine shapeCast_apply _ _ _ _ ?_
      rw [Shape.rowMajor_val_four, Shape.rowMajor_val_two]
      show ((0 * 1 + 0) * 1 + 0) * 2048 + f.val = 0 * 2048 + f.val
      omega

theorem pay7_apply (x0 x1 : FVec Ideal S512x512 .bf16) (w1 : FVec Ideal S1024x2048 .bf16) (b1 : FVec Ideal S1x1x1x2048 .f32) (r : Fin 512) (j : Fin 1024) :
    k0_pay7 (F := Ideal) x0 x1 w1 b1 (ix2 r j) = gate (row x0 x1 r) (fun d f => w1 (ix2 d f)) (fun f => b1 (ix4 0 0 0 f)) j := by
  unfold k0_pay7 gate
  refine congrArg (fun a : EReal => min a seven) ?_
  refine (extractStridedSlice_apply _ _ _ (ix2 r j) (ix2 r ⟨j.val, by omega⟩) (fun a => ?_)).trans (pay6_apply ..)
  match a with
  | ⟨0, _⟩ => exact (Nat.zero_add _).symm
  | ⟨1, _⟩ => exact (Nat.zero_add _).symm

theorem pay8_apply (x0 x1 : FVec Ideal S512x512 .bf16) (w1 : FVec Ideal S1024x2048 .bf16) (b1 : FVec Ideal S1x1x1x2048 .f32) (r : Fin 512) (j : Fin 1024) :
    k0_pay8 (F := Ideal) x0 x1 w1 b1 (ix2 r j) = lin (row x0 x1 r) (fun d f => w1 (ix2 d f)) (fun f => b1 (ix4 0 0 0 f)) j := by
  unfold k0_pay8 lin
  refine congrArg (fun a : EReal => min seven (max negSeven a)) ?_
  refine (extractStridedSlice_apply _ _ _ (ix2 r j) (ix2 r ⟨1024 + j.val, by omega⟩) (fun a => ?_)).trans (pay6_apply ..)
  match a with
  | ⟨0, _⟩ => exact (Nat.zero_add _).symm
  | ⟨1, _⟩ => rfl

theorem pay9_apply (x0 x1 : FVec Ideal S512x512 .bf16) (w1 : FVec Ideal S1024x2048 .bf16) (b1 : FVec Ideal S1x1x1x2048 .f32) (r : Fin 512) (j : Fin 1024) :
    k0_pay9 (F := Ideal) x0 x1 w1 b1 (ix2 r j)
      = Ideal.exp (-(slope * gate (row x0 x1 r) (fun d f => w1 (ix2 d f)) (fun f => b1 (ix4 0 0 0 f)) j)) := by
  unfold k0_pay9
  refine congrArg Ideal.exp ?_
  refine Eq.trans (congrArg₂ (fun a b : EReal => a - b) Ideal.ofBits_zero_f32 (congrArg (fun a : EReal => slope * a) (pay7_apply ..))) ?_
  exact zero_sub _

/-- The block's result before its halves are taken. -/
theorem pay1_apply (x0 x1 : FVec Ideal S512x512 .bf16) (w1 : FVec Ideal S1024x2048 .bf16) (b1 : FVec Ideal S1x1x1x2048 .f32)
    (w2 : FVec Ideal S1024x1024 .bf16) (b2 : FVec Ideal S1x1x1x1024 .f32) (r : Fin 512) (q : Fin 1024) :
    k0_pay1 (F := Ideal) (k0_pay7 x0 x1 w1 b1) (k0_pay8 x0 x1 w1 b1) (k0_pay9 x0 x1 w1 b1) w2 b2 (ix2 r q)
      = out (row x0 x1 r) (fun d f => w1 (ix2 d f)) (fun f => b1 (ix4 0 0 0 f)) (fun j q => w2 (ix2 j q)) (fun q => b2 (ix4 0 0 0 q)) q := by
  unfold k0_pay1 out
  refine congrArg₂ (fun a b : EReal => a + b) ?_ ?_
  · refine (Ideal.matmul_plain_apply (M := 512) (K := 1024) (N := 1024) none _ w2 _ r q).trans ?_
    refine (congrArg₂ (fun a b : EReal => a + b) Ideal.ofBits_zero_f32 (Finset.sum_congr rfl fun j _ => congrArg (fun a : EReal => a * w2 (ix2 j q)) ?_)).trans (zero_add _)
    unfold act
    rw [← pay9_apply, ← pay7_apply, ← pay8_apply]
    rfl
  · refine (broadcastTo_apply _ _ (ix2 r q) (ix2 (0 : Fin 1) q) (fun a => ?_)).trans ?_
    · match a with
      | ⟨0, _⟩ => rfl
      | ⟨1, _⟩ => rfl
    · refine shapeCast_apply _ _ _ _ ?_
      rw [Shape.rowMajor_val_four, Shape.rowMajor_val_two]
      show ((0 * 1 + 0) * 1 + 0) * 1024 + q.val = 0 * 1024 + q.val
      omega

theorem outL_apply (x0 x1 : FVec Ideal S512x512 .bf16) (w1 : FVec Ideal S1024x2048 .bf16) (b1 : FVec Ideal S1x1x1x2048 .f32)
    (w2 : FVec Ideal S1024x1024 .bf16) (b2 : FVec Ideal S1x1x1x1024 .f32) (r q : Fin 512) :
    outL (F := Ideal) x0 x1 w1 b1 w2 b2 (ix2 r q)
      = out (row x0 x1 r) (fun d f => w1 (ix2 d f)) (fun f => b1 (ix4 0 0 0 f)) (fun j q => w2 (ix2 j q)) (fun q => b2 (ix4 0 0 0 q)) ⟨q.val, by omega⟩ := by
  unfold outL k0_pay2
  refine (truncf_apply (φ := .f32) (ψ := .bf16) _ bitsLt_bf16_f32 _).trans ?_
  refine (extractStridedSlice_apply _ _ _ (ix2 r q) (ix2 r (⟨q.val, by omega⟩ : Fin 1024)) (fun a => ?_)).trans (pay1_apply ..)
  match a with
  | ⟨0, _⟩ => exact (Nat.zero_add _).symm
  | ⟨1, _⟩ => exact (Nat.zero_add _).symm

theorem outR_apply (x0 x1 : FVec Ideal S512x512 .bf16) (w1 : FVec Ideal S1024x2048 .bf16) (b1 : FVec Ideal S1x1x1x2048 .f32)
    (w2 : FVec Ideal S1024x1024 .bf16) (b2 : FVec Ideal S1x1x1x1024 .f32) (r q : Fin 512) :
    outR (F := Ideal) x0 x1 w1 b1 w2 b2 (ix2 r q)
      = out (row x0 x1 r) (fun d f => w1 (ix2 d f)) (fun f => b1 (ix4 0 0 0 f)) (fun j q => w2 (ix2 j q)) (fun q => b2 (ix4 0 0 0 q)) ⟨512 + q.val, by omega⟩ := by
  unfold outR k0_pay3
  refine (truncf_apply (φ := .f32) (ψ := .bf16) _ bitsLt_bf16_f32 _).trans ?_
  refine (extractStridedSlice_apply _ _ _ (ix2 r q) (ix2 r (⟨512 + q.val, by omega⟩ : Fin 1024)) (fun a => ?_)).trans (pay1_apply ..)
  match a with
  | ⟨0, _⟩ => exact (Nat.zero_add _).symm
  | ⟨1, _⟩ => rfl

theorem pay4_apply (w : FVec Ideal S1x1x1024x2048 .f32) (d : Fin 1024) (f : Fin 2048) : k0_pay4 (F := Ideal) w (ix2 d f) = w (ix4 0 0 d f) := by
  unfold k0_pay4
  refine (congrFun (shapeCast_self _ _) _).trans ?_
  refine shapeCast_apply w _ _ _ ?_
  rw [Shape.rowMajor_val_four, Shape.rowMajor_val_two]
  show ((0 * 1 + 0) * 1024 + d.val) * 2048 + f.val = d.val * 2048 + f.val
  omega

theorem pay5_apply (w : FVec Ideal S1x1x1024x1024 .f32) (d : Fin 1024) (f : Fin 1024) : k0_pay5 (F := Ideal) w (ix2 d f) = w (ix4 0 0 d f) := by
  unfold k0_pay5
  refine (congrFun (shapeCast_self _ _) _).trans ?_
  refine shapeCast_apply w _ _ _ ?_
  rw [Shape.rowMajor_val_four, Shape.rowMajor_val_two]
  show ((0 * 1 + 0) * 1024 + d.val) * 1024 + f.val = d.val * 1024 + f.val
  omega

end Cert.Proof.Ex

end
-- ==== Proof.Ex.Close.lean ====
/-
  The experts' two results at the extended reals: row `n` of each is its half of the expert's map of row `n` of the tokens.
-/
module

public import proofs.«01_k».proof.Proof.Ex.Value
public import proofs.«01_k».proof.Proof.Ex.Launch
public import Idealize.ShloMosaic.Lib.Pipeline.Covers

@[expose] public section

set_option maxRecDepth 16384

noncomputable section

namespace Cert.Proof.Ex

open Cert.ExpertsIdeal Cert.ExpertsIdeal.Gen
open Idealize.ShloMosaic hiding ix1 ix2 ix3 ix4
open Idealize.ShloMosaic.TcCoe
open Idealize.ShloMosaic.ValueIdx (ix1 ix2 ix3 ix4 eq_ix2)
open Idealize.ShloMosaic.Pipeline (Dat Cfg Window)

variable {F : FTy → Type} [FloatOps F]

/-! ## The windows' blocks at coordinates -/

section Blocks
variable (a : (pcfg0 (F := F)).Adm) (V : (c : Dev nD) → (b : Ref sig .tc) → Buf (Elt F) ((c : Thread nD τ).loc b))

/-- The array row that row `r` of point `t`'s block is. -/
def at_ (t : Fin (cfg0 a).N) (r : Fin 512) : Fin 147456 :=
  ⟨512 * t.val + r.val, by
    have h : t.val < 288 := t.isLt.trans_eq N_0
    omega⟩

theorem word_val (t : Fin (cfg0 a).N) : (BitVec.ofNat 32 ((crd a t) 0).val).toNat = t.val := by
  have h : t.val < 288 := t.isLt.trans_eq N_0
  rw [crd_val, BitVec.toNat_ofNat]; omega

theorem ix0_eq (t : Fin (cfg0 a).N) : ((cfg0 a).win (0 : Fin 8)).index t = ![t.val, 0] := by
  rw [show ((cfg0 a).win (0 : Fin 8)).index t = ![(BitVec.ofNat 32 ((crd a t) 0).val).toNat, 0] from rfl, word_val]
theorem ix1_eq (t : Fin (cfg0 a).N) : ((cfg0 a).win (1 : Fin 8)).index t = ![t.val, 0] := by
  rw [show ((cfg0 a).win (1 : Fin 8)).index t = ![(BitVec.ofNat 32 ((crd a t) 0).val).toNat, 0] from rfl, word_val]
theorem ix6_eq (t : Fin (cfg0 a).N) : ((cfg0 a).win (6 : Fin 8)).index t = ![t.val, 0] := by
  rw [show ((cfg0 a).win (6 : Fin 8)).index t = ![(BitVec.ofNat 32 ((crd a t) 0).val).toNat, 0] from rfl, word_val]
theorem ix7_eq (t : Fin (cfg0 a).N) : ((cfg0 a).win (7 : Fin 8)).index t = ![t.val, 0] := by
  rw [show ((cfg0 a).win (7 : Fin 8)).index t = ![(BitVec.ofNat 32 ((crd a t) 0).val).toNat, 0] from rfl, word_val]
theorem ix3_eq (t : Fin (cfg0 a).N) : ((cfg0 a).win (3 : Fin 8)).index t = ![0, (tab a (cell t.val)).toNat, 0, 0] := ix2_eq a t
theorem ix5_eq (t : Fin (cfg0 a).N) : ((cfg0 a).win (5 : Fin 8)).index t = ![0, (tab a (cell t.val)).toNat, 0, 0] := ix4_eq a t

theorem blk0_apply (c : Dev nD) (t : Fin (cfg0 a).N) (r d : Fin 512) :
    blk a V c (0 : Fin 8) t (ix2 r d) = V c main_v1 (ix2 (at_ a t r) d) := by
  refine congrArg (V c main_v1) (funext fun b => Fin.ext ?_)
  refine (Window.rect_emb_val ((cfg0 a).win (0 : Fin 8)) t (ix2 r d) b).trans ?_
  rw [ix0_eq]
  match b with
  | ⟨0, _⟩ => show t.val * 512 + r.val = 512 * t.val + r.val; omega
  | ⟨1, _⟩ => show 0 * 512 + d.val = d.val; omega

theorem blk1_apply (c : Dev nD) (t : Fin (cfg0 a).N) (r d : Fin 512) :
    blk a V c (1 : Fin 8) t (ix2 r d) = V c main_v3 (ix2 (at_ a t r) d) := by
  refine congrArg (V c main_v3) (funext fun b => Fin.ext ?_)
  refine (Window.rect_emb_val ((cfg0 a).win (1 : Fin 8)) t (ix2 r d) b).trans ?_
  rw [ix1_eq]
  match b with
  | ⟨0, _⟩ => show t.val * 512 + r.val = 512 * t.val + r.val; omega
  | ⟨1, _⟩ => show 0 * 512 + d.val = d.val; omega

variable (hr : ∀ j, (tab a j).toNat < 32)

/-- The expert point `t` runs. -/
def exp_ (t : Fin (cfg0 a).N) : Fin 32 := ⟨(tab a (cell t.val)).toNat % 32, by omega⟩

include hr

theorem blk2_apply (c : Dev nD) (t : Fin (cfg0 a).N) (d : Fin 1024) (f : Fin 2048) :
    blk a V c (2 : Fin 8) t (ix4 0 0 d f) = V c main_arg2 (ix4 0 (exp_ a t) d f) := by
  refine congrArg (V c main_arg2) (funext fun b => Fin.ext ?_)
  refine (Window.rect_emb_val ((cfg0 a).win (2 : Fin 8)) t (ix4 0 0 d f) b).trans ?_
  have := hr (cell t.val)
  rw [ix2_eq]
  match b with
  | ⟨0, _⟩ => rfl
  | ⟨1, _⟩ => show (tab a (cell t.val)).toNat * 1 + 0 = (tab a (cell t.val)).toNat % 32; omega
  | ⟨2, _⟩ => show 0 * 1024 + d.val = d.val; omega
  | ⟨3, _⟩ => show 0 * 2048 + f.val = f.val; omega

theorem blk3_apply (c : Dev nD) (t : Fin (cfg0 a).N) (f : Fin 2048) :
    blk a V c (3 : Fin 8) t (ix4 0 0 0 f) = V c main_v4 (ix4 0 (exp_ a t) 0 f) := by
  refine congrArg (V c main_v4) (funext fun b => Fin.ext ?_)
  refine (Window.rect_emb_val ((cfg0 a).win (3 : Fin 8)) t (ix4 0 0 0 f) b).trans ?_
  have := hr (cell t.val)
  rw [ix3_eq]
  match b with
  | ⟨0, _⟩ => rfl
  | ⟨1, _⟩ => show (tab a (cell t.val)).toNat * 1 + 0 = (tab a (cell t.val)).toNat % 32; omega
  | ⟨2, _⟩ => rfl
  | ⟨3, _⟩ => show 0 * 2048 + f.val = f.val; omega

theorem blk4_apply (c : Dev nD) (t : Fin (cfg0 a).N) (d f : Fin 1024) :
    blk a V c (4 : Fin 8) t (ix4 0 0 d f) = V c main_arg4 (ix4 0 (exp_ a t) d f) := by
  refine congrArg (V c main_arg4) (funext fun b => Fin.ext ?_)
  refine (Window.rect_emb_val ((cfg0 a).win (4 : Fin 8)) t (ix4 0 0 d f) b).trans ?_
  have := hr (cell t.val)
  rw [ix4_eq]
  match b with
  | ⟨0, _⟩ => rfl
  | ⟨1, _⟩ => show (tab a (cell t.val)).toNat * 1 + 0 = (tab a (cell t.val)).toNat % 32; omega
  | ⟨2, _⟩ => show 0 * 1024 + d.val = d.val; omega
  | ⟨3, _⟩ => show 0 * 1024 + f.val = f.val; omega

theorem blk5_apply (c : Dev nD) (t : Fin (cfg0 a).N) (f : Fin 1024) :
    blk a V c (5 : Fin 8) t (ix4 0 0 0 f) = V c main_v5 (ix4 0 (exp_ a t) 0 f) := by
  refine congrArg (V c main_v5) (funext fun b => Fin.ext ?_)
  refine (Window.rect_emb_val ((cfg0 a).win (5 : Fin 8)) t (ix4 0 0 0 f) b).trans ?_
  have := hr (cell t.val)
  rw [ix5_eq]
  match b with
  | ⟨0, _⟩ => rfl
  | ⟨1, _⟩ => show (tab a (cell t.val)).toNat * 1 + 0 = (tab a (cell t.val)).toNat % 32; omega
  | ⟨2, _⟩ => rfl
  | ⟨3, _⟩ => show 0 * 1024 + f.val = f.val; omega

end Blocks

/-! ## What the call finds, from the launch contents -/

variable (m : (ℓ : Loc nD τ sig) → Buf (Elt Ideal) ℓ)

theorem V1_apply (c : Dev nD) (n : Fin 147456) (d : Fin 512) :
    Vm m c main_v1 (ix2 n d) = m ((c : Thread nD τ).loc main_arg0) (ix2 n (⟨d.val, by omega⟩ : Fin 1024)) := by
  have e : Vm m c main_v1 = truncf (F := Ideal) (s := S147456x512) (φ := .f32) .bf16 (extractStridedSlice (s := S147456x1024) S147456x512 ![0, 0] (m ((c : Thread nD τ).loc main_arg0)) slices_S147456x1024_S147456x512_0_0) bitsLt_bf16_f32 := by
    show StableHlo.after _ _ _ = _; after_results
  rw [e]
  refine extractStridedSlice_apply (s := S147456x1024) (t := S147456x512) _ (m ((c : Thread nD τ).loc main_arg0)) slices_S147456x1024_S147456x512_0_0 (ix2 n d) (ix2 n (⟨d.val, by omega⟩ : Fin 1024)) (fun b => ?_)
  match b with
  | ⟨0, _⟩ => exact (Nat.zero_add _).symm
  | ⟨1, _⟩ => exact (Nat.zero_add _).symm

theorem V3_apply (c : Dev nD) (n : Fin 147456) (d : Fin 512) :
    Vm m c main_v3 (ix2 n d) = m ((c : Thread nD τ).loc main_arg0) (ix2 n (⟨512 + d.val, by omega⟩ : Fin 1024)) := by
  have e : Vm m c main_v3 = truncf (F := Ideal) (s := S147456x512) (φ := .f32) .bf16 (extractStridedSlice (s := S147456x1024) S147456x512 ![0, 512] (m ((c : Thread nD τ).loc main_arg0)) slices_S147456x1024_S147456x512_0_512) bitsLt_bf16_f32 := by
    show StableHlo.after _ _ _ = _; after_results
  rw [e]
  refine extractStridedSlice_apply (s := S147456x1024) (t := S147456x512) _ (m ((c : Thread nD τ).loc main_arg0)) slices_S147456x1024_S147456x512_0_512 (ix2 n d) (ix2 n (⟨512 + d.val, by omega⟩ : Fin 1024)) (fun b => ?_)
  match b with
  | ⟨0, _⟩ => exact (Nat.zero_add _).symm
  | ⟨1, _⟩ => rfl

theorem V4_apply (c : Dev nD) (e : Fin 32) (f : Fin 2048) :
    Vm m c main_v4 (ix4 0 e 0 f) = m ((c : Thread nD τ).loc main_arg3) (ix3 0 e f) := by
  have h : Vm m c main_v4 = shapeCast S2x32x1x2048 (m ((c : Thread nD τ).loc main_arg3)) shapeCasts_S2x32x2048_S2x32x1x2048 := by
    show StableHlo.after _ _ _ = _; after_results
    rfl
  rw [h]
  refine shapeCast_apply (s := S2x32x2048) (t := S2x32x1x2048) (m ((c : Thread nD τ).loc main_arg3)) _ (ix4 0 e 0 f) (ix3 0 e f) ?_
  rw [Shape.rowMajor_val_four, Shape.rowMajor_val_three]
  show (0 * 32 + e.val) * 2048 + f.val = ((0 * 32 + e.val) * 1 + 0) * 2048 + f.val
  omega

theorem V5_apply (c : Dev nD) (e : Fin 32) (f : Fin 1024) :
    Vm m c main_v5 (ix4 0 e 0 f) = m ((c : Thread nD τ).loc main_arg5) (ix3 0 e f) := by
  have h : Vm m c main_v5 = shapeCast S2x32x1x1024 (m ((c : Thread nD τ).loc main_arg5)) shapeCasts_S2x32x1024_S2x32x1x1024 := by
    show StableHlo.after _ _ _ = _; after_results
    rfl
  rw [h]
  refine shapeCast_apply (s := S2x32x1024) (t := S2x32x1x1024) (m ((c : Thread nD τ).loc main_arg5)) _ (ix4 0 e 0 f) (ix3 0 e f) ?_
  rw [Shape.rowMajor_val_four, Shape.rowMajor_val_three]
  show (0 * 32 + e.val) * 1024 + f.val = ((0 * 32 + e.val) * 1 + 0) * 1024 + f.val
  omega

theorem V_arg2 (c : Dev nD) : Vm m c main_arg2 = m ((c : Thread nD τ).loc main_arg2) := by show StableHlo.after _ _ _ = _; after_results
theorem V_arg4 (c : Dev nD) : Vm m c main_arg4 = m ((c : Thread nD τ).loc main_arg4) := by show StableHlo.after _ _ _ = _; after_results

/-! ## The two results -/

/-- The expert's map of every row, from the launch contents. -/
abbrev fullM (c : Dev nD) : Fin 147456 → Fin 1024 → EReal :=
  full (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A block's rows go through the expert as the arrays' rows do. -/
theorem out_blk (h : InRange m) (c : Dev nD) (t : Fin (cfg0 (adm m h)).N) (r : Fin 512) (q : Fin 1024) :
    out (row (blk (adm m h) (Vm m) c (0 : Fin 8) t) (blk (adm m h) (Vm m) c (1 : Fin 8) t) r)
        (fun d f => W1 (adm m h) (Vm m) c t (ix2 d f)) (fun f => blk (adm m h) (Vm m) c (3 : Fin 8) t (ix4 0 0 0 f))
        (fun j q => W2 (adm m h) (Vm m) c t (ix2 j q)) (fun q => blk (adm m h) (Vm m) c (5 : Fin 8) t (ix4 0 0 0 q)) q
      = fullM m c (at_ (adm m h) t r) q := by
  have ht : t.val < 288 := t.isLt.trans_eq N_0
  have hr : ∀ j, (tab (adm m h) j).toNat < 32 := h
  have he : exp_ (adm m h) t = ⟨(m ((c : Thread nD τ).loc main_arg1) (ix1 (⟨(at_ (adm m h) t r).val / 512, by omega⟩ : Fin 288))).toNat % 32, by omega⟩ := by
    refine Fin.ext (congrArg (fun w : BitVec 32 => w.toNat % 32) ?_)
    rw [Subsingleton.elim c 0]
    refine congrArg (tbl m) (funext fun b => Fin.ext ?_)
    match b with
    | ⟨0, _⟩ => show t.val % 288 = (512 * t.val + r.val) / 512; omega
  unfold fullM full
  rw [← he]
  congr 1
  · funext d
    unfold row
    split
    · rw [blk0_apply, V1_apply]
    · rename_i hd
      rw [blk1_apply, V3_apply]
      refine congrArg (fun k : Fin 1024 => m ((c : Thread nD τ).loc main_arg0) (ix2 _ k)) (Fin.ext ?_)
      show 512 + (d.val - 512) = d.val
      omega
  · funext d f
    unfold W1
    rw [pay4_apply, blk2_apply _ _ hr, V_arg2]
  · funext f
    rw [blk3_apply _ _ hr, V4_apply]
  · funext d f
    unfold W2
    rw [pay5_apply, blk4_apply _ _ hr, V_arg4]
  · funext f
    rw [blk5_apply _ _ hr, V5_apply]

theorem endL_eq (h : InRange m) (c : Dev nD) : endL m h c = fun i => fullM m c (i 0) (⟨(i 1).val, (i 1).isLt.trans (by decide)⟩ : Fin 1024) := by
  refine (dats (adm m h) (Vm m) 0 c).arrAt_eq_of_covers (6 : Fin 8) _ ?_ fun t _ y => ?_
  · refine ((cfg0 (adm m h)).win (6 : Fin 8)).covers_of_indexMap_surj rfl (show ∀ a, 0 < (spec0 (6 : Fin 8)).size a by decide) fun β => ?_
    have h0 : (β (0 : Fin 2)).val < 288 := (β (0 : Fin 2)).isLt.trans_eq (show (147456 + 512 - 1) / 512 = 288 by norm_num)
    have h1 : (β (1 : Fin 2)).val < 1 := (β (1 : Fin 2)).isLt.trans_eq (show (512 + 512 - 1) / 512 = 1 by norm_num)
    refine ⟨fun g => ⟨(β (0 : Fin 2)).val, h0.trans_eq ?_⟩, fun b => ?_⟩
    · match g with
      | ⟨0, _⟩ => rfl
    · match b with
      | ⟨0, _⟩ => show (BitVec.ofNat 32 (β (0 : Fin 2)).val).toNat = (β (0 : Fin 2)).val; rw [BitVec.toNat_ofNat]; omega
      | ⟨1, _⟩ => show 0 = (β (1 : Fin 2)).val; omega
  · have hn : (((cfg0 (adm m h)).win (6 : Fin 8)).blk t).view.emb y = (ix2 (at_ (adm m h) t (y 0)) (y 1) : S147456x512.Idx) := by
      refine funext fun b => Fin.ext ?_
      refine (Window.rect_emb_val ((cfg0 (adm m h)).win (6 : Fin 8)) t y b).trans ?_
      rw [ix6_eq]
      match b with
      | ⟨0, _⟩ => show t.val * 512 + (y (0 : Fin 2)).val = 512 * t.val + (y (0 : Fin 2)).val; omega
      | ⟨1, _⟩ => show 0 * 512 + (y (1 : Fin 2)).val = (y (1 : Fin 2)).val; omega
    refine Eq.trans (α := EReal) ?_ (congrArg (fun i : S147456x512.Idx => fullM m c (i 0) (⟨(i 1).val, (i 1).isLt.trans (by decide)⟩ : Fin 1024)) hn).symm
    show outL _ _ _ _ _ _ y = _
    refine Eq.trans (α := EReal) ((congrArg _ (ValueIdx.eq_ix2 y)).trans (outL_apply _ _ _ _ _ _ (y 0) (y 1))) ?_
    exact out_blk m h c t (y 0) _

theorem endR_eq (h : InRange m) (c : Dev nD) : endR m h c = fun i => fullM m c (i 0) (⟨512 + (i 1).val, Nat.add_lt_add_left (i 1).isLt 512⟩ : Fin 1024) := by
  refine (dats (adm m h) (Vm m) 0 c).arrAt_eq_of_covers (7 : Fin 8) _ ?_ fun t _ y => ?_
  · refine ((cfg0 (adm m h)).win (7 : Fin 8)).covers_of_indexMap_surj rfl (show ∀ a, 0 < (spec0 (7 : Fin 8)).size a by decide) fun β => ?_
    have h0 : (β (0 : Fin 2)).val < 288 := (β (0 : Fin 2)).isLt.trans_eq (show (147456 + 512 - 1) / 512 = 288 by norm_num)
    have h1 : (β (1 : Fin 2)).val < 1 := (β (1 : Fin 2)).isLt.trans_eq (show (512 + 512 - 1) / 512 = 1 by norm_num)
    refine ⟨fun g => ⟨(β (0 : Fin 2)).val, h0.trans_eq ?_⟩, fun b => ?_⟩
    · match g with
      | ⟨0, _⟩ => rfl
    · match b with
      | ⟨0, _⟩ => show (BitVec.ofNat 32 (β (0 : Fin 2)).val).toNat = (β (0 : Fin 2)).val; rw [BitVec.toNat_ofNat]; omega
      | ⟨1, _⟩ => show 0 = (β (1 : Fin 2)).val; omega
  · have hn : (((cfg0 (adm m h)).win (7 : Fin 8)).blk t).view.emb y = (ix2 (at_ (adm m h) t (y 0)) (y 1) : S147456x512.Idx) := by
      refine funext fun b => Fin.ext ?_
      refine (Window.rect_emb_val ((cfg0 (adm m h)).win (7 : Fin 8)) t y b).trans ?_
      rw [ix7_eq]
      match b with
      | ⟨0, _⟩ => show t.val * 512 + (y (0 : Fin 2)).val = 512 * t.val + (y (0 : Fin 2)).val; omega
      | ⟨1, _⟩ => show 0 * 512 + (y (1 : Fin 2)).val = (y (1 : Fin 2)).val; omega
    refine Eq.trans (α := EReal) ?_ (congrArg (fun i : S147456x512.Idx => fullM m c (i 0) (⟨512 + (i 1).val, Nat.add_lt_add_left (i 1).isLt 512⟩ : Fin 1024)) hn).symm
    show outR _ _ _ _ _ _ y = _
    refine Eq.trans (α := EReal) ((congrArg _ (ValueIdx.eq_ix2 y)).trans (outR_apply _ _ _ _ _ _ (y 0) (y 1))) ?_
    exact out_blk m h c t (y 0) _

end Cert.Proof.Ex

end
-- ==== Proof.Ex.Words.lean ====
/-
  The experts' program at the machine's words has the text of the one at the extended reals: its body table and its
  `main` are the other's, so a run of the one is a run of the other.
-/
module

public import proofs.«01_k».proof.Experts
public import proofs.«01_k».proof.Proof.Gen.Experts
public import proofs.«01_k».proof.Proof.Ex.Launch

@[expose] public section

noncomputable section

namespace Cert.Proof.Ex

open Idealize.ShloMosaic Idealize.SL.Sem

theorem bodies_words : Cert.Experts.defs₀ (F := Bits) = Cert.ExpertsIdeal.defs₀ (F := Bits) :=
  congrArg Defs.onTc (funext fun l => funext fun a => match l, a with | 0, (_, _) => rfl)

theorem defs_words : Cert.Experts.defs (F := Bits) = Cert.ExpertsIdeal.defs (F := Bits) :=
  congrArg (Pipeline.defs (Cert.ExpertsIdeal.pcfgs (F := Bits))) bodies_words

set_option maxHeartbeats 1000000 in
theorem main_words : Cert.Experts.main (F := Bits) = Cert.ExpertsIdeal.main (F := Bits) := rfl

/-- The run at the machine's words: from a table in range the arguments end as they were and every counter at zero. -/
theorem run_words (m : (ℓ : Loc Cert.ExpertsIdeal.nD Cert.ExpertsIdeal.τ Cert.ExpertsIdeal.sig) → Buf (Elt Bits) ℓ)
    (ρ : Dev Cert.ExpertsIdeal.nD → PrngReg) (hm : InRange m) :
    θ_run (Cert.Experts.defs (F := Bits)) (onTc (τ := Cert.Experts.τ) (Cert.Experts.main (F := Bits))) ⟨m, fun _ => 0, ρ⟩ fun r =>
      (∀ c : Dev Cert.ExpertsIdeal.nD,
        r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0 := by
  rw [defs_words, main_words]
  exact (θ_run Cert.ExpertsIdeal.defs _ _).mono (fun _ h => ⟨fun c => (h.1 c).2.2, h.2⟩) (run_main (F := Bits) m ρ hm)

end Cert.Proof.Ex

end
-- ==== Proof.Ex.Ref.lean ====
/-
  The experts' reference, run as the host operations it is: the layer's weights and biases are taken for each block's
  expert, and the block's rows go through them.
-/
module

public import proofs.«01_k».proof.ExpertsRefIdeal
public import proofs.«01_k».proof.Pre_experts_in_range
public import proofs.«01_k».proof.Proof.Gen.ExpertsRefIdeal
public import Idealize.ShloMosaic.Lib.Claim
public import Idealize.ShloMosaic.Lib.ValueIdxCore

@[expose] public section

set_option maxRecDepth 16384

noncomputable section

namespace Cert.Proof.ExRef

open Cert.ExpertsRefIdeal Cert.ExpertsRefIdeal.Gen
open Idealize.ShloMosaic Idealize.ShloMosaic.StableHlo Idealize.SL.Sem

variable {F : FTy → Type} [FloatOps F]

/-! ## The result, stage by stage -/

/-- The blocks' experts after negative words are wrapped, as one column. -/
def wrapped (l : IVec S288 32) : IVec S288x1 32 :=
  broadcastInDim S288x1 ![0] Facts₀.bcast_S288_S288x1_0
    (select (cmpi .slt l (broadcastInDim S288 ![] Facts₀.bcast_S_S288 (constantI S_ 32 0#32)))
      (addi l (broadcastInDim S288 ![] Facts₀.bcast_S_S288 (constantI S_ 32 32#32))) l)

/-- The tokens in blocks, and each block's weights and biases. -/
def blocks (x : FVec F S147456x1024 .f32) : FVec F S288x512x1024 .f32 :=
  shapeCast S288x512x1024 x Facts₀.shapeCasts_S147456x1024_S288x512x1024
def up (w : FVec F S2x32x1024x2048 .f32) (l : IVec S288 32) : FVec F S288x1024x2048 .f32 :=
  Host.gather gather_S32x1024x2048_S288x1_S288x1024x2048_12_0_n_n_0_1_110242048
    (shapeCast S32x1024x2048 (extractStridedSlice S1x32x1024x2048 ![0, 0, 0, 0] w Facts₀.slices_S2x32x1024x2048_S1x32x1024x2048_0_0_0_0)
      Facts₀.shapeCasts_S1x32x1024x2048_S32x1024x2048) (wrapped l)
def upBias (b : FVec F S2x32x2048 .f32) (l : IVec S288 32) : FVec F S288x512x2048 .f32 :=
  broadcastInDim S288x512x2048 ![0, 1, 2] Facts₀.bcast_S288x1x2048_S288x512x2048_0_1_2
    (broadcastInDim S288x1x2048 ![0, 2] Facts₀.bcast_S288x2048_S288x1x2048_0_2
      (Host.gather gather_S32x2048_S288x1_S288x2048_1_0_n_n_0_1_12048
        (shapeCast S32x2048 (extractStridedSlice S1x32x2048 ![0, 0, 0] b Facts₀.slices_S2x32x2048_S1x32x2048_0_0_0)
          Facts₀.shapeCasts_S1x32x2048_S32x2048) (wrapped l)))
def down (w : FVec F S2x32x1024x1024 .f32) (l : IVec S288 32) : FVec F S288x1024x1024 .f32 :=
  Host.gather gather_S32x1024x1024_S288x1_S288x1024x1024_12_0_n_n_0_1_110241024
    (shapeCast S32x1024x1024 (extractStridedSlice S1x32x1024x1024 ![0, 0, 0, 0] w Facts₀.slices_S2x32x1024x1024_S1x32x1024x1024_0_0_0_0)
      Facts₀.shapeCasts_S1x32x1024x1024_S32x1024x1024) (wrapped l)
def downBias (b : FVec F S2x32x1024 .f32) (l : IVec S288 32) : FVec F S288x512x1024 .f32 :=
  broadcastInDim S288x512x1024 ![0, 1, 2] Facts₀.bcast_S288x1x1024_S288x512x1024_0_1_2
    (broadcastInDim S288x1x1024 ![0, 2] Facts₀.bcast_S288x1024_S288x1x1024_0_2
      (Host.gather gather_S32x1024_S288x1_S288x1024_1_0_n_n_0_1_11024
        (shapeCast S32x1024 (extractStridedSlice S1x32x1024 ![0, 0, 0] b Facts₀.slices_S2x32x1024_S1x32x1024_0_0_0)
          Facts₀.shapeCasts_S1x32x1024_S32x1024) (wrapped l)))

/-- A scalar at every element. -/
def every (w : BitVec 32) : FVec F S288x512x1024 .f32 :=
  broadcastInDim S288x512x1024 ![] Facts₀.bcast_S_S288x512x1024 (constant S_ .f32 w)

/-- The hidden rows, their gated half and their linear half, and the activation. -/
def hidden (x : FVec F S147456x1024 .f32) (l : IVec S288 32) (w1 : FVec F S2x32x1024x2048 .f32) (b1 : FVec F S2x32x2048 .f32) : FVec F S288x512x2048 .f32 :=
  addf (Host.dotGeneral dot_S288x512x1024_S288x1024x2048_S288x512x2048_2_1_1_2_0_0 none (blocks x) (up w1 l)) (upBias b1 l)
def gated (h : FVec F S288x512x2048 .f32) : FVec F S288x512x1024 .f32 :=
  minimumf (extractStridedSlice S288x512x1024 ![0, 0, 0] h Facts₀.slices_S288x512x2048_S288x512x1024_0_0_0) (every 0x40E00000#32)
def linear (h : FVec F S288x512x2048 .f32) : FVec F S288x512x1024 .f32 :=
  minimumf (every 0x40E00000#32) (maximumf (every 0xC0E00000#32)
    (extractStridedSlice S288x512x1024 ![0, 0, 1024] h Facts₀.slices_S288x512x2048_S288x512x1024_0_0_1024))
def active (h : FVec F S288x512x2048 .f32) : FVec F S288x512x1024 .f32 :=
  mulf (mulf (gated h) (Host.divf (every 0x3F800000#32) (addf (every 0x3F800000#32) (Host.exp (Host.negf (mulf (every 0x3FD9DB23#32) (gated h)))))))
    (addf (linear h) (every 0x3F800000#32))

/-- The rows after the second map, and their two halves. -/
def rows (x : FVec F S147456x1024 .f32) (l : IVec S288 32) (w1 : FVec F S2x32x1024x2048 .f32) (b1 : FVec F S2x32x2048 .f32)
    (w2 : FVec F S2x32x1024x1024 .f32) (b2 : FVec F S2x32x1024 .f32) : FVec F S147456x1024 .f32 :=
  shapeCast S147456x1024 (addf (Host.dotGeneral dot_S288x512x1024_S288x1024x1024_S288x512x1024_2_1_1_2_0_0 none (active (hidden x l w1 b1)) (down w2 l)) (downBias b2 l))
    Facts₀.shapeCasts_S288x512x1024_S147456x1024
def left (y : FVec F S147456x1024 .f32) : FVec F S147456x512 .bf16 :=
  truncf .bf16 (extractStridedSlice S147456x512 ![0, 0] y Facts₀.slices_S147456x1024_S147456x512_0_0) Facts₀.bitsLt_bf16_f32
def right (y : FVec F S147456x1024 .f32) : FVec F S147456x512 .bf16 :=
  truncf .bf16 (extractStridedSlice S147456x512 ![0, 512] y Facts₀.slices_S147456x1024_S147456x512_0_512) Facts₀.bitsLt_bf16_f32

/-! ## The run -/

variable (m : (ℓ : Loc nD τ sig) → Buf (Elt F) ℓ) (ρ : Dev nD → PrngReg)

/-- The rows from the launch contents. -/
def rowsM (c : Dev nD) : FVec F S147456x1024 .f32 :=
  rows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxHeartbeats 4000000 in
theorem run_main : θ_run (defs (F := F)) (onTc (τ := τ) (main (F := F))) ⟨m, fun _ => 0, ρ⟩ fun r =>
    (∀ c : Dev nD,
      r.2.mem ((c.tc : Thread nD τ).loc main_v64) = left (rowsM m c)
      ∧ r.2.mem ((c.tc : Thread nD τ).loc main_v66) = right (rowsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0 := by
  refine (θ_run _ _ _).mono (fun r h => ⟨fun c => ⟨?_, ?_, ?_, ?_, ?_, ?_, ?_, ?_⟩, sem_eq_zero_of_no_sems (by decide) r.2⟩)
    (run_hlo _ _ (by hlo_seq) (by decide) (by decide) (by simp)
      (by intro _ h; (repeat (cases h with | head => rfl | tail _ h => ?_)); exact nomatch h) m ρ)
  · refine (h c main_v64).trans ?_
    after_results
    rfl
  · refine (h c main_v66).trans ?_
    after_results
    rfl
  · refine (h c main_arg0).trans ?_
    after_results
  · refine (h c main_arg1).trans ?_
    after_results
  · refine (h c main_arg2).trans ?_
    after_results
  · refine (h c main_arg3).trans ?_
    after_results
  · refine (h c main_arg4).trans ?_
    after_results
  · refine (h c main_arg5).trans ?_
    after_results

end Cert.Proof.ExRef

end
-- ==== Proof.Ex.RefValue.lean ====
/-
  The experts' reference at the extended reals: where every block's expert is one of the 32, no index wraps and none is
  clamped, and row `n` of the result is the expert's map of row `n` of the tokens.
-/
module

public import proofs.«01_k».proof.Proof.Ex.Spec
public import proofs.«01_k».proof.Proof.Ex.Ref
public import Idealize.ShloMosaic.Lib.StackMember
public import Idealize.ShloMosaic.Lib.Pipeline.Value

@[expose] public section

set_option maxRecDepth 16384

noncomputable section

namespace Cert.Proof.ExRef

open Cert.ExpertsRefIdeal Cert.ExpertsRefIdeal.Gen
open Idealize.ShloMosaic
open Idealize.ShloMosaic.ValueIdx (ix1 ix2 ix3 ix4 truncf_apply)
open Cert.Proof.Ex (hid gate lin act out full seven negSeven slope one)
open scoped BigOperators

/-! ## The gathers -/

theorem gather_up {α : Type} (x : S32x1024x2048.Idx → α) (ix : IVec S288x1 32) (g : Fin 288) (d : Fin 1024) (f : Fin 2048) :
    Host.gather gather_S32x1024x2048_S288x1_S288x1024x2048_12_0_n_n_0_1_110242048 x ix (ix3 g d f)
      = x (ix3 ⟨min (ix (ix2 g 0)).toInt.toNat 31, by omega⟩ d f) := by
  unfold Host.gather
  congr 1
  funext a
  refine Fin.ext ?_
  match a with
  | ⟨0, _⟩ =>
    have hsi : gather_S32x1024x2048_S288x1_S288x1024x2048_12_0_n_n_0_1_110242048.siIdx (ix3 g d f) ⟨0, by decide⟩ = ix2 g 0 := by
      funext b
      match b with
      | ⟨0, _⟩ => rfl
      | ⟨1, _⟩ => rfl
    exact congrArg (fun k => min (ix k).toInt.toNat 31) hsi
  | ⟨1, _⟩ => show _ = d.val; exact Nat.zero_add _
  | ⟨2, _⟩ => show _ = f.val; exact Nat.zero_add _

theorem gather_down {α : Type} (x : S32x1024x1024.Idx → α) (ix : IVec S288x1 32) (g : Fin 288) (d f : Fin 1024) :
    Host.gather gather_S32x1024x1024_S288x1_S288x1024x1024_12_0_n_n_0_1_110241024 x ix (ix3 g d f)
      = x (ix3 ⟨min (ix (ix2 g 0)).toInt.toNat 31, by omega⟩ d f) := by
  unfold Host.gather
  congr 1
  funext a
  refine Fin.ext ?_
  match a with
  | ⟨0, _⟩ =>
    have hsi : gather_S32x1024x1024_S288x1_S288x1024x1024_12_0_n_n_0_1_110241024.siIdx (ix3 g d f) ⟨0, by decide⟩ = ix2 g 0 := by
      funext b
      match b with
      | ⟨0, _⟩ => rfl
      | ⟨1, _⟩ => rfl
    exact congrArg (fun k => min (ix k).toInt.toNat 31) hsi
  | ⟨1, _⟩ => show _ = d.val; exact Nat.zero_add _
  | ⟨2, _⟩ => show _ = f.val; exact Nat.zero_add _

theorem gather_upBias {α : Type} (x : S32x2048.Idx → α) (ix : IVec S288x1 32) (g : Fin 288) (f : Fin 2048) :
    Host.gather gather_S32x2048_S288x1_S288x2048_1_0_n_n_0_1_12048 x ix (ix2 g f)
      = x (ix2 ⟨min (ix (ix2 g 0)).toInt.toNat 31, by omega⟩ f) := by
  unfold Host.gather
  congr 1
  funext a
  refine Fin.ext ?_
  match a with
  | ⟨0, _⟩ =>
    have hsi : gather_S32x2048_S288x1_S288x2048_1_0_n_n_0_1_12048.siIdx (ix2 g f) ⟨0, by decide⟩ = ix2 g 0 := by
      funext b
      match b with
      | ⟨0, _⟩ => rfl
      | ⟨1, _⟩ => rfl
    exact congrArg (fun k => min (ix k).toInt.toNat 31) hsi
  | ⟨1, _⟩ => show _ = f.val; exact Nat.zero_add _

theorem gather_downBias {α : Type} (x : S32x1024.Idx → α) (ix : IVec S288x1 32) (g : Fin 288) (f : Fin 1024) :
    Host.gather gather_S32x1024_S288x1_S288x1024_1_0_n_n_0_1_11024 x ix (ix2 g f)
      = x (ix2 ⟨min (ix (ix2 g 0)).toInt.toNat 31, by omega⟩ f) := by
  unfold Host.gather
  congr 1
  funext a
  refine Fin.ext ?_
  match a with
  | ⟨0, _⟩ =>
    have hsi : gather_S32x1024_S288x1_S288x1024_1_0_n_n_0_1_11024.siIdx (ix2 g f) ⟨0, by decide⟩ = ix2 g 0 := by
      funext b
      match b with
      | ⟨0, _⟩ => rfl
      | ⟨1, _⟩ => rfl
    exact congrArg (fun k => min (ix k).toInt.toNat 31) hsi
  | ⟨1, _⟩ => show _ = f.val; exact Nat.zero_add _

/-! ## The table in range -/

variable (l : IVec S288 32) (hl : ∀ j, (l j).toNat < 32)

/-- Block `g`'s expert. -/
def expert (g : Fin 288) : Fin 32 := ⟨(l (ix1 g)).toNat % 32, by omega⟩

include hl

theorem wrapped_of_lt (g : Fin 288) : wrapped l (ix2 g 0) = l (ix1 g) := by
  have hj : ∀ k : S288.Idx, IntOp.cmpi .slt (l k) 0#32 = 0#1 := by
    intro k
    have := hl k
    have hs : (l k).slt 0#32 = false := by
      rw [BitVec.slt_eq_decide, decide_eq_false_iff_not]
      simp only [BitVec.toInt_eq_toNat_cond, BitVec.toNat_ofNat]
      omega
    simp only [IntOp.cmpi, hs]
    decide
  unfold wrapped
  simp only [broadcastInDim, select, cmpi, addi, constantI, hj]
  refine (if_neg (by decide)).trans (congrArg l ?_)
  funext a
  match a with
  | ⟨0, _⟩ => rfl

theorem start_eq (g : Fin 288) (h : min (wrapped l (ix2 g 0)).toInt.toNat 31 < 32) :
    (⟨min (wrapped l (ix2 g 0)).toInt.toNat 31, h⟩ : Fin 32) = expert l g := by
  refine Fin.ext ?_
  have := hl (ix1 g)
  show min (wrapped l (ix2 g 0)).toInt.toNat 31 = (l (ix1 g)).toNat % 32
  rw [wrapped_of_lt l hl, BitVec.toInt_eq_toNat_cond]
  omega

variable (x : FVec Ideal S147456x1024 .f32) (w1 : FVec Ideal S2x32x1024x2048 .f32) (b1 : FVec Ideal S2x32x2048 .f32)
  (w2 : FVec Ideal S2x32x1024x1024 .f32) (b2 : FVec Ideal S2x32x1024 .f32)

theorem up_apply (g : Fin 288) (d : Fin 1024) (f : Fin 2048) : up w1 l (ix3 g d f) = w1 (ix4 0 (expert l g) d f) := by
  unfold up
  rw [gather_up, start_eq l hl]
  refine (shapeCast_apply (s := S1x32x1024x2048) (t := S32x1024x2048) _ _ (ix3 (expert l g) d f) (ix4 0 (expert l g) d f) ?_).trans ?_
  · rw [Shape.rowMajor_val_four, Shape.rowMajor_val_three]
    show ((0 * 32 + (expert l g).val) * 1024 + d.val) * 2048 + f.val = ((expert l g).val * 1024 + d.val) * 2048 + f.val
    omega
  · refine extractStridedSlice_apply (s := S2x32x1024x2048) (t := S1x32x1024x2048) _ w1 _ (ix4 0 (expert l g) d f) (ix4 0 (expert l g) d f) (fun a => ?_)
    match a with
    | ⟨0, _⟩ => rfl
    | ⟨1, _⟩ => exact (Nat.zero_add _).symm
    | ⟨2, _⟩ => exact (Nat.zero_add _).symm
    | ⟨3, _⟩ => exact (Nat.zero_add _).symm

theorem down_apply (g : Fin 288) (d f : Fin 1024) : down w2 l (ix3 g d f) = w2 (ix4 0 (expert l g) d f) := by
  unfold down
  rw [gather_down, start_eq l hl]
  refine (shapeCast_apply (s := S1x32x1024x1024) (t := S32x1024x1024) _ _ (ix3 (expert l g) d f) (ix4 0 (expert l g) d f) ?_).trans ?_
  · rw [Shape.rowMajor_val_four, Shape.rowMajor_val_three]
    show ((0 * 32 + (expert l g).val) * 1024 + d.val) * 1024 + f.val = ((expert l g).val * 1024 + d.val) * 1024 + f.val
    omega
  · refine extractStridedSlice_apply (s := S2x32x1024x1024) (t := S1x32x1024x1024) _ w2 _ (ix4 0 (expert l g) d f) (ix4 0 (expert l g) d f) (fun a => ?_)
    match a with
    | ⟨0, _⟩ => rfl
    | ⟨1, _⟩ => exact (Nat.zero_add _).symm
    | ⟨2, _⟩ => exact (Nat.zero_add _).symm
    | ⟨3, _⟩ => exact (Nat.zero_add _).symm

theorem upBias_apply (g : Fin 288) (r : Fin 512) (f : Fin 2048) : upBias b1 l (ix3 g r f) = b1 (ix3 0 (expert l g) f) := by
  unfold upBias
  refine (broadcastInDim_apply (s := S288x1x2048) (t := S288x512x2048) _ _ _ (ix3 g r f) (ix3 g 0 f) (fun a => ?_)).trans ?_
  · match a with
    | ⟨0, _⟩ => rfl
    | ⟨1, _⟩ => rfl
    | ⟨2, _⟩ => rfl
  refine (broadcastInDim_apply (s := S288x2048) (t := S288x1x2048) _ _ _ (ix3 g 0 f) (ix2 g f) (fun a => ?_)).trans ?_
  · match a with
    | ⟨0, _⟩ => rfl
    | ⟨1, _⟩ => rfl
  rw [gather_upBias, start_eq l hl]
  refine (shapeCast_apply (s := S1x32x2048) (t := S32x2048) _ _ (ix2 (expert l g) f) (ix3 0 (expert l g) f) ?_).trans ?_
  · rw [Shape.rowMajor_val_three, Shape.rowMajor_val_two]
    show (0 * 32 + (expert l g).val) * 2048 + f.val = (expert l g).val * 2048 + f.val
    omega
  · refine extractStridedSlice_apply (s := S2x32x2048) (t := S1x32x2048) _ b1 _ (ix3 0 (expert l g) f) (ix3 0 (expert l g) f) (fun a => ?_)
    match a with
    | ⟨0, _⟩ => rfl
    | ⟨1, _⟩ => exact (Nat.zero_add _).symm
    | ⟨2, _⟩ => exact (Nat.zero_add _).symm

theorem downBias_apply (g : Fin 288) (r : Fin 512) (f : Fin 1024) : downBias b2 l (ix3 g r f) = b2 (ix3 0 (expert l g) f) := by
  unfold downBias
  refine (broadcastInDim_apply (s := S288x1x1024) (t := S288x512x1024) _ _ _ (ix3 g r f) (ix3 g 0 f) (fun a => ?_)).trans ?_
  · match a with
    | ⟨0, _⟩ => rfl
    | ⟨1, _⟩ => rfl
    | ⟨2, _⟩ => rfl
  refine (broadcastInDim_apply (s := S288x1024) (t := S288x1x1024) _ _ _ (ix3 g 0 f) (ix2 g f) (fun a => ?_)).trans ?_
  · match a with
    | ⟨0, _⟩ => rfl
    | ⟨1, _⟩ => rfl
  rw [gather_downBias, start_eq l hl]
  refine (shapeCast_apply (s := S1x32x1024) (t := S32x1024) _ _ (ix2 (expert l g) f) (ix3 0 (expert l g) f) ?_).trans ?_
  · rw [Shape.rowMajor_val_three, Shape.rowMajor_val_two]
    show (0 * 32 + (expert l g).val) * 1024 + f.val = (expert l g).val * 1024 + f.val
    omega
  · refine extractStridedSlice_apply (s := S2x32x1024) (t := S1x32x1024) _ b2 _ (ix3 0 (expert l g) f) (ix3 0 (expert l g) f) (fun a => ?_)
    match a with
    | ⟨0, _⟩ => rfl
    | ⟨1, _⟩ => exact (Nat.zero_add _).symm
    | ⟨2, _⟩ => exact (Nat.zero_add _).symm

/-! ## The stages at coordinates -/

/-- The array row that row `r` of block `g` is. -/
def rowOf (g : Fin 288) (r : Fin 512) : Fin 147456 := ⟨512 * g.val + r.val, by omega⟩

omit hl in
theorem blocks_apply (g : Fin 288) (r : Fin 512) (d : Fin 1024) : blocks x (ix3 g r d) = x (ix2 (rowOf g r) d) := by
  refine shapeCast_apply (s := S147456x1024) (t := S288x512x1024) x _ (ix3 g r d) (ix2 (rowOf g r) d) ?_
  rw [Shape.rowMajor_val_three, Shape.rowMajor_val_two]
  show (512 * g.val + r.val) * 1024 + d.val = (g.val * 512 + r.val) * 1024 + d.val
  omega

theorem hidden_apply (g : Fin 288) (r : Fin 512) (f : Fin 2048) :
    hidden x l w1 b1 (ix3 g r f)
      = hid (fun d => x (ix2 (rowOf g r) d)) (fun d f => w1 (ix4 0 (expert l g) d f)) (fun f => b1 (ix3 0 (expert l g) f)) f := by
  unfold hidden hid
  refine congrArg₂ (fun a b : EReal => a + b) ?_ (upBias_apply l hl b1 g r f)
  refine (StackMember.dotGeneral_stack_apply (G := 288) (m := 512) (n := 2048) (k := 1024) _ none (blocks x) (up w1 l) g r f).trans ?_
  exact Finset.sum_congr rfl fun d _ => congrArg₂ (fun a b : EReal => a * b) (blocks_apply x g r d) (up_apply l hl w1 g d f)

theorem gated_apply (g : Fin 288) (r : Fin 512) (j : Fin 1024) :
    gated (hidden x l w1 b1) (ix3 g r j)
      = gate (fun d => x (ix2 (rowOf g r) d)) (fun d f => w1 (ix4 0 (expert l g) d f)) (fun f => b1 (ix3 0 (expert l g) f)) j := by
  unfold gated gate
  refine congrArg (fun a : EReal => min a seven) ?_
  refine (extractStridedSlice_apply (s := S288x512x2048) (t := S288x512x1024) _ _ _ (ix3 g r j) (ix3 g r (⟨j.val, by omega⟩ : Fin 2048)) (fun a => ?_)).trans (hidden_apply l hl x w1 b1 g r _)
  match a with
  | ⟨0, _⟩ => exact (Nat.zero_add _).symm
  | ⟨1, _⟩ => exact (Nat.zero_add _).symm
  | ⟨2, _⟩ => exact (Nat.zero_add _).symm

theorem linear_apply (g : Fin 288) (r : Fin 512) (j : Fin 1024) :
    linear (hidden x l w1 b1) (ix3 g r j)
      = lin (fun d => x (ix2 (rowOf g r) d)) (fun d f => w1 (ix4 0 (expert l g) d f)) (fun f => b1 (ix3 0 (expert l g) f)) j := by
  unfold linear lin
  refine congrArg (fun a : EReal => min seven (max negSeven a)) ?_
  refine (extractStridedSlice_apply (s := S288x512x2048) (t := S288x512x1024) _ _ _ (ix3 g r j) (ix3 g r (⟨1024 + j.val, by omega⟩ : Fin 2048)) (fun a => ?_)).trans (hidden_apply l hl x w1 b1 g r _)
  match a with
  | ⟨0, _⟩ => exact (Nat.zero_add _).symm
  | ⟨1, _⟩ => exact (Nat.zero_add _).symm
  | ⟨2, _⟩ => rfl

theorem active_apply (g : Fin 288) (r : Fin 512) (j : Fin 1024) :
    active (hidden x l w1 b1) (ix3 g r j)
      = act (fun d => x (ix2 (rowOf g r) d)) (fun d f => w1 (ix4 0 (expert l g) d f)) (fun f => b1 (ix3 0 (expert l g) f)) j := by
  unfold active act
  rw [← gated_apply l hl x w1 b1 g r j, ← linear_apply l hl x w1 b1 g r j]
  rfl

theorem rows_apply (n : Fin 147456) (q : Fin 1024) : rows x l w1 b1 w2 b2 (ix2 n q) = full x l w1 b1 w2 b2 n q := by
  have hn : rowOf (⟨n.val / 512, by omega⟩ : Fin 288) (⟨n.val % 512, by omega⟩ : Fin 512) = n := Fin.ext (Nat.div_add_mod _ _)
  unfold rows
  refine (shapeCast_apply (s := S288x512x1024) (t := S147456x1024) _ _ (ix2 n q) (ix3 (⟨n.val / 512, by omega⟩ : Fin 288) (⟨n.val % 512, by omega⟩ : Fin 512) q) ?_).trans ?_
  · rw [Shape.rowMajor_val_three, Shape.rowMajor_val_two]
    show (n.val / 512 * 512 + n.val % 512) * 1024 + q.val = n.val * 1024 + q.val
    omega
  · unfold full out
    refine congrArg₂ (fun a b : EReal => a + b) ?_ (downBias_apply l hl b2 _ _ q)
    refine (StackMember.dotGeneral_stack_apply (G := 288) (m := 512) (n := 1024) (k := 1024) _ none (active (hidden x l w1 b1)) (down w2 l) _ _ q).trans ?_
    refine Finset.sum_congr rfl fun j _ => congrArg₂ (fun a b : EReal => a * b) ?_ (down_apply l hl w2 _ j q)
    rw [active_apply l hl, hn]
    rfl

/-! ## The two results -/

theorem left_eq : left (rows x l w1 b1 w2 b2) = fun i => full x l w1 b1 w2 b2 (i 0) (⟨(i 1).val, (i 1).isLt.trans (by decide)⟩ : Fin 1024) := by
  funext i
  refine Eq.trans (α := EReal) ?_ (rows_apply l hl x w1 b1 w2 b2 (i 0) (⟨(i 1).val, (i 1).isLt.trans (by decide)⟩ : Fin 1024))
  refine extractStridedSlice_apply (s := S147456x1024) (t := S147456x512) _ (rows x l w1 b1 w2 b2) Facts₀.slices_S147456x1024_S147456x512_0_0 i _ (fun a => ?_)
  match a with
  | ⟨0, _⟩ => exact (Nat.zero_add _).symm
  | ⟨1, _⟩ => exact (Nat.zero_add _).symm

theorem right_eq : right (rows x l w1 b1 w2 b2) = fun i => full x l w1 b1 w2 b2 (i 0) (⟨512 + (i 1).val, Nat.add_lt_add_left (i 1).isLt 512⟩ : Fin 1024) := by
  funext i
  refine Eq.trans (α := EReal) ?_ (rows_apply l hl x w1 b1 w2 b2 (i 0) (⟨512 + (i 1).val, Nat.add_lt_add_left (i 1).isLt 512⟩ : Fin 1024))
  refine extractStridedSlice_apply (s := S147456x1024) (t := S147456x512) _ (rows x l w1 b1 w2 b2) Facts₀.slices_S147456x1024_S147456x512_0_512 i _ (fun a => ?_)
  match a with
  | ⟨0, _⟩ => exact (Nat.zero_add _).symm
  | ⟨1, _⟩ => rfl

omit hl l x w1 b1 w2 b2 in
/-- The precondition — every block's expert at least 0 and below 32, as jax computes it — read word by word. -/
theorem lt_of_pre {F : FTy → Type} [FloatOps F] [Cert.Pre_experts_in_range.Facts] (x : FVec F S147456x1024 .f32) (l : IVec S288 32)
    (w1 : FVec F S2x32x1024x2048 .f32) (b1 : FVec F S2x32x2048 .f32) (w2 : FVec F S2x32x1024x1024 .f32) (b2 : FVec F S2x32x1024 .f32)
    (h : Cert.Pre_experts_in_range.fn (F := F) x l w1 b1 w2 b2 = fun _ => 1#1) (j : S288.Idx) : (l j).toNat < 32 := by
  have both (p q : Bool) : IntOp.andi (BitVec.ofBool p) (BitVec.ofBool q) = BitVec.ofBool (p && q) := by
    cases p <;> cases q <;> decide
  have holds (p : Bool) : (BitVec.ofBool p = 1#1) ↔ p = true := by cases p <;> decide
  have e := congrFun h j
  simp only [Cert.Pre_experts_in_range.fn, andi, cmpi, broadcastInDim, constantI] at e
  simp only [IntOp.cmpi, both, holds, Bool.and_eq_true, BitVec.sle_eq_decide, BitVec.slt_eq_decide,
    decide_eq_true_eq, BitVec.toInt_eq_toNat_cond, BitVec.toNat_ofNat, Nat.reducePow, Nat.reduceMod] at e
  omega

end Cert.Proof.ExRef

end
-- ==== Proof.A.Spec.lean ====
/-
  The gated short convolution branch at one batch and one time, at the extended reals: a modulated root mean square norm,
  one linear map, a three-tap convolution of a product over time, a second linear map, and a gate. Both programs are read as
  this function of the branch's arrays.
-/
module

public import Idealize.ShloMosaic.PureOps.Ideal.Laws
public import Idealize.ShloMosaic.Lib.ValueIdx

@[expose] public section

noncomputable section

namespace Cert.Proof.A

open Idealize.ShloMosaic
open Idealize.ShloMosaic.ValueIdx (ix1 ix2 ix3 ix4)
open scoped BigOperators

/-- The width `1024`, the norm's epsilon and `1`, as the programs spell them. -/
def count : EReal := Ideal.ofBits .f32 0x44800000#32
def eps : EReal := Ideal.ofBits .f32 0x358637BD#32
def one : EReal := Ideal.ofBits .f32 0x3F800000#32

/-- A row over its root mean square, times the gain, modulated by a scale and a shift. -/
def nrm (X G Sh Sc : Fin 1024 → EReal) (d : Fin 1024) : EReal :=
  X d * Ideal.rsqrt (Ideal.div (∑ k, X k * X k) count + eps) * G d * (one + Sc d) + Sh d

/-- The branch's result from its gate's argument, its linear factor and its convolution at one time. -/
def fin (z : EReal) (B C : Fin 512 → EReal) (W : Fin 512 → EReal) : EReal :=
  Ideal.div one (one + Ideal.exp (-z)) * ∑ j, B j * C j * W j

variable (x : (⟨3, ![16, 2048, 1024]⟩ : Shape).Idx → EReal) (sh sc : (⟨2, ![16, 1024]⟩ : Shape).Idx → EReal)
  (g : (⟨2, ![2, 1024]⟩ : Shape).Idx → EReal) (w : (⟨3, ![2, 1024, 9728]⟩ : Shape).Idx → EReal)
  (cw : (⟨3, ![2, 3, 512]⟩ : Shape).Idx → EReal) (wo : (⟨3, ![2, 512, 1024]⟩ : Shape).Idx → EReal)

/-- The modulated norm of the row at batch `b` and time `t`, with the first layer's gain. -/
def hid (b : Fin 16) (t : Fin 2048) : Fin 1024 → EReal :=
  nrm (fun k => x (ix3 b t k)) (fun k => g (ix2 0 k)) (fun k => sh (ix2 b k)) (fun k => sc (ix2 b k))

/-- The first linear map. -/
def proj (b : Fin 16) (t : Fin 2048) (f : Fin 9728) : EReal := ∑ d, hid x sh sc g b t d * w (ix3 0 d f)

/-- The product that is convolved. -/
def prod (b : Fin 16) (t : Fin 2048) (j : Fin 512) : EReal :=
  proj x sh sc g w b t ⟨512 + j.val, by omega⟩ * proj x sh sc g w b t ⟨1024 + j.val, by omega⟩

/-- The product `k` times earlier, zero before the first time. -/
def past (b : Fin 16) (t : Fin 2048) (k : ℕ) (j : Fin 512) : EReal :=
  if k ≤ t.val then prod x sh sc g w b ⟨t.val - k, by omega⟩ j else 0

/-- The convolution's three taps, the current time's last. -/
def conv (b : Fin 16) (t : Fin 2048) (j : Fin 512) : EReal :=
  cw (ix3 0 0 j) * past x sh sc g w b t 2 j + cw (ix3 0 1 j) * past x sh sc g w b t 1 j + cw (ix3 0 2 j) * past x sh sc g w b t 0 j

/-- The branch's result at batch `b`, time `t` and coordinate `q`. -/
def full (b : Fin 16) (t : Fin 2048) (q : Fin 1024) : EReal :=
  fin (proj x sh sc g w b t ⟨6656 + q.val, by omega⟩) (fun j => proj x sh sc g w b t ⟨j.val, by omega⟩)
    (conv x sh sc g w cw b t) (fun j => wo (ix3 0 j q))

end Cert.Proof.A

end
-- ==== Proof.A.Body.lean ====
/-
  One grid point of the convolution branch as functions of its blocks. The scratch array has eight rows of history and then
  the block's 512 rows; the point stores its products below the history, reads the array one and two rows up, and keeps the
  last eight rows as the next point's history. Where time starts, the history is zero.
-/
module

public import proofs.«01_k».proof.Proof.Gen.BranchAIdeal.Value
public import Idealize.ShloMosaic.Lib.Pipeline.Value
public import Idealize.ShloMosaic.Lib.WritesUnit
public import Idealize.ShloMosaic.Lib.ValueIdx

@[expose] public section

set_option maxRecDepth 16384

noncomputable section

namespace Cert.Proof.A

open Cert.BranchAIdeal Cert.BranchAIdeal.Gen
open Idealize.ShloMosaic
open Idealize.ShloMosaic.ValueIdx (ix2 eq_ix2)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A load through a unit-stride rectangle reads the offset coordinates. -/
theorem ld_at {S : Shape} {α : EltTy → Type} {e : EltTy} (X : S.Idx → α e) (off size : Fin S.rank → Nat) (inb : ∀ a, off a + size a ≤ S.size a)
    (x : (Rect.unit off size inb).shape.Idx) (i : S.Idx) (hi : ∀ a, (i a).val = off a + (x a).val) :
    View.ld X (Rect.unit off size inb) x = X i :=
  congrArg X (funext fun a => Fin.ext (by
    show off a + 1 * (x a).val = (i a).val
    rw [hi a, Nat.one_mul]))

/-- The scratch array once the block's products `u` are stored below the history in `old`. -/
def buf (old : Vec F S520x512 .f32) (u : Vec F S512x512 .f32) : Vec F S520x512 .f32 := fun i =>
  if h : (i 0).val < 8 then old i else u (ix2 ⟨(i 0).val - 8, by have h' : (i 0).val < 520 := (i 0).isLt; show _ < 512; omega⟩ (i 1))

/-- No history: zeros. -/
def blank : Vec F S520x512 .f32 := fun _ => Scalar.ofBits .f32 0x00000000#32

/-- A row of the convolution's taps. -/
abbrev tap0 (x6 : Vec F S3x512 .f32) : Vec F S1x512 .f32 := View.ld x6 (Rect.unit (s := S3x512) ![0, 0] S1x512.size inb_S3x512_S1x512_0_0)
abbrev tap1 (x6 : Vec F S3x512 .f32) : Vec F S1x512 .f32 := View.ld x6 (Rect.unit (s := S3x512) ![1, 0] S1x512.size inb_S3x512_S1x512_1_0)
abbrev tap2 (x6 : Vec F S3x512 .f32) : Vec F S1x512 .f32 := View.ld x6 (Rect.unit (s := S3x512) ![2, 0] S1x512.size inb_S3x512_S1x512_2_0)

/-- The scratch array from two rows, and from one row, above the block. -/
abbrev up2 (s : Vec F S520x512 .f32) : Vec F S512x512 .f32 := View.ld s (Rect.unit (s := S520x512) ![6, 0] S512x512.size inb_S520x512_S512x512_6_0)
abbrev up1 (s : Vec F S520x512 .f32) : Vec F S512x512 .f32 := View.ld s (Rect.unit (s := S520x512) ![7, 0] S512x512.size inb_S520x512_S512x512_7_0)

/-- The point's result block from the history and the input blocks. -/
def outOf (old : Vec F S520x512 .f32) (x0 : Vec F S1x512x1024 .f32) (x1 : Vec F S1x1024 .f32) (x2 x3 : Vec F S1x1x1024 .f32)
    (x4 : Vec F S1024x1536 .bf16) (x5 : Vec F S1024x1024 .bf16) (x6 : Vec F S3x512 .f32) (x7 : Vec F S512x1024 .bf16) : Vec F S1x512x1024 .bf16 :=
  k0_pay1 (k0_pay9 (k0_pay5 x0 x1 x2 x3 x4) (k0_pay6 x0 x1 x2 x3 x4) (tap2 x6) (tap0 x6)
      (up2 (buf old (k0_pay6 x0 x1 x2 x3 x4))) (tap1 x6) (up1 (buf old (k0_pay6 x0 x1 x2 x3 x4))) x7)
    (k0_pay10 (k0_pay3 x0 x1 x2 x3) x5) (Scalar.ofBits .f32 0x3F800000#32)

/-- The array the store of `u` below the history leaves. -/
theorem read_store (v : View sig .tc .vmem S520x512 .f32) (f : v.ty.Contents (Elt F)) (u : Vec F S512x512 .f32)
    (L : List (View.Piece (Elt F) S520x512 .f32)) :
    v.read (Elt F) (v.writes (Elt F) f (⟨Rect.unit ![8, 0] S512x512.size inb_S520x512_S512x512_8_0, u⟩ :: L))
      = buf (v.read (Elt F) (v.writes (Elt F) f L)) u := by
  funext i
  have h' : (i 0).val < 520 := (i 0).isLt
  unfold buf
  split
  · rename_i h
    exact View.read_writes_cons_unit_of_not_mem v f _ u L i rfl (0 : Fin 2) (Or.inl h)
  · rename_i h
    refine View.read_writes_cons_unit_of_mem v f inb_S520x512_S512x512_8_0 u L i _ rfl (fun a => ?_)
    match a with
    | ⟨0, _⟩ => show (i 0).val = 8 + ((i 0).val - 8); omega
    | ⟨1, _⟩ => exact (Nat.zero_add _).symm

/-- The history rows are all `buf` reads of `old`. -/
theorem buf_congr (o o' : Vec F S520x512 .f32) (u : Vec F S512x512 .f32) (h : ∀ i : S520x512.Idx, (i 0).val < 8 → o i = o' i) : buf o u = buf o' u := by
  funext i
  unfold buf
  split
  · exact h i ‹_›
  · rfl

theorem read_zeros (v : View sig .tc .vmem S520x512 .f32) (f : v.ty.Contents (Elt F)) (i : S520x512.Idx) (h : (i 0).val < 8) :
    v.read (Elt F) (v.writes (Elt F) f [⟨Rect.unit ![0, 0] S8x512.size inb_S520x512_S8x512_0_0, k0_pay2 (F := F)⟩]) i = blank i := by
  refine (View.read_writes_cons_unit_of_mem v f inb_S520x512_S8x512_0_0 k0_pay2 [] i (ix2 (⟨(i 0).val, h⟩ : Fin 8) (i 1)) rfl (fun a => ?_)).trans ?_
  · match a with
    | ⟨0, _⟩ => exact (Nat.zero_add _).symm
    | ⟨1, _⟩ => exact (Nat.zero_add _).symm
  · unfold k0_pay2
    exact congrFun (shapeCast_self _ _) _

variable (c : Dev nD) (i : grid0.Coords)
  (a2 : Memref sig .tc .vmem S1x512x1024 .f32) (h2 : a2.IsWhole) (a3 : Memref sig .tc .vmem S1x1024 .f32) (h3 : a3.IsWhole)
  (a4 : Memref sig .tc .vmem S1x1x1024 .f32) (h4 : a4.IsWhole) (a5 : Memref sig .tc .vmem S1x1x1024 .f32) (h5 : a5.IsWhole)
  (a6 : Memref sig .tc .vmem S1024x1536 .bf16) (h6 : a6.IsWhole) (a7 : Memref sig .tc .vmem S1024x1024 .bf16) (h7 : a7.IsWhole)
  (a8 : Memref sig .tc .vmem S3x512 .f32) (h8 : a8.IsWhole) (a9 : Memref sig .tc .vmem S512x1024 .bf16) (h9 : a9.IsWhole)
  (a10 : Memref sig .tc .vmem S1x512x1024 .bf16) (h10 : a10.IsWhole) (a11 : Memref sig .tc .vmem S520x512 .f32) (h11 : a11.IsWhole)
  (x0 : Vec F S1x512x1024 .f32) (x1 : Vec F S1x1024 .f32) (x2 x3 : Vec F S1x1x1024 .f32)
  (x4 : Vec F S1024x1536 .bf16) (x5 : Vec F S1024x1024 .bf16) (x6 : Vec F S3x512 .f32) (x7 : Vec F S512x1024 .bf16) (xs : Vec F S520x512 .f32)

theorem outB_eq (hc : ¬cond0_0 i) :
    out0_B_8 c i a2 h2 a3 h3 a4 h4 a5 h5 a6 h6 a7 h7 a8 h8 a9 h9 a10 h10 a11 h11 hc x0 x1 x2 x3 x4 x5 x6 x7 xs
      = outOf xs x0 x1 x2 x3 x4 x5 x6 x7 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xs)]
  unfold kernelRun0_B
  dsimp only
  sl_unfold_words
  rw [View.canon_unit_zero zero3]
  simp only [View.readAt_eq_ld, h2.read_unread, h3.read_unread, h4.read_unread, h5.read_unread, h6.read_unread, h7.read_unread,
    h8.read_unread, h9.read_unread, View.ld_unit_zero (S := S1x512x1024) zero3, View.ld_unit_zero (S := S1x1024) zero2,
    View.ld_unit_zero (S := S1x1x1024) zero3, View.ld_unit_zero (S := S1024x1536) zero2, View.ld_unit_zero (S := S1024x1024) zero2,
    View.ld_unit_zero (S := S512x1024) zero2]
  have e : k0_pay7 (k0_pay6 x0 x1 x2 x3 x4) = k0_pay6 x0 x1 x2 x3 x4 := by unfold k0_pay7; exact shapeCast_self _ _
  rw [e, read_store, View.writes_nil, h11.read_unread]
  rfl

theorem outA_eq (hc : cond0_0 i) :
    out0_A_8 c i a2 h2 a3 h3 a4 h4 a5 h5 a6 h6 a7 h7 a8 h8 a9 h9 a10 h10 a11 h11 hc x0 x1 x2 x3 x4 x5 x6 x7
      = outOf blank x0 x1 x2 x3 x4 x5 x6 x7 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero zero3]
  simp only [View.readCov, View.readAt_eq_ld, h2.read_unread, h3.read_unread, h4.read_unread, h5.read_unread, h6.read_unread, h7.read_unread,
    h8.read_unread, h9.read_unread, View.ld_unit_zero (S := S1x512x1024) zero3, View.ld_unit_zero (S := S1x1024) zero2,
    View.ld_unit_zero (S := S1x1x1024) zero3, View.ld_unit_zero (S := S1024x1536) zero2, View.ld_unit_zero (S := S1024x1024) zero2,
    View.ld_unit_zero (S := S512x1024) zero2]
  have e : k0_pay7 (k0_pay6 x0 x1 x2 x3 x4) = k0_pay6 x0 x1 x2 x3 x4 := by unfold k0_pay7; exact shapeCast_self _ _
  rw [e, read_store, buf_congr _ blank _ (read_zeros _ _)]
  rfl

/-- The history a point leaves is the last eight rows of its products. -/
theorem hist (v v' : View sig .tc .vmem S520x512 .f32) (f : v.ty.Contents (Elt F)) (f' : v'.ty.Contents (Elt F)) (u : Vec F S512x512 .f32)
    (L L' : List (View.Piece (Elt F) S520x512 .f32)) (r : Fin 8) (j : Fin 512) :
    v.read (Elt F) (v.writes (Elt F) f (⟨Rect.unit ![0, 0] S8x512.size inb_S520x512_S8x512_0_0,
        k0_pay8 (View.ld (v'.read (Elt F) (v'.writes (Elt F) f' (⟨Rect.unit ![8, 0] S512x512.size inb_S520x512_S512x512_8_0, u⟩ :: L')))
          (Rect.unit (s := S520x512) ![512, 0] S8x512.size inb_S520x512_S8x512_512_0))⟩ :: L)) (ix2 (⟨r.val, by omega⟩ : Fin 520) j)
      = u (ix2 (⟨504 + r.val, by omega⟩ : Fin 512) j) := by
  refine (View.read_writes_cons_unit_of_mem v f inb_S520x512_S8x512_0_0 _ L _ (ix2 r j) rfl (fun a => ?_)).trans ?_
  · match a with
    | ⟨0, _⟩ => exact (Nat.zero_add _).symm
    | ⟨1, _⟩ => exact (Nat.zero_add _).symm
  · unfold k0_pay8
    refine (congrFun (shapeCast_self _ _) _).trans ?_
    rw [read_store]
    refine (ld_at (S := S520x512) (α := Elt F) (e := .f32) _ ![512, 0] S8x512.size inb_S520x512_S8x512_512_0 (ix2 r j) (ix2 (⟨512 + r.val, by omega⟩ : Fin 520) j) (fun a => ?_)).trans ?_
    · match a with
      | ⟨0, _⟩ => rfl
      | ⟨1, _⟩ => exact (Nat.zero_add _).symm
    unfold buf
    rw [dif_neg (show ¬(512 + r.val < 8) by omega)]
    refine congrArg u (funext fun a => Fin.ext ?_)
    match a with
    | ⟨0, _⟩ => show 512 + r.val - 8 = 504 + r.val; omega
    | ⟨1, _⟩ => rfl

theorem soutB_apply (hc : ¬cond0_0 i) (r : Fin 8) (j : Fin 512) :
    sout0_B_0 c i a2 h2 a3 h3 a4 h4 a5 h5 a6 h6 a7 h7 a8 h8 a9 h9 a10 h10 a11 h11 hc x0 x1 x2 x3 x4 x5 x6 x7 xs (ix2 (⟨r.val, by omega⟩ : Fin 520) j)
      = k0_pay6 x0 x1 x2 x3 x4 (ix2 (⟨504 + r.val, by omega⟩ : Fin 512) j) := by
  unfold sout0_B_0 kernelRun0_B
  dsimp only
  sl_unfold_words
  simp only [View.readCov, View.readAt_eq_ld, h2.read_unread, h3.read_unread, h4.read_unread, h5.read_unread, h6.read_unread,
    View.ld_unit_zero (S := S1x512x1024) zero3, View.ld_unit_zero (S := S1x1024) zero2,
    View.ld_unit_zero (S := S1x1x1024) zero3, View.ld_unit_zero (S := S1024x1536) zero2]
  have e : k0_pay7 (k0_pay6 x0 x1 x2 x3 x4) = k0_pay6 x0 x1 x2 x3 x4 := by unfold k0_pay7; exact shapeCast_self _ _
  rw [e]
  exact hist _ _ _ _ _ _ _ r j

theorem soutA_apply (hc : cond0_0 i) (r : Fin 8) (j : Fin 512) :
    sout0_A_0 c i a2 h2 a3 h3 a4 h4 a5 h5 a6 h6 a7 h7 a8 h8 a9 h9 a10 h10 a11 h11 hc x0 x1 x2 x3 x4 x5 x6 x7 (ix2 (⟨r.val, by omega⟩ : Fin 520) j)
      = k0_pay6 x0 x1 x2 x3 x4 (ix2 (⟨504 + r.val, by omega⟩ : Fin 512) j) := by
  unfold sout0_A_0 kernelRun0_A
  dsimp only
  sl_unfold_words
  simp only [View.readCov, View.readAt_eq_ld, h2.read_unread, h3.read_unread, h4.read_unread, h5.read_unread, h6.read_unread,
    View.ld_unit_zero (S := S1x512x1024) zero3, View.ld_unit_zero (S := S1x1024) zero2,
    View.ld_unit_zero (S := S1x1x1024) zero3, View.ld_unit_zero (S := S1024x1536) zero2]
  have e : k0_pay7 (k0_pay6 x0 x1 x2 x3 x4) = k0_pay6 x0 x1 x2 x3 x4 := by unfold k0_pay7; exact shapeCast_self _ _
  rw [e]
  exact hist _ _ _ _ _ _ _ r j

end Cert.Proof.A

end
-- ==== Proof.A.Value.lean ====
/-
  The convolution branch's block values at the extended reals: row by row, the norm, the linear maps, the product, the
  convolution over the scratch array's rows and the gate.
-/
module

public import proofs.«01_k».proof.Proof.A.Spec
public import proofs.«01_k».proof.Proof.A.Body
public import Idealize.ShloMosaic.Lib.MatmulPlain
public import Idealize.ShloMosaic.Lib.Pipeline.Value

@[expose] public section

set_option maxRecDepth 16384

noncomputable section

namespace Cert.Proof.A

open Cert.BranchAIdeal Cert.BranchAIdeal.Gen
open Idealize.ShloMosaic
open Idealize.ShloMosaic.ValueIdx (ix1 ix2 ix3 eq_ix2 truncf_apply)
open scoped BigOperators

variable (x0 : FVec Ideal S1x512x1024 .f32) (x1 : FVec Ideal S1x1024 .f32) (x2 x3 : FVec Ideal S1x1x1024 .f32)
  (x4 : FVec Ideal S1024x1536 .bf16) (x5 : FVec Ideal S1024x1024 .bf16) (x6 : FVec Ideal S3x512 .f32) (x7 : FVec Ideal S512x1024 .bf16)

/-- A block row's modulated norm. -/
def rowHid (r : Fin 512) : Fin 1024 → EReal :=
  nrm (fun k => x0 (ix3 0 r k)) (fun k => x1 (ix2 0 k)) (fun k => x2 (ix3 0 0 k)) (fun k => x3 (ix3 0 0 k))

theorem cast_block (r : Fin 512) (d : Fin 1024) :
    shapeCast S512x1024 x0 shapeCasts_S1x512x1024_S512x1024 (ix2 r d) = x0 (ix3 0 r d) := by
  refine shapeCast_apply x0 _ _ _ ?_
  rw [Shape.rowMajor_val_three, Shape.rowMajor_val_two]
  show (0 * 512 + r.val) * 1024 + d.val = r.val * 1024 + d.val
  omega

theorem cast_row (x : FVec Ideal S1x1x1024 .f32) (d : Fin 1024) :
    shapeCast S1x1024 x shapeCasts_S1x1x1024_S1x1024 (ix2 0 d) = x (ix3 0 0 d) := by
  refine shapeCast_apply x _ _ _ ?_
  rw [Shape.rowMajor_val_three, Shape.rowMajor_val_two]
  show (0 * 1 + 0) * 1024 + d.val = 0 * 1024 + d.val
  omega

theorem down_row (x : FVec Ideal S1x1024 .f32) (r : Fin 512) (d : Fin 1024) :
    broadcastTo S512x1024 x broadcasts_S1x1024_S512x1024 (ix2 r d) = x (ix2 0 d) := by
  refine broadcastTo_apply _ _ (ix2 r d) (ix2 (0 : Fin 1) d) (fun a => ?_)
  match a with
  | ⟨0, _⟩ => rfl
  | ⟨1, _⟩ => rfl

theorem pay3_apply (r : Fin 512) (d : Fin 1024) : k0_pay3 (F := Ideal) x0 x1 x2 x3 (ix2 r d) = rowHid x0 x1 x2 x3 r d := by
  unfold k0_pay3 rowHid nrm
  refine (truncf_apply (φ := .f32) (ψ := .bf16) _ bitsLt_bf16_f32 _).trans ?_
  refine congrArg₂ (fun a b : EReal => a + b) (congrArg₂ (fun a b : EReal => a * b) (congrArg₂ (fun a b : EReal => a * b)
    (congrArg₂ (fun a b : EReal => a * b) (cast_block x0 r d) ?_) ?_) ?_) ?_
  · refine (broadcastTo_apply _ _ (ix2 r d) (ix2 r (0 : Fin 1)) (fun a => ?_)).trans ?_
    · match a with
      | ⟨0, _⟩ => rfl
      | ⟨1, _⟩ => rfl
    refine congrArg (fun a : EReal => Ideal.rsqrt (Ideal.div a count + eps)) ?_
    refine (shapeCast_apply _ _ (ix2 r (0 : Fin 1)) (ix1 r) ?_).trans ?_
    · rw [Shape.rowMajor_val_one, Shape.rowMajor_val_two]
      show r.val = r.val * 1 + 0
      omega
    refine (Ideal.multiReduction_add_single _ _ reduces_S512x1024_S512 (.inl rfl) rfl (ix1 r)).trans ?_
    refine Finset.sum_congr rfl fun k _ => ?_
    have hk : reduces_S512x1024_S512.lift (ix1 r) k = ix2 r k := funext fun a => by
      match a with
      | ⟨0, _⟩ => rfl
      | ⟨1, _⟩ => rfl
    rw [hk]
    exact congrArg₂ (fun a b : EReal => a * b) (cast_block x0 r k) (cast_block x0 r k)
  · exact (down_row _ r d).trans (congrFun (shapeCast_self x1 _) _)
  · exact (down_row _ r d).trans (congrArg (fun a : EReal => one + a) (cast_row x3 d))
  · exact (down_row _ r d).trans (cast_row x2 d)

theorem pay4_apply (r : Fin 512) (f : Fin 1536) :
    k0_pay4 (F := Ideal) x0 x1 x2 x3 x4 (ix2 r f) = ∑ d, rowHid x0 x1 x2 x3 r d * x4 (ix2 d f) := by
  unfold k0_pay4
  refine (Ideal.matmul_plain_apply (M := 512) (K := 1024) (N := 1536) none _ _ _ r f).trans ?_
  refine (congrArg₂ (fun a b : EReal => a + b) Ideal.ofBits_zero_f32 (Finset.sum_congr rfl fun d _ => ?_)).trans (zero_add _)
  exact congrArg₂ (fun a b : EReal => a * b) (pay3_apply x0 x1 x2 x3 r d) (congrFun (shapeCast_self x4 _) _)

/-- The block's first linear map, read in its three parts. -/
abbrev rowProj (r : Fin 512) (f : Fin 1536) : EReal := ∑ d, rowHid x0 x1 x2 x3 r d * x4 (ix2 d f)

theorem pay5_apply (r j : Fin 512) : k0_pay5 (F := Ideal) x0 x1 x2 x3 x4 (ix2 r j) = rowProj x0 x1 x2 x3 x4 r ⟨j.val, by omega⟩ := by
  unfold k0_pay5
  refine (extractStridedSlice_apply _ _ _ (ix2 r j) (ix2 r (⟨j.val, by omega⟩ : Fin 1536)) (fun a => ?_)).trans (pay4_apply ..)
  match a with
  | ⟨0, _⟩ => exact (Nat.zero_add _).symm
  | ⟨1, _⟩ => exact (Nat.zero_add _).symm

theorem pay6_apply (r j : Fin 512) :
    k0_pay6 (F := Ideal) x0 x1 x2 x3 x4 (ix2 r j)
      = rowProj x0 x1 x2 x3 x4 r ⟨512 + j.val, by omega⟩ * rowProj x0 x1 x2 x3 x4 r ⟨1024 + j.val, by omega⟩ := by
  unfold k0_pay6
  refine congrArg₂ (fun a b : EReal => a * b) ?_ ?_
  · refine (extractStridedSlice_apply _ _ _ (ix2 r j) (ix2 r (⟨512 + j.val, by omega⟩ : Fin 1536)) (fun a => ?_)).trans (pay4_apply ..)
    match a with
    | ⟨0, _⟩ => exact (Nat.zero_add _).symm
    | ⟨1, _⟩ => rfl
  · refine (extractStridedSlice_apply _ _ _ (ix2 r j) (ix2 r (⟨1024 + j.val, by omega⟩ : Fin 1536)) (fun a => ?_)).trans (pay4_apply ..)
    match a with
    | ⟨0, _⟩ => exact (Nat.zero_add _).symm
    | ⟨1, _⟩ => rfl

/-- One tap spread down the rows. -/
theorem tap_row (y : FVec Ideal S1x512 .f32) (r j : Fin 512) :
    broadcastTo S512x512 (shapeCast S1x512 y shapeCasts_S1x512_S1x512) broadcasts_S1x512_S512x512 (ix2 r j) = y (ix2 0 j) := by
  refine (broadcastTo_apply _ _ (ix2 r j) (ix2 (0 : Fin 1) j) (fun a => ?_)).trans (congrFun (shapeCast_self y _) _)
  match a with
  | ⟨0, _⟩ => rfl
  | ⟨1, _⟩ => rfl

theorem pay9_apply (b u : FVec Ideal S512x512 .f32) (y2 y0 : FVec Ideal S1x512 .f32) (u2 : FVec Ideal S512x512 .f32) (y1 : FVec Ideal S1x512 .f32)
    (u1 : FVec Ideal S512x512 .f32) (r : Fin 512) (q : Fin 1024) :
    k0_pay9 (F := Ideal) b u y2 y0 u2 y1 u1 x7 (ix2 r q)
      = ∑ j : Fin 512, b (ix2 r j) * (y0 (ix2 0 j) * u2 (ix2 r j) + y1 (ix2 0 j) * u1 (ix2 r j) + y2 (ix2 0 j) * u (ix2 r j)) * x7 (ix2 j q) := by
  unfold k0_pay9
  refine (Ideal.matmul_plain_apply (M := 512) (K := 512) (N := 1024) none _ _ _ r q).trans ?_
  refine (congrArg₂ (fun a b : EReal => a + b) Ideal.ofBits_zero_f32 (Finset.sum_congr rfl fun j _ => ?_)).trans (zero_add _)
  refine congrArg₂ (fun a b : EReal => a * b) ?_ (congrFun (shapeCast_self x7 _) _)
  refine (truncf_apply (φ := .f32) (ψ := .bf16) _ bitsLt_bf16_f32 _).trans ?_
  refine congrArg (fun a : EReal => b (ix2 r j) * a) ?_
  refine (congrArg₂ (fun a b : EReal => a + b) (congrArg₂ (fun a b : EReal => a + b)
    (congrArg (fun a : EReal => a * u (ix2 r j)) (tap_row y2 r j)) (congrArg (fun a : EReal => a * u2 (ix2 r j)) (tap_row y0 r j)))
    (congrArg (fun a : EReal => a * u1 (ix2 r j)) (tap_row y1 r j))).trans ?_
  exact (add_assoc _ _ _).trans (add_comm _ _)

theorem pay10_apply (h : FVec Ideal S512x1024 .bf16) (r : Fin 512) (q : Fin 1024) :
    k0_pay10 (F := Ideal) h x5 (ix2 r q) = Ideal.exp (-(∑ d : Fin 1024, h (ix2 r d) * x5 (ix2 d q))) := by
  unfold k0_pay10
  refine congrArg Ideal.exp ?_
  refine Eq.trans (congrArg₂ (fun a b : EReal => a - b) Ideal.ofBits_zero_f32 ?_) (zero_sub _)
  refine (Ideal.matmul_plain_apply (M := 512) (K := 1024) (N := 1024) none _ _ _ r q).trans ?_
  refine (congrArg₂ (fun a b : EReal => a + b) Ideal.ofBits_zero_f32 (Finset.sum_congr rfl fun d _ => ?_)).trans (zero_add _)
  exact congrArg (fun a : EReal => h (ix2 r d) * a) (congrFun (shapeCast_self x5 _) _)

theorem pay1_apply (v e : FVec Ideal S512x1024 .f32) (r : Fin 512) (q : Fin 1024) :
    k0_pay1 (F := Ideal) v e (Scalar.ofBits .f32 0x3F800000#32) (ix3 0 r q) = Ideal.div one (one + e (ix2 r q)) * v (ix2 r q) := by
  unfold k0_pay1
  refine (shapeCast_apply _ _ (ix3 (0 : Fin 1) r q) (ix2 r q) ?_).trans ?_
  · rw [Shape.rowMajor_val_three, Shape.rowMajor_val_two]
    show r.val * 1024 + q.val = (0 * 512 + r.val) * 1024 + q.val
    omega
  · exact truncf_apply (φ := .f32) (ψ := .bf16) _ bitsLt_bf16_f32 _

/-- The scratch array's row `k` above the block's row `r`: a row of history, or an earlier row of the block. -/
def above (old : FVec Ideal S520x512 .f32) (k : ℕ) (hk : k ≤ 8) (r j : Fin 512) : EReal :=
  if k ≤ r.val then
    rowProj x0 x1 x2 x3 x4 ⟨r.val - k, by omega⟩ ⟨512 + j.val, by omega⟩ * rowProj x0 x1 x2 x3 x4 ⟨r.val - k, by omega⟩ ⟨1024 + j.val, by omega⟩
  else old (ix2 ⟨8 + r.val - k, by omega⟩ j)

theorem buf_above (old : FVec Ideal S520x512 .f32) (k : ℕ) (hk : k ≤ 8) (r j : Fin 512) (n : Fin 520) (hn : n.val = 8 + r.val - k) :
    buf (F := Ideal) old (k0_pay6 (F := Ideal) x0 x1 x2 x3 x4) (ix2 n j) = above x0 x1 x2 x3 x4 old k hk r j := by
  unfold buf above
  by_cases h : k ≤ r.val
  · rw [dif_neg (show ¬n.val < 8 by omega), if_pos h, ← pay6_apply]
    refine congrArg (k0_pay6 (F := Ideal) x0 x1 x2 x3 x4) (funext fun a => Fin.ext ?_)
    match a with
    | ⟨0, _⟩ => show n.val - 8 = r.val - k; omega
    | ⟨1, _⟩ => rfl
  · rw [dif_pos (show n.val < 8 by omega), if_neg h]
    refine congrArg old (funext fun a => Fin.ext ?_)
    match a with
    | ⟨0, _⟩ => exact hn
    | ⟨1, _⟩ => rfl

/-- The point's result block at a row and a coordinate. -/
theorem outOf_apply (old : FVec Ideal S520x512 .f32) (r : Fin 512) (q : Fin 1024) :
    outOf (F := Ideal) old x0 x1 x2 x3 x4 x5 x6 x7 (ix3 0 r q)
      = fin (∑ d : Fin 1024, rowHid x0 x1 x2 x3 r d * x5 (ix2 d q)) (fun j => rowProj x0 x1 x2 x3 x4 r ⟨j.val, by omega⟩)
          (fun j => x6 (ix2 0 j) * above x0 x1 x2 x3 x4 old 2 (by omega) r j + x6 (ix2 1 j) * above x0 x1 x2 x3 x4 old 1 (by omega) r j
            + x6 (ix2 2 j) * above x0 x1 x2 x3 x4 old 0 (by omega) r j) (fun j => x7 (ix2 j q)) := by
  unfold outOf fin
  rw [pay1_apply, pay10_apply, pay9_apply]
  refine congrArg₂ (fun a b : EReal => a * b) (congrArg (fun a : EReal => Ideal.div one (one + Ideal.exp (-a))) ?_) ?_
  · exact Finset.sum_congr rfl fun d _ => congrArg (fun a : EReal => a * x5 (ix2 d q)) (pay3_apply x0 x1 x2 x3 r d)
  · refine Finset.sum_congr rfl fun j _ => congrArg (fun a : EReal => a * x7 (ix2 j q)) ?_
    refine congrArg₂ (fun a b : EReal => a * b) (pay5_apply x0 x1 x2 x3 x4 r j) ?_
    refine congrArg₂ (fun a b : EReal => a + b) (congrArg₂ (fun a b : EReal => a + b)
      (congrArg₂ (fun a b : EReal => a * b) ?_ ?_) (congrArg₂ (fun a b : EReal => a * b) ?_ ?_)) (congrArg₂ (fun a b : EReal => a * b) ?_ ?_)
    · refine ld_at (S := S3x512) (α := Elt Ideal) (e := .f32) x6 _ _ _ (ix2 (0 : Fin 1) j) (ix2 (0 : Fin 3) j) (fun a => ?_)
      match a with
      | ⟨0, _⟩ => rfl
      | ⟨1, _⟩ => exact (Nat.zero_add _).symm
    · refine (ld_at (S := S520x512) (α := Elt Ideal) (e := .f32) _ _ _ _ (ix2 r j) (ix2 (⟨6 + r.val, by omega⟩ : Fin 520) j) (fun a => ?_)).trans
        (buf_above x0 x1 x2 x3 x4 old 2 (by omega) r j _ (by show 6 + r.val = 8 + r.val - 2; omega))
      match a with
      | ⟨0, _⟩ => rfl
      | ⟨1, _⟩ => exact (Nat.zero_add _).symm
    · refine ld_at (S := S3x512) (α := Elt Ideal) (e := .f32) x6 _ _ _ (ix2 (0 : Fin 1) j) (ix2 (1 : Fin 3) j) (fun a => ?_)
      match a with
      | ⟨0, _⟩ => rfl
      | ⟨1, _⟩ => exact (Nat.zero_add _).symm
    · refine (ld_at (S := S520x512) (α := Elt Ideal) (e := .f32) _ _ _ _ (ix2 r j) (ix2 (⟨7 + r.val, by omega⟩ : Fin 520) j) (fun a => ?_)).trans
        (buf_above x0 x1 x2 x3 x4 old 1 (by omega) r j _ (by show 7 + r.val = 8 + r.val - 1; omega))
      match a with
      | ⟨0, _⟩ => rfl
      | ⟨1, _⟩ => exact (Nat.zero_add _).symm
    · refine ld_at (S := S3x512) (α := Elt Ideal) (e := .f32) x6 _ _ _ (ix2 (0 : Fin 1) j) (ix2 (2 : Fin 3) j) (fun a => ?_)
      match a with
      | ⟨0, _⟩ => rfl
      | ⟨1, _⟩ => exact (Nat.zero_add _).symm
    · refine (pay6_apply x0 x1 x2 x3 x4 r j).trans ?_
      unfold above
      rw [if_pos (Nat.zero_le _)]
      rfl

end Cert.Proof.A

end
-- ==== Proof.A.Close.lean ====
/-
  The convolution branch's result array at the extended reals. The scratch array carries the last products of a batch's block
  of times to the batch's next block, so every point sees the products of the two times before its own, and none before
  time starts; the result at a batch, a time and a coordinate is then the branch's map there.
-/
module

public import proofs.«01_k».proof.Proof.A.Value
public import Idealize.ShloMosaic.Lib.Pipeline.Covers

@[expose] public section

set_option maxRecDepth 16384

noncomputable section

namespace Cert.Proof.A

open Cert.BranchAIdeal Cert.BranchAIdeal.Gen
open Idealize.ShloMosaic
open Idealize.ShloMosaic.TcCoe
open Idealize.ShloMosaic.ValueIdx (ix1 ix2 ix3 truncf_apply)
open Idealize.ShloMosaic.Pipeline (Dat Cfg Window)
open scoped BigOperators

variable (m : (ℓ : Loc nD τ sig) → Buf (Elt Ideal) ℓ)

/-! ## The grid: sixteen batches by four blocks of 512 times -/

/-- Point `t`'s batch. -/
def batch (t : Fin cfg0.N) : Fin 16 := ⟨t.val / 4, by
  have h : t.val < 64 := t.isLt.trans_eq N_0
  omega⟩

/-- The time of point `t`'s row `r`. -/
def time (t : Fin cfg0.N) (r : Fin 512) : Fin 2048 := ⟨512 * (t.val % 4) + r.val, by omega⟩

theorem index8 (t : Fin cfg0.N) : (cfg0.win (8 : Fin 9)).index t = ![t.val / 4, t.val % 4, 0] := by
  obtain ⟨-, -, -, h1, -, h2, h⟩ := Cert.BranchAIdeal.Value.idx_facts8 t
  funext a
  match a with
  | ⟨0, _⟩ => show win0_8.index t (0 : Fin 3) = t.val / 4; omega
  | ⟨1, _⟩ => show win0_8.index t (1 : Fin 3) = t.val % 4; omega
  | ⟨2, _⟩ => show win0_8.index t (2 : Fin 3) = 0; omega

theorem index0 (t : Fin cfg0.N) : (cfg0.win (0 : Fin 9)).index t = ![t.val / 4, t.val % 4, 0] := index8 t

theorem index2 (t : Fin cfg0.N) : (cfg0.win (2 : Fin 9)).index t = ![t.val / 4, 0, 0] := by
  funext a
  match a with
  | ⟨0, _⟩ => exact congrFun (index8 t) (0 : Fin 3)
  | ⟨1, _⟩ => rfl
  | ⟨2, _⟩ => rfl

theorem index3 (t : Fin cfg0.N) : (cfg0.win (3 : Fin 9)).index t = ![t.val / 4, 0, 0] := by
  funext a
  match a with
  | ⟨0, _⟩ => exact congrFun (index8 t) (0 : Fin 3)
  | ⟨1, _⟩ => rfl
  | ⟨2, _⟩ => rfl

/-! ## The windows' blocks at coordinates -/

theorem blk0_apply (c : Dev nD) (t : Fin cfg0.N) (r : Fin 512) (d : Fin 1024) :
    iblk m c (0 : Fin 9) t (ix3 0 r d) = V m c main_arg0 (ix3 (batch t) (time t r) d) := by
  refine congrArg (V m c main_arg0) (funext fun b => Fin.ext ?_)
  refine (Window.rect_emb_val (cfg0.win (0 : Fin 9)) t (ix3 0 r d) b).trans ?_
  rw [index0]
  match b with
  | ⟨0, _⟩ => show t.val / 4 * 1 + 0 = t.val / 4; omega
  | ⟨1, _⟩ => show t.val % 4 * 512 + r.val = 512 * (t.val % 4) + r.val; omega
  | ⟨2, _⟩ => show 0 * 1024 + d.val = d.val; omega

theorem blk1_apply (c : Dev nD) (t : Fin cfg0.N) (d : Fin 1024) :
    iblk m c (1 : Fin 9) t (ix2 0 d) = V m c main_v6 (ix2 0 d) := by
  refine congrArg (V m c main_v6) (funext fun b => Fin.ext ?_)
  refine (Window.rect_emb_val (cfg0.win (1 : Fin 9)) t (ix2 0 d) b).trans ?_
  match b with
  | ⟨0, _⟩ => rfl
  | ⟨1, _⟩ => show 0 * 1024 + d.val = d.val; omega

theorem blk2_apply (c : Dev nD) (t : Fin cfg0.N) (d : Fin 1024) :
    iblk m c (2 : Fin 9) t (ix3 0 0 d) = V m c main_v7 (ix3 (batch t) 0 d) := by
  refine congrArg (V m c main_v7) (funext fun b => Fin.ext ?_)
  refine (Window.rect_emb_val (cfg0.win (2 : Fin 9)) t (ix3 0 0 d) b).trans ?_
  rw [index2]
  match b with
  | ⟨0, _⟩ => show t.val / 4 * 1 + 0 = t.val / 4; omega
  | ⟨1, _⟩ => rfl
  | ⟨2, _⟩ => show 0 * 1024 + d.val = d.val; omega

theorem blk3_apply (c : Dev nD) (t : Fin cfg0.N) (d : Fin 1024) :
    iblk m c (3 : Fin 9) t (ix3 0 0 d) = V m c main_v8 (ix3 (batch t) 0 d) := by
  refine congrArg (V m c main_v8) (funext fun b => Fin.ext ?_)
  refine (Window.rect_emb_val (cfg0.win (3 : Fin 9)) t (ix3 0 0 d) b).trans ?_
  rw [index3]
  match b with
  | ⟨0, _⟩ => show t.val / 4 * 1 + 0 = t.val / 4; omega
  | ⟨1, _⟩ => rfl
  | ⟨2, _⟩ => show 0 * 1024 + d.val = d.val; omega

theorem blk4_apply (c : Dev nD) (t : Fin cfg0.N) (d : Fin 1024) (f : Fin 1536) :
    iblk m c (4 : Fin 9) t (ix2 d f) = V m c main_v9 (ix2 d f) := by
  refine congrArg (V m c main_v9) (funext fun b => Fin.ext ?_)
  refine (Window.rect_emb_val (cfg0.win (4 : Fin 9)) t (ix2 d f) b).trans ?_
  match b with
  | ⟨0, _⟩ => show 0 * 1024 + d.val = d.val; omega
  | ⟨1, _⟩ => show 0 * 1536 + f.val = f.val; omega

theorem blk5_apply (c : Dev nD) (t : Fin cfg0.N) (d f : Fin 1024) :
    iblk m c (5 : Fin 9) t (ix2 d f) = V m c main_v10 (ix2 d f) := by
  refine congrArg (V m c main_v10) (funext fun b => Fin.ext ?_)
  refine (Window.rect_emb_val (cfg0.win (5 : Fin 9)) t (ix2 d f) b).trans ?_
  match b with
  | ⟨0, _⟩ => show 0 * 1024 + d.val = d.val; omega
  | ⟨1, _⟩ => show 0 * 1024 + f.val = f.val; omega

theorem blk6_apply (c : Dev nD) (t : Fin cfg0.N) (o : Fin 3) (j : Fin 512) :
    iblk m c (6 : Fin 9) t (ix2 o j) = V m c main_v12 (ix2 o j) := by
  refine congrArg (V m c main_v12) (funext fun b => Fin.ext ?_)
  refine (Window.rect_emb_val (cfg0.win (6 : Fin 9)) t (ix2 o j) b).trans ?_
  match b with
  | ⟨0, _⟩ => show 0 * 3 + o.val = o.val; omega
  | ⟨1, _⟩ => show 0 * 512 + j.val = j.val; omega

theorem blk7_apply (c : Dev nD) (t : Fin cfg0.N) (j : Fin 512) (q : Fin 1024) :
    iblk m c (7 : Fin 9) t (ix2 j q) = V m c main_v15 (ix2 j q) := by
  refine congrArg (V m c main_v15) (funext fun b => Fin.ext ?_)
  refine (Window.rect_emb_val (cfg0.win (7 : Fin 9)) t (ix2 j q) b).trans ?_
  match b with
  | ⟨0, _⟩ => show 0 * 512 + j.val = j.val; omega
  | ⟨1, _⟩ => show 0 * 1024 + q.val = q.val; omega

/-! ## What the call finds, from the launch contents -/

theorem V_arg0 (c : Dev nD) : V m c main_arg0 = m ((c : Thread nD τ).loc main_arg0) := by show StableHlo.after _ _ _ = _; after_results

theorem V6_apply (c : Dev nD) (d : Fin 1024) : V m c main_v6 (ix2 0 d) = m ((c : Thread nD τ).loc main_arg3) (ix2 0 d) := by
  have e : V m c main_v6 = shapeCast S1x1024 (shapeCast S1024 (extractStridedSlice (s := S2x1024) S1x1024 ![0, 0] (m ((c : Thread nD τ).loc main_arg3)) slices_S2x1024_S1x1024_0_0) shapeCasts_S1x1024_S1024) shapeCasts_S1024_S1x1024 := by
    show StableHlo.after _ _ _ = _; after_results
    rfl
  rw [e]
  refine (shapeCast_apply (s := S1024) (t := S1x1024) _ _ (ix2 0 d) (ix1 d) ?_).trans ?_
  · rw [Shape.rowMajor_val_one, Shape.rowMajor_val_two]
    show d.val = 0 * 1024 + d.val
    omega
  refine (shapeCast_apply (s := S1x1024) (t := S1024) _ _ (ix1 d) (ix2 0 d) ?_).trans ?_
  · rw [Shape.rowMajor_val_one, Shape.rowMajor_val_two]
    show 0 * 1024 + d.val = d.val
    omega
  · refine extractStridedSlice_apply (s := S2x1024) (t := S1x1024) _ (m ((c : Thread nD τ).loc main_arg3)) slices_S2x1024_S1x1024_0_0 (ix2 0 d) (ix2 0 d) (fun b => ?_)
    match b with
    | ⟨0, _⟩ => rfl
    | ⟨1, _⟩ => exact (Nat.zero_add _).symm

theorem V7_apply (c : Dev nD) (b : Fin 16) (d : Fin 1024) : V m c main_v7 (ix3 b 0 d) = m ((c : Thread nD τ).loc main_arg1) (ix2 b d) := by
  have e : V m c main_v7 = shapeCast S16x1x1024 (m ((c : Thread nD τ).loc main_arg1)) shapeCasts_S16x1024_S16x1x1024 := by
    show StableHlo.after _ _ _ = _; after_results
    rfl
  rw [e]
  refine shapeCast_apply (s := S16x1024) (t := S16x1x1024) (m ((c : Thread nD τ).loc main_arg1)) _ (ix3 b 0 d) (ix2 b d) ?_
  rw [Shape.rowMajor_val_three, Shape.rowMajor_val_two]
  show b.val * 1024 + d.val = (b.val * 1 + 0) * 1024 + d.val
  omega

theorem V8_apply (c : Dev nD) (b : Fin 16) (d : Fin 1024) : V m c main_v8 (ix3 b 0 d) = m ((c : Thread nD τ).loc main_arg2) (ix2 b d) := by
  have e : V m c main_v8 = shapeCast S16x1x1024 (m ((c : Thread nD τ).loc main_arg2)) shapeCasts_S16x1024_S16x1x1024 := by
    show StableHlo.after _ _ _ = _; after_results
    rfl
  rw [e]
  refine shapeCast_apply (s := S16x1024) (t := S16x1x1024) (m ((c : Thread nD τ).loc main_arg2)) _ (ix3 b 0 d) (ix2 b d) ?_
  rw [Shape.rowMajor_val_three, Shape.rowMajor_val_two]
  show b.val * 1024 + d.val = (b.val * 1 + 0) * 1024 + d.val
  omega

/-- The first layer's first weights, one matrix. -/
def wIn (c : Dev nD) : FVec Ideal S1024x9728 .bf16 :=
  truncf (F := Ideal) (s := S1024x9728) (φ := .f32) .bf16 (shapeCast S1024x9728 (extractStridedSlice (s := S2x1024x9728) S1x1024x9728 ![0, 0, 0] (m ((c : Thread nD τ).loc main_arg4)) slices_S2x1024x9728_S1x1024x9728_0_0_0) shapeCasts_S1x1024x9728_S1024x9728) bitsLt_bf16_f32

theorem wIn_apply (c : Dev nD) (d : Fin 1024) (f : Fin 9728) : wIn m c (ix2 d f) = m ((c : Thread nD τ).loc main_arg4) (ix3 0 d f) := by
  unfold wIn
  rw [truncf_apply]
  refine (shapeCast_apply (s := S1x1024x9728) (t := S1024x9728) _ shapeCasts_S1x1024x9728_S1024x9728 (ix2 d f) (ix3 0 d f) ?_).trans ?_
  · rw [Shape.rowMajor_val_three, Shape.rowMajor_val_two]
    show (0 * 1024 + d.val) * 9728 + f.val = d.val * 9728 + f.val
    omega
  · refine extractStridedSlice_apply (s := S2x1024x9728) (t := S1x1024x9728) _ (m ((c : Thread nD τ).loc main_arg4)) slices_S2x1024x9728_S1x1024x9728_0_0_0 (ix3 0 d f) (ix3 0 d f) (fun b => ?_)
    match b with
    | ⟨0, _⟩ => rfl
    | ⟨1, _⟩ => exact (Nat.zero_add _).symm
    | ⟨2, _⟩ => exact (Nat.zero_add _).symm

theorem V9_apply (c : Dev nD) (d : Fin 1024) (f : Fin 1536) :
    V m c main_v9 (ix2 d f) = m ((c : Thread nD τ).loc main_arg4) (ix3 0 d ⟨f.val, by omega⟩) := by
  have e : V m c main_v9 = extractStridedSlice (s := S1024x9728) S1024x1536 ![0, 0] (wIn m c) slices_S1024x9728_S1024x1536_0_0 := by
    show StableHlo.after _ _ _ = _; after_results
    rfl
  rw [e, ← wIn_apply m c]
  refine extractStridedSlice_apply (s := S1024x9728) (t := S1024x1536) _ (wIn m c) slices_S1024x9728_S1024x1536_0_0 (ix2 d f) (ix2 d ⟨f.val, by omega⟩) (fun b => ?_)
  match b with
  | ⟨0, _⟩ => exact (Nat.zero_add _).symm
  | ⟨1, _⟩ => exact (Nat.zero_add _).symm

theorem V10_apply (c : Dev nD) (d q : Fin 1024) :
    V m c main_v10 (ix2 d q) = m ((c : Thread nD τ).loc main_arg4) (ix3 0 d ⟨6656 + q.val, by omega⟩) := by
  have e : V m c main_v10 = extractStridedSlice (s := S1024x3072) S1024x1024 ![0, 0] (extractStridedSlice (s := S1024x9728) S1024x3072 ![0, 6656] (wIn m c) slices_S1024x9728_S1024x3072_0_6656) slices_S1024x3072_S1024x1024_0_0 := by
    show StableHlo.after _ _ _ = _; after_results
    rfl
  rw [e, ← wIn_apply m c]
  refine (extractStridedSlice_apply (s := S1024x3072) (t := S1024x1024) _ _ slices_S1024x3072_S1024x1024_0_0 (ix2 d q) (ix2 d (⟨q.val, by omega⟩ : Fin 3072)) (fun b => ?_)).trans ?_
  · match b with
    | ⟨0, _⟩ => exact (Nat.zero_add _).symm
    | ⟨1, _⟩ => exact (Nat.zero_add _).symm
  · refine extractStridedSlice_apply (s := S1024x9728) (t := S1024x3072) _ (wIn m c) slices_S1024x9728_S1024x3072_0_6656 (ix2 d (⟨q.val, by omega⟩ : Fin 3072)) (ix2 d ⟨6656 + q.val, by omega⟩) (fun b => ?_)
    match b with
    | ⟨0, _⟩ => exact (Nat.zero_add _).symm
    | ⟨1, _⟩ => rfl

theorem V12_apply (c : Dev nD) (o : Fin 3) (j : Fin 512) : V m c main_v12 (ix2 o j) = m ((c : Thread nD τ).loc main_arg5) (ix3 0 o j) := by
  have e : V m c main_v12 = shapeCast S3x512 (extractStridedSlice (s := S2x3x512) S1x3x512 ![0, 0, 0] (m ((c : Thread nD τ).loc main_arg5)) slices_S2x3x512_S1x3x512_0_0_0) shapeCasts_S1x3x512_S3x512 := by
    show StableHlo.after _ _ _ = _; after_results
    rfl
  rw [e]
  refine (shapeCast_apply (s := S1x3x512) (t := S3x512) _ _ (ix2 o j) (ix3 0 o j) ?_).trans ?_
  · rw [Shape.rowMajor_val_three, Shape.rowMajor_val_two]
    show (0 * 3 + o.val) * 512 + j.val = o.val * 512 + j.val
    omega
  · refine extractStridedSlice_apply (s := S2x3x512) (t := S1x3x512) _ (m ((c : Thread nD τ).loc main_arg5)) slices_S2x3x512_S1x3x512_0_0_0 (ix3 0 o j) (ix3 0 o j) (fun b => ?_)
    match b with
    | ⟨0, _⟩ => rfl
    | ⟨1, _⟩ => exact (Nat.zero_add _).symm
    | ⟨2, _⟩ => exact (Nat.zero_add _).symm

theorem V15_apply (c : Dev nD) (j : Fin 512) (q : Fin 1024) : V m c main_v15 (ix2 j q) = m ((c : Thread nD τ).loc main_arg6) (ix3 0 j q) := by
  have e : V m c main_v15 = truncf (F := Ideal) (s := S512x1024) (φ := .f32) .bf16 (shapeCast S512x1024 (extractStridedSlice (s := S2x512x1024) S1x512x1024 ![0, 0, 0] (m ((c : Thread nD τ).loc main_arg6)) slices_S2x512x1024_S1x512x1024_0_0_0) shapeCasts_S1x512x1024_S512x1024) bitsLt_bf16_f32 := by
    show StableHlo.after _ _ _ = _; after_results
    rfl
  rw [e, truncf_apply]
  refine (shapeCast_apply (s := S1x512x1024) (t := S512x1024) _ shapeCasts_S1x512x1024_S512x1024 (ix2 j q) (ix3 0 j q) ?_).trans ?_
  · rw [Shape.rowMajor_val_three, Shape.rowMajor_val_two]
    show (0 * 512 + j.val) * 1024 + q.val = j.val * 1024 + q.val
    omega
  · refine extractStridedSlice_apply (s := S2x512x1024) (t := S1x512x1024) _ (m ((c : Thread nD τ).loc main_arg6)) slices_S2x512x1024_S1x512x1024_0_0_0 (ix3 0 j q) (ix3 0 j q) (fun b => ?_)
    match b with
    | ⟨0, _⟩ => rfl
    | ⟨1, _⟩ => exact (Nat.zero_add _).symm
    | ⟨2, _⟩ => exact (Nat.zero_add _).symm

/-! ## A point's rows -/

abbrev hidM (c : Dev nD) := hid (m ((c : Thread nD τ).loc main_arg0)) (m ((c : Thread nD τ).loc main_arg1)) (m ((c : Thread nD τ).loc main_arg2)) (m ((c : Thread nD τ).loc main_arg3))
abbrev projM (c : Dev nD) := proj (m ((c : Thread nD τ).loc main_arg0)) (m ((c : Thread nD τ).loc main_arg1)) (m ((c : Thread nD τ).loc main_arg2)) (m ((c : Thread nD τ).loc main_arg3)) (m ((c : Thread nD τ).loc main_arg4))
abbrev prodM (c : Dev nD) := prod (m ((c : Thread nD τ).loc main_arg0)) (m ((c : Thread nD τ).loc main_arg1)) (m ((c : Thread nD τ).loc main_arg2)) (m ((c : Thread nD τ).loc main_arg3)) (m ((c : Thread nD τ).loc main_arg4))
abbrev pastM (c : Dev nD) := past (m ((c : Thread nD τ).loc main_arg0)) (m ((c : Thread nD τ).loc main_arg1)) (m ((c : Thread nD τ).loc main_arg2)) (m ((c : Thread nD τ).loc main_arg3)) (m ((c : Thread nD τ).loc main_arg4))
abbrev fullM (c : Dev nD) : Fin 16 → Fin 2048 → Fin 1024 → EReal :=
  full (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))

theorem rowHid_eq (c : Dev nD) (t : Fin cfg0.N) (r : Fin 512) :
    rowHid (iblk m c (0 : Fin 9) t) (iblk m c (1 : Fin 9) t) (iblk m c (2 : Fin 9) t) (iblk m c (3 : Fin 9) t) r = hidM m c (batch t) (time t r) := by
  unfold rowHid hidM hid
  congr 1
  · funext k; rw [blk0_apply, V_arg0]
  · funext k; rw [blk1_apply, V6_apply]
  · funext k; rw [blk2_apply, V7_apply]
  · funext k; rw [blk3_apply, V8_apply]

theorem rowProj_eq (c : Dev nD) (t : Fin cfg0.N) (r : Fin 512) (f : Fin 1536) :
    rowProj (iblk m c (0 : Fin 9) t) (iblk m c (1 : Fin 9) t) (iblk m c (2 : Fin 9) t) (iblk m c (3 : Fin 9) t) (iblk m c (4 : Fin 9) t) r f
      = projM m c (batch t) (time t r) ⟨f.val, by omega⟩ := by
  unfold rowProj projM proj
  refine Finset.sum_congr rfl fun d _ => congrArg₂ (fun a b : EReal => a * b) (congrFun (rowHid_eq m c t r) d) ?_
  rw [blk4_apply, V9_apply]

theorem products_eq (c : Dev nD) (t : Fin cfg0.N) (r j : Fin 512) :
    k0_pay6 (F := Ideal) (iblk m c (0 : Fin 9) t) (iblk m c (1 : Fin 9) t) (iblk m c (2 : Fin 9) t) (iblk m c (3 : Fin 9) t) (iblk m c (4 : Fin 9) t) (ix2 r j)
      = prodM m c (batch t) (time t r) j := by
  rw [pay6_apply, rowProj_eq, rowProj_eq]
  rfl

/-- The history a point leaves: the products of its last eight times. -/
theorem history (c : Dev nD) (t : Fin cfg0.N) (r : Fin 8) (j : Fin 512) :
    (outsAt0 m c t.val t.isLt).2 (ix2 (⟨r.val, by omega⟩ : Fin 520) j) = prodM m c (batch t) (time t ⟨504 + r.val, by omega⟩) j := by
  by_cases h0 : t.val % 4 = 0
  · rw [outsAt0_A m c t h0]
    dsimp only
    exact (soutA_apply (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t) ((hcond0_0 t).mpr h0) r j).trans (products_eq m c t _ j)
  · rw [outsAt0_B m c t h0]
    dsimp only
    exact (soutB_apply (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t) (outsAt0 m c (t.val - 1) (by have := t.isLt; omega)).2 (fun h => h0 ((hcond0_0 t).mp h)) r j).trans (products_eq m c t _ j)

/-- What a point reads above its rows: earlier products of its batch, from the history where they are the previous block's. -/
theorem above_eq (c : Dev nD) (t : Fin cfg0.N) (old : FVec Ideal S520x512 .f32) (k : ℕ) (hk : k ≤ 2) (r j : Fin 512)
    (hold : ∀ (n : Fin 520) (j : Fin 512), n.val < 8 → 6 ≤ n.val → old (ix2 n j) = if h : t.val % 4 = 0 then 0
      else prodM m c (batch t) ⟨512 * (t.val % 4) + n.val - 8, by omega⟩ j) :
    above (iblk m c (0 : Fin 9) t) (iblk m c (1 : Fin 9) t) (iblk m c (2 : Fin 9) t) (iblk m c (3 : Fin 9) t) (iblk m c (4 : Fin 9) t) old k (hk.trans (by omega)) r j
      = pastM m c (batch t) (time t r) k j := by
  have ht : (time t r).val = 512 * (t.val % 4) + r.val := rfl
  unfold above pastM past
  by_cases h : k ≤ r.val
  · rw [if_pos h, if_pos (by omega), rowProj_eq, rowProj_eq]
    have e : time t ⟨r.val - k, by omega⟩ = ⟨(time t r).val - k, by omega⟩ := Fin.ext (by show 512 * (t.val % 4) + (r.val - k) = (time t r).val - k; omega)
    rw [e]
    rfl
  · rw [if_neg h, hold _ _ (by show 8 + r.val - k < 8; omega) (by show 6 ≤ 8 + r.val - k; omega)]
    by_cases h0 : t.val % 4 = 0
    · rw [dif_pos h0, if_neg (by omega)]
    · rw [dif_neg h0, if_pos (by omega)]
      refine congrArg (fun n => prodM m c (batch t) n j) (Fin.ext ?_)
      show 512 * (t.val % 4) + (8 + r.val - k) - 8 = (time t r).val - k
      omega

theorem fin_congr {z z' : EReal} {B B' C C' W W' : Fin 512 → EReal} (hz : z = z') (hB : ∀ j, B j = B' j) (hC : ∀ j, C j = C' j)
    (hW : ∀ j, W j = W' j) : fin z B C W = fin z' B' C' W' := by
  rw [hz, funext hB, funext hC, funext hW]

theorem out_eq (c : Dev nD) (t : Fin cfg0.N) (old : FVec Ideal S520x512 .f32) (r : Fin 512) (q : Fin 1024)
    (hold : ∀ (n : Fin 520) (j : Fin 512), n.val < 8 → 6 ≤ n.val → old (ix2 n j) = if h : t.val % 4 = 0 then 0
      else prodM m c (batch t) ⟨512 * (t.val % 4) + n.val - 8, by omega⟩ j) :
    outOf (F := Ideal) old (iblk m c (0 : Fin 9) t) (iblk m c (1 : Fin 9) t) (iblk m c (2 : Fin 9) t) (iblk m c (3 : Fin 9) t) (iblk m c (4 : Fin 9) t)
        (iblk m c (5 : Fin 9) t) (iblk m c (6 : Fin 9) t) (iblk m c (7 : Fin 9) t) (ix3 0 r q)
      = fullM m c (batch t) (time t r) q := by
  rw [outOf_apply]
  unfold fullM full
  refine fin_congr ?_ (fun j => rowProj_eq m c t r _) (fun j => ?_) (fun j => ?_)
  · unfold proj
    refine Finset.sum_congr rfl fun d _ => congrArg₂ (fun a b : EReal => a * b) (congrFun (rowHid_eq m c t r) d) ?_
    rw [blk5_apply, V10_apply]
  · unfold conv
    rw [above_eq m c t old 2 (by omega) r j hold, above_eq m c t old 1 (by omega) r j hold, above_eq m c t old 0 (by omega) r j hold,
      blk6_apply, blk6_apply, blk6_apply, V12_apply, V12_apply, V12_apply]
  · rw [blk7_apply, V15_apply]

/-- A batch's first result block. -/
theorem block_first (c : Dev nD) (t : Fin cfg0.N) (h0 : t.val % 4 = 0) (r : Fin 512) (q : Fin 1024) :
    (outsAt0 m c t.val t.isLt).1 (ix3 0 r q) = fullM m c (batch t) (time t r) q := by
  rw [outsAt0_A m c t h0]
  dsimp only
  refine (congrFun (outA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t) ((hcond0_0 t).mpr h0)) (ix3 0 r q)).trans (out_eq m c t (blank (F := Ideal)) r q (fun n j _ _ => ?_))
  rw [dif_pos h0]
  exact Ideal.ofBits_zero_f32

/-- A batch's later result blocks. -/
theorem block_later (c : Dev nD) (t : Fin cfg0.N) (h0 : ¬t.val % 4 = 0) (r : Fin 512) (q : Fin 1024) :
    (outsAt0 m c t.val t.isLt).1 (ix3 0 r q) = fullM m c (batch t) (time t r) q := by
  have hN : t.val < 64 := t.isLt.trans_eq N_0
  rw [outsAt0_B m c t h0]
  dsimp only
  refine (congrFun (outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t) (outsAt0 m c (t.val - 1) (by have := t.isLt; omega)).2 (fun h => h0 ((hcond0_0 t).mp h))) (ix3 0 r q)).trans (out_eq m c t _ r q (fun n j hn _ => ?_))
  rw [dif_neg h0]
  refine (history m c ⟨t.val - 1, by have := t.isLt; omega⟩ ⟨n.val, hn⟩ j).trans ?_
  have e1 : batch ⟨t.val - 1, by have := t.isLt; omega⟩ = batch t := Fin.ext (by show (t.val - 1) / 4 = t.val / 4; omega)
  have e2 : time ⟨t.val - 1, by have := t.isLt; omega⟩ ⟨504 + n.val, by omega⟩ = ⟨512 * (t.val % 4) + n.val - 8, by omega⟩ :=
    Fin.ext (by show 512 * ((t.val - 1) % 4) + (504 + n.val) = 512 * (t.val % 4) + n.val - 8; omega)
  rw [e1, e2]

/-- A point's result block. -/
theorem block_eq (c : Dev nD) (t : Fin cfg0.N) (r : Fin 512) (q : Fin 1024) :
    (outsAt0 m c t.val t.isLt).1 (ix3 0 r q) = fullM m c (batch t) (time t r) q := by
  by_cases h0 : t.val % 4 = 0
  · exact block_first m c t h0 r q
  · exact block_later m c t h0 r q

/-! ## The result array -/

theorem end_eq (c : Dev nD) : (dats m 0 c).arrAt 8 cfg0.N = fun i => fullM m c (i 0) (i 1) (i 2) := by
  refine (dats m 0 c).arrAt_eq_of_covers (8 : Fin 9) _ ?_ fun t _ y => ?_
  · refine (cfg0.win (8 : Fin 9)).covers_of_indexMap_surj rfl (show ∀ a, 0 < (spec0 (8 : Fin 9)).size a by decide) fun β => ?_
    have h0 : (β (0 : Fin 3)).val < 16 := (β (0 : Fin 3)).isLt.trans_eq (show (16 + 1 - 1) / 1 = 16 by norm_num)
    have h1 : (β (1 : Fin 3)).val < 4 := (β (1 : Fin 3)).isLt.trans_eq (show (2048 + 512 - 1) / 512 = 4 by norm_num)
    have h2 : (β (2 : Fin 3)).val < 1 := (β (2 : Fin 3)).isLt.trans_eq (show (1024 + 1024 - 1) / 1024 = 1 by norm_num)
    refine ⟨fun g => match g with
      | ⟨0, _⟩ => ⟨(β (0 : Fin 3)).val, h0⟩
      | ⟨1, _⟩ => ⟨(β (1 : Fin 3)).val, h1⟩, fun b => ?_⟩
    match b with
    | ⟨0, _⟩ => show (BitVec.ofNat 32 (β (0 : Fin 3)).val).toNat = (β (0 : Fin 3)).val; rw [BitVec.toNat_ofNat]; omega
    | ⟨1, _⟩ => show (BitVec.ofNat 32 (β (1 : Fin 3)).val).toNat = (β (1 : Fin 3)).val; rw [BitVec.toNat_ofNat]; omega
    | ⟨2, _⟩ => show 0 = (β (2 : Fin 3)).val; omega
  · have hn : ((cfg0.win (8 : Fin 9)).blk t).view.emb y = (ix3 (batch t) (time t (y 1)) (y 2) : S16x2048x1024.Idx) := by
      refine funext fun b => Fin.ext ?_
      refine (Window.rect_emb_val (cfg0.win (8 : Fin 9)) t y b).trans ?_
      rw [index8]
      match b with
      | ⟨0, _⟩ =>
        have hy : (y (0 : Fin 3)).val < 1 := (y (0 : Fin 3)).isLt
        show t.val / 4 * 1 + (y (0 : Fin 3)).val = t.val / 4
        omega
      | ⟨1, _⟩ => show t.val % 4 * 512 + (y (1 : Fin 3)).val = 512 * (t.val % 4) + (y (1 : Fin 3)).val; omega
      | ⟨2, _⟩ => show 0 * 1024 + (y (2 : Fin 3)).val = (y (2 : Fin 3)).val; omega
    refine Eq.trans (α := EReal) ?_ (congrArg (fun i : S16x2048x1024.Idx => fullM m c (i 0) (i 1) (i 2)) hn).symm
    show (outsAt0 m c t.val t.isLt).1 y = _
    have hy : y = (ix3 0 (y 1) (y 2) : S1x512x1024.Idx) := funext fun b => by
      match b with
      | ⟨0, _⟩ => exact Subsingleton.elim (α := Fin 1) _ _
      | ⟨1, _⟩ => rfl
      | ⟨2, _⟩ => rfl
    exact Eq.trans (α := EReal) (congrArg _ hy) (block_eq m c t (y 1) (y 2))

end Cert.Proof.A

end
-- ==== Proof.A.Ref.lean ====
/-
  The convolution branch's reference: its run, and its one result in named stages, each a few lines of the source.
-/
module

public import proofs.«01_k».proof.Proof.Gen.BranchARefIdeal
public import proofs.«01_k».proof.Proof.Gen.BranchARefIdeal.Run
public import Idealize.ShloMosaic.Lib.Claim

@[expose] public section

set_option maxRecDepth 65536

noncomputable section

namespace Cert.Proof.ARef

open Cert.BranchARefIdeal Cert.BranchARefIdeal.Gen
open Idealize.ShloMosaic Idealize.ShloMosaic.TcCoe Idealize.SL.Sem

variable {F : FTy → Type} [FloatOps F]

/-- The row over its root mean square. -/
def unitRow (x : FVec F S16x2048x1024 .f32) : FVec F S16x2048x1024 .f32 :=
  mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))

/-- The first layer's gain, along every row. -/
def gain (g : FVec F S2x1024 .f32) : FVec F S16x2048x1024 .f32 :=
  broadcastInDim S16x2048x1024 ![0, 1, 2] bcast_S1x1x1024_S16x2048x1024_0_1_2 (broadcastInDim S1x1x1024 ![2] bcast_S1024_S1x1x1024_2 (shapeCast S1024 (extractStridedSlice S1x1024 ![0, 0] g slices_S2x1024_S1x1024_0_0) shapeCasts_S1x1024_S1024))

/-- One plus the batch's scale, along every row. -/
def scaled (sc : FVec F S16x1024 .f32) : FVec F S16x2048x1024 .f32 :=
  broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 sc))

/-- The batch's shift, along every row. -/
def shifted (sh : FVec F S16x1024 .f32) : FVec F S16x2048x1024 .f32 :=
  broadcastInDim S16x2048x1024 ![0, 1, 2] bcast_S16x1x1024_S16x2048x1024_0_1_2 (broadcastInDim S16x1x1024 ![0, 2] bcast_S16x1024_S16x1x1024_0_2 sh)

/-- The modulated norm. -/
def hidden (x : FVec F S16x2048x1024 .f32) (sh sc : FVec F S16x1024 .f32) (g : FVec F S2x1024 .f32) : FVec F S16x2048x1024 .f32 :=
  addf (mulf (mulf (unitRow x) (gain g)) (scaled sc)) (shifted sh)

/-- The first linear map, with the first layer's weights. -/
def mapped (h : FVec F S16x2048x1024 .f32) (w : FVec F S2x1024x9728 .f32) : FVec F S16x2048x9728 .f32 :=
  Host.dotGeneral dot_S16x2048x1024_S1024x9728_S16x2048x9728_2_0_01_1_n_n none h (shapeCast S1024x9728 (extractStridedSlice S1x1024x9728 ![0, 0, 0] w slices_S2x1024x9728_S1x1024x9728_0_0_0) shapeCasts_S1x1024x9728_S1024x9728)

/-- The columns that feed the convolution. -/
def cols (p : FVec F S16x2048x9728 .f32) : FVec F S16x2048x1536 .f32 := extractStridedSlice S16x2048x1536 ![0, 0, 0] p slices_S16x2048x9728_S16x2048x1536_0_0_0

/-- The product that is convolved, with two rows of zeros before time starts. -/
def padded (p : FVec F S16x2048x9728 .f32) : FVec F S16x2050x512 .f32 :=
  pad S16x2050x512 ![0, 2, 0] ![0, 0, 0] ![0, 0, 0] (mulf (extractStridedSlice S16x2048x512 ![0, 0, 512] (cols p) slices_S16x2048x1536_S16x2048x512_0_0_512) (extractStridedSlice S16x2048x512 ![0, 0, 1024] (cols p) slices_S16x2048x1536_S16x2048x512_0_0_1024)) (sitofp .f32 (constantI S_ 32 0#32)) pads_S16x2048x512_S16x2050x512_000_200_000 h_S_

/-- The first layer's taps. -/
def taps (cw : FVec F S2x3x512 .f32) : FVec F S3x512 .f32 := shapeCast S3x512 (extractStridedSlice S1x3x512 ![0, 0, 0] cw slices_S2x3x512_S1x3x512_0_0_0) shapeCasts_S1x3x512_S3x512

/-- One tap, at every batch and time. -/
def spread (y : FVec F S1x512 .f32) : FVec F S16x2048x512 .f32 :=
  broadcastInDim S16x2048x512 ![0, 1, 2] bcast_S1x1x512_S16x2048x512_0_1_2 (broadcastInDim S1x1x512 ![2] bcast_S512_S1x1x512_2 (shapeCast S512 y shapeCasts_S1x512_S512))

/-- The convolution: each tap times the product that many times earlier. -/
def convolved (cw : FVec F S2x3x512 .f32) (p : FVec F S16x2048x9728 .f32) : FVec F S16x2048x512 .f32 :=
  addf (addf (mulf (spread (extractStridedSlice S1x512 ![0, 0] (taps cw) slices_S3x512_S1x512_0_0)) (extractStridedSlice S16x2048x512 ![0, 0, 0] (padded p) slices_S16x2050x512_S16x2048x512_0_0_0))
      (mulf (spread (extractStridedSlice S1x512 ![1, 0] (taps cw) slices_S3x512_S1x512_1_0)) (extractStridedSlice S16x2048x512 ![0, 1, 0] (padded p) slices_S16x2050x512_S16x2048x512_0_1_0)))
    (mulf (spread (extractStridedSlice S1x512 ![2, 0] (taps cw) slices_S3x512_S1x512_2_0)) (extractStridedSlice S16x2048x512 ![0, 2, 0] (padded p) slices_S16x2050x512_S16x2048x512_0_2_0))

/-- The second linear map of the gated convolution. -/
def second (p : FVec F S16x2048x9728 .f32) (cw : FVec F S2x3x512 .f32) (wo : FVec F S2x512x1024 .f32) : FVec F S16x2048x1024 .f32 :=
  Host.dotGeneral dot_S16x2048x512_S512x1024_S16x2048x1024_2_0_01_1_n_n none (mulf (extractStridedSlice S16x2048x512 ![0, 0, 0] (cols p) slices_S16x2048x1536_S16x2048x512_0_0_0) (convolved cw p)) (shapeCast S512x1024 (extractStridedSlice S1x512x1024 ![0, 0, 0] wo slices_S2x512x1024_S1x512x1024_0_0_0) shapeCasts_S1x512x1024_S512x1024)

/-- The three branches' gates. -/
def gates (p : FVec F S16x2048x9728 .f32) : FVec F S16x2048x3072 .f32 :=
  Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 6656] p slices_S16x2048x9728_S16x2048x3072_0_0_6656))))

/-- The branch's result from the first linear map. -/
def gated (p : FVec F S16x2048x9728 .f32) (cw : FVec F S2x3x512 .f32) (wo : FVec F S2x512x1024 .f32) : FVec F S16x2048x1024 .bf16 :=
  truncf .bf16 (mulf (extractStridedSlice S16x2048x1024 ![0, 0, 0] (gates p) slices_S16x2048x3072_S16x2048x1024_0_0_0) (second p cw wo)) bitsLt_bf16_f32

/-- The branch's result. -/
def result (x : FVec F S16x2048x1024 .f32) (sh sc : FVec F S16x1024 .f32) (g : FVec F S2x1024 .f32) (w : FVec F S2x1024x9728 .f32)
    (cw : FVec F S2x3x512 .f32) (wo : FVec F S2x512x1024 .f32) : FVec F S16x2048x1024 .bf16 :=
  gated (mapped (hidden x sh sc g) w) cw wo

variable (m : (ℓ : Loc nD τ sig) → Buf (Elt F) ℓ) (ρ : Dev nD → PrngReg)

/-- The result from the launch contents. -/
abbrev resultM (c : Dev nD) : FVec F S16x2048x1024 .bf16 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem res_eq (c : Dev nD) : Cert.BranchARefIdeal.Value.res_out0 m c = resultM m c := by
  unfold Cert.BranchARefIdeal.Value.res_out0 Cert.BranchARefIdeal.Value.res_main_v71
  rfl

theorem run_main : θ_run (defs (F := F)) (onTc (τ := τ) (main (F := F))) ⟨m, fun _ => 0, ρ⟩ fun r =>
    (∀ c : Dev nD,
      r.2.mem ((c.tc : Thread nD τ).loc main_v71) = resultM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run _ _ _).mono (fun r h => ⟨fun c => ⟨(h c).1.trans (res_eq m c), (h c).2⟩, sem_eq_zero_of_no_sems (by decide) r.2⟩)
    (Cert.BranchARefIdeal.Value.run m ρ)

end Cert.Proof.ARef

end
-- ==== Proof.A.RefValue.lean ====
/-
  The convolution branch's reference at the extended reals: its result at a batch, a time and a coordinate is the branch's
  map there.
-/
module

public import proofs.«01_k».proof.Proof.A.Spec
public import proofs.«01_k».proof.Proof.A.Ref
public import Idealize.ShloMosaic.Lib.StackMember
public import Idealize.ShloMosaic.Lib.KernelVsHost
public import Idealize.ShloMosaic.Lib.Pipeline.Value

@[expose] public section

set_option maxRecDepth 16384

noncomputable section

namespace Cert.Proof.ARef

open Cert.BranchARefIdeal Cert.BranchARefIdeal.Gen
open Idealize.ShloMosaic
open Idealize.ShloMosaic.ValueIdx (ix1 ix2 ix3 truncf_apply contrEquiv1 contrEquiv1_symm_val)
open Cert.Proof.A (count eps one nrm fin hid proj prod past conv full)
open scoped BigOperators

/-- A stack of rows times one matrix, at an entry: the sum over the contracted coordinate. -/
theorem dot_apply {G M K N : Nat} (w : DotDims.WF ⟨3, ![G, M, K]⟩ ⟨2, ![K, N]⟩ ⟨3, ![G, M, N]⟩ [2] [0] [0, 1] [1] [] [])
    (prec : Option ContractPrecision) (A : FVec Ideal ⟨3, ![G, M, K]⟩ .f32) (B : FVec Ideal ⟨2, ![K, N]⟩ .f32) (b : Fin G) (t : Fin M) (f : Fin N) :
    Host.dotGeneral (⟨[2], [0], [0, 1], [1], [], [], w⟩ : DotDims _ _ _) prec A B (ix3 b t f) = ∑ d : Fin K, A (ix3 b t d) * B (ix2 d f) := by
  show FloatOps.dotGeneral _ prec _ A B (ix3 b t f) = _
  rw [Ideal.dotGeneral_apply, ← Equiv.sum_comp (contrEquiv1 (⟨[2], [0], [0, 1], [1], [], [], w⟩ : DotDims _ _ _) K rfl rfl).symm]
  refine Finset.sum_congr rfl fun d _ => ?_
  have hd := contrEquiv1_symm_val (⟨[2], [0], [0, 1], [1], [], [], w⟩ : DotDims ⟨3, ![G, M, K]⟩ ⟨2, ![K, N]⟩ ⟨3, ![G, M, N]⟩) K rfl rfl d
  refine congrArg₂ (fun a b : EReal => a * b) (congrArg A (funext fun a => Fin.ext ?_)) (congrArg B (funext fun a => Fin.ext ?_))
  · match a with
    | ⟨0, _⟩ => simp [DotDims.lhsIdx]; rfl
    | ⟨1, _⟩ => simp [DotDims.lhsIdx]; rfl
    | ⟨2, _⟩ => simp [DotDims.lhsIdx]; exact hd
  · match a with
    | ⟨0, _⟩ => simp [DotDims.rhsIdx]; exact hd
    | ⟨1, _⟩ => simp [DotDims.rhsIdx]; rfl

variable (x : FVec Ideal S16x2048x1024 .f32) (sh sc : FVec Ideal S16x1024 .f32) (g : FVec Ideal S2x1024 .f32) (w : FVec Ideal S2x1024x9728 .f32)
  (cw : FVec Ideal S2x3x512 .f32) (wo : FVec Ideal S2x512x1024 .f32)

theorem unitRow_apply (b : Fin 16) (t : Fin 2048) (d : Fin 1024) :
    unitRow x (ix3 b t d) = x (ix3 b t d) * Ideal.rsqrt (Ideal.div (∑ k, x (ix3 b t k) * x (ix3 b t k)) count + eps) := by
  unfold unitRow
  refine congrArg (fun a : EReal => x (ix3 b t d) * a) ?_
  refine (broadcastInDim_apply (s := S16x2048x1) (t := S16x2048x1024) _ _ _ (ix3 b t d) (ix3 b t 0) (fun a => ?_)).trans ?_
  · match a with
    | ⟨0, _⟩ => rfl
    | ⟨1, _⟩ => rfl
    | ⟨2, _⟩ => rfl
  refine congrArg (fun a : EReal => Ideal.rsqrt (Ideal.div a count + eps)) ?_
  refine (broadcastInDim_apply (s := S16x2048) (t := S16x2048x1) _ _ _ (ix3 b t 0) (ix2 b t) (fun a => ?_)).trans ?_
  · match a with
    | ⟨0, _⟩ => rfl
    | ⟨1, _⟩ => rfl
  have h : S16x2048x1024.Reduces [2] S16x2048 := by decide
  refine (Ideal.hostReduceAdd_single (a := 2) reducesTo_S16x2048x1024_S16x2048_d2 h _ _ (ix2 b t)).trans ?_
  refine (congrArg₂ (fun a b : EReal => a + b) Ideal.ofBits_zero_f32 (Finset.sum_congr rfl fun k _ => ?_)).trans (zero_add _)
  have hk : h.lift (ix2 b t) k = ix3 b t k := funext fun a => by
    match a with
    | ⟨0, _⟩ => rfl
    | ⟨1, _⟩ => rfl
    | ⟨2, _⟩ => rfl
  rw [hk]
  rfl

theorem gain_apply (b : Fin 16) (t : Fin 2048) (d : Fin 1024) : gain g (ix3 b t d) = g (ix2 0 d) := by
  unfold gain
  refine (broadcastInDim_apply (s := S1x1x1024) (t := S16x2048x1024) _ _ _ (ix3 b t d) (ix3 0 0 d) (fun a => ?_)).trans ?_
  · match a with
    | ⟨0, _⟩ => rfl
    | ⟨1, _⟩ => rfl
    | ⟨2, _⟩ => rfl
  refine (broadcastInDim_apply (s := S1024) (t := S1x1x1024) _ _ _ (ix3 0 0 d) (ix1 d) (fun a => ?_)).trans ?_
  · match a with
    | ⟨0, _⟩ => rfl
  refine (shapeCast_apply (s := S1x1024) (t := S1024) _ _ (ix1 d) (ix2 0 d) ?_).trans ?_
  · rw [Shape.rowMajor_val_one, Shape.rowMajor_val_two]
    show 0 * 1024 + d.val = d.val
    omega
  · refine extractStridedSlice_apply (s := S2x1024) (t := S1x1024) _ g _ (ix2 0 d) (ix2 0 d) (fun a => ?_)
    match a with
    | ⟨0, _⟩ => rfl
    | ⟨1, _⟩ => exact (Nat.zero_add _).symm

/-- A batch's row, at every time. -/
theorem along_apply (y : FVec Ideal S16x1x1024 .f32) (b : Fin 16) (t : Fin 2048) (d : Fin 1024) :
    broadcastInDim S16x2048x1024 ![0, 1, 2] bcast_S16x1x1024_S16x2048x1024_0_1_2 y (ix3 b t d) = y (ix3 b 0 d) := by
  refine broadcastInDim_apply (s := S16x1x1024) (t := S16x2048x1024) _ _ _ (ix3 b t d) (ix3 b 0 d) (fun a => ?_)
  match a with
  | ⟨0, _⟩ => rfl
  | ⟨1, _⟩ => rfl
  | ⟨2, _⟩ => rfl

theorem batch_apply (y : FVec Ideal S16x1024 .f32) (b : Fin 16) (d : Fin 1024) :
    broadcastInDim S16x1x1024 ![0, 2] bcast_S16x1024_S16x1x1024_0_2 y (ix3 b 0 d) = y (ix2 b d) := by
  refine broadcastInDim_apply (s := S16x1024) (t := S16x1x1024) _ _ _ (ix3 b 0 d) (ix2 b d) (fun a => ?_)
  match a with
  | ⟨0, _⟩ => rfl
  | ⟨1, _⟩ => rfl

theorem hidden_apply (b : Fin 16) (t : Fin 2048) (d : Fin 1024) : hidden x sh sc g (ix3 b t d) = hid x sh sc g b t d := by
  unfold hidden hid nrm
  refine congrArg₂ (fun a b : EReal => a + b) (congrArg₂ (fun a b : EReal => a * b)
    (congrArg₂ (fun a b : EReal => a * b) (unitRow_apply x b t d) (gain_apply g b t d)) ?_) ?_
  · exact (along_apply _ b t d).trans (congrArg (fun a : EReal => one + a) (batch_apply sc b d))
  · exact (along_apply _ b t d).trans (batch_apply sh b d)

theorem mapped_apply (b : Fin 16) (t : Fin 2048) (f : Fin 9728) : mapped (hidden x sh sc g) w (ix3 b t f) = proj x sh sc g w b t f := by
  unfold mapped proj
  refine (dot_apply (G := 16) (M := 2048) (K := 1024) (N := 9728) _ none _ _ b t f).trans ?_
  refine Finset.sum_congr rfl fun d _ => congrArg₂ (fun a b : EReal => a * b) (hidden_apply x sh sc g b t d) ?_
  refine (shapeCast_apply (s := S1x1024x9728) (t := S1024x9728) _ _ (ix2 d f) (ix3 0 d f) ?_).trans ?_
  · rw [Shape.rowMajor_val_three, Shape.rowMajor_val_two]
    show (0 * 1024 + d.val) * 9728 + f.val = d.val * 9728 + f.val
    omega
  · refine extractStridedSlice_apply (s := S2x1024x9728) (t := S1x1024x9728) _ w _ (ix3 0 d f) (ix3 0 d f) (fun a => ?_)
    match a with
    | ⟨0, _⟩ => rfl
    | ⟨1, _⟩ => exact (Nat.zero_add _).symm
    | ⟨2, _⟩ => exact (Nat.zero_add _).symm

/-- The first linear map, as an array. -/
abbrev P : FVec Ideal S16x2048x9728 .f32 := mapped (hidden x sh sc g) w

theorem cols_apply (p : FVec Ideal S16x2048x9728 .f32) (b : Fin 16) (t : Fin 2048) (f : Fin 1536) :
    cols p (ix3 b t f) = p (ix3 b t ⟨f.val, by omega⟩) := by
  refine extractStridedSlice_apply (s := S16x2048x9728) (t := S16x2048x1536) _ p Facts₀.slices_S16x2048x9728_S16x2048x1536_0_0_0 (ix3 b t f) (ix3 b t ⟨f.val, by omega⟩) (fun a => ?_)
  match a with
  | ⟨0, _⟩ => exact (Nat.zero_add _).symm
  | ⟨1, _⟩ => exact (Nat.zero_add _).symm
  | ⟨2, _⟩ => exact (Nat.zero_add _).symm

/-- The padded product at `n` rows from its top is the product two times earlier, zero in the first two rows. -/
theorem padded_apply (b : Fin 16) (t : Fin 2048) (k : ℕ) (hk : k ≤ 2) (j : Fin 512) (n : Fin 2050) (hn : n.val = t.val + 2 - k) :
    padded (P x sh sc g w) (ix3 b n j) = past x sh sc g w b t k j := by
  unfold padded past
  by_cases h : k ≤ t.val
  · rw [if_pos h]
    refine (pad_apply_of_inside (s := S16x2048x512) (t := S16x2050x512) _ _ _ _ _ _ _ (ix3 b n j) (ix3 b (⟨t.val - k, by omega⟩ : Fin 2048) j) (fun a => ?_)).trans ?_
    · match a with
      | ⟨0, _⟩ => show b.val = 0 + b.val * (0 + 1); omega
      | ⟨1, _⟩ => show n.val = 2 + (t.val - k) * (0 + 1); omega
      | ⟨2, _⟩ => show j.val = 0 + j.val * (0 + 1); omega
    · unfold prod
      refine congrArg₂ (fun a b : EReal => a * b) ?_ ?_
      · refine (extractStridedSlice_apply (s := S16x2048x1536) (t := S16x2048x512) _ _ _ (ix3 b (⟨t.val - k, by omega⟩ : Fin 2048) j) (ix3 b (⟨t.val - k, by omega⟩ : Fin 2048) (⟨512 + j.val, by omega⟩ : Fin 1536)) (fun a => ?_)).trans
          ((cols_apply _ _ _ _).trans (mapped_apply x sh sc g w _ _ _))
        match a with
        | ⟨0, _⟩ => exact (Nat.zero_add _).symm
        | ⟨1, _⟩ => exact (Nat.zero_add _).symm
        | ⟨2, _⟩ => rfl
      · refine (extractStridedSlice_apply (s := S16x2048x1536) (t := S16x2048x512) _ _ _ (ix3 b (⟨t.val - k, by omega⟩ : Fin 2048) j) (ix3 b (⟨t.val - k, by omega⟩ : Fin 2048) (⟨1024 + j.val, by omega⟩ : Fin 1536)) (fun a => ?_)).trans
          ((cols_apply _ _ _ _).trans (mapped_apply x sh sc g w _ _ _))
        match a with
        | ⟨0, _⟩ => exact (Nat.zero_add _).symm
        | ⟨1, _⟩ => exact (Nat.zero_add _).symm
        | ⟨2, _⟩ => rfl
  · rw [if_neg h]
    refine (pad_apply_of_not_inside (s := S16x2048x512) (t := S16x2050x512) _ _ _ _ _ _ _ (ix3 b n j) (1 : Fin 3) (fun hh => ?_)).trans ?_
    · have h2 : 2 ≤ n.val := hh.1
      omega
    · exact sitofp_zero (φ := .f32)

theorem taps_apply (o : Fin 3) (j : Fin 512) : taps cw (ix2 o j) = cw (ix3 0 o j) := by
  unfold taps
  refine (shapeCast_apply (s := S1x3x512) (t := S3x512) _ _ (ix2 o j) (ix3 0 o j) ?_).trans ?_
  · rw [Shape.rowMajor_val_three, Shape.rowMajor_val_two]
    show (0 * 3 + o.val) * 512 + j.val = o.val * 512 + j.val
    omega
  · refine extractStridedSlice_apply (s := S2x3x512) (t := S1x3x512) _ cw _ (ix3 0 o j) (ix3 0 o j) (fun a => ?_)
    match a with
    | ⟨0, _⟩ => rfl
    | ⟨1, _⟩ => exact (Nat.zero_add _).symm
    | ⟨2, _⟩ => exact (Nat.zero_add _).symm

theorem spread_apply (y : FVec Ideal S1x512 .f32) (b : Fin 16) (t : Fin 2048) (j : Fin 512) : spread y (ix3 b t j) = y (ix2 0 j) := by
  unfold spread
  refine (broadcastInDim_apply (s := S1x1x512) (t := S16x2048x512) _ _ _ (ix3 b t j) (ix3 0 0 j) (fun a => ?_)).trans ?_
  · match a with
    | ⟨0, _⟩ => rfl
    | ⟨1, _⟩ => rfl
    | ⟨2, _⟩ => rfl
  refine (broadcastInDim_apply (s := S512) (t := S1x1x512) _ _ _ (ix3 0 0 j) (ix1 j) (fun a => ?_)).trans ?_
  · match a with
    | ⟨0, _⟩ => rfl
  refine shapeCast_apply (s := S1x512) (t := S512) _ _ (ix1 j) (ix2 0 j) ?_
  rw [Shape.rowMajor_val_one, Shape.rowMajor_val_two]
  show 0 * 512 + j.val = j.val
  omega

theorem convolved_apply (b : Fin 16) (t : Fin 2048) (j : Fin 512) :
    convolved cw (P x sh sc g w) (ix3 b t j) = conv x sh sc g w cw b t j := by
  unfold convolved conv
  refine congrArg₂ (fun a b : EReal => a + b) (congrArg₂ (fun a b : EReal => a + b)
    (congrArg₂ (fun a b : EReal => a * b) ?_ ?_) (congrArg₂ (fun a b : EReal => a * b) ?_ ?_)) (congrArg₂ (fun a b : EReal => a * b) ?_ ?_)
  · refine (spread_apply _ b t j).trans ((extractStridedSlice_apply (s := S3x512) (t := S1x512) _ _ _ (ix2 0 j) (ix2 0 j) (fun a => ?_)).trans (taps_apply cw 0 j))
    match a with
    | ⟨0, _⟩ => rfl
    | ⟨1, _⟩ => exact (Nat.zero_add _).symm
  · refine (extractStridedSlice_apply (s := S16x2050x512) (t := S16x2048x512) _ _ _ (ix3 b t j) (ix3 b (⟨t.val, by omega⟩ : Fin 2050) j) (fun a => ?_)).trans
      (padded_apply x sh sc g w b t 2 (by omega) j _ (by show t.val = t.val + 2 - 2; omega))
    match a with
    | ⟨0, _⟩ => exact (Nat.zero_add _).symm
    | ⟨1, _⟩ => exact (Nat.zero_add _).symm
    | ⟨2, _⟩ => exact (Nat.zero_add _).symm
  · refine (spread_apply _ b t j).trans ((extractStridedSlice_apply (s := S3x512) (t := S1x512) _ _ _ (ix2 0 j) (ix2 1 j) (fun a => ?_)).trans (taps_apply cw 1 j))
    match a with
    | ⟨0, _⟩ => rfl
    | ⟨1, _⟩ => exact (Nat.zero_add _).symm
  · refine (extractStridedSlice_apply (s := S16x2050x512) (t := S16x2048x512) _ _ _ (ix3 b t j) (ix3 b (⟨1 + t.val, by omega⟩ : Fin 2050) j) (fun a => ?_)).trans
      (padded_apply x sh sc g w b t 1 (by omega) j _ (by show 1 + t.val = t.val + 2 - 1; omega))
    match a with
    | ⟨0, _⟩ => exact (Nat.zero_add _).symm
    | ⟨1, _⟩ => rfl
    | ⟨2, _⟩ => exact (Nat.zero_add _).symm
  · refine (spread_apply _ b t j).trans ((extractStridedSlice_apply (s := S3x512) (t := S1x512) _ _ _ (ix2 0 j) (ix2 2 j) (fun a => ?_)).trans (taps_apply cw 2 j))
    match a with
    | ⟨0, _⟩ => rfl
    | ⟨1, _⟩ => exact (Nat.zero_add _).symm
  · refine (extractStridedSlice_apply (s := S16x2050x512) (t := S16x2048x512) _ _ _ (ix3 b t j) (ix3 b (⟨2 + t.val, by omega⟩ : Fin 2050) j) (fun a => ?_)).trans
      (padded_apply x sh sc g w b t 0 (by omega) j _ (by show 2 + t.val = t.val + 2 - 0; omega))
    match a with
    | ⟨0, _⟩ => exact (Nat.zero_add _).symm
    | ⟨1, _⟩ => rfl
    | ⟨2, _⟩ => exact (Nat.zero_add _).symm

theorem second_apply (b : Fin 16) (t : Fin 2048) (q : Fin 1024) :
    second (P x sh sc g w) cw wo (ix3 b t q)
      = ∑ j : Fin 512, proj x sh sc g w b t ⟨j.val, by omega⟩ * conv x sh sc g w cw b t j * wo (ix3 0 j q) := by
  unfold second
  refine (dot_apply (G := 16) (M := 2048) (K := 512) (N := 1024) _ none _ _ b t q).trans ?_
  refine Finset.sum_congr rfl fun j _ => congrArg₂ (fun a b : EReal => a * b) (congrArg₂ (fun a b : EReal => a * b) ?_ (convolved_apply x sh sc g w cw b t j)) ?_
  · refine (extractStridedSlice_apply (s := S16x2048x1536) (t := S16x2048x512) _ _ _ (ix3 b t j) (ix3 b t (⟨j.val, by omega⟩ : Fin 1536)) (fun a => ?_)).trans
      ((cols_apply _ _ _ _).trans (mapped_apply x sh sc g w _ _ _))
    match a with
    | ⟨0, _⟩ => exact (Nat.zero_add _).symm
    | ⟨1, _⟩ => exact (Nat.zero_add _).symm
    | ⟨2, _⟩ => exact (Nat.zero_add _).symm
  · refine (shapeCast_apply (s := S1x512x1024) (t := S512x1024) _ _ (ix2 j q) (ix3 0 j q) ?_).trans ?_
    · rw [Shape.rowMajor_val_three, Shape.rowMajor_val_two]
      show (0 * 512 + j.val) * 1024 + q.val = j.val * 1024 + q.val
      omega
    · refine extractStridedSlice_apply (s := S2x512x1024) (t := S1x512x1024) _ wo _ (ix3 0 j q) (ix3 0 j q) (fun a => ?_)
      match a with
      | ⟨0, _⟩ => rfl
      | ⟨1, _⟩ => exact (Nat.zero_add _).symm
      | ⟨2, _⟩ => exact (Nat.zero_add _).symm

theorem gates_apply (b : Fin 16) (t : Fin 2048) (f : Fin 3072) :
    gates (P x sh sc g w) (ix3 b t f) = Ideal.div one (one + Ideal.exp (-(proj x sh sc g w b t ⟨6656 + f.val, by omega⟩))) := by
  unfold gates
  refine congrArg (fun a : EReal => Ideal.div one (one + Ideal.exp (-a))) ?_
  refine (extractStridedSlice_apply (s := S16x2048x9728) (t := S16x2048x3072) _ _ _ (ix3 b t f) (ix3 b t (⟨6656 + f.val, by omega⟩ : Fin 9728)) (fun a => ?_)).trans
    (mapped_apply x sh sc g w _ _ _)
  match a with
  | ⟨0, _⟩ => exact (Nat.zero_add _).symm
  | ⟨1, _⟩ => exact (Nat.zero_add _).symm
  | ⟨2, _⟩ => rfl

theorem result_apply (b : Fin 16) (t : Fin 2048) (q : Fin 1024) : result x sh sc g w cw wo (ix3 b t q) = full x sh sc g w cw wo b t q := by
  unfold result gated full fin
  refine (truncf_apply (φ := .f32) (ψ := .bf16) _ bitsLt_bf16_f32 _).trans ?_
  refine congrArg₂ (fun a b : EReal => a * b) ?_ (second_apply x sh sc g w cw wo b t q)
  refine (extractStridedSlice_apply (s := S16x2048x3072) (t := S16x2048x1024) _ _ _ (ix3 b t q) (ix3 b t (⟨q.val, by omega⟩ : Fin 3072)) (fun a => ?_)).trans
    (gates_apply x sh sc g w b t _)
  match a with
  | ⟨0, _⟩ => exact (Nat.zero_add _).symm
  | ⟨1, _⟩ => exact (Nat.zero_add _).symm
  | ⟨2, _⟩ => exact (Nat.zero_add _).symm

end Cert.Proof.ARef

end
-- ==== Proof.C.Spec.lean ====
/-
  The combination at one token, at the extended reals: the token's four expert rows weighted by their probabilities and
  added, gated and added to the residual, and the root mean square norm of that. A row is stored as two arrays of 32-bit
  words, each word a pair of values: its low and its high half. Both programs are read as this function.
-/
module

public import proofs.«01_k».proof.Proof.A.Spec
public import Idealize.ShloMosaic.PureOps.Vector
public import Idealize.ShloMosaic.Lib.Pipeline.Value

@[expose] public section

noncomputable section

namespace Cert.Proof.C

open Idealize.ShloMosaic
open Idealize.ShloMosaic.ValueIdx (ix1 ix2 ix3)
open Cert.Proof.A (count eps)
open scoped BigOperators

/-- The value in a word's low half, and in its high half. -/
def low (w : BitVec 32) : EReal := Ideal.ofBits .f32 (w <<< (16#32 : BitVec 32))
def high (w : BitVec 32) : EReal := Ideal.ofBits .f32 (w &&& 4294901760#32)

/-- The four runs of 256 columns of a row stored as the words `a` and `b`. -/
def run (a b : Fin 256 → BitVec 32) (n : Fin 4) (j : Fin 256) : EReal :=
  match n with
  | ⟨0, _⟩ => low (a j)
  | ⟨1, _⟩ => high (a j)
  | ⟨2, _⟩ => low (b j)
  | ⟨3, _⟩ => high (b j)

/-- Column `d` of that row. -/
def col (a b : Fin 256 → BitVec 32) (d : Fin 1024) : EReal := run a b ⟨d.val / 256, by omega⟩ ⟨d.val % 256, by omega⟩

/-- A row over its root mean square, times the gain. -/
def unit (X G : Fin 1024 → EReal) (d : Fin 1024) : EReal :=
  X d * Ideal.rsqrt (Ideal.div (∑ k, X k * X k) count + eps) * G d

/-- A slot's word as an array index: a negative one wraps, and one outside the table is kept inside. -/
def wrap (w : BitVec 32) : BitVec 32 := Scalar.select (IntOp.cmpi .slt w 0#32) (IntOp.addi w 147456#32) w
def slot (w : BitVec 32) : Fin 147456 := ⟨min (wrap w).toInt.toNat 147455, by omega⟩

/-- Token `n`'s batch and time. -/
def bat (n : Fin 32768) : Fin 16 := ⟨n.val / 2048, by omega⟩
def tim (n : Fin 32768) : Fin 2048 := ⟨n.val % 2048, by omega⟩

/-- A word array's shift to the left by sixteen, whichever unit makes it. -/
theorem shl_vector (w : BitVec 32) : IntOp.shli .vector w 16#32 = w <<< (16#32 : BitVec 32) := by simp [IntOp.shli]
theorem shl_host (w : BitVec 32) : IntOp.shli .host w 16#32 = w <<< (16#32 : BitVec 32) := by simp [IntOp.shli]

/-- Four arrays of 256 columns side by side. -/
theorem side_by_side {M : Nat} (f : Fin 4 → (⟨2, ![M, 256]⟩ : Shape).Idx → EReal)
    (h : Shape.Concatenates [(⟨2, ![M, 256]⟩ : Shape), ⟨2, ![M, 256]⟩, ⟨2, ![M, 256]⟩, ⟨2, ![M, 256]⟩] ⟨2, ![M, 1024]⟩ (1 : Fin 2))
    (r : Fin M) (d : Fin 1024) :
    concatenate (⟨2, ![M, 1024]⟩ : Shape) (1 : Fin 2) [⟨⟨2, ![M, 256]⟩, f 0⟩, ⟨⟨2, ![M, 256]⟩, f 1⟩, ⟨⟨2, ![M, 256]⟩, f 2⟩, ⟨⟨2, ![M, 256]⟩, f 3⟩] h (ix2 r d)
      = f ⟨d.val / 256, by omega⟩ (ix2 r ⟨d.val % 256, by omega⟩) := by
  refine concatenate_ofFn_apply (t := ⟨2, ![M, 1024]⟩) (s₁ := ⟨2, ![M, 256]⟩) (1 : Fin 2) f h rfl 256 rfl (ix2 r d) ⟨d.val / 256, by omega⟩ rfl
    (ix2 r ⟨d.val % 256, by omega⟩) rfl (fun b hb => ?_)
  match b with
  | ⟨0, _⟩ => rfl
  | ⟨1, _⟩ => exact absurd rfl hb

variable (y0 y1 : (⟨2, ![147456, 256]⟩ : Shape).Idx → BitVec 32) (dest : (⟨2, ![32768, 4]⟩ : Shape).Idx → BitVec 32)
  (x1 : (⟨3, ![16, 2048, 1024]⟩ : Shape).Idx → EReal) (g2 : (⟨2, ![16, 1024]⟩ : Shape).Idx → EReal)
  (prob : (⟨3, ![16, 2048, 128]⟩ : Shape).Idx → EReal) (fg : (⟨1, ![1024]⟩ : Shape).Idx → EReal)

/-- The token's expert rows, weighted and added. -/
def comb (n : Fin 32768) (d : Fin 1024) : EReal :=
  ∑ k : Fin 4, prob (ix3 (bat n) (tim n) ⟨k.val, by omega⟩)
    * col (fun j => y0 (ix2 (slot (dest (ix2 n k))) j)) (fun j => y1 (ix2 (slot (dest (ix2 n k))) j)) d

/-- The residual with the gated sum added. -/
def mix (n : Fin 32768) (d : Fin 1024) : EReal := x1 (ix3 (bat n) (tim n) d) + g2 (ix2 (bat n) d) * comb y0 y1 dest prob n d

/-- The combination's result at token `n` and coordinate `d`. -/
def full (n : Fin 32768) (d : Fin 1024) : EReal := unit (mix y0 y1 dest x1 g2 prob n) (fun k => fg (ix1 k)) d

end Cert.Proof.C

end
-- ==== Proof.C.Value.lean ====
/-
  What one grid point of the combination leaves in its result block, at the extended reals: row by row, the weighted sum of
  the four expert rows, the gated residual and its norm.
-/
module

public import proofs.«01_k».proof.Proof.C.Spec
public import proofs.«01_k».proof.Proof.Gen.CombineIdeal.Frame
public import Idealize.ShloMosaic.Lib.Pipeline.Value
public import Idealize.ShloMosaic.Lib.Pipeline.ValueKit.Tiles

@[expose] public section

set_option maxRecDepth 16384

noncomputable section

namespace Cert.Proof.C

open Cert.CombineIdeal Cert.CombineIdeal.Gen
open Idealize.ShloMosaic
open Idealize.ShloMosaic.ValueIdx (ix1 ix2 ix3 eq_ix2)
open Cert.Proof.A (count eps)
open scoped BigOperators

section
variable {F : FTy → Type} [FloatOps F]

/-- The four column runs of 512 rows stored as the words `p` and `q`. -/
def runs (p q : Vec F S512x256 .i32) : Fin 4 → FVec F S512x256 .f32
  | ⟨0, _⟩ => bitcastToFloat .f32 (shli (shapeCast S512x256 p shapeCasts_S512x256_S512x256) (broadcast S512x256 16#32))
  | ⟨1, _⟩ => bitcastToFloat .f32 (andi (shapeCast S512x256 p shapeCasts_S512x256_S512x256) (broadcast S512x256 4294901760#32))
  | ⟨2, _⟩ => bitcastToFloat .f32 (shli (shapeCast S512x256 q shapeCasts_S512x256_S512x256) (broadcast S512x256 16#32))
  | ⟨3, _⟩ => bitcastToFloat .f32 (andi (shapeCast S512x256 q shapeCasts_S512x256_S512x256) (broadcast S512x256 4294901760#32))

def rows (p q : Vec F S512x256 .i32) : FVec F S512x1024 .f32 :=
  concatenate S512x1024 1 [⟨S512x256, runs p q 0⟩, ⟨S512x256, runs p q 1⟩, ⟨S512x256, runs p q 2⟩, ⟨S512x256, runs p q 3⟩]
    concatenates_S512x256_S512x256_S512x256_S512x256_S512x1024_d1

/-- Rows weighted by a column. -/
def weighted (w : FVec F S512x1 .f32) (y : FVec F S512x1024 .f32) : FVec F S512x1024 .f32 :=
  mulf (broadcastTo S512x1024 w broadcasts_S512x1_S512x1024) y

/-- The probabilities' block. -/
abbrev probs (x4 : Vec F S512x128 .f32) : FVec F S512x128 .f32 := shapeCast S512x128 x4 shapeCasts_S512x128_S512x128

/-- The four weighted rows added up. -/
def added (x0 x1 : Vec F S2048x256 .i32) (x4 : Vec F S512x128 .f32) : FVec F S512x1024 .f32 :=
  addf (addf (addf (addf (broadcast S512x1024 (Scalar.ofBits .f32 0x00000000#32))
      (weighted (extractStridedSlice S512x1 ![0, 0] (probs x4) slices_S512x128_o0_0_S512x1) (rows (F := F) (View.ld x0 r0_1) (View.ld x1 r0_1))))
      (weighted (extractStridedSlice S512x1 ![0, 1] (probs x4) slices_S512x128_o0_1_S512x1) (rows (F := F) (View.ld x0 r0_2) (View.ld x1 r0_2))))
      (weighted (extractStridedSlice S512x1 ![0, 2] (probs x4) slices_S512x128_o0_2_S512x1) (rows (F := F) (View.ld x0 r0_3) (View.ld x1 r0_3))))
      (weighted (extractStridedSlice S512x1 ![0, 3] (probs x4) slices_S512x128_o0_3_S512x1) (rows (F := F) (View.ld x0 r0_4) (View.ld x1 r0_4)))

/-- The residual's block with the gated sum added. -/
def mixed (x2 : Vec F S512x1024 .f32) (x3 : Vec F S1x1x1024 .f32) (s : FVec F S512x1024 .f32) : FVec F S512x1024 .f32 :=
  addf (shapeCast S512x1024 x2 shapeCasts_S512x1024_S512x1024)
    (mulf (broadcastTo S512x1024 (shapeCast S1x1024 x3 shapeCasts_S1x1x1024_S1x1024) broadcasts_S1x1024_S512x1024) s)

/-- A block's rows over their root mean squares, times the gain. -/
def normed (x : FVec F S512x1024 .f32) (x5 : Vec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 x5 shapeCasts_S1x1024_S1x1024) broadcasts_S1x1024_S512x1024)

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 x1 : Vec F S2048x256 .i32) (x2 : Vec F S512x1024 .f32) (x3 : Vec F S1x1x1024 .f32) (x4 : Vec F S512x128 .f32) (x5 : Vec F S1x1024 .f32) :
    out0_6 x0 x1 x2 x3 x4 x5 = normed (mixed x2 x3 (added x0 x1 x4)) x5 := by
  unfold out0_6 k0_pay14
  rw [View.canon_unit_zero zero2, View.ld_unit_zero (S := S512x128) zero2, View.ld_unit_zero (S := S512x1024) zero2,
    View.ld_unit_zero (S := S1x1x1024) zero3, View.ld_unit_zero (S := S1x1024) zero2]
  rfl

end

/-! ## At coordinates -/

theorem runs_apply (p q : IVec S512x256 32) (n : Fin 4) (r : Fin 512) (j : Fin 256) :
    runs (F := Ideal) p q n (ix2 r j) = run (fun j => p (ix2 r j)) (fun j => q (ix2 r j)) n j := by
  have hs (w : IVec S512x256 32) : shapeCast S512x256 w shapeCasts_S512x256_S512x256 = w := shapeCast_self w _
  match n with
  | ⟨0, _⟩ => exact congrArg (Ideal.ofBits .f32) ((congrArg (fun w : IVec S512x256 32 => IntOp.shli .vector (w (ix2 r j)) 16#32) (hs p)).trans (shl_vector _))
  | ⟨1, _⟩ => exact congrArg (Ideal.ofBits .f32) (congrArg (fun w : IVec S512x256 32 => w (ix2 r j) &&& 4294901760#32) (hs p))
  | ⟨2, _⟩ => exact congrArg (Ideal.ofBits .f32) ((congrArg (fun w : IVec S512x256 32 => IntOp.shli .vector (w (ix2 r j)) 16#32) (hs q)).trans (shl_vector _))
  | ⟨3, _⟩ => exact congrArg (Ideal.ofBits .f32) (congrArg (fun w : IVec S512x256 32 => w (ix2 r j) &&& 4294901760#32) (hs q))

theorem rows_apply (p q : IVec S512x256 32) (r : Fin 512) (d : Fin 1024) :
    rows (F := Ideal) p q (ix2 r d) = col (fun j => p (ix2 r j)) (fun j => q (ix2 r j)) d := by
  unfold rows col
  exact (side_by_side (M := 512) (runs (F := Ideal) p q) _ r d).trans (runs_apply p q _ r _)

theorem column_apply (w : FVec Ideal S512x1 .f32) (r : Fin 512) (d : Fin 1024) :
    broadcastTo S512x1024 w broadcasts_S512x1_S512x1024 (ix2 r d) = w (ix2 r 0) := by
  refine broadcastTo_apply _ _ (ix2 r d) (ix2 r (0 : Fin 1)) (fun a => ?_)
  match a with
  | ⟨0, _⟩ => rfl
  | ⟨1, _⟩ => rfl

theorem along_rows_apply (x : FVec Ideal S1x1024 .f32) (r : Fin 512) (d : Fin 1024) :
    broadcastTo S512x1024 x broadcasts_S1x1024_S512x1024 (ix2 r d) = x (ix2 0 d) := by
  refine broadcastTo_apply _ _ (ix2 r d) (ix2 (0 : Fin 1) d) (fun a => ?_)
  match a with
  | ⟨0, _⟩ => rfl
  | ⟨1, _⟩ => rfl

theorem lane_apply (x4 : FVec Ideal S512x128 .f32) (k : Fin 4) (h : S512x128.Slices ![0, k.val] S512x1) (r : Fin 512) :
    extractStridedSlice S512x1 ![0, k.val] (probs (F := Ideal) x4) h (ix2 r 0) = x4 (ix2 r ⟨k.val, by omega⟩) := by
  refine (extractStridedSlice_apply (s := S512x128) (t := S512x1) _ _ _ (ix2 r 0) (ix2 r (⟨k.val, by omega⟩ : Fin 128)) (fun a => ?_)).trans (congrFun (shapeCast_self x4 _) _)
  match a with
  | ⟨0, _⟩ => exact (Nat.zero_add _).symm
  | ⟨1, _⟩ => rfl

/-- Row `r` of the `k`-th run of 512 rows, as stored. -/
def stored (x : IVec S2048x256 32) (r : Fin 512) (k : Fin 4) (j : Fin 256) : BitVec 32 := x (ix2 (⟨512 * k.val + r.val, by omega⟩ : Fin 2048) j)

theorem ld_apply (x : IVec S2048x256 32) (k : Fin 4) (inb : ∀ a, (![512 * k.val, 0] : Fin 2 → Nat) a + S512x256.size a ≤ S2048x256.size a) (r : Fin 512) (j : Fin 256) :
    View.ld (Val := Elt Ideal) (S := S2048x256) (e' := .i32) x (Rect.unit (s := S2048x256) ![512 * k.val, 0] S512x256.size inb) (ix2 r j) = stored x r k j := by
  refine View.ld_unit_apply_of (Val := Elt Ideal) (e := .i32) x _ _ inb (ix2 r j) (ix2 (⟨512 * k.val + r.val, by omega⟩ : Fin 2048) j) (fun a => ?_)
  match a with
  | ⟨0, _⟩ => rfl
  | ⟨1, _⟩ => exact (Nat.zero_add _).symm

variable (x0 x1 : IVec S2048x256 32) (x2 : FVec Ideal S512x1024 .f32) (x3 : FVec Ideal S1x1x1024 .f32) (x4 : FVec Ideal S512x128 .f32) (x5 : FVec Ideal S1x1024 .f32)

theorem weighted_apply (k : Fin 4) (h : S512x128.Slices ![0, k.val] S512x1) (inb : ∀ a, (![512 * k.val, 0] : Fin 2 → Nat) a + S512x256.size a ≤ S2048x256.size a)
    (r : Fin 512) (d : Fin 1024) :
    weighted (F := Ideal) (extractStridedSlice S512x1 ![0, k.val] (probs (F := Ideal) x4) h)
        (rows (F := Ideal) (View.ld (Val := Elt Ideal) (S := S2048x256) (e' := .i32) x0 (Rect.unit (s := S2048x256) ![512 * k.val, 0] S512x256.size inb))
          (View.ld (Val := Elt Ideal) (S := S2048x256) (e' := .i32) x1 (Rect.unit (s := S2048x256) ![512 * k.val, 0] S512x256.size inb))) (ix2 r d)
      = x4 (ix2 r ⟨k.val, by omega⟩) * col (stored x0 r k) (stored x1 r k) d := by
  refine congrArg₂ (fun a b : EReal => a * b) ((column_apply _ r d).trans (lane_apply x4 k h r)) ((rows_apply _ _ r d).trans ?_)
  exact congrArg₂ (fun a b => col a b d) (funext fun j => ld_apply x0 k inb r j) (funext fun j => ld_apply x1 k inb r j)

theorem added_apply (r : Fin 512) (d : Fin 1024) :
    added (F := Ideal) x0 x1 x4 (ix2 r d) = ∑ k : Fin 4, x4 (ix2 r ⟨k.val, by omega⟩) * col (stored x0 r k) (stored x1 r k) d := by
  rw [Fin.sum_univ_four]
  unfold added
  refine congrArg₂ (fun a b : EReal => a + b) (congrArg₂ (fun a b : EReal => a + b) (congrArg₂ (fun a b : EReal => a + b)
    ((congrArg₂ (fun a b : EReal => a + b) Ideal.ofBits_zero_f32 ?_).trans (zero_add _)) ?_) ?_) ?_
  · exact weighted_apply x0 x1 x4 0 slices_S512x128_o0_0_S512x1 inb_S2048x256_S512x256_0_0 r d
  · exact weighted_apply x0 x1 x4 1 slices_S512x128_o0_1_S512x1 inb_S2048x256_S512x256_512_0 r d
  · exact weighted_apply x0 x1 x4 2 slices_S512x128_o0_2_S512x1 inb_S2048x256_S512x256_1024_0 r d
  · exact weighted_apply x0 x1 x4 3 slices_S512x128_o0_3_S512x1 inb_S2048x256_S512x256_1536_0 r d

/-- A block row of the gated residual. -/
def rowMix (r : Fin 512) (d : Fin 1024) : EReal :=
  x2 (ix2 r d) + x3 (ix3 0 0 d) * ∑ k : Fin 4, x4 (ix2 r ⟨k.val, by omega⟩) * col (stored x0 r k) (stored x1 r k) d

theorem mixed_apply (r : Fin 512) (d : Fin 1024) :
    mixed (F := Ideal) x2 x3 (added (F := Ideal) x0 x1 x4) (ix2 r d) = rowMix x0 x1 x2 x3 x4 r d := by
  unfold mixed rowMix
  refine congrArg₂ (fun a b : EReal => a + b) (congrFun (shapeCast_self x2 _) _) (congrArg₂ (fun a b : EReal => a * b) ((along_rows_apply _ r d).trans ?_) (added_apply x0 x1 x4 r d))
  refine shapeCast_apply (s := S1x1x1024) (t := S1x1024) x3 _ _ (ix3 0 0 d) ?_
  rw [Shape.rowMajor_val_three, Shape.rowMajor_val_two]
  show (0 * 1 + 0) * 1024 + d.val = 0 * 1024 + d.val
  omega

theorem normed_apply (x : FVec Ideal S512x1024 .f32) (r : Fin 512) (d : Fin 1024) :
    normed (F := Ideal) x x5 (ix2 r d) = unit (fun k => x (ix2 r k)) (fun k => x5 (ix2 0 k)) d := by
  unfold normed unit
  refine congrArg₂ (fun a b : EReal => a * b) (congrArg (fun a : EReal => x (ix2 r d) * a) ((column_apply _ r d).trans ?_))
    ((along_rows_apply _ r d).trans (congrFun (shapeCast_self x5 _) _))
  refine congrArg (fun a : EReal => Ideal.rsqrt (Ideal.div a count + eps)) ?_
  refine (shapeCast_apply (s := S512) (t := S512x1) _ _ (ix2 r (0 : Fin 1)) (ix1 r) ?_).trans ?_
  · rw [Shape.rowMajor_val_one, Shape.rowMajor_val_two]
    show r.val = r.val * 1 + 0
    omega
  refine (Ideal.multiReduction_add_single _ _ reduces_S512x1024_S512 (.inl rfl) rfl (ix1 r)).trans ?_
  refine Finset.sum_congr rfl fun k _ => ?_
  have hk : reduces_S512x1024_S512.lift (ix1 r) k = ix2 r k := funext fun a => by
    match a with
    | ⟨0, _⟩ => rfl
    | ⟨1, _⟩ => rfl
  rw [hk]
  rfl

/-- A grid point's result block. -/
theorem out_apply (r : Fin 512) (d : Fin 1024) :
    out0_6 (F := Ideal) x0 x1 x2 x3 x4 x5 (ix2 r d) = unit (rowMix x0 x1 x2 x3 x4 r) (fun k => x5 (ix2 0 k)) d := by
  refine (congrFun (out_eq (F := Ideal) x0 x1 x2 x3 x4 x5) (ix2 r d)).trans ((normed_apply x5 _ r d).trans ?_)
  exact congrArg (fun X => unit X (fun k => x5 (ix2 0 k)) d) (funext fun k => mixed_apply x0 x1 x2 x3 x4 r k)

end Cert.Proof.C

end
-- ==== Proof.C.Close.lean ====
/-
  The combination's result array at the extended reals. A grid point takes 512 tokens; the expert rows of its tokens stand in
  four runs of 512, the first expert's rows of all of them first. The rows were gathered by the slots in that order, so that row
  `r` of run `k` is the row at the `k`-th slot of the point's token `r`.
-/
module

public import proofs.«01_k».proof.Proof.C.Value
public import Idealize.ShloMosaic.Lib.Pipeline.Covers

@[expose] public section

set_option maxRecDepth 16384

noncomputable section

namespace Cert.Proof.C

open Cert.CombineIdeal Cert.CombineIdeal.Gen
open Idealize.ShloMosaic
open Idealize.ShloMosaic.TcCoe
open Idealize.ShloMosaic.ValueIdx (ix1 ix2 ix3)
open Idealize.ShloMosaic.Pipeline (Dat Cfg Window)
open scoped BigOperators

variable (m : (ℓ : Loc nD τ sig) → Buf (Elt Ideal) ℓ)

/-! ## The grid: 64 blocks of 512 tokens -/

/-- The token of point `t`'s row `r`. -/
def token (t : Fin cfg0.N) (r : Fin 512) : Fin 32768 := ⟨512 * t.val + r.val, by
  have h : t.val < 64 := t.isLt.trans_eq N_0
  omega⟩

theorem index6 : ∀ t : Fin cfg0.N, (cfg0.win (6 : Fin 7)).index t = ![t.val, 0] :=
  (by decide +kernel : ∀ t : Fin grid0.N, win0_6.index t = ![t.val, 0])

theorem index0 (t : Fin cfg0.N) : (cfg0.win (0 : Fin 7)).index t = ![t.val, 0] := index6 t
theorem index1 (t : Fin cfg0.N) : (cfg0.win (1 : Fin 7)).index t = ![t.val, 0] := index6 t
theorem index2 (t : Fin cfg0.N) : (cfg0.win (2 : Fin 7)).index t = ![t.val, 0] := index6 t
theorem index4 (t : Fin cfg0.N) : (cfg0.win (4 : Fin 7)).index t = ![t.val, 0] := index6 t

theorem index3 : ∀ t : Fin cfg0.N, (cfg0.win (3 : Fin 7)).index t = ![t.val / 4, 0, 0] :=
  (by decide +kernel : ∀ t : Fin grid0.N, win0_3.index t = ![t.val / 4, 0, 0])

/-! ## The windows' blocks at coordinates -/

/-- The place of row `r` of run `k` of point `t` among the gathered rows. -/
def place (t : Fin cfg0.N) (k : Fin 4) (r : Fin 512) : Fin 131072 := ⟨2048 * t.val + (512 * k.val + r.val), by
  have h : t.val < 64 := t.isLt.trans_eq N_0
  omega⟩

theorem blk0_apply (c : Dev nD) (t : Fin cfg0.N) (k : Fin 4) (r : Fin 512) (j : Fin 256) :
    stored (iblk m c (0 : Fin 7) t) r k j = V m c main_v9 (ix2 (place t k r) j) := by
  refine congrArg (V m c main_v9) (funext fun b => Fin.ext ?_)
  refine (Window.rect_emb_val (cfg0.win (0 : Fin 7)) t (ix2 (⟨512 * k.val + r.val, by omega⟩ : Fin 2048) j) b).trans ?_
  rw [index0]
  match b with
  | ⟨0, _⟩ => show t.val * 2048 + (512 * k.val + r.val) = 2048 * t.val + (512 * k.val + r.val); omega
  | ⟨1, _⟩ => show 0 * 256 + j.val = j.val; omega

theorem blk1_apply (c : Dev nD) (t : Fin cfg0.N) (k : Fin 4) (r : Fin 512) (j : Fin 256) :
    stored (iblk m c (1 : Fin 7) t) r k j = V m c main_v16 (ix2 (place t k r) j) := by
  refine congrArg (V m c main_v16) (funext fun b => Fin.ext ?_)
  refine (Window.rect_emb_val (cfg0.win (1 : Fin 7)) t (ix2 (⟨512 * k.val + r.val, by omega⟩ : Fin 2048) j) b).trans ?_
  rw [index1]
  match b with
  | ⟨0, _⟩ => show t.val * 2048 + (512 * k.val + r.val) = 2048 * t.val + (512 * k.val + r.val); omega
  | ⟨1, _⟩ => show 0 * 256 + j.val = j.val; omega

theorem blk2_apply (c : Dev nD) (t : Fin cfg0.N) (r : Fin 512) (d : Fin 1024) :
    iblk m c (2 : Fin 7) t (ix2 r d) = V m c main_v17 (ix2 (token t r) d) := by
  refine congrArg (V m c main_v17) (funext fun b => Fin.ext ?_)
  refine (Window.rect_emb_val (cfg0.win (2 : Fin 7)) t (ix2 r d) b).trans ?_
  rw [index2]
  match b with
  | ⟨0, _⟩ => show t.val * 512 + r.val = 512 * t.val + r.val; omega
  | ⟨1, _⟩ => show 0 * 1024 + d.val = d.val; omega

theorem blk3_apply (c : Dev nD) (t : Fin cfg0.N) (r : Fin 512) (d : Fin 1024) :
    iblk m c (3 : Fin 7) t (ix3 0 0 d) = V m c main_v18 (ix3 (bat (token t r)) 0 d) := by
  refine congrArg (V m c main_v18) (funext fun b => Fin.ext ?_)
  refine (Window.rect_emb_val (cfg0.win (3 : Fin 7)) t (ix3 0 0 d) b).trans ?_
  rw [index3]
  match b with
  | ⟨0, _⟩ => show t.val / 4 * 1 + 0 = (512 * t.val + r.val) / 2048; omega
  | ⟨1, _⟩ => rfl
  | ⟨2, _⟩ => show 0 * 1024 + d.val = d.val; omega

theorem blk4_apply (c : Dev nD) (t : Fin cfg0.N) (r : Fin 512) (l : Fin 128) :
    iblk m c (4 : Fin 7) t (ix2 r l) = V m c main_v19 (ix2 (token t r) l) := by
  refine congrArg (V m c main_v19) (funext fun b => Fin.ext ?_)
  refine (Window.rect_emb_val (cfg0.win (4 : Fin 7)) t (ix2 r l) b).trans ?_
  rw [index4]
  match b with
  | ⟨0, _⟩ => show t.val * 512 + r.val = 512 * t.val + r.val; omega
  | ⟨1, _⟩ => show 0 * 128 + l.val = l.val; omega

theorem blk5_apply (c : Dev nD) (t : Fin cfg0.N) (d : Fin 1024) :
    iblk m c (5 : Fin 7) t (ix2 0 d) = V m c main_v20 (ix2 0 d) := by
  refine congrArg (V m c main_v20) (funext fun b => Fin.ext ?_)
  refine (Window.rect_emb_val (cfg0.win (5 : Fin 7)) t (ix2 0 d) b).trans ?_
  match b with
  | ⟨0, _⟩ => rfl
  | ⟨1, _⟩ => show 0 * 1024 + d.val = d.val; omega

/-! ## What the call finds, from the launch contents -/

/-- Element `(n, l)` of the gather is column `l` of the row that the index word `n` names, kept inside the table. -/
theorem gather_rows {α : Type} (x : S147456x256.Idx → α) (ix : IVec S131072x1 32) (n : Fin 131072) (j : Fin 256) :
    Host.gather gather_S147456x256_S131072x1_S131072x256_1_0_n_n_0_1_1256 x ix (ix2 n j)
      = x (ix2 ⟨min (ix (ix2 n 0)).toInt.toNat 147455, by omega⟩ j) := by
  unfold Host.gather
  congr 1
  funext a
  refine Fin.ext ?_
  match a with
  | ⟨0, _⟩ =>
    have hsi : gather_S147456x256_S131072x1_S131072x256_1_0_n_n_0_1_1256.siIdx (ix2 n j) ⟨0, by decide⟩ = ix2 n 0 := by
      funext b
      match b with
      | ⟨0, _⟩ => rfl
      | ⟨1, _⟩ => rfl
    exact congrArg (fun k => min (ix k).toInt.toNat 147455) hsi
  | ⟨1, _⟩ =>
    show _ = j.val
    exact Nat.zero_add _

/-- The slots in the order of the gather. -/
def ordered (dest : IVec S32768x4 32) : IVec S131072 32 :=
  shapeCast S131072 (transpose S64x4x512 [0, 2, 1] (shapeCast S64x512x4 dest shapeCasts_S32768x4_S64x512x4) transposes_S64x512x4_S64x4x512_0_2_1) shapeCasts_S64x4x512_S131072

theorem ordered_apply (dest : IVec S32768x4 32) (t : Fin cfg0.N) (k : Fin 4) (r : Fin 512) :
    ordered dest (ix1 (place t k r)) = dest (ix2 (token t r) k) := by
  have ht : t.val < 64 := t.isLt.trans_eq N_0
  unfold ordered
  refine (shapeCast_apply (s := S64x4x512) (t := S131072) _ _ (ix1 (place t k r)) (ix3 (⟨t.val, ht⟩ : Fin 64) k r) ?_).trans ?_
  · rw [Shape.rowMajor_val_one, Shape.rowMajor_val_three]
    show (t.val * 4 + k.val) * 512 + r.val = 2048 * t.val + (512 * k.val + r.val)
    omega
  refine (transpose_apply (s := S64x512x4) (t := S64x4x512) _ _ _ (ix3 (⟨t.val, ht⟩ : Fin 64) k r) (ix3 (⟨t.val, ht⟩ : Fin 64) r k) (fun b => ?_)).trans ?_
  · match b with
    | ⟨0, _⟩ => rfl
    | ⟨1, _⟩ => rfl
    | ⟨2, _⟩ => rfl
  refine shapeCast_apply (s := S32768x4) (t := S64x512x4) dest _ _ (ix2 (token t r) k) ?_
  rw [Shape.rowMajor_val_two, Shape.rowMajor_val_three]
  show (512 * t.val + r.val) * 4 + k.val = (t.val * 512 + r.val) * 4 + k.val
  omega

/-- The gather's index words. -/
def words (dest : IVec S32768x4 32) : IVec S131072x1 32 :=
  broadcastInDim S131072x1 ![0] bcast_S131072_S131072x1_0
    (select (cmpi .slt (ordered dest) (broadcastInDim S131072 ![] bcast_S_S131072 (constantI S_ 32 0#32)))
      (addi (ordered dest) (broadcastInDim S131072 ![] bcast_S_S131072 (constantI S_ 32 147456#32))) (ordered dest))

theorem words_apply (dest : IVec S32768x4 32) (t : Fin cfg0.N) (k : Fin 4) (r : Fin 512) :
    words dest (ix2 (place t k r) 0) = wrap (dest (ix2 (token t r) k)) := by
  unfold words
  refine (broadcastInDim_apply (s := S131072) (t := S131072x1) _ _ _ (ix2 (place t k r) 0) (ix1 (place t k r)) (fun a => ?_)).trans ?_
  · match a with
    | ⟨0, _⟩ => rfl
  · exact congrArg wrap (ordered_apply dest t k r)

theorem gathered_apply (y : IVec S147456x256 32) (dest : IVec S32768x4 32) (t : Fin cfg0.N) (k : Fin 4) (r : Fin 512) (j : Fin 256) :
    Host.gather gather_S147456x256_S131072x1_S131072x256_1_0_n_n_0_1_1256 y (words dest) (ix2 (place t k r) j)
      = y (ix2 (slot (dest (ix2 (token t r) k))) j) := by
  refine (gather_rows y (words dest) (place t k r) j).trans ?_
  exact congrArg (fun n => y (ix2 n j)) (Fin.ext (congrArg (fun w : BitVec 32 => min w.toInt.toNat 147455) (words_apply dest t k r)))

theorem V9_apply (c : Dev nD) (t : Fin cfg0.N) (k : Fin 4) (r : Fin 512) (j : Fin 256) :
    V m c main_v9 (ix2 (place t k r) j)
      = m ((c : Thread nD τ).loc main_arg0) (ix2 (slot (m ((c : Thread nD τ).loc main_arg2) (ix2 (token t r) k))) j) := by
  have e : V m c main_v9 = Host.gather gather_S147456x256_S131072x1_S131072x256_1_0_n_n_0_1_1256 (m ((c : Thread nD τ).loc main_arg0)) (words (m ((c : Thread nD τ).loc main_arg2))) := by
    show StableHlo.after _ _ _ = _; after_results
    rfl
  rw [e]
  exact gathered_apply (m ((c : Thread nD τ).loc main_arg0)) (m ((c : Thread nD τ).loc main_arg2)) t k r j

theorem V16_apply (c : Dev nD) (t : Fin cfg0.N) (k : Fin 4) (r : Fin 512) (j : Fin 256) :
    V m c main_v16 (ix2 (place t k r) j)
      = m ((c : Thread nD τ).loc main_arg1) (ix2 (slot (m ((c : Thread nD τ).loc main_arg2) (ix2 (token t r) k))) j) := by
  have e : V m c main_v16 = Host.gather gather_S147456x256_S131072x1_S131072x256_1_0_n_n_0_1_1256 (m ((c : Thread nD τ).loc main_arg1)) (words (m ((c : Thread nD τ).loc main_arg2))) := by
    show StableHlo.after _ _ _ = _; after_results
    rfl
  rw [e]
  exact gathered_apply (m ((c : Thread nD τ).loc main_arg1)) (m ((c : Thread nD τ).loc main_arg2)) t k r j

theorem V17_apply (c : Dev nD) (n : Fin 32768) (d : Fin 1024) :
    V m c main_v17 (ix2 n d) = m ((c : Thread nD τ).loc main_arg3) (ix3 (bat n) (tim n) d) := by
  have e : V m c main_v17 = shapeCast S32768x1024 (m ((c : Thread nD τ).loc main_arg3)) shapeCasts_S16x2048x1024_S32768x1024 := by
    show StableHlo.after _ _ _ = _; after_results
    rfl
  rw [e]
  refine shapeCast_apply (s := S16x2048x1024) (t := S32768x1024) (m ((c : Thread nD τ).loc main_arg3)) _ (ix2 n d) (ix3 (bat n) (tim n) d) ?_
  rw [Shape.rowMajor_val_three, Shape.rowMajor_val_two]
  show (n.val / 2048 * 2048 + n.val % 2048) * 1024 + d.val = n.val * 1024 + d.val
  omega

theorem V18_apply (c : Dev nD) (b : Fin 16) (d : Fin 1024) : V m c main_v18 (ix3 b 0 d) = m ((c : Thread nD τ).loc main_arg4) (ix2 b d) := by
  have e : V m c main_v18 = shapeCast S16x1x1024 (m ((c : Thread nD τ).loc main_arg4)) shapeCasts_S16x1024_S16x1x1024 := by
    show StableHlo.after _ _ _ = _; after_results
    rfl
  rw [e]
  refine shapeCast_apply (s := S16x1024) (t := S16x1x1024) (m ((c : Thread nD τ).loc main_arg4)) _ (ix3 b 0 d) (ix2 b d) ?_
  rw [Shape.rowMajor_val_three, Shape.rowMajor_val_two]
  show b.val * 1024 + d.val = (b.val * 1 + 0) * 1024 + d.val
  omega

theorem V19_apply (c : Dev nD) (n : Fin 32768) (l : Fin 128) :
    V m c main_v19 (ix2 n l) = m ((c : Thread nD τ).loc main_arg5) (ix3 (bat n) (tim n) l) := by
  have e : V m c main_v19 = shapeCast S32768x128 (m ((c : Thread nD τ).loc main_arg5)) shapeCasts_S16x2048x128_S32768x128 := by
    show StableHlo.after _ _ _ = _; after_results
    rfl
  rw [e]
  refine shapeCast_apply (s := S16x2048x128) (t := S32768x128) (m ((c : Thread nD τ).loc main_arg5)) _ (ix2 n l) (ix3 (bat n) (tim n) l) ?_
  rw [Shape.rowMajor_val_three, Shape.rowMajor_val_two]
  show (n.val / 2048 * 2048 + n.val % 2048) * 128 + l.val = n.val * 128 + l.val
  omega

theorem V20_apply (c : Dev nD) (d : Fin 1024) : V m c main_v20 (ix2 0 d) = m ((c : Thread nD τ).loc main_arg6) (ix1 d) := by
  have e : V m c main_v20 = shapeCast S1x1024 (m ((c : Thread nD τ).loc main_arg6)) shapeCasts_S1024_S1x1024 := by
    show StableHlo.after _ _ _ = _; after_results
    rfl
  rw [e]
  refine shapeCast_apply (s := S1024) (t := S1x1024) (m ((c : Thread nD τ).loc main_arg6)) _ (ix2 0 d) (ix1 d) ?_
  rw [Shape.rowMajor_val_one, Shape.rowMajor_val_two]
  show d.val = 0 * 1024 + d.val
  omega

/-! ## The result -/

/-- The combination of the launch contents. -/
abbrev fullM (c : Dev nD) : Fin 32768 → Fin 1024 → EReal :=
  full (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem rowMix_eq (c : Dev nD) (t : Fin cfg0.N) (r : Fin 512) (d : Fin 1024) :
    rowMix (iblk m c (0 : Fin 7) t) (iblk m c (1 : Fin 7) t) (iblk m c (2 : Fin 7) t) (iblk m c (3 : Fin 7) t) (iblk m c (4 : Fin 7) t) r d
      = mix (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (token t r) d := by
  unfold rowMix mix comb
  refine congrArg₂ (fun a b : EReal => a + b) ((blk2_apply m c t r d).trans (V17_apply m c _ d))
    (congrArg₂ (fun a b : EReal => a * b) ((blk3_apply m c t r d).trans (V18_apply m c _ d)) (Finset.sum_congr rfl fun k _ => ?_))
  refine congrArg₂ (fun a b : EReal => a * b) ((blk4_apply m c t r _).trans (V19_apply m c _ _)) ?_
  exact congrArg₂ (fun a b => col a b d) (funext fun j => (blk0_apply m c t k r j).trans (V9_apply m c t k r j))
    (funext fun j => (blk1_apply m c t k r j).trans (V16_apply m c t k r j))

/-- A point's result block. -/
theorem block_eq (c : Dev nD) (t : Fin cfg0.N) (r : Fin 512) (d : Fin 1024) :
    out0_6 (F := Ideal) (iblk m c (0 : Fin 7) t) (iblk m c (1 : Fin 7) t) (iblk m c (2 : Fin 7) t) (iblk m c (3 : Fin 7) t) (iblk m c (4 : Fin 7) t)
        (iblk m c (5 : Fin 7) t) (ix2 r d)
      = fullM m c (token t r) d := by
  refine (out_apply (iblk m c (0 : Fin 7) t) (iblk m c (1 : Fin 7) t) (iblk m c (2 : Fin 7) t) (iblk m c (3 : Fin 7) t) (iblk m c (4 : Fin 7) t)
    (iblk m c (5 : Fin 7) t) r d).trans ?_
  unfold fullM full
  exact congrArg₂ (fun X G => unit X G d) (funext fun k => rowMix_eq m c t r k) (funext fun k => (blk5_apply m c t k).trans (V20_apply m c k))

theorem end_eq (c : Dev nD) : (dats m 0 c).arrAt 6 cfg0.N = fun i => fullM m c (i 0) (i 1) := by
  refine (dats m 0 c).arrAt_eq_of_covers (6 : Fin 7) _ ?_ fun t _ y => ?_
  · refine (cfg0.win (6 : Fin 7)).covers_of_indexMap_surj rfl (show ∀ a, 0 < (spec0 (6 : Fin 7)).size a by decide) fun β => ?_
    have h0 : (β (0 : Fin 2)).val < 64 := (β (0 : Fin 2)).isLt.trans_eq (show (32768 + 512 - 1) / 512 = 64 by norm_num)
    have h1 : (β (1 : Fin 2)).val < 1 := (β (1 : Fin 2)).isLt.trans_eq (show (1024 + 1024 - 1) / 1024 = 1 by norm_num)
    refine ⟨fun g => match g with
      | ⟨0, _⟩ => ⟨(β (0 : Fin 2)).val, h0⟩, fun b => ?_⟩
    match b with
    | ⟨0, _⟩ => show (BitVec.ofNat 32 (β (0 : Fin 2)).val).toNat = (β (0 : Fin 2)).val; rw [BitVec.toNat_ofNat]; omega
    | ⟨1, _⟩ => show 0 = (β (1 : Fin 2)).val; omega
  · have hn : ((cfg0.win (6 : Fin 7)).blk t).view.emb y = (ix2 (token t (y 0)) (y 1) : S32768x1024.Idx) := by
      refine funext fun b => Fin.ext ?_
      refine (Window.rect_emb_val (cfg0.win (6 : Fin 7)) t y b).trans ?_
      rw [index6]
      match b with
      | ⟨0, _⟩ => show t.val * 512 + (y (0 : Fin 2)).val = 512 * t.val + (y (0 : Fin 2)).val; omega
      | ⟨1, _⟩ => show 0 * 1024 + (y (1 : Fin 2)).val = (y (1 : Fin 2)).val; omega
    refine Eq.trans (α := EReal) ?_ (congrArg (fun i : S32768x1024.Idx => fullM m c (i 0) (i 1)) hn).symm
    show ((dats m 0 c).after 6 t) y = _
    rw [after0_6]
    have hy : y = (ix2 (y 0) (y 1) : S512x1024.Idx) := funext fun b => by
      match b with
      | ⟨0, _⟩ => rfl
      | ⟨1, _⟩ => rfl
    exact Eq.trans (α := EReal) (congrArg _ hy) (block_eq m c t (y 0) (y 1))

end Cert.Proof.C

end
-- ==== Proof.C.RefValue.lean ====
/-
  The combination's reference: its run, its one result in named stages, and that result at a token and a coordinate, at the
  extended reals: the combination's map there.
-/
module

public import proofs.«01_k».proof.Proof.C.Spec
public import proofs.«01_k».proof.Proof.Gen.CombineRefIdeal
public import proofs.«01_k».proof.Proof.Gen.CombineRefIdeal.Run
public import Idealize.ShloMosaic.Lib.Claim
public import Idealize.ShloMosaic.Lib.KernelVsHost
public import Idealize.ShloMosaic.Lib.Pipeline.Value

@[expose] public section

set_option maxRecDepth 65536

noncomputable section

namespace Cert.Proof.CRef

open Cert.CombineRefIdeal Cert.CombineRefIdeal.Gen
open Idealize.ShloMosaic Idealize.ShloMosaic.TcCoe Idealize.SL.Sem
open Idealize.ShloMosaic.ValueIdx (ix1 ix2 ix3)
open Cert.Proof.A (count eps)
open Cert.Proof.C (run col unit wrap slot bat tim comb mix full)
open scoped BigOperators

section
variable {F : FTy → Type} [FloatOps F]

/-- The four column runs of the rows stored as the words `y0` and `y1`. -/
def runs (y0 y1 : IVec S147456x256 32) : Fin 4 → FVec F S147456x256 .f32
  | ⟨0, _⟩ => bitcastToFloat (F := F) .f32 (Host.shli y0 (broadcastInDim S147456x256 ![] bcast_S_S147456x256 (constantI S_ 32 16#32)))
  | ⟨1, _⟩ => bitcastToFloat (F := F) .f32 (andi y0 (broadcastInDim S147456x256 ![] bcast_S_S147456x256 (constantI S_ 32 4294901760#32)))
  | ⟨2, _⟩ => bitcastToFloat (F := F) .f32 (Host.shli y1 (broadcastInDim S147456x256 ![] bcast_S_S147456x256 (constantI S_ 32 16#32)))
  | ⟨3, _⟩ => bitcastToFloat (F := F) .f32 (andi y1 (broadcastInDim S147456x256 ![] bcast_S_S147456x256 (constantI S_ 32 4294901760#32)))

/-- The table of rows. -/
def table (y0 y1 : IVec S147456x256 32) : FVec F S147456x1024 .f32 :=
  concatenate S147456x1024 1 [⟨S147456x256, runs (F := F) y0 y1 0⟩, ⟨S147456x256, runs (F := F) y0 y1 1⟩, ⟨S147456x256, runs (F := F) y0 y1 2⟩, ⟨S147456x256, runs (F := F) y0 y1 3⟩]
    concatenates_S147456x256_S147456x256_S147456x256_S147456x256_S147456x1024_d1

/-- The slots, wrapped. -/
def words (dest : IVec S32768x4 32) : IVec S32768x4x1 32 :=
  broadcastInDim S32768x4x1 ![0, 1] bcast_S32768x4_S32768x4x1_0_1
    (select (cmpi .slt dest (broadcastInDim S32768x4 ![] bcast_S_S32768x4 (constantI S_ 32 0#32)))
      (addi dest (broadcastInDim S32768x4 ![] bcast_S_S32768x4 (constantI S_ 32 147456#32))) dest)

/-- The probabilities of a token's four experts, along the rows. -/
def probs (prob : FVec F S16x2048x128 .f32) : FVec F S32768x4x1024 .f32 :=
  broadcastInDim S32768x4x1024 ![0, 1, 2] bcast_S32768x4x1_S32768x4x1024_0_1_2 (broadcastInDim S32768x4x1 ![0, 1] bcast_S32768x4_S32768x4x1_0_1
    (extractStridedSlice S32768x4 ![0, 0] (shapeCast S32768x128 prob shapeCasts_S16x2048x128_S32768x128) slices_S32768x128_S32768x4_0_0))

/-- Each token's rows, weighted and added. -/
def added (y : FVec F S147456x1024 .f32) (dest : IVec S32768x4 32) (prob : FVec F S16x2048x128 .f32) : FVec F S32768x1024 .f32 :=
  Host.reduceAdd (mulf (Host.gather gather_S147456x1024_S32768x4x1_S32768x4x1024_2_0_n_n_0_2_11024 y (words dest)) (probs prob))
    (constant S_ .f32 0x00000000#32) reducesTo_S32768x4x1024_S32768x1024_d1 h_S_

/-- The residual with the gated sum added. -/
def mixed (x1 : FVec F S16x2048x1024 .f32) (g2 : FVec F S16x1024 .f32) (s : FVec F S32768x1024 .f32) : FVec F S16x2048x1024 .f32 :=
  addf x1 (mulf (broadcastInDim S16x2048x1024 ![0, 1, 2] bcast_S16x1x1024_S16x2048x1024_0_1_2 (broadcastInDim S16x1x1024 ![0, 2] bcast_S16x1024_S16x1x1024_0_2 g2))
    (shapeCast S16x2048x1024 s shapeCasts_S32768x1024_S16x2048x1024))

/-- The root mean square norm. -/
def normed (x : FVec F S16x2048x1024 .f32) (fg : FVec F S1024 .f32) : FVec F S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1
      (Host.reduceAdd (mulf x x) (constant S_ .f32 0x00000000#32) reducesTo_S16x2048x1024_S16x2048_d2 h_S_)) (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 fg))

/-- The result. -/
def result (y0 y1 : IVec S147456x256 32) (dest : IVec S32768x4 32) (x1 : FVec F S16x2048x1024 .f32) (g2 : FVec F S16x1024 .f32)
    (prob : FVec F S16x2048x128 .f32) (fg : FVec F S1024 .f32) : FVec F S32768x1024 .f32 :=
  shapeCast S32768x1024 (normed (mixed x1 g2 (added (table y0 y1) dest prob)) fg) shapeCasts_S16x2048x1024_S32768x1024

variable (m : (ℓ : Loc nD τ sig) → Buf (Elt F) ℓ) (ρ : Dev nD → PrngReg)

/-- The result from the launch contents. -/
abbrev resultM (c : Dev nD) : FVec F S32768x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem res_eq (c : Dev nD) : Cert.CombineRefIdeal.Value.res_out0 m c = resultM m c := by
  unfold Cert.CombineRefIdeal.Value.res_out0 Cert.CombineRefIdeal.Value.res_main_v44
  rfl

theorem run_main : θ_run (defs (F := F)) (onTc (τ := τ) (main (F := F))) ⟨m, fun _ => 0, ρ⟩ fun r =>
    (∀ c : Dev nD,
      r.2.mem ((c.tc : Thread nD τ).loc main_v44) = resultM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run _ _ _).mono (fun r h => ⟨fun c => ⟨(h c).1.trans (res_eq m c), (h c).2⟩, sem_eq_zero_of_no_sems (by decide) r.2⟩)
    (Cert.CombineRefIdeal.Value.run m ρ)

end

/-! ## At coordinates -/

variable (y0 y1 : IVec S147456x256 32) (dest : IVec S32768x4 32) (x1 : FVec Ideal S16x2048x1024 .f32) (g2 : FVec Ideal S16x1024 .f32)
  (prob : FVec Ideal S16x2048x128 .f32) (fg : FVec Ideal S1024 .f32)

theorem runs_apply (n : Fin 4) (s : Fin 147456) (j : Fin 256) :
    runs (F := Ideal) y0 y1 n (ix2 s j) = run (fun j => y0 (ix2 s j)) (fun j => y1 (ix2 s j)) n j := by
  match n with
  | ⟨0, _⟩ => exact congrArg (Ideal.ofBits .f32) (C.shl_host _)
  | ⟨1, _⟩ => rfl
  | ⟨2, _⟩ => exact congrArg (Ideal.ofBits .f32) (C.shl_host _)
  | ⟨3, _⟩ => rfl

theorem table_apply (s : Fin 147456) (d : Fin 1024) :
    table (F := Ideal) y0 y1 (ix2 s d) = col (fun j => y0 (ix2 s j)) (fun j => y1 (ix2 s j)) d := by
  unfold table col
  exact (C.side_by_side (M := 147456) (runs (F := Ideal) y0 y1) _ s d).trans (runs_apply y0 y1 _ s _)

/-- Element `(n, k, d)` of the gather is column `d` of the row that the index word `(n, k)` names, kept inside the table. -/
theorem gather_rows {α : Type} (x : S147456x1024.Idx → α) (ix : IVec S32768x4x1 32) (n : Fin 32768) (k : Fin 4) (d : Fin 1024) :
    Host.gather gather_S147456x1024_S32768x4x1_S32768x4x1024_2_0_n_n_0_2_11024 x ix (ix3 n k d)
      = x (ix2 ⟨min (ix (ix3 n k 0)).toInt.toNat 147455, by omega⟩ d) := by
  unfold Host.gather
  congr 1
  funext a
  refine Fin.ext ?_
  match a with
  | ⟨0, _⟩ =>
    have hsi : gather_S147456x1024_S32768x4x1_S32768x4x1024_2_0_n_n_0_2_11024.siIdx (ix3 n k d) ⟨0, by decide⟩ = ix3 n k 0 := by
      funext b
      match b with
      | ⟨0, _⟩ => rfl
      | ⟨1, _⟩ => rfl
      | ⟨2, _⟩ => rfl
    exact congrArg (fun i => min (ix i).toInt.toNat 147455) hsi
  | ⟨1, _⟩ =>
    show _ = d.val
    exact Nat.zero_add _

theorem words_apply (n : Fin 32768) (k : Fin 4) : words dest (ix3 n k 0) = wrap (dest (ix2 n k)) := by
  unfold words
  refine (broadcastInDim_apply (s := S32768x4) (t := S32768x4x1) _ _ _ (ix3 n k 0) (ix2 n k) (fun a => ?_)).trans rfl
  match a with
  | ⟨0, _⟩ => rfl
  | ⟨1, _⟩ => rfl

theorem probs_apply (n : Fin 32768) (k : Fin 4) (d : Fin 1024) :
    probs (F := Ideal) prob (ix3 n k d) = prob (ix3 (bat n) (tim n) ⟨k.val, by omega⟩) := by
  unfold probs
  refine (broadcastInDim_apply (s := S32768x4x1) (t := S32768x4x1024) _ _ _ (ix3 n k d) (ix3 n k 0) (fun a => ?_)).trans ?_
  · match a with
    | ⟨0, _⟩ => rfl
    | ⟨1, _⟩ => rfl
    | ⟨2, _⟩ => rfl
  refine (broadcastInDim_apply (s := S32768x4) (t := S32768x4x1) _ _ _ (ix3 n k 0) (ix2 n k) (fun a => ?_)).trans ?_
  · match a with
    | ⟨0, _⟩ => rfl
    | ⟨1, _⟩ => rfl
  refine (extractStridedSlice_apply (s := S32768x128) (t := S32768x4) _ _ _ (ix2 n k) (ix2 n (⟨k.val, by omega⟩ : Fin 128)) (fun a => ?_)).trans ?_
  · match a with
    | ⟨0, _⟩ => exact (Nat.zero_add _).symm
    | ⟨1, _⟩ => exact (Nat.zero_add _).symm
  refine shapeCast_apply (s := S16x2048x128) (t := S32768x128) prob _ _ (ix3 (bat n) (tim n) (⟨k.val, by omega⟩ : Fin 128)) ?_
  rw [Shape.rowMajor_val_three, Shape.rowMajor_val_two]
  show (n.val / 2048 * 2048 + n.val % 2048) * 128 + k.val = n.val * 128 + k.val
  omega

theorem added_apply (n : Fin 32768) (d : Fin 1024) :
    added (F := Ideal) (table y0 y1) dest prob (ix2 n d) = comb y0 y1 dest prob n d := by
  unfold added comb
  have h : S32768x4x1024.Reduces [1] S32768x1024 := by decide
  refine (Ideal.hostReduceAdd_single (a := 1) reducesTo_S32768x4x1024_S32768x1024_d1 h _ _ (ix2 n d)).trans ?_
  refine (congrArg₂ (fun a b : EReal => a + b) Ideal.ofBits_zero_f32 (Finset.sum_congr rfl fun k _ => ?_)).trans (zero_add _)
  have hk : h.lift (ix2 n d) k = ix3 n k d := funext fun a => by
    match a with
    | ⟨0, _⟩ => rfl
    | ⟨1, _⟩ => rfl
    | ⟨2, _⟩ => rfl
  rw [hk]
  refine (congrArg₂ (fun a b : EReal => a * b) ((gather_rows _ (words dest) n k d).trans ?_) (probs_apply prob n k d)).trans (mul_comm _ _)
  refine Eq.trans ?_ (table_apply y0 y1 (slot (dest (ix2 n k))) d)
  exact congrArg (fun s => table (F := Ideal) y0 y1 (ix2 s d)) (Fin.ext (congrArg (fun w : BitVec 32 => min w.toInt.toNat 147455) (words_apply dest n k)))

theorem mixed_apply (n : Fin 32768) (d : Fin 1024) :
    mixed (F := Ideal) x1 g2 (added (table y0 y1) dest prob) (ix3 (bat n) (tim n) d) = mix y0 y1 dest x1 g2 prob n d := by
  unfold mixed mix
  refine congrArg (fun a : EReal => x1 (ix3 (bat n) (tim n) d) + a) (congrArg₂ (fun a b : EReal => a * b) ?_ ?_)
  · refine (broadcastInDim_apply (s := S16x1x1024) (t := S16x2048x1024) _ _ _ (ix3 (bat n) (tim n) d) (ix3 (bat n) 0 d) (fun a => ?_)).trans ?_
    · match a with
      | ⟨0, _⟩ => rfl
      | ⟨1, _⟩ => rfl
      | ⟨2, _⟩ => rfl
    refine broadcastInDim_apply (s := S16x1024) (t := S16x1x1024) _ _ _ (ix3 (bat n) 0 d) (ix2 (bat n) d) (fun a => ?_)
    match a with
    | ⟨0, _⟩ => rfl
    | ⟨1, _⟩ => rfl
  · refine (shapeCast_apply (s := S32768x1024) (t := S16x2048x1024) _ _ (ix3 (bat n) (tim n) d) (ix2 n d) ?_).trans (added_apply y0 y1 dest prob n d)
    rw [Shape.rowMajor_val_three, Shape.rowMajor_val_two]
    show n.val * 1024 + d.val = (n.val / 2048 * 2048 + n.val % 2048) * 1024 + d.val
    omega

theorem normed_apply (x : FVec Ideal S16x2048x1024 .f32) (b : Fin 16) (t : Fin 2048) (d : Fin 1024) :
    normed (F := Ideal) x fg (ix3 b t d) = unit (fun k => x (ix3 b t k)) (fun k => fg (ix1 k)) d := by
  unfold normed unit
  refine congrArg₂ (fun a b : EReal => a * b) (congrArg (fun a : EReal => x (ix3 b t d) * a) ?_) ?_
  · refine (broadcastInDim_apply (s := S16x2048x1) (t := S16x2048x1024) _ _ _ (ix3 b t d) (ix3 b t 0) (fun a => ?_)).trans ?_
    · match a with
      | ⟨0, _⟩ => rfl
      | ⟨1, _⟩ => rfl
      | ⟨2, _⟩ => rfl
    refine congrArg (fun a : EReal => Ideal.rsqrt (Ideal.div a count + eps)) ?_
    refine (broadcastInDim_apply (s := S16x2048) (t := S16x2048x1) _ _ _ (ix3 b t 0) (ix2 b t) (fun a => ?_)).trans ?_
    · match a with
      | ⟨0, _⟩ => rfl
      | ⟨1, _⟩ => rfl
    have h : S16x2048x1024.Reduces [2] S16x2048 := by decide
    refine (Ideal.hostReduceAdd_single (a := 2) reducesTo_S16x2048x1024_S16x2048_d2 h _ _ (ix2 b t)).trans ?_
    refine (congrArg₂ (fun a b : EReal => a + b) Ideal.ofBits_zero_f32 (Finset.sum_congr rfl fun k _ => ?_)).trans (zero_add _)
    have hk : h.lift (ix2 b t) k = ix3 b t k := funext fun a => by
      match a with
      | ⟨0, _⟩ => rfl
      | ⟨1, _⟩ => rfl
      | ⟨2, _⟩ => rfl
    rw [hk]
    rfl
  · refine (broadcastInDim_apply (s := S1x1x1024) (t := S16x2048x1024) _ _ _ (ix3 b t d) (ix3 0 0 d) (fun a => ?_)).trans ?_
    · match a with
      | ⟨0, _⟩ => rfl
      | ⟨1, _⟩ => rfl
      | ⟨2, _⟩ => rfl
    refine broadcastInDim_apply (s := S1024) (t := S1x1x1024) _ _ _ (ix3 0 0 d) (ix1 d) (fun a => ?_)
    match a with
    | ⟨0, _⟩ => rfl

theorem result_apply (n : Fin 32768) (d : Fin 1024) :
    result (F := Ideal) y0 y1 dest x1 g2 prob fg (ix2 n d) = full y0 y1 dest x1 g2 prob fg n d := by
  unfold result full
  refine (shapeCast_apply (s := S16x2048x1024) (t := S32768x1024) _ _ (ix2 n d) (ix3 (bat n) (tim n) d) ?_).trans ?_
  · rw [Shape.rowMajor_val_three, Shape.rowMajor_val_two]
    show (n.val / 2048 * 2048 + n.val % 2048) * 1024 + d.val = n.val * 1024 + d.val
    omega
  refine (normed_apply fg _ (bat n) (tim n) d).trans ?_
  exact congrArg (fun X => unit X (fun k => fg (ix1 k)) d) (funext fun k => mixed_apply y0 y1 dest x1 g2 prob n k)

end Cert.Proof.CRef

end
-- ==== Proof.M.Spec.lean ====
/-
  The modulation of both layers at the extended reals: the conditioning through its gate `z / (1 + e^-z)`, times a layer's
  weights, plus that layer's bias.
-/
module

public import proofs.«01_k».proof.Proof.A.Spec

@[expose] public section

noncomputable section

namespace Cert.Proof.M

open Idealize.ShloMosaic
open Idealize.ShloMosaic.ValueIdx (ix2 ix3)
open Cert.Proof.A (one)
open scoped BigOperators

/-- A number times its logistic function. -/
def gated (z : EReal) : EReal := z * Ideal.div one (one + Ideal.exp (-z))

variable (x : (⟨2, ![16, 1024]⟩ : Shape).Idx → EReal) (w : (⟨3, ![2, 1024, 6144]⟩ : Shape).Idx → EReal) (b : (⟨2, ![2, 6144]⟩ : Shape).Idx → EReal)

/-- Layer `l`'s modulation of batch row `n`, at coordinate `f`. -/
def full (l : Fin 2) (n : Fin 16) (f : Fin 6144) : EReal := (∑ d : Fin 1024, gated (x (ix2 n d)) * w (ix3 l d f)) + b (ix2 l f)

end Cert.Proof.M

end
-- ==== Proof.M.Close.lean ====
/-
  The modulation's result array at the extended reals. A grid point takes one layer and 1024 of the 6144 coordinates; it
  multiplies the gated conditioning by that block of the layer's weights and adds that block of its bias.
-/
module

public import proofs.«01_k».proof.Proof.M.Spec
public import proofs.«01_k».proof.Proof.Gen.ModulationIdeal.Frame
public import Idealize.ShloMosaic.Lib.MatmulPlain
public import Idealize.ShloMosaic.Lib.Pipeline.Value
public import Idealize.ShloMosaic.Lib.Pipeline.ValueKit.Tiles
public import Idealize.ShloMosaic.Lib.Pipeline.Covers

@[expose] public section

set_option maxRecDepth 16384

noncomputable section

namespace Cert.Proof.M

open Cert.ModulationIdeal Cert.ModulationIdeal.Gen
open Idealize.ShloMosaic
open Idealize.ShloMosaic.TcCoe
open Idealize.ShloMosaic.ValueIdx (ix1 ix2 ix3)
open Idealize.ShloMosaic.Pipeline (Dat Cfg Window)
open Cert.Proof.A (one)
open scoped BigOperators

/-! ## A point's block -/

theorem zero2 : (![0, 0] : Fin 2 → Nat) = fun _ => 0 := funext fun a => by fin_cases a <;> rfl
theorem zero3 : (![0, 0, 0] : Fin 3 → Nat) = fun _ => 0 := funext fun a => by fin_cases a <;> rfl

theorem out_eq (x0 : FVec Ideal S16x1024 .f32) (x1 : FVec Ideal S1x1024x1024 .f32) (x2 : FVec Ideal S1x1x1024 .f32) :
    out0_3 (F := Ideal) x0 x1 x2 = k0_pay1 (F := Ideal) x0 x1 x2 := by
  unfold out0_3
  rw [View.canon_unit_zero zero3, View.ld_unit_zero (S := S16x1024) zero2, View.ld_unit_zero (S := S1x1024x1024) zero3,
    View.ld_unit_zero (S := S1x1x1024) zero3]

theorem out_apply (x0 : FVec Ideal S16x1024 .f32) (x1 : FVec Ideal S1x1024x1024 .f32) (x2 : FVec Ideal S1x1x1024 .f32) (n : Fin 16) (q : Fin 1024) :
    out0_3 (F := Ideal) x0 x1 x2 (ix3 0 n q)
      = (∑ d : Fin 1024, gated (x0 (ix2 n d)) * x1 (ix3 0 d q)) + x2 (ix3 0 0 q) := by
  rw [out_eq]
  unfold k0_pay1
  refine (shapeCast_apply (s := S16x1024) (t := S1x16x1024) _ _ (ix3 (0 : Fin 1) n q) (ix2 n q) ?_).trans ?_
  · rw [Shape.rowMajor_val_three, Shape.rowMajor_val_two]
    show n.val * 1024 + q.val = (0 * 16 + n.val) * 1024 + q.val
    omega
  refine congrArg₂ (fun a b : EReal => a + b) ?_ ?_
  · refine (Ideal.matmul_plain_apply (M := 16) (K := 1024) (N := 1024) (some .fp32) _ _ _ n q).trans ?_
    refine (congrArg₂ (fun a b : EReal => a + b) Ideal.ofBits_zero_f32 (Finset.sum_congr rfl fun d _ => ?_)).trans (zero_add _)
    refine congrArg₂ (fun a b : EReal => a * b) ?_ ?_
    · refine congrArg (fun a : EReal => x0 (ix2 n d) * Ideal.div one (one + Ideal.exp a)) ?_
      exact Eq.trans (congrArg (fun a : EReal => a - x0 (ix2 n d)) Ideal.ofBits_zero_f32) (zero_sub _)
    · refine shapeCast_apply (s := S1x1024x1024) (t := S1024x1024) x1 _ (ix2 d q) (ix3 (0 : Fin 1) d q) ?_
      rw [Shape.rowMajor_val_three, Shape.rowMajor_val_two]
      show (0 * 1024 + d.val) * 1024 + q.val = d.val * 1024 + q.val
      omega
  · refine (broadcastTo_apply (s := S1x1024) (t := S16x1024) _ _ (ix2 n q) (ix2 (0 : Fin 1) q) (fun a => ?_)).trans ?_
    · match a with
      | ⟨0, _⟩ => rfl
      | ⟨1, _⟩ => rfl
    refine shapeCast_apply (s := S1x1x1024) (t := S1x1024) x2 _ (ix2 (0 : Fin 1) q) (ix3 (0 : Fin 1) (0 : Fin 1) q) ?_
    rw [Shape.rowMajor_val_three, Shape.rowMajor_val_two]
    show (0 * 1 + 0) * 1024 + q.val = 0 * 1024 + q.val
    omega

/-! ## The grid: two layers by six blocks of 1024 coordinates -/

theorem points (t : Fin cfg0.N) : t.val < 12 := t.isLt.trans_eq (by decide)

/-- The layer of point `t`. -/
def layer (t : Fin cfg0.N) : Fin 2 := ⟨t.val / 6, by have h := points t; omega⟩

/-- The coordinate of point `t`'s column `q`. -/
def coord (t : Fin cfg0.N) (q : Fin 1024) : Fin 6144 := ⟨1024 * (t.val % 6) + q.val, by omega⟩

theorem index3 : ∀ t : Fin cfg0.N, (cfg0.win (3 : Fin 4)).index t = ![t.val / 6, 0, t.val % 6] :=
  (by decide +kernel : ∀ t : Fin grid0.N, win0_3.index t = ![t.val / 6, 0, t.val % 6])

theorem index1 (t : Fin cfg0.N) : (cfg0.win (1 : Fin 4)).index t = ![t.val / 6, 0, t.val % 6] := index3 t
theorem index2 (t : Fin cfg0.N) : (cfg0.win (2 : Fin 4)).index t = ![t.val / 6, 0, t.val % 6] := index3 t

variable (m : (ℓ : Loc nD τ sig) → Buf (Elt Ideal) ℓ)

theorem blk0_apply (c : Dev nD) (t : Fin cfg0.N) (n : Fin 16) (d : Fin 1024) :
    iblk m c (0 : Fin 4) t (ix2 n d) = V m c main_arg0 (ix2 n d) := by
  refine congrArg (V m c main_arg0) (funext fun b => Fin.ext ?_)
  refine (Window.rect_emb_val (cfg0.win (0 : Fin 4)) t (ix2 n d) b).trans ?_
  match b with
  | ⟨0, _⟩ => show 0 * 16 + n.val = n.val; omega
  | ⟨1, _⟩ => show 0 * 1024 + d.val = d.val; omega

theorem blk1_apply (c : Dev nD) (t : Fin cfg0.N) (d q : Fin 1024) :
    iblk m c (1 : Fin 4) t (ix3 0 d q) = V m c main_arg1 (ix3 (layer t) d (coord t q)) := by
  refine congrArg (V m c main_arg1) (funext fun b => Fin.ext ?_)
  refine (Window.rect_emb_val (cfg0.win (1 : Fin 4)) t (ix3 0 d q) b).trans ?_
  rw [index1]
  match b with
  | ⟨0, _⟩ => show t.val / 6 * 1 + 0 = t.val / 6; omega
  | ⟨1, _⟩ => show 0 * 1024 + d.val = d.val; omega
  | ⟨2, _⟩ => show t.val % 6 * 1024 + q.val = 1024 * (t.val % 6) + q.val; omega

theorem blk2_apply (c : Dev nD) (t : Fin cfg0.N) (q : Fin 1024) :
    iblk m c (2 : Fin 4) t (ix3 0 0 q) = V m c main_v0 (ix3 (layer t) 0 (coord t q)) := by
  refine congrArg (V m c main_v0) (funext fun b => Fin.ext ?_)
  refine (Window.rect_emb_val (cfg0.win (2 : Fin 4)) t (ix3 0 0 q) b).trans ?_
  rw [index2]
  match b with
  | ⟨0, _⟩ => show t.val / 6 * 1 + 0 = t.val / 6; omega
  | ⟨1, _⟩ => rfl
  | ⟨2, _⟩ => show t.val % 6 * 1024 + q.val = 1024 * (t.val % 6) + q.val; omega

theorem Vbias_apply (c : Dev nD) (l : Fin 2) (f : Fin 6144) : V m c main_v0 (ix3 l 0 f) = m ((c : Thread nD τ).loc main_arg2) (ix2 l f) := by
  have e : V m c main_v0 = shapeCast S2x1x6144 (m ((c : Thread nD τ).loc main_arg2)) shapeCasts_S2x6144_S2x1x6144 := by
    show StableHlo.after _ _ _ = _; after_results
    rfl
  rw [e]
  refine shapeCast_apply (s := S2x6144) (t := S2x1x6144) (m ((c : Thread nD τ).loc main_arg2)) _ (ix3 l 0 f) (ix2 l f) ?_
  rw [Shape.rowMajor_val_three, Shape.rowMajor_val_two]
  show l.val * 6144 + f.val = (l.val * 1 + 0) * 6144 + f.val
  omega

/-! ## The result -/

/-- The modulation of the launch contents. -/
abbrev fullM (c : Dev nD) : Fin 2 → Fin 16 → Fin 6144 → EReal :=
  full (m ((c : Thread nD τ).loc main_arg0)) (m ((c : Thread nD τ).loc main_arg1)) (m ((c : Thread nD τ).loc main_arg2))

/-- A point's result block. -/
theorem block_eq (c : Dev nD) (t : Fin cfg0.N) (n : Fin 16) (q : Fin 1024) :
    out0_3 (F := Ideal) (iblk m c (0 : Fin 4) t) (iblk m c (1 : Fin 4) t) (iblk m c (2 : Fin 4) t) (ix3 0 n q)
      = fullM m c (layer t) n (coord t q) := by
  refine (out_apply (iblk m c (0 : Fin 4) t) (iblk m c (1 : Fin 4) t) (iblk m c (2 : Fin 4) t) n q).trans ?_
  unfold fullM full
  refine congrArg₂ (fun a b : EReal => a + b) (Finset.sum_congr rfl fun d _ => ?_) ((blk2_apply m c t q).trans (Vbias_apply m c _ _))
  exact congrArg₂ (fun a b : EReal => gated a * b) ((blk0_apply m c t n d).trans (congrFun (V_main_arg0 m c) _))
    ((blk1_apply m c t d q).trans (congrFun (V_main_arg1 m c) _))

theorem end_eq (c : Dev nD) : (dats m 0 c).arrAt 3 cfg0.N = fun i => fullM m c (i 0) (i 1) (i 2) := by
  refine (dats m 0 c).arrAt_eq_of_covers (3 : Fin 4) _ ?_ fun t _ y => ?_
  · refine (cfg0.win (3 : Fin 4)).covers_of_indexMap_surj rfl (show ∀ a, 0 < (spec0 (3 : Fin 4)).size a by decide) fun β => ?_
    have h0 : (β (0 : Fin 3)).val < 2 := (β (0 : Fin 3)).isLt.trans_eq (show (2 + 1 - 1) / 1 = 2 by norm_num)
    have h1 : (β (1 : Fin 3)).val < 1 := (β (1 : Fin 3)).isLt.trans_eq (show (16 + 16 - 1) / 16 = 1 by norm_num)
    have h2 : (β (2 : Fin 3)).val < 6 := (β (2 : Fin 3)).isLt.trans_eq (show (6144 + 1024 - 1) / 1024 = 6 by norm_num)
    refine ⟨fun g => match g with
      | ⟨0, _⟩ => ⟨(β (0 : Fin 3)).val, h0⟩
      | ⟨1, _⟩ => ⟨(β (2 : Fin 3)).val, h2⟩, fun b => ?_⟩
    match b with
    | ⟨0, _⟩ => show (BitVec.ofNat 32 (β (0 : Fin 3)).val).toNat = (β (0 : Fin 3)).val; rw [BitVec.toNat_ofNat]; omega
    | ⟨1, _⟩ => show 0 = (β (1 : Fin 3)).val; omega
    | ⟨2, _⟩ => show (BitVec.ofNat 32 (β (2 : Fin 3)).val).toNat = (β (2 : Fin 3)).val; rw [BitVec.toNat_ofNat]; omega
  · have hn : ((cfg0.win (3 : Fin 4)).blk t).view.emb y = (ix3 (layer t) (y 1) (coord t (y 2)) : S2x16x6144.Idx) := by
      refine funext fun b => Fin.ext ?_
      refine (Window.rect_emb_val (cfg0.win (3 : Fin 4)) t y b).trans ?_
      rw [index3]
      match b with
      | ⟨0, _⟩ =>
        have hy : (y (0 : Fin 3)).val < 1 := (y (0 : Fin 3)).isLt
        show t.val / 6 * 1 + (y (0 : Fin 3)).val = t.val / 6
        omega
      | ⟨1, _⟩ => show 0 * 16 + (y (1 : Fin 3)).val = (y (1 : Fin 3)).val; omega
      | ⟨2, _⟩ => show t.val % 6 * 1024 + (y (2 : Fin 3)).val = 1024 * (t.val % 6) + (y (2 : Fin 3)).val; omega
    refine Eq.trans (α := EReal) ?_ (congrArg (fun i : S2x16x6144.Idx => fullM m c (i 0) (i 1) (i 2)) hn).symm
    show ((dats m 0 c).after 3 t) y = _
    rw [after0_3]
    have hy : y = (ix3 0 (y 1) (y 2) : S1x16x1024.Idx) := funext fun b => by
      match b with
      | ⟨0, _⟩ => exact Subsingleton.elim (α := Fin 1) _ _
      | ⟨1, _⟩ => rfl
      | ⟨2, _⟩ => rfl
    exact Eq.trans (α := EReal) (congrArg _ hy) (block_eq m c t (y 1) (y 2))

end Cert.Proof.M

end
-- ==== Proof.M.RefValue.lean ====
/-
  The modulation's reference: its run, its one result in named stages, and that result at a layer, a batch row and a
  coordinate, at the extended reals: the modulation there.
-/
module

public import proofs.«01_k».proof.Proof.M.Spec
public import proofs.«01_k».proof.Proof.Gen.ModulationRefIdeal
public import proofs.«01_k».proof.Proof.Gen.ModulationRefIdeal.Run
public import Idealize.ShloMosaic.Lib.Claim
public import Idealize.ShloMosaic.Lib.KernelVsHost
public import Idealize.ShloMosaic.Lib.Pipeline.Value

@[expose] public section

set_option maxRecDepth 65536

noncomputable section

namespace Cert.Proof.MRef

open Cert.ModulationRefIdeal Cert.ModulationRefIdeal.Gen
open Idealize.ShloMosaic Idealize.ShloMosaic.TcCoe Idealize.SL.Sem
open Idealize.ShloMosaic.ValueIdx (ix1 ix2 ix3 contrEquiv1 contrEquiv1_symm_val)
open Cert.Proof.A (one)
open Cert.Proof.M (gated full)
open scoped BigOperators

section
variable {F : FTy → Type} [FloatOps F]

/-- The conditioning times its logistic function. -/
def cond (x : FVec F S16x1024 .f32) : FVec F S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- Each layer's weights and bias. -/
def weights (w : FVec F S2x1024x6144 .f32) : Fin 2 → FVec F S1024x6144 .f32
  | ⟨0, _⟩ => shapeCast S1024x6144 (extractStridedSlice S1x1024x6144 ![0, 0, 0] w slices_S2x1024x6144_S1x1024x6144_0_0_0) shapeCasts_S1x1024x6144_S1024x6144
  | ⟨1, _⟩ => shapeCast S1024x6144 (extractStridedSlice S1x1024x6144 ![1, 0, 0] w slices_S2x1024x6144_S1x1024x6144_1_0_0) shapeCasts_S1x1024x6144_S1024x6144

def bias (b : FVec F S2x6144 .f32) : Fin 2 → FVec F S6144 .f32
  | ⟨0, _⟩ => shapeCast S6144 (extractStridedSlice S1x6144 ![0, 0] b slices_S2x6144_S1x6144_0_0) shapeCasts_S1x6144_S6144
  | ⟨1, _⟩ => shapeCast S6144 (extractStridedSlice S1x6144 ![1, 0] b slices_S2x6144_S1x6144_1_0) shapeCasts_S1x6144_S6144

/-- One layer's modulation. -/
def one_layer (x : FVec F S16x1024 .f32) (w : FVec F S1024x6144 .f32) (b : FVec F S6144 .f32) : FVec F S1x16x6144 .f32 :=
  broadcastInDim S1x16x6144 ![1, 2] bcast_S16x6144_S1x16x6144_1_2 (addf (Host.dotGeneral dot_S16x1024_S1024x6144_S16x6144_1_0_0_1_n_n none (cond x) w)
    (broadcastInDim S16x6144 ![0, 1] bcast_S1x6144_S16x6144_0_1 (broadcastInDim S1x6144 ![1] bcast_S6144_S1x6144_1 b)))

/-- The result. -/
def result (x : FVec F S16x1024 .f32) (w : FVec F S2x1024x6144 .f32) (b : FVec F S2x6144 .f32) : FVec F S2x16x6144 .f32 :=
  concatenate S2x16x6144 0 [⟨S1x16x6144, one_layer x (weights w 0) (bias b 0)⟩, ⟨S1x16x6144, one_layer x (weights w 1) (bias b 1)⟩]
    concatenates_S1x16x6144_S1x16x6144_S2x16x6144_d0

variable (m : (ℓ : Loc nD τ sig) → Buf (Elt F) ℓ) (ρ : Dev nD → PrngReg)

/-- The result from the launch contents. -/
abbrev resultM (c : Dev nD) : FVec F S2x16x6144 .f32 :=
  result (m ((c.tc : Thread nD τ).loc main_arg0)) (m ((c.tc : Thread nD τ).loc main_arg1)) (m ((c.tc : Thread nD τ).loc main_arg2))

theorem run_main : θ_run (defs (F := F)) (onTc (τ := τ) (main (F := F))) ⟨m, fun _ => 0, ρ⟩ fun r =>
    (∀ c : Dev nD,
      r.2.mem ((c.tc : Thread nD τ).loc main_v19) = resultM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run _ _ _).mono (fun r h => ⟨fun c => ⟨(h c).1.trans rfl, (h c).2⟩, sem_eq_zero_of_no_sems (by decide) r.2⟩)
    (Cert.ModulationRefIdeal.Value.run m ρ)

end

/-! ## At coordinates -/

/-- A matrix times a matrix, at an entry: the sum over the contracted coordinate. -/
theorem dot_apply {M K N : Nat} (w : DotDims.WF ⟨2, ![M, K]⟩ ⟨2, ![K, N]⟩ ⟨2, ![M, N]⟩ [1] [0] [0] [1] [] [])
    (prec : Option ContractPrecision) (A : FVec Ideal ⟨2, ![M, K]⟩ .f32) (B : FVec Ideal ⟨2, ![K, N]⟩ .f32) (r : Fin M) (f : Fin N) :
    Host.dotGeneral (⟨[1], [0], [0], [1], [], [], w⟩ : DotDims _ _ _) prec A B (ix2 r f) = ∑ d : Fin K, A (ix2 r d) * B (ix2 d f) := by
  show FloatOps.dotGeneral _ prec _ A B (ix2 r f) = _
  rw [Ideal.dotGeneral_apply, ← Equiv.sum_comp (contrEquiv1 (⟨[1], [0], [0], [1], [], [], w⟩ : DotDims _ _ _) K rfl rfl).symm]
  refine Finset.sum_congr rfl fun d _ => ?_
  have hd := contrEquiv1_symm_val (⟨[1], [0], [0], [1], [], [], w⟩ : DotDims ⟨2, ![M, K]⟩ ⟨2, ![K, N]⟩ ⟨2, ![M, N]⟩) K rfl rfl d
  refine congrArg₂ (fun a b : EReal => a * b) (congrArg A (funext fun a => Fin.ext ?_)) (congrArg B (funext fun a => Fin.ext ?_))
  · match a with
    | ⟨0, _⟩ => simp [DotDims.lhsIdx]; rfl
    | ⟨1, _⟩ => simp [DotDims.lhsIdx]; exact hd
  · match a with
    | ⟨0, _⟩ => simp [DotDims.rhsIdx]; exact hd
    | ⟨1, _⟩ => simp [DotDims.rhsIdx]; rfl

variable (x : FVec Ideal S16x1024 .f32) (w : FVec Ideal S2x1024x6144 .f32) (b : FVec Ideal S2x6144 .f32)

theorem weights_apply (l : Fin 2) (d : Fin 1024) (f : Fin 6144) : weights w l (ix2 d f) = w (ix3 l d f) := by
  have hc (v : FVec Ideal S1x1024x6144 .f32) : shapeCast S1024x6144 v shapeCasts_S1x1024x6144_S1024x6144 (ix2 d f) = v (ix3 0 d f) := by
    refine shapeCast_apply (s := S1x1024x6144) (t := S1024x6144) v _ (ix2 d f) (ix3 (0 : Fin 1) d f) ?_
    rw [Shape.rowMajor_val_three, Shape.rowMajor_val_two]
    show (0 * 1024 + d.val) * 6144 + f.val = d.val * 6144 + f.val
    omega
  match l with
  | ⟨0, _⟩ =>
    refine (hc _).trans (extractStridedSlice_apply (s := S2x1024x6144) (t := S1x1024x6144) _ w _ (ix3 0 d f) (ix3 0 d f) (fun a => ?_))
    match a with
    | ⟨0, _⟩ => rfl
    | ⟨1, _⟩ => exact (Nat.zero_add _).symm
    | ⟨2, _⟩ => exact (Nat.zero_add _).symm
  | ⟨1, _⟩ =>
    refine (hc _).trans (extractStridedSlice_apply (s := S2x1024x6144) (t := S1x1024x6144) _ w _ (ix3 0 d f) (ix3 1 d f) (fun a => ?_))
    match a with
    | ⟨0, _⟩ => rfl
    | ⟨1, _⟩ => exact (Nat.zero_add _).symm
    | ⟨2, _⟩ => exact (Nat.zero_add _).symm

theorem bias_apply (l : Fin 2) (f : Fin 6144) : bias b l (ix1 f) = b (ix2 l f) := by
  have hc (v : FVec Ideal S1x6144 .f32) : shapeCast S6144 v shapeCasts_S1x6144_S6144 (ix1 f) = v (ix2 0 f) := by
    refine shapeCast_apply (s := S1x6144) (t := S6144) v _ (ix1 f) (ix2 (0 : Fin 1) f) ?_
    rw [Shape.rowMajor_val_one, Shape.rowMajor_val_two]
    show 0 * 6144 + f.val = f.val
    omega
  match l with
  | ⟨0, _⟩ =>
    refine (hc _).trans (extractStridedSlice_apply (s := S2x6144) (t := S1x6144) _ b _ (ix2 0 f) (ix2 0 f) (fun a => ?_))
    match a with
    | ⟨0, _⟩ => rfl
    | ⟨1, _⟩ => exact (Nat.zero_add _).symm
  | ⟨1, _⟩ =>
    refine (hc _).trans (extractStridedSlice_apply (s := S2x6144) (t := S1x6144) _ b _ (ix2 0 f) (ix2 1 f) (fun a => ?_))
    match a with
    | ⟨0, _⟩ => rfl
    | ⟨1, _⟩ => exact (Nat.zero_add _).symm

theorem layer_apply (l : Fin 2) (n : Fin 16) (f : Fin 6144) : one_layer x (weights w l) (bias b l) (ix3 0 n f) = full x w b l n f := by
  unfold one_layer full
  refine (broadcastInDim_apply (s := S16x6144) (t := S1x16x6144) _ _ _ (ix3 0 n f) (ix2 n f) (fun a => ?_)).trans ?_
  · match a with
    | ⟨0, _⟩ => rfl
    | ⟨1, _⟩ => rfl
  refine congrArg₂ (fun a b : EReal => a + b) ?_ ?_
  · refine (dot_apply (M := 16) (K := 1024) (N := 6144) _ none _ _ n f).trans ?_
    exact Finset.sum_congr rfl fun d _ => congrArg₂ (fun a b : EReal => a * b) rfl (weights_apply w l d f)
  · refine (broadcastInDim_apply (s := S1x6144) (t := S16x6144) _ _ _ (ix2 n f) (ix2 0 f) (fun a => ?_)).trans ?_
    · match a with
      | ⟨0, _⟩ => rfl
      | ⟨1, _⟩ => rfl
    refine (broadcastInDim_apply (s := S6144) (t := S1x6144) _ _ _ (ix2 0 f) (ix1 f) (fun a => ?_)).trans (bias_apply b l f)
    match a with
    | ⟨0, _⟩ => rfl

theorem result_apply (l : Fin 2) (n : Fin 16) (f : Fin 6144) : result (F := Ideal) x w b (ix3 l n f) = full x w b l n f := by
  unfold result
  match l with
  | ⟨0, _⟩ =>
    refine (concatenate_pair_apply_left (t := S2x16x6144) (s₁ := S1x16x6144) (s₂ := S1x16x6144) _ _ _ _ (ix3 0 n f) rfl (ix3 0 n f) (fun a => ?_)).trans
      (layer_apply x w b 0 n f)
    match a with
    | ⟨0, _⟩ => rfl
    | ⟨1, _⟩ => rfl
    | ⟨2, _⟩ => rfl
  | ⟨1, _⟩ =>
    refine (concatenate_pair_apply_right (t := S2x16x6144) (s₁ := S1x16x6144) (s₂ := S1x16x6144) _ _ _ _ (ix3 1 n f) rfl rfl (ix3 0 n f) (fun a ha => ?_) rfl).trans
      (layer_apply x w b 1 n f)
    match a with
    | ⟨0, _⟩ => exact absurd rfl ha
    | ⟨1, _⟩ => rfl
    | ⟨2, _⟩ => rfl

end Cert.Proof.MRef

end
-- ==== Proof.P.Spec.lean ====
/-
  The rotary tables at the extended reals: 64 frequencies `1 / 10000 ^ ((0 + 2 i) / 128)`, each standing at two of the 128
  lanes; the cosines of a position times them, and the sines, those of the first 64 lanes negated.
-/
module

public import Idealize.ShloMosaic.Lib.IdealHost
public import Idealize.ShloMosaic.Lib.Pipeline.Value
public import Idealize.ShloMosaic.Lib.ValueIdx

@[expose] public section

noncomputable section

namespace Cert.Proof.P

open Idealize.ShloMosaic
open Idealize.ShloMosaic.ValueIdx (ix1 ix2 ix3)

/-- A number at each of 64 places. -/
def same (w : BitVec 32) : (⟨1, ![64]⟩ : Shape).Idx → EReal := fun _ => Ideal.ofBits .f32 w

/-- The frequencies, as the programs compute them. -/
def freqs : FVec Ideal (⟨1, ![64]⟩ : Shape) .f32 :=
  Host.divf (same 0x3F800000#32) (Host.powf (same 0x461C4000#32)
    (Host.divf (addf (same 0x00000000#32) (mulf (same 0x40000000#32) (sitofp .f32 (iotaInDim (⟨1, ![64]⟩ : Shape) 32 0)))) (same 0x43000000#32)))

/-- The frequency of a lane. -/
def freq (l : Fin 128) : EReal := freqs (ix1 ⟨l.val % 64, by omega⟩)

/-- The angle of the position word `p` at a lane. -/
def angle (p : BitVec 32) (l : Fin 128) : EReal := FloatOps.sitofp (F := Ideal) .f32 p * freq l

/-- The tables at a position word and a lane. -/
def cosAt (p : BitVec 32) (l : Fin 128) : EReal := FloatOps.cos (F := Ideal) (φ := .f32) (angle p l)
def sinAt (p : BitVec 32) (l : Fin 128) : EReal :=
  if l.val < 64 then -(FloatOps.sin (F := Ideal) (φ := .f32) (angle p l)) else FloatOps.sin (F := Ideal) (φ := .f32) (angle p l)

end Cert.Proof.P

end
-- ==== Proof.P.Close.lean ====
/-
  The rotary tables' result arrays at the extended reals. A grid point takes one batch row and 1024 of its 2048 positions; it
  multiplies each position by the frequency of each lane and takes cosines and signed sines.
-/
module

public import proofs.«01_k».proof.Proof.P.Spec
public import proofs.«01_k».proof.Proof.Gen.RopeIdeal.Frame
public import Idealize.ShloMosaic.Lib.Pipeline.Value
public import Idealize.ShloMosaic.Lib.Pipeline.ValueKit.Tiles
public import Idealize.ShloMosaic.Lib.Pipeline.Covers

@[expose] public section

set_option maxRecDepth 16384

noncomputable section

namespace Cert.Proof.P

open Cert.RopeIdeal Cert.RopeIdeal.Gen
open Idealize.ShloMosaic Idealize.SL.Sem
open Idealize.ShloMosaic.TcCoe
open Idealize.ShloMosaic.ValueIdx (ix1 ix2 ix3)
open Idealize.ShloMosaic.Pipeline (Dat Cfg Window)

/-! ## A point's blocks -/

theorem zero2 : (![0, 0] : Fin 2 → Nat) = fun _ => 0 := funext fun a => by fin_cases a <;> rfl
theorem zero3 : (![0, 0, 0] : Fin 3 → Nat) = fun _ => 0 := funext fun a => by fin_cases a <;> rfl

section
variable (x0 : IVec S1x1024x1 32) (x1 : FVec Ideal S1x128 .f32)

theorem cos_eq : out0_2 (F := Ideal) x0 x1 = k0_pay2 (F := Ideal) x0 x1 := by
  unfold out0_2
  rw [View.canon_unit_zero zero3, View.ld_unit_zero (S := S1x1024x1) zero3, View.ld_unit_zero (S := S1x128) zero2]

theorem sin_eq : out0_3 (F := Ideal) x0 x1 = k0_pay3 (F := Ideal) x0 x1 := by
  unfold out0_3
  rw [View.canon_unit_zero zero3, View.ld_unit_zero (S := S1x1024x1) zero3, View.ld_unit_zero (S := S1x128) zero2]

theorem angles_apply (r : Fin 1024) (l : Fin 128) :
    k0_pay1 (F := Ideal) x0 x1 (ix2 r l) = FloatOps.sitofp (F := Ideal) .f32 (x0 (ix3 0 r 0)) * x1 (ix2 0 l) := by
  unfold k0_pay1
  refine congrArg₂ (fun a b : EReal => a * b) ?_ ?_
  · refine (broadcastTo_apply (s := S1024x1) (t := S1024x128) _ _ (ix2 r l) (ix2 r (0 : Fin 1)) (fun a => ?_)).trans ?_
    · match a with
      | ⟨0, _⟩ => rfl
      | ⟨1, _⟩ => rfl
    refine congrArg (FloatOps.sitofp (F := Ideal) .f32) ?_
    refine shapeCast_apply (s := S1x1024x1) (t := S1024x1) x0 _ (ix2 r (0 : Fin 1)) (ix3 (0 : Fin 1) r (0 : Fin 1)) ?_
    rw [Shape.rowMajor_val_three, Shape.rowMajor_val_two]
    show (0 * 1024 + r.val) * 1 + 0 = r.val * 1 + 0
    omega
  · refine (broadcastTo_apply (s := S1x128) (t := S1024x128) _ _ (ix2 r l) (ix2 (0 : Fin 1) l) (fun a => ?_)).trans (congrFun (shapeCast_self x1 _) _)
    match a with
    | ⟨0, _⟩ => rfl
    | ⟨1, _⟩ => rfl

theorem flat_apply (v : FVec Ideal S1024x128 .f32) (r : Fin 1024) (l : Fin 128) :
    shapeCast S1x1024x128 v shapeCasts_S1024x128_S1x1024x128 (ix3 0 r l) = v (ix2 r l) := by
  refine shapeCast_apply (s := S1024x128) (t := S1x1024x128) v _ (ix3 (0 : Fin 1) r l) (ix2 r l) ?_
  rw [Shape.rowMajor_val_three, Shape.rowMajor_val_two]
  show r.val * 128 + l.val = (0 * 1024 + r.val) * 128 + l.val
  omega

theorem cos_apply (r : Fin 1024) (l : Fin 128) :
    out0_2 (F := Ideal) x0 x1 (ix3 0 r l)
      = FloatOps.cos (F := Ideal) (φ := .f32) (FloatOps.sitofp (F := Ideal) .f32 (x0 (ix3 0 r 0)) * x1 (ix2 0 l) : EReal) := by
  rw [cos_eq]
  unfold k0_pay2
  exact (flat_apply _ r l).trans (congrArg (FloatOps.cos (F := Ideal) (φ := .f32)) (angles_apply x0 x1 r l))

/-- The lanes below 64, told by comparing words. -/
theorem lane_lt (l : Fin 128) : IntOp.cmpi .slt (BitVec.ofNat 32 l.val) 64#32 = if l.val < 64 then 1#1 else 0#1 := by
  revert l
  decide

theorem sin_apply (r : Fin 1024) (l : Fin 128) :
    out0_3 (F := Ideal) x0 x1 (ix3 0 r l)
      = if l.val < 64 then -(FloatOps.sin (F := Ideal) (φ := .f32) (FloatOps.sitofp (F := Ideal) .f32 (x0 (ix3 0 r 0)) * x1 (ix2 0 l) : EReal) : EReal)
        else FloatOps.sin (F := Ideal) (φ := .f32) (FloatOps.sitofp (F := Ideal) .f32 (x0 (ix3 0 r 0)) * x1 (ix2 0 l) : EReal) := by
  rw [sin_eq]
  unfold k0_pay3
  refine (flat_apply _ r l).trans ?_
  have hi : iota .tc S1024x128 32 [1] iota_S1024x128_d1_w32 (ix2 r l) = BitVec.ofNat 32 l.val :=
    iota_single_apply .tc S1024x128 32 1 iota_S1024x128_d1_w32 (ix2 r l)
  have hs : sin (k0_pay1 (F := Ideal) x0 x1) (ix2 r l)
      = FloatOps.sin (F := Ideal) (φ := .f32) (FloatOps.sitofp (F := Ideal) .f32 (x0 (ix3 0 r 0)) * x1 (ix2 0 l) : EReal) :=
    congrArg (FloatOps.sin (F := Ideal) (φ := .f32)) (angles_apply x0 x1 r l)
  rw [← hs]
  have hc : cmpi .slt (iota .tc S1024x128 32 [1] iota_S1024x128_d1_w32) (broadcast S1024x128 64#32) (ix2 r l) = if l.val < 64 then 1#1 else 0#1 :=
    (congrArg (fun w => IntOp.cmpi .slt w 64#32) hi).trans (lane_lt l)
  show (if cmpi .slt (iota .tc S1024x128 32 [1] iota_S1024x128_d1_w32) (broadcast S1024x128 64#32) (ix2 r l) = 1#1 then _ else _) = _
  rw [hc]
  by_cases h : l.val < 64
  · rw [if_pos h, if_pos rfl, if_pos h]
    exact Eq.trans (congrArg (fun a : EReal => a - sin (k0_pay1 (F := Ideal) x0 x1) (ix2 r l)) Ideal.ofBits_zero_f32) (zero_sub _)
  · rw [if_neg h, if_neg (by decide), if_neg h]

end

/-! ## The grid: 16 batch rows by two blocks of 1024 positions -/

theorem points (t : Fin cfg0.N) : t.val < 32 := t.isLt.trans_eq (by decide)

/-- The batch row of point `t`, and the position of its row `r`. -/
def batch (t : Fin cfg0.N) : Fin 16 := ⟨t.val / 2, by have h := points t; omega⟩
def time (t : Fin cfg0.N) (r : Fin 1024) : Fin 2048 := ⟨1024 * (t.val % 2) + r.val, by omega⟩

theorem index2 : ∀ t : Fin cfg0.N, (cfg0.win (2 : Fin 4)).index t = ![t.val / 2, t.val % 2, 0] :=
  (by decide +kernel : ∀ t : Fin grid0.N, win0_2.index t = ![t.val / 2, t.val % 2, 0])

theorem index0 (t : Fin cfg0.N) : (cfg0.win (0 : Fin 4)).index t = ![t.val / 2, t.val % 2, 0] := index2 t
theorem index3 (t : Fin cfg0.N) : (cfg0.win (3 : Fin 4)).index t = ![t.val / 2, t.val % 2, 0] := index2 t

variable (m : (ℓ : Loc nD τ sig) → Buf (Elt Ideal) ℓ) (ρ : Dev nD → PrngReg)

theorem blk0_apply (c : Dev nD) (t : Fin cfg0.N) (r : Fin 1024) :
    iblk m c (0 : Fin 4) t (ix3 0 r 0) = V m c main_v13 (ix3 (batch t) (time t r) 0) := by
  refine congrArg (V m c main_v13) (funext fun b => Fin.ext ?_)
  refine (Window.rect_emb_val (cfg0.win (0 : Fin 4)) t (ix3 0 r 0) b).trans ?_
  rw [index0]
  match b with
  | ⟨0, _⟩ => show t.val / 2 * 1 + 0 = t.val / 2; omega
  | ⟨1, _⟩ => show t.val % 2 * 1024 + r.val = 1024 * (t.val % 2) + r.val; omega
  | ⟨2, _⟩ => rfl

theorem blk1_apply (c : Dev nD) (t : Fin cfg0.N) (l : Fin 128) :
    iblk m c (1 : Fin 4) t (ix2 0 l) = V m c main_v12 (ix2 0 l) := by
  refine congrArg (V m c main_v12) (funext fun b => Fin.ext ?_)
  refine (Window.rect_emb_val (cfg0.win (1 : Fin 4)) t (ix2 0 l) b).trans ?_
  match b with
  | ⟨0, _⟩ => rfl
  | ⟨1, _⟩ => show 0 * 128 + l.val = l.val; omega

/-! ## What the call finds, from the launch contents -/

theorem Vpos_apply (c : Dev nD) (b : Fin 16) (t : Fin 2048) : V m c main_v13 (ix3 b t 0) = m ((c : Thread nD τ).loc main_arg0) (ix2 b t) := by
  have e : V m c main_v13 = shapeCast S16x2048x1 (m ((c : Thread nD τ).loc main_arg0)) shapeCasts_S16x2048_S16x2048x1 := by
    show StableHlo.after _ _ _ = _; after_results
    rfl
  rw [e]
  refine shapeCast_apply (s := S16x2048) (t := S16x2048x1) (m ((c : Thread nD τ).loc main_arg0)) _ (ix3 b t 0) (ix2 b t) ?_
  rw [Shape.rowMajor_val_three, Shape.rowMajor_val_two]
  show b.val * 2048 + t.val = (b.val * 2048 + t.val) * 1 + 0
  omega

theorem twice_apply (v : FVec Ideal S64 .f32) (l : Fin 128) :
    concatenate S128 0 [⟨S64, v⟩, ⟨S64, v⟩] concatenates_S64_S64_S128_d0 (ix1 l) = v (ix1 ⟨l.val % 64, by omega⟩) := by
  by_cases h : l.val < 64
  · refine concatenate_pair_apply_left (t := S128) (s₁ := S64) (s₂ := S64) _ _ _ _ (ix1 l) rfl (ix1 ⟨l.val % 64, by omega⟩) (fun a => ?_)
    match a with
    | ⟨0, _⟩ => exact Nat.mod_eq_of_lt h
  · refine concatenate_pair_apply_right (t := S128) (s₁ := S64) (s₂ := S64) _ _ _ _ (ix1 l) rfl rfl (ix1 ⟨l.val % 64, by omega⟩) (fun a ha => ?_) ?_
    · match a with
      | ⟨0, _⟩ => exact absurd rfl ha
    · show l.val % 64 + 64 = l.val
      omega

theorem Vfreq_apply (c : Dev nD) (l : Fin 128) : V m c main_v12 (ix2 0 l) = freq l := by
  have e : V m c main_v12 = shapeCast S1x128 (concatenate S128 0 [⟨S64, freqs⟩, ⟨S64, freqs⟩] concatenates_S64_S64_S128_d0) shapeCasts_S128_S1x128 := by
    show StableHlo.after _ _ _ = _; after_results
    rfl
  rw [e]
  refine (shapeCast_apply (s := S128) (t := S1x128) _ _ (ix2 (0 : Fin 1) l) (ix1 l) ?_).trans (twice_apply freqs l)
  rw [Shape.rowMajor_val_one, Shape.rowMajor_val_two]
  show l.val = 0 * 128 + l.val
  omega

/-! ## The results -/

/-- A position of the launch contents. -/
abbrev pos (c : Dev nD) (b : Fin 16) (t : Fin 2048) : BitVec 32 := m ((c : Thread nD τ).loc main_arg0) (ix2 b t)

theorem angle_eq (c : Dev nD) (t : Fin cfg0.N) (r : Fin 1024) (l : Fin 128) :
    (FloatOps.sitofp (F := Ideal) .f32 (iblk m c (0 : Fin 4) t (ix3 0 r 0)) * iblk m c (1 : Fin 4) t (ix2 0 l) : EReal)
      = angle (pos m c (batch t) (time t r)) l :=
  congrArg₂ (fun (p : BitVec 32) (f : EReal) => (FloatOps.sitofp (F := Ideal) .f32 p * f : EReal))
    ((blk0_apply m c t r).trans (Vpos_apply m c _ _)) ((blk1_apply m c t l).trans (Vfreq_apply m c l))

/-- A point's result blocks. -/
theorem cos_block (c : Dev nD) (t : Fin cfg0.N) (r : Fin 1024) (l : Fin 128) :
    out0_2 (F := Ideal) (iblk m c (0 : Fin 4) t) (iblk m c (1 : Fin 4) t) (ix3 0 r l) = cosAt (pos m c (batch t) (time t r)) l :=
  (cos_apply (iblk m c (0 : Fin 4) t) (iblk m c (1 : Fin 4) t) r l).trans
    (congrArg (FloatOps.cos (F := Ideal) (φ := .f32)) (angle_eq m c t r l))

theorem sin_block (c : Dev nD) (t : Fin cfg0.N) (r : Fin 1024) (l : Fin 128) :
    out0_3 (F := Ideal) (iblk m c (0 : Fin 4) t) (iblk m c (1 : Fin 4) t) (ix3 0 r l) = sinAt (pos m c (batch t) (time t r)) l :=
  (sin_apply (iblk m c (0 : Fin 4) t) (iblk m c (1 : Fin 4) t) r l).trans
    (congrArg (fun a : EReal => if l.val < 64 then -(FloatOps.sin (F := Ideal) (φ := .f32) a : EReal) else FloatOps.sin (F := Ideal) (φ := .f32) a)
      (angle_eq m c t r l))

theorem cos_end (c : Dev nD) : (dats m 0 c).arrAt 2 cfg0.N = fun i => cosAt (pos m c (i 0) (i 1)) (i 2) := by
  refine (dats m 0 c).arrAt_eq_of_covers (2 : Fin 4) _ ?_ fun t _ y => ?_
  · refine (cfg0.win (2 : Fin 4)).covers_of_indexMap_surj rfl (show ∀ a, 0 < (spec0 (2 : Fin 4)).size a by decide) fun β => ?_
    have h0 : (β (0 : Fin 3)).val < 16 := (β (0 : Fin 3)).isLt.trans_eq (show (16 + 1 - 1) / 1 = 16 by norm_num)
    have h1 : (β (1 : Fin 3)).val < 2 := (β (1 : Fin 3)).isLt.trans_eq (show (2048 + 1024 - 1) / 1024 = 2 by norm_num)
    have h2 : (β (2 : Fin 3)).val < 1 := (β (2 : Fin 3)).isLt.trans_eq (show (128 + 128 - 1) / 128 = 1 by norm_num)
    refine ⟨fun g => match g with
      | ⟨0, _⟩ => ⟨(β (0 : Fin 3)).val, h0⟩
      | ⟨1, _⟩ => ⟨(β (1 : Fin 3)).val, h1⟩, fun b => ?_⟩
    match b with
    | ⟨0, _⟩ => show (BitVec.ofNat 32 (β (0 : Fin 3)).val).toNat = (β (0 : Fin 3)).val; rw [BitVec.toNat_ofNat]; omega
    | ⟨1, _⟩ => show (BitVec.ofNat 32 (β (1 : Fin 3)).val).toNat = (β (1 : Fin 3)).val; rw [BitVec.toNat_ofNat]; omega
    | ⟨2, _⟩ => show 0 = (β (2 : Fin 3)).val; omega
  · have hn : ((cfg0.win (2 : Fin 4)).blk t).view.emb y = (ix3 (batch t) (time t (y 1)) (y 2) : S16x2048x128.Idx) := by
      refine funext fun b => Fin.ext ?_
      refine (Window.rect_emb_val (cfg0.win (2 : Fin 4)) t y b).trans ?_
      rw [index2]
      match b with
      | ⟨0, _⟩ =>
        have hy : (y (0 : Fin 3)).val < 1 := (y (0 : Fin 3)).isLt
        show t.val / 2 * 1 + (y (0 : Fin 3)).val = t.val / 2
        omega
      | ⟨1, _⟩ => show t.val % 2 * 1024 + (y (1 : Fin 3)).val = 1024 * (t.val % 2) + (y (1 : Fin 3)).val; omega
      | ⟨2, _⟩ => show 0 * 128 + (y (2 : Fin 3)).val = (y (2 : Fin 3)).val; omega
    refine Eq.trans (α := EReal) ?_ (congrArg (fun i : S16x2048x128.Idx => cosAt (pos m c (i 0) (i 1)) (i 2)) hn).symm
    show ((dats m 0 c).after 2 t) y = _
    rw [after0_2]
    have hy : y = (ix3 0 (y 1) (y 2) : S1x1024x128.Idx) := funext fun b => by
      match b with
      | ⟨0, _⟩ => exact Subsingleton.elim (α := Fin 1) _ _
      | ⟨1, _⟩ => rfl
      | ⟨2, _⟩ => rfl
    exact Eq.trans (α := EReal) (congrArg _ hy) (cos_block m c t (y 1) (y 2))

theorem sin_end (c : Dev nD) : (dats m 0 c).arrAt 3 cfg0.N = fun i => sinAt (pos m c (i 0) (i 1)) (i 2) := by
  refine (dats m 0 c).arrAt_eq_of_covers (3 : Fin 4) _ ?_ fun t _ y => ?_
  · refine (cfg0.win (3 : Fin 4)).covers_of_indexMap_surj rfl (show ∀ a, 0 < (spec0 (3 : Fin 4)).size a by decide) fun β => ?_
    have h0 : (β (0 : Fin 3)).val < 16 := (β (0 : Fin 3)).isLt.trans_eq (show (16 + 1 - 1) / 1 = 16 by norm_num)
    have h1 : (β (1 : Fin 3)).val < 2 := (β (1 : Fin 3)).isLt.trans_eq (show (2048 + 1024 - 1) / 1024 = 2 by norm_num)
    have h2 : (β (2 : Fin 3)).val < 1 := (β (2 : Fin 3)).isLt.trans_eq (show (128 + 128 - 1) / 128 = 1 by norm_num)
    refine ⟨fun g => match g with
      | ⟨0, _⟩ => ⟨(β (0 : Fin 3)).val, h0⟩
      | ⟨1, _⟩ => ⟨(β (1 : Fin 3)).val, h1⟩, fun b => ?_⟩
    match b with
    | ⟨0, _⟩ => show (BitVec.ofNat 32 (β (0 : Fin 3)).val).toNat = (β (0 : Fin 3)).val; rw [BitVec.toNat_ofNat]; omega
    | ⟨1, _⟩ => show (BitVec.ofNat 32 (β (1 : Fin 3)).val).toNat = (β (1 : Fin 3)).val; rw [BitVec.toNat_ofNat]; omega
    | ⟨2, _⟩ => show 0 = (β (2 : Fin 3)).val; omega
  · have hn : ((cfg0.win (3 : Fin 4)).blk t).view.emb y = (ix3 (batch t) (time t (y 1)) (y 2) : S16x2048x128.Idx) := by
      refine funext fun b => Fin.ext ?_
      refine (Window.rect_emb_val (cfg0.win (3 : Fin 4)) t y b).trans ?_
      rw [index3]
      match b with
      | ⟨0, _⟩ =>
        have hy : (y (0 : Fin 3)).val < 1 := (y (0 : Fin 3)).isLt
        show t.val / 2 * 1 + (y (0 : Fin 3)).val = t.val / 2
        omega
      | ⟨1, _⟩ => show t.val % 2 * 1024 + (y (1 : Fin 3)).val = 1024 * (t.val % 2) + (y (1 : Fin 3)).val; omega
      | ⟨2, _⟩ => show 0 * 128 + (y (2 : Fin 3)).val = (y (2 : Fin 3)).val; omega
    refine Eq.trans (α := EReal) ?_ (congrArg (fun i : S16x2048x128.Idx => sinAt (pos m c (i 0) (i 1)) (i 2)) hn).symm
    show ((dats m 0 c).after 3 t) y = _
    rw [after0_3]
    have hy : y = (ix3 0 (y 1) (y 2) : S1x1024x128.Idx) := funext fun b => by
      match b with
      | ⟨0, _⟩ => exact Subsingleton.elim (α := Fin 1) _ _
      | ⟨1, _⟩ => rfl
      | ⟨2, _⟩ => rfl
    exact Eq.trans (α := EReal) (congrArg _ hy) (sin_block m c t (y 1) (y 2))

/-- The run, both result arrays named by what the points leave in them, the positions as they were. -/
theorem run_tables : θ_run defs (onTc (τ := τ) (main (F := Ideal))) ⟨m, fun _ => 0, ρ⟩ fun r => ∀ c : Dev nD,
    r.2.mem ((c.tc : Thread nD τ).loc main_v14_0) = (dats m 0 c).arrAt 2 cfg0.N
    ∧ r.2.mem ((c.tc : Thread nD τ).loc main_v14_1) = (dats m 0 c).arrAt 3 cfg0.N
    ∧ r.2.mem ((c.tc : Thread nD τ).loc main_arg0) = m ((c.tc : Thread nD τ).loc main_arg0) := by
  refine (θ_run defs _ _).mono (fun r h c => ?_) (run_main m ρ)
  obtain ⟨staged, rest⟩ := h c
  have kept := rest main_arg0 (Pipeline.mem_restRefs_of main_arg0 (by decide) (by decide))
  exact ⟨staged 2, staged 3, kept.trans (V_main_arg0 m c)⟩

end Cert.Proof.P

end
-- ==== Proof.P.RefValue.lean ====
/-
  The rotary tables' reference: its run, its two results in named stages, and those results at a batch row, a position and a
  lane, at the extended reals: the tables there.
-/
module

public import proofs.«01_k».proof.Proof.P.Spec
public import proofs.«01_k».proof.Proof.Gen.RopeRefIdeal
public import proofs.«01_k».proof.Proof.Gen.RopeRefIdeal.Run
public import Idealize.ShloMosaic.Lib.Claim
public import Idealize.ShloMosaic.Lib.Pipeline.Value

@[expose] public section

set_option maxRecDepth 65536

noncomputable section

namespace Cert.Proof.PRef

open Cert.RopeRefIdeal Cert.RopeRefIdeal.Gen
open Idealize.ShloMosaic Idealize.ShloMosaic.TcCoe Idealize.SL.Sem
open Idealize.ShloMosaic.ValueIdx (ix1 ix2 ix3)
open Cert.Proof.P (freqs freq angle cosAt sinAt)

/-- A position times a frequency. -/
def angles (p : IVec S16x2048 32) : FVec Ideal S16x2048x64 .f32 :=
  mulf (broadcastInDim S16x2048x64 ![0, 1, 2] bcast_S16x2048x1_S16x2048x64_0_1_2 (broadcastInDim S16x2048x1 ![0, 1] bcast_S16x2048_S16x2048x1_0_1 (sitofp .f32 p)))
    (broadcastInDim S16x2048x64 ![0, 1, 2] bcast_S1x1x64_S16x2048x64_0_1_2 (broadcastInDim S1x1x64 ![2] bcast_S64_S1x1x64_2 freqs))

/-- Two half-width tables side by side. -/
def halves (a b : FVec Ideal S16x2048x64 .f32) : FVec Ideal S16x2048x128 .f32 :=
  concatenate S16x2048x128 2 [⟨S16x2048x64, a⟩, ⟨S16x2048x64, b⟩] concatenates_S16x2048x64_S16x2048x64_S16x2048x128_d2

/-- The results. -/
def cosines (p : IVec S16x2048 32) : FVec Ideal S16x2048x128 .f32 := halves (Host.cos (angles p)) (Host.cos (angles p))
def sines (p : IVec S16x2048 32) : FVec Ideal S16x2048x128 .f32 := halves (Host.negf (Host.sin (angles p))) (Host.sin (angles p))

section
variable (m : (ℓ : Loc nD τ sig) → Buf (Elt Ideal) ℓ) (ρ : Dev nD → PrngReg)

theorem run_main : θ_run (defs (F := Ideal)) (onTc (τ := τ) (main (F := Ideal))) ⟨m, fun _ => 0, ρ⟩ fun r =>
    ∀ c : Dev nD,
      r.2.mem ((c.tc : Thread nD τ).loc main_v19) = cosines (m ((c.tc : Thread nD τ).loc main_arg0))
      ∧ r.2.mem ((c.tc : Thread nD τ).loc main_v21) = sines (m ((c.tc : Thread nD τ).loc main_arg0))
      ∧ r.2.mem ((c.tc : Thread nD τ).loc main_arg0) = m ((c.tc : Thread nD τ).loc main_arg0) :=
  (θ_run _ _ _).mono (fun _ h c => ⟨(h c).1.trans rfl, (h c).2.1.trans rfl, (h c).2.2⟩)
    (Cert.RopeRefIdeal.Value.run m ρ)

theorem run_kept {F : FTy → Type} [FloatOps F] (m : (ℓ : Loc nD τ sig) → Buf (Elt F) ℓ) :
    θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run _ _ _).mono (fun r h => ⟨fun c => (h c).2.2, sem_eq_zero_of_no_sems (by decide) r.2⟩) (Cert.RopeRefIdeal.Value.run m ρ)

end

/-! ## At coordinates -/

variable (p : IVec S16x2048 32)

/-- The half-width lane of a lane. -/
abbrev half (l : Fin 128) : Fin 64 := ⟨l.val % 64, by omega⟩

theorem angles_apply (b : Fin 16) (t : Fin 2048) (l : Fin 128) : angles p (ix3 b t (half l)) = angle (p (ix2 b t)) l := by
  unfold angles angle freq
  refine congrArg₂ (fun a b : EReal => a * b) ?_ ?_
  · refine (broadcastInDim_apply (s := S16x2048x1) (t := S16x2048x64) _ _ _ (ix3 b t (half l)) (ix3 b t 0) (fun a => ?_)).trans ?_
    · match a with
      | ⟨0, _⟩ => rfl
      | ⟨1, _⟩ => rfl
      | ⟨2, _⟩ => rfl
    refine (broadcastInDim_apply (s := S16x2048) (t := S16x2048x1) _ _ _ (ix3 b t 0) (ix2 b t) (fun a => ?_)).trans rfl
    match a with
    | ⟨0, _⟩ => rfl
    | ⟨1, _⟩ => rfl
  · refine (broadcastInDim_apply (s := S1x1x64) (t := S16x2048x64) _ _ _ (ix3 b t (half l)) (ix3 0 0 (half l)) (fun a => ?_)).trans ?_
    · match a with
      | ⟨0, _⟩ => rfl
      | ⟨1, _⟩ => rfl
      | ⟨2, _⟩ => rfl
    refine broadcastInDim_apply (s := S64) (t := S1x1x64) _ _ _ (ix3 0 0 (half l)) (ix1 (half l)) (fun a => ?_)
    match a with
    | ⟨0, _⟩ => rfl

theorem halves_apply (x y : FVec Ideal S16x2048x64 .f32) (b : Fin 16) (t : Fin 2048) (l : Fin 128) :
    halves x y (ix3 b t l) = if l.val < 64 then x (ix3 b t (half l)) else y (ix3 b t (half l)) := by
  unfold halves
  by_cases h : l.val < 64
  · rw [if_pos h]
    refine concatenate_pair_apply_left (t := S16x2048x128) (s₁ := S16x2048x64) (s₂ := S16x2048x64) _ _ _ _ (ix3 b t l) rfl (ix3 b t (half l)) (fun a => ?_)
    match a with
    | ⟨0, _⟩ => rfl
    | ⟨1, _⟩ => rfl
    | ⟨2, _⟩ => exact Nat.mod_eq_of_lt h
  · rw [if_neg h]
    refine concatenate_pair_apply_right (t := S16x2048x128) (s₁ := S16x2048x64) (s₂ := S16x2048x64) _ _ _ _ (ix3 b t l) rfl rfl (ix3 b t (half l)) (fun a ha => ?_) ?_
    · match a with
      | ⟨0, _⟩ => rfl
      | ⟨1, _⟩ => rfl
      | ⟨2, _⟩ => exact absurd rfl ha
    · show l.val % 64 + 64 = l.val
      omega

theorem cosines_apply (b : Fin 16) (t : Fin 2048) (l : Fin 128) : cosines p (ix3 b t l) = cosAt (p (ix2 b t)) l := by
  unfold cosines
  rw [halves_apply, ite_self]
  exact congrArg (FloatOps.cos (F := Ideal) (φ := .f32)) (angles_apply p b t l)

theorem sines_apply (b : Fin 16) (t : Fin 2048) (l : Fin 128) : sines p (ix3 b t l) = sinAt (p (ix2 b t)) l := by
  unfold sines sinAt
  rw [halves_apply, ← angles_apply p b t l]
  rfl

end Cert.Proof.PRef

end
-- ==== Proof.R.Spec.lean ====
/-
  The output projection at one batch and one time, at the extended reals: the residual row plus the gate times the linear map of
  the three branches' sum, and that row's modulated norm. Both programs are read as these functions of their arrays.
-/
module

public import proofs.«01_k».proof.Proof.A.Spec

@[expose] public section

noncomputable section

namespace Cert.Proof.R

open Idealize.ShloMosaic
open Idealize.ShloMosaic.ValueIdx (ix1 ix2 ix3)
open scoped BigOperators

variable (ma mb mc x : (⟨3, ![16, 2048, 1024]⟩ : Shape).Idx → EReal) (gate : (⟨2, ![16, 1024]⟩ : Shape).Idx → EReal)
  (wo : (⟨3, ![2, 1024, 1024]⟩ : Shape).Idx → EReal) (g : (⟨2, ![2, 1024]⟩ : Shape).Idx → EReal)
  (sh sc : (⟨2, ![16, 1024]⟩ : Shape).Idx → EReal)

/-- The new residual row, with the first layer's weights. -/
def rows (b : Fin 16) (t : Fin 2048) (d : Fin 1024) : EReal :=
  x (ix3 b t d) + gate (ix2 b d) * ∑ k, (ma (ix3 b t k) + mb (ix3 b t k) + mc (ix3 b t k)) * wo (ix3 0 k d)

/-- Its modulated norm, with the first layer's gain. -/
def normed (b : Fin 16) (t : Fin 2048) : Fin 1024 → EReal :=
  Cert.Proof.A.nrm (rows ma mb mc x gate wo b t) (fun k => g (ix2 0 k)) (fun k => sh (ix2 b k)) (fun k => sc (ix2 b k))

/-- Row `n` of the flattened batches and times. -/
def flat (n : Fin 32768) (d : Fin 1024) : EReal :=
  normed ma mb mc x gate wo g sh sc ⟨n.val / 2048, by omega⟩ ⟨n.val % 2048, Nat.mod_lt _ (by decide)⟩ d

end Cert.Proof.R

end
-- ==== Proof.R.Body.lean ====
/-
  One grid point of the output projection and router, as functions of its blocks: what it stores of the new residual rows and
  of the two halves of their modulated norm. Neither depends on the running counts, so every point stores the same functions.
-/
module

public import proofs.«01_k».proof.Proof.Gen.RouterIdeal.Value
public import Idealize.ShloMosaic.Lib.Pipeline.Value
public import Idealize.ShloMosaic.Lib.WritesUnit
public import Idealize.ShloMosaic.Lib.ValueIdx

@[expose] public section

set_option maxRecDepth 16384

noncomputable section

namespace Cert.Proof.R

open Cert.RouterIdeal Cert.RouterIdeal.Gen
open Idealize.ShloMosaic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable {c : Dev nD} {i : grid0.Coords}
  {a2 : Memref sig .tc .vmem S1x512x1024 .bf16} {h2 : a2.IsWhole}
  {a3 : Memref sig .tc .vmem S1x512x1024 .bf16} {h3 : a3.IsWhole}
  {a4 : Memref sig .tc .vmem S1x512x1024 .bf16} {h4 : a4.IsWhole}
  {a5 : Memref sig .tc .vmem S1x512x1024 .f32} {h5 : a5.IsWhole}
  {a6 : Memref sig .tc .vmem S1x1x1024 .f32} {h6 : a6.IsWhole}
  {a7 : Memref sig .tc .vmem S1024x1024 .bf16} {h7 : a7.IsWhole}
  {a8 : Memref sig .tc .vmem S1x1024 .f32} {h8 : a8.IsWhole}
  {a9 : Memref sig .tc .vmem S1x1x1024 .f32} {h9 : a9.IsWhole}
  {a10 : Memref sig .tc .vmem S1x1x1024 .f32} {h10 : a10.IsWhole}
  {a11 : Memref sig .tc .vmem S1024x128 .f32} {h11 : a11.IsWhole}
  {a12 : Memref sig .tc .vmem S1x128 .f32} {h12 : a12.IsWhole}
  {a13 : Memref sig .tc .vmem S1x512x1024 .f32} {h13 : a13.IsWhole}
  {a14 : Memref sig .tc .vmem S1x512x128 .i32} {h14 : a14.IsWhole}
  {a15 : Memref sig .tc .vmem S1x512x128 .f32} {h15 : a15.IsWhole}
  {a16 : Memref sig .tc .vmem S1x512x128 .i32} {h16 : a16.IsWhole}
  {a17 : Memref sig .tc .vmem S1x128 .f32} {h17 : a17.IsWhole}
  {a18 : Memref sig .tc .vmem S512x512 .bf16} {h18 : a18.IsWhole}
  {a19 : Memref sig .tc .vmem S512x512 .bf16} {h19 : a19.IsWhole}
  {a20 : Memref sig .tc .vmem S1x128 .f32} {h20 : a20.IsWhole}
  {x0 : Vec F S1x512x1024 .bf16} {x1 : Vec F S1x512x1024 .bf16} {x2 : Vec F S1x512x1024 .bf16} {x3 : Vec F S1x512x1024 .f32} {x4 : Vec F S1x1x1024 .f32} {x5 : Vec F S1024x1024 .bf16} {x6 : Vec F S1x1024 .f32} {x7 : Vec F S1x1x1024 .f32} {x8 : Vec F S1x1x1024 .f32} {x9 : Vec F S1024x128 .f32} {x10 : Vec F S1x128 .f32} {xs : Vec F S1x128 .f32}

theorem rowsA_eq {hc : cond0_0 i} : out0_A_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 = k0_pay6 x0 x1 x2 x3 x4 x5 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10)]
  unfold kernelRun0_A
  dsimp only
  sl_unfold_words
  rw [View.canon_unit_zero zero3]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

theorem leftA_eq {hc : cond0_0 i} : out0_A_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 = k0_pay8 (k0_pay5 x0 x1 x2 x3 x4 x5) x6 x7 x8 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10)]
  unfold kernelRun0_A
  dsimp only
  sl_unfold_words
  rw [View.canon_unit_zero zero2]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

theorem rightA_eq {hc : cond0_0 i} : out0_A_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 = k0_pay9 (k0_pay5 x0 x1 x2 x3 x4 x5) x6 x7 x8 := by
  unfold out0_A_17
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10)]
  unfold kernelRun0_A
  dsimp only
  sl_unfold_words
  rw [View.canon_unit_zero zero2]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

theorem rowsB_eq {hc : ¬cond0_0 i} : out0_B_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs = k0_pay6 x0 x1 x2 x3 x4 x5 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs)]
  unfold kernelRun0_B
  dsimp only
  sl_unfold_words
  rw [View.canon_unit_zero zero3]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

theorem leftB_eq {hc : ¬cond0_0 i} : out0_B_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs = k0_pay8 (k0_pay5 x0 x1 x2 x3 x4 x5) x6 x7 x8 := by
  unfold out0_B_16
  rw [View.read_writes_eq_canon _ _ _ (cover0_B_16 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs)]
  unfold kernelRun0_B
  dsimp only
  sl_unfold_words
  rw [View.canon_unit_zero zero2]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

theorem rightB_eq {hc : ¬cond0_0 i} : out0_B_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs = k0_pay9 (k0_pay5 x0 x1 x2 x3 x4 x5) x6 x7 x8 := by
  unfold out0_B_17
  rw [View.read_writes_eq_canon _ _ _ (cover0_B_17 c i a2 h2 a3 h3 a4 h4 a5 h5 a6 h6 a7 h7 a8 h8 a9 h9 a10 h10 a11 h11 a12 h12 a13 h13 a14 h14 a15 h15 a16 h16 a17 h17 a18 h18 a19 h19 a20 h20 hc x0 x1 x2 x3 x4 x5 x6 x7 x8 x9 x10 xs)]
  unfold kernelRun0_B
  dsimp only
  sl_unfold_words
  rw [View.canon_unit_zero zero2]
  simp only [View.readAt_eq_ld, h2.read_unread, h3.read_unread, h4.read_unread, h5.read_unread, h6.read_unread, h7.read_unread,
    h8.read_unread, h9.read_unread, h10.read_unread, View.ld_unit_zero (S := S1x512x1024) zero3, View.ld_unit_zero (S := S1x1024) zero2,
    View.ld_unit_zero (S := S1x1x1024) zero3, View.ld_unit_zero (S := S1024x1024) zero2]

end Cert.Proof.R

end
-- ==== Proof.R.Value.lean ====
/-
  The output projection's block values at the extended reals, row by row: the new residual row and its modulated norm.
-/
module

public import proofs.«01_k».proof.Proof.R.Spec
public import proofs.«01_k».proof.Proof.R.Body
public import Idealize.ShloMosaic.Lib.MatmulPlain
public import Idealize.ShloMosaic.Lib.Pipeline.Value

@[expose] public section

set_option maxRecDepth 16384

noncomputable section

namespace Cert.Proof.R

open Cert.RouterIdeal Cert.RouterIdeal.Gen
open Idealize.ShloMosaic
open Idealize.ShloMosaic.ValueIdx (ix1 ix2 ix3 truncf_apply)
open Cert.Proof.A (count eps one nrm)
open scoped BigOperators

variable (x0 x1 x2 : FVec Ideal S1x512x1024 .bf16) (x3 : FVec Ideal S1x512x1024 .f32) (x4 : FVec Ideal S1x1x1024 .f32)
  (x5 : FVec Ideal S1024x1024 .bf16) (x6 : FVec Ideal S1x1024 .f32) (x7 x8 : FVec Ideal S1x1x1024 .f32)

/-- A block's new residual row. -/
def blockRow (r : Fin 512) (d : Fin 1024) : EReal :=
  x3 (ix3 0 r d) + x4 (ix3 0 0 d) * ∑ k, (x0 (ix3 0 r k) + x1 (ix3 0 r k) + x2 (ix3 0 r k)) * x5 (ix2 k d)

/-- A block, its leading one dropped. -/
theorem block_flat {e : EltTy} (v : S1x512x1024.Idx → Elt Ideal e) (r : Fin 512) (d : Fin 1024) :
    shapeCast S512x1024 v shapeCasts_S1x512x1024_S512x1024 (ix2 r d) = v (ix3 0 r d) := by
  refine shapeCast_apply v _ _ _ ?_
  rw [Shape.rowMajor_val_three, Shape.rowMajor_val_two]
  show (0 * 512 + r.val) * 1024 + d.val = r.val * 1024 + d.val
  omega

theorem row_flat (v : FVec Ideal S1x1x1024 .f32) (d : Fin 1024) :
    shapeCast S1x1024 v shapeCasts_S1x1x1024_S1x1024 (ix2 0 d) = v (ix3 0 0 d) := by
  refine shapeCast_apply v _ _ _ ?_
  rw [Shape.rowMajor_val_three, Shape.rowMajor_val_two]
  show (0 * 1 + 0) * 1024 + d.val = 0 * 1024 + d.val
  omega

/-- One row, at every row of a block. -/
theorem row_spread (v : FVec Ideal S1x1024 .f32) (r : Fin 512) (d : Fin 1024) :
    broadcastTo S512x1024 v broadcasts_S1x1024_S512x1024 (ix2 r d) = v (ix2 0 d) := by
  refine broadcastTo_apply _ _ (ix2 r d) (ix2 (0 : Fin 1) d) (fun a => ?_)
  match a with
  | ⟨0, _⟩ => rfl
  | ⟨1, _⟩ => rfl

theorem pay5_apply (r : Fin 512) (d : Fin 1024) :
    k0_pay5 (F := Ideal) x0 x1 x2 x3 x4 x5 (ix2 r d) = blockRow x0 x1 x2 x3 x4 x5 r d := by
  unfold k0_pay5 blockRow
  refine congrArg₂ (fun a b : EReal => a + b) (block_flat (e := .f32) x3 r d) (congrArg₂ (fun a b : EReal => a * b) ?_ ?_)
  · exact (row_spread _ r d).trans (row_flat x4 d)
  · refine (Ideal.matmul_plain_apply (M := 512) (K := 1024) (N := 1024) none _ _ _ r d).trans ?_
    refine (congrArg₂ (fun a b : EReal => a + b) Ideal.ofBits_zero_f32 (Finset.sum_congr rfl fun k _ => ?_)).trans (zero_add _)
    refine congrArg₂ (fun a b : EReal => a * b) ?_ (congrFun (shapeCast_self x5 _) _)
    refine (truncf_apply (φ := .f32) (ψ := .bf16) _ bitsLt_bf16_f32 _).trans ?_
    exact congrArg₂ (fun a b : EReal => a + b) (congrArg₂ (fun a b : EReal => a + b) (block_flat (e := .bf16) x0 r k)
      (block_flat (e := .bf16) x1 r k)) (block_flat (e := .bf16) x2 r k)

theorem pay6_apply (r : Fin 512) (d : Fin 1024) :
    k0_pay6 (F := Ideal) x0 x1 x2 x3 x4 x5 (ix3 0 r d) = blockRow x0 x1 x2 x3 x4 x5 r d := by
  unfold k0_pay6
  refine (shapeCast_apply _ _ (ix3 (0 : Fin 1) r d) (ix2 r d) ?_).trans (pay5_apply x0 x1 x2 x3 x4 x5 r d)
  rw [Shape.rowMajor_val_three, Shape.rowMajor_val_two]
  show r.val * 1024 + d.val = (0 * 512 + r.val) * 1024 + d.val
  omega

theorem pay7_apply (v : FVec Ideal S512x1024 .f32) (r : Fin 512) (d : Fin 1024) :
    k0_pay7 (F := Ideal) v x6 x7 x8 (ix2 r d)
      = nrm (fun k => v (ix2 r k)) (fun k => x6 (ix2 0 k)) (fun k => x7 (ix3 0 0 k)) (fun k => x8 (ix3 0 0 k)) d := by
  unfold k0_pay7 nrm
  refine congrArg₂ (fun a b : EReal => a + b) (congrArg₂ (fun a b : EReal => a * b) (congrArg₂ (fun a b : EReal => a * b)
    (congrArg (fun a : EReal => v (ix2 r d) * a) ?_) ?_) ?_) ?_
  · refine (broadcastTo_apply _ _ (ix2 r d) (ix2 r (0 : Fin 1)) (fun a => ?_)).trans ?_
    · match a with
      | ⟨0, _⟩ => rfl
      | ⟨1, _⟩ => rfl
    refine congrArg (fun a : EReal => Ideal.rsqrt (Ideal.div a count + eps)) ?_
    refine (shapeCast_apply _ _ (ix2 r (0 : Fin 1)) (ix1 r) ?_).trans ?_
    · rw [Shape.rowMajor_val_one, Shape.rowMajor_val_two]
      show r.val = r.val * 1 + 0
      omega
    refine (Ideal.multiReduction_add_single _ _ reduces_S512x1024_S512 (.inl rfl) rfl (ix1 r)).trans ?_
    refine Finset.sum_congr rfl fun k _ => ?_
    have hk : reduces_S512x1024_S512.lift (ix1 r) k = ix2 r k := funext fun a => by
      match a with
      | ⟨0, _⟩ => rfl
      | ⟨1, _⟩ => rfl
    rw [hk]
    rfl
  · exact (row_spread _ r d).trans (congrFun (shapeCast_self x6 _) _)
  · exact (row_spread _ r d).trans (congrArg (fun a : EReal => one + a) (row_flat x8 d))
  · exact (row_spread _ r d).trans (row_flat x7 d)

/-- A block row's modulated norm. -/
def blockNorm (r : Fin 512) : Fin 1024 → EReal :=
  nrm (blockRow x0 x1 x2 x3 x4 x5 r) (fun k => x6 (ix2 0 k)) (fun k => x7 (ix3 0 0 k)) (fun k => x8 (ix3 0 0 k))

theorem norm_apply (r : Fin 512) (d : Fin 1024) :
    k0_pay7 (F := Ideal) (k0_pay5 (F := Ideal) x0 x1 x2 x3 x4 x5) x6 x7 x8 (ix2 r d) = blockNorm x0 x1 x2 x3 x4 x5 x6 x7 x8 r d := by
  rw [pay7_apply]
  unfold blockNorm
  rw [show (fun k => k0_pay5 (F := Ideal) x0 x1 x2 x3 x4 x5 (ix2 r k)) = blockRow x0 x1 x2 x3 x4 x5 r from
    funext fun k => pay5_apply x0 x1 x2 x3 x4 x5 r k]

theorem pay8_apply (r j : Fin 512) :
    k0_pay8 (F := Ideal) (k0_pay5 (F := Ideal) x0 x1 x2 x3 x4 x5) x6 x7 x8 (ix2 r j)
      = blockNorm x0 x1 x2 x3 x4 x5 x6 x7 x8 r ⟨j.val, by omega⟩ := by
  unfold k0_pay8
  refine (truncf_apply (φ := .f32) (ψ := .bf16) _ bitsLt_bf16_f32 _).trans ?_
  refine (extractStridedSlice_apply _ _ _ (ix2 r j) (ix2 r (⟨j.val, by omega⟩ : Fin 1024)) (fun a => ?_)).trans (norm_apply ..)
  match a with
  | ⟨0, _⟩ => exact (Nat.zero_add _).symm
  | ⟨1, _⟩ => exact (Nat.zero_add _).symm

theorem pay9_apply (r j : Fin 512) :
    k0_pay9 (F := Ideal) (k0_pay5 (F := Ideal) x0 x1 x2 x3 x4 x5) x6 x7 x8 (ix2 r j)
      = blockNorm x0 x1 x2 x3 x4 x5 x6 x7 x8 r ⟨512 + j.val, by omega⟩ := by
  unfold k0_pay9
  refine (truncf_apply (φ := .f32) (ψ := .bf16) _ bitsLt_bf16_f32 _).trans ?_
  refine (extractStridedSlice_apply _ _ _ (ix2 r j) (ix2 r (⟨512 + j.val, by omega⟩ : Fin 1024)) (fun a => ?_)).trans (norm_apply ..)
  match a with
  | ⟨0, _⟩ => exact (Nat.zero_add _).symm
  | ⟨1, _⟩ => rfl

end Cert.Proof.R

end
-- ==== Proof.R.Close.lean ====
/-
  The output projection's result arrays at the extended reals: the new residual rows, and the left and right halves of their
  modulated norm, batches and times flattened into one coordinate.
-/
module

public import proofs.«01_k».proof.Proof.R.Value
public import Idealize.ShloMosaic.Lib.Pipeline.Covers

@[expose] public section

set_option maxRecDepth 16384

noncomputable section

namespace Cert.Proof.R

open Cert.RouterIdeal Cert.RouterIdeal.Gen
open Idealize.ShloMosaic
open Idealize.ShloMosaic.TcCoe
open Idealize.SL.Sem
open Idealize.ShloMosaic.ValueIdx (ix1 ix2 ix3 truncf_apply)
open Idealize.ShloMosaic.Pipeline (Dat Cfg Window)
open scoped BigOperators

variable (m : (ℓ : Loc nD τ sig) → Buf (Elt Ideal) ℓ) (ρ : Dev nD → PrngReg)

/-! ## The grid: sixteen batches by four blocks of 512 times -/

/-- Point `t`'s batch. -/
def batch (t : Fin cfg0.N) : Fin 16 := ⟨t.val / 4, by
  have h : t.val < 64 := t.isLt.trans_eq N_0
  omega⟩

/-- The time of point `t`'s row `r`. -/
def time (t : Fin cfg0.N) (r : Fin 512) : Fin 2048 := ⟨512 * (t.val % 4) + r.val, by omega⟩

theorem index11 (t : Fin cfg0.N) : (cfg0.win (11 : Fin 18)).index t = ![t.val / 4, t.val % 4, 0] := by
  obtain ⟨-, -, -, h1, -, h2, h⟩ := Cert.RouterIdeal.Value.idx_facts11 t
  funext a
  match a with
  | ⟨0, _⟩ => show win0_11.index t (0 : Fin 3) = t.val / 4; omega
  | ⟨1, _⟩ => show win0_11.index t (1 : Fin 3) = t.val % 4; omega
  | ⟨2, _⟩ => show win0_11.index t (2 : Fin 3) = 0; omega

theorem index16 (t : Fin cfg0.N) : (cfg0.win (16 : Fin 18)).index t = ![t.val, 0] := by
  obtain ⟨-, -, -, h1, h⟩ := Cert.RouterIdeal.Value.idx_facts16 t
  funext a
  match a with
  | ⟨0, _⟩ => show win0_16.index t (0 : Fin 2) = t.val; omega
  | ⟨1, _⟩ => show win0_16.index t (1 : Fin 2) = 0; omega

theorem index17 (t : Fin cfg0.N) : (cfg0.win (17 : Fin 18)).index t = ![t.val, 0] := by
  obtain ⟨-, -, -, h1, h⟩ := Cert.RouterIdeal.Value.idx_facts17 t
  funext a
  match a with
  | ⟨0, _⟩ => show win0_17.index t (0 : Fin 2) = t.val; omega
  | ⟨1, _⟩ => show win0_17.index t (1 : Fin 2) = 0; omega

theorem index0 (t : Fin cfg0.N) : (cfg0.win (0 : Fin 18)).index t = ![t.val / 4, t.val % 4, 0] := index11 t
theorem index1 (t : Fin cfg0.N) : (cfg0.win (1 : Fin 18)).index t = ![t.val / 4, t.val % 4, 0] := index11 t
theorem index2 (t : Fin cfg0.N) : (cfg0.win (2 : Fin 18)).index t = ![t.val / 4, t.val % 4, 0] := index11 t
theorem index3 (t : Fin cfg0.N) : (cfg0.win (3 : Fin 18)).index t = ![t.val / 4, t.val % 4, 0] := index11 t

theorem index4 (t : Fin cfg0.N) : (cfg0.win (4 : Fin 18)).index t = ![t.val / 4, 0, 0] := by
  funext a
  match a with
  | ⟨0, _⟩ => exact congrFun (index11 t) (0 : Fin 3)
  | ⟨1, _⟩ => rfl
  | ⟨2, _⟩ => rfl

theorem index7 (t : Fin cfg0.N) : (cfg0.win (7 : Fin 18)).index t = ![t.val / 4, 0, 0] := by
  funext a
  match a with
  | ⟨0, _⟩ => exact congrFun (index11 t) (0 : Fin 3)
  | ⟨1, _⟩ => rfl
  | ⟨2, _⟩ => rfl

theorem index8 (t : Fin cfg0.N) : (cfg0.win (8 : Fin 18)).index t = ![t.val / 4, 0, 0] := by
  funext a
  match a with
  | ⟨0, _⟩ => exact congrFun (index11 t) (0 : Fin 3)
  | ⟨1, _⟩ => rfl
  | ⟨2, _⟩ => rfl

/-! ## The windows' blocks at coordinates -/

theorem blk0_apply (c : Dev nD) (t : Fin cfg0.N) (r : Fin 512) (d : Fin 1024) :
    iblk m c (0 : Fin 18) t (ix3 0 r d) = m ((c : Thread nD τ).loc main_arg0) (ix3 (batch t) (time t r) d) := by
  have e : V m c main_arg0 = m ((c : Thread nD τ).loc main_arg0) := by show StableHlo.after _ _ _ = _; after_results
  rw [← e]
  refine congrArg (V m c main_arg0) (funext fun b => Fin.ext ?_)
  refine (Window.rect_emb_val (cfg0.win (0 : Fin 18)) t (ix3 0 r d) b).trans ?_
  rw [index0]
  match b with
  | ⟨0, _⟩ => show t.val / 4 * 1 + 0 = t.val / 4; omega
  | ⟨1, _⟩ => show t.val % 4 * 512 + r.val = 512 * (t.val % 4) + r.val; omega
  | ⟨2, _⟩ => show 0 * 1024 + d.val = d.val; omega

theorem blk1_apply (c : Dev nD) (t : Fin cfg0.N) (r : Fin 512) (d : Fin 1024) :
    iblk m c (1 : Fin 18) t (ix3 0 r d) = m ((c : Thread nD τ).loc main_arg1) (ix3 (batch t) (time t r) d) := by
  have e : V m c main_arg1 = m ((c : Thread nD τ).loc main_arg1) := by show StableHlo.after _ _ _ = _; after_results
  rw [← e]
  refine congrArg (V m c main_arg1) (funext fun b => Fin.ext ?_)
  refine (Window.rect_emb_val (cfg0.win (1 : Fin 18)) t (ix3 0 r d) b).trans ?_
  rw [index1]
  match b with
  | ⟨0, _⟩ => show t.val / 4 * 1 + 0 = t.val / 4; omega
  | ⟨1, _⟩ => show t.val % 4 * 512 + r.val = 512 * (t.val % 4) + r.val; omega
  | ⟨2, _⟩ => show 0 * 1024 + d.val = d.val; omega

theorem blk2_apply (c : Dev nD) (t : Fin cfg0.N) (r : Fin 512) (d : Fin 1024) :
    iblk m c (2 : Fin 18) t (ix3 0 r d) = m ((c : Thread nD τ).loc main_arg2) (ix3 (batch t) (time t r) d) := by
  have e : V m c main_arg2 = m ((c : Thread nD τ).loc main_arg2) := by show StableHlo.after _ _ _ = _; after_results
  rw [← e]
  refine congrArg (V m c main_arg2) (funext fun b => Fin.ext ?_)
  refine (Window.rect_emb_val (cfg0.win (2 : Fin 18)) t (ix3 0 r d) b).trans ?_
  rw [index2]
  match b with
  | ⟨0, _⟩ => show t.val / 4 * 1 + 0 = t.val / 4; omega
  | ⟨1, _⟩ => show t.val % 4 * 512 + r.val = 512 * (t.val % 4) + r.val; omega
  | ⟨2, _⟩ => show 0 * 1024 + d.val = d.val; omega

theorem blk3_apply (c : Dev nD) (t : Fin cfg0.N) (r : Fin 512) (d : Fin 1024) :
    iblk m c (3 : Fin 18) t (ix3 0 r d) = m ((c : Thread nD τ).loc main_arg3) (ix3 (batch t) (time t r) d) := by
  have e : V m c main_arg3 = m ((c : Thread nD τ).loc main_arg3) := by show StableHlo.after _ _ _ = _; after_results
  rw [← e]
  refine congrArg (V m c main_arg3) (funext fun b => Fin.ext ?_)
  refine (Window.rect_emb_val (cfg0.win (3 : Fin 18)) t (ix3 0 r d) b).trans ?_
  rw [index3]
  match b with
  | ⟨0, _⟩ => show t.val / 4 * 1 + 0 = t.val / 4; omega
  | ⟨1, _⟩ => show t.val % 4 * 512 + r.val = 512 * (t.val % 4) + r.val; omega
  | ⟨2, _⟩ => show 0 * 1024 + d.val = d.val; omega

theorem blk4_apply (c : Dev nD) (t : Fin cfg0.N) (d : Fin 1024) :
    iblk m c (4 : Fin 18) t (ix3 0 0 d) = m ((c : Thread nD τ).loc main_arg4) (ix2 (batch t) d) := by
  have e : V m c main_v8 = shapeCast S16x1x1024 (m ((c : Thread nD τ).loc main_arg4)) shapeCasts_S16x1024_S16x1x1024 := by
    show StableHlo.after _ _ _ = _; after_results
    rfl
  have hb : iblk m c (4 : Fin 18) t (ix3 0 0 d) = V m c main_v8 (ix3 (batch t) 0 d) := by
    refine congrArg (V m c main_v8) (funext fun b => Fin.ext ?_)
    refine (Window.rect_emb_val (cfg0.win (4 : Fin 18)) t (ix3 0 0 d) b).trans ?_
    rw [index4]
    match b with
    | ⟨0, _⟩ => show t.val / 4 * 1 + 0 = t.val / 4; omega
    | ⟨1, _⟩ => rfl
    | ⟨2, _⟩ => show 0 * 1024 + d.val = d.val; omega
  rw [hb, e]
  refine shapeCast_apply (s := S16x1024) (t := S16x1x1024) (m ((c : Thread nD τ).loc main_arg4)) _ (ix3 (batch t) 0 d) (ix2 (batch t) d) ?_
  rw [Shape.rowMajor_val_three, Shape.rowMajor_val_two]
  show (batch t).val * 1024 + d.val = ((batch t).val * 1 + 0) * 1024 + d.val
  omega

theorem blk7_apply (c : Dev nD) (t : Fin cfg0.N) (d : Fin 1024) :
    iblk m c (7 : Fin 18) t (ix3 0 0 d) = m ((c : Thread nD τ).loc main_arg7) (ix2 (batch t) d) := by
  have e : V m c main_v15 = shapeCast S16x1x1024 (m ((c : Thread nD τ).loc main_arg7)) shapeCasts_S16x1024_S16x1x1024 := by
    show StableHlo.after _ _ _ = _; after_results
    rfl
  have hb : iblk m c (7 : Fin 18) t (ix3 0 0 d) = V m c main_v15 (ix3 (batch t) 0 d) := by
    refine congrArg (V m c main_v15) (funext fun b => Fin.ext ?_)
    refine (Window.rect_emb_val (cfg0.win (7 : Fin 18)) t (ix3 0 0 d) b).trans ?_
    rw [index7]
    match b with
    | ⟨0, _⟩ => show t.val / 4 * 1 + 0 = t.val / 4; omega
    | ⟨1, _⟩ => rfl
    | ⟨2, _⟩ => show 0 * 1024 + d.val = d.val; omega
  rw [hb, e]
  refine shapeCast_apply (s := S16x1024) (t := S16x1x1024) (m ((c : Thread nD τ).loc main_arg7)) _ (ix3 (batch t) 0 d) (ix2 (batch t) d) ?_
  rw [Shape.rowMajor_val_three, Shape.rowMajor_val_two]
  show (batch t).val * 1024 + d.val = ((batch t).val * 1 + 0) * 1024 + d.val
  omega

theorem blk8_apply (c : Dev nD) (t : Fin cfg0.N) (d : Fin 1024) :
    iblk m c (8 : Fin 18) t (ix3 0 0 d) = m ((c : Thread nD τ).loc main_arg8) (ix2 (batch t) d) := by
  have e : V m c main_v16 = shapeCast S16x1x1024 (m ((c : Thread nD τ).loc main_arg8)) shapeCasts_S16x1024_S16x1x1024 := by
    show StableHlo.after _ _ _ = _; after_results
    rfl
  have hb : iblk m c (8 : Fin 18) t (ix3 0 0 d) = V m c main_v16 (ix3 (batch t) 0 d) := by
    refine congrArg (V m c main_v16) (funext fun b => Fin.ext ?_)
    refine (Window.rect_emb_val (cfg0.win (8 : Fin 18)) t (ix3 0 0 d) b).trans ?_
    rw [index8]
    match b with
    | ⟨0, _⟩ => show t.val / 4 * 1 + 0 = t.val / 4; omega
    | ⟨1, _⟩ => rfl
    | ⟨2, _⟩ => show 0 * 1024 + d.val = d.val; omega
  rw [hb, e]
  refine shapeCast_apply (s := S16x1024) (t := S16x1x1024) (m ((c : Thread nD τ).loc main_arg8)) _ (ix3 (batch t) 0 d) (ix2 (batch t) d) ?_
  rw [Shape.rowMajor_val_three, Shape.rowMajor_val_two]
  show (batch t).val * 1024 + d.val = ((batch t).val * 1 + 0) * 1024 + d.val
  omega

theorem blk5_apply (c : Dev nD) (t : Fin cfg0.N) (k d : Fin 1024) :
    iblk m c (5 : Fin 18) t (ix2 k d) = m ((c : Thread nD τ).loc main_arg5) (ix3 0 k d) := by
  have e : V m c main_v11 = truncf (F := Ideal) (s := S1024x1024) (φ := .f32) .bf16 (shapeCast S1024x1024 (extractStridedSlice (s := S2x1024x1024) S1x1024x1024 ![0, 0, 0] (m ((c : Thread nD τ).loc main_arg5)) slices_S2x1024x1024_S1x1024x1024_0_0_0) shapeCasts_S1x1024x1024_S1024x1024) bitsLt_bf16_f32 := by
    show StableHlo.after _ _ _ = _; after_results
    rfl
  have hb : iblk m c (5 : Fin 18) t (ix2 k d) = V m c main_v11 (ix2 k d) := by
    refine congrArg (V m c main_v11) (funext fun b => Fin.ext ?_)
    refine (Window.rect_emb_val (cfg0.win (5 : Fin 18)) t (ix2 k d) b).trans ?_
    match b with
    | ⟨0, _⟩ => show 0 * 1024 + k.val = k.val; omega
    | ⟨1, _⟩ => show 0 * 1024 + d.val = d.val; omega
  rw [hb, e, truncf_apply]
  refine (shapeCast_apply (s := S1x1024x1024) (t := S1024x1024) _ shapeCasts_S1x1024x1024_S1024x1024 (ix2 k d) (ix3 0 k d) ?_).trans ?_
  · rw [Shape.rowMajor_val_three, Shape.rowMajor_val_two]
    show (0 * 1024 + k.val) * 1024 + d.val = k.val * 1024 + d.val
    omega
  · refine extractStridedSlice_apply (s := S2x1024x1024) (t := S1x1024x1024) _ (m ((c : Thread nD τ).loc main_arg5)) slices_S2x1024x1024_S1x1024x1024_0_0_0 (ix3 0 k d) (ix3 0 k d) (fun b => ?_)
    match b with
    | ⟨0, _⟩ => rfl
    | ⟨1, _⟩ => exact (Nat.zero_add _).symm
    | ⟨2, _⟩ => exact (Nat.zero_add _).symm

theorem blk6_apply (c : Dev nD) (t : Fin cfg0.N) (d : Fin 1024) :
    iblk m c (6 : Fin 18) t (ix2 0 d) = m ((c : Thread nD τ).loc main_arg6) (ix2 0 d) := by
  have e : V m c main_v14 = shapeCast S1x1024 (shapeCast S1024 (extractStridedSlice (s := S2x1024) S1x1024 ![0, 0] (m ((c : Thread nD τ).loc main_arg6)) slices_S2x1024_S1x1024_0_0) shapeCasts_S1x1024_S1024) shapeCasts_S1024_S1x1024 := by
    show StableHlo.after _ _ _ = _; after_results
    rfl
  have hb : iblk m c (6 : Fin 18) t (ix2 0 d) = V m c main_v14 (ix2 0 d) := by
    refine congrArg (V m c main_v14) (funext fun b => Fin.ext ?_)
    refine (Window.rect_emb_val (cfg0.win (6 : Fin 18)) t (ix2 0 d) b).trans ?_
    match b with
    | ⟨0, _⟩ => rfl
    | ⟨1, _⟩ => show 0 * 1024 + d.val = d.val; omega
  rw [hb, e]
  refine (shapeCast_apply (s := S1024) (t := S1x1024) _ _ (ix2 0 d) (ix1 d) ?_).trans ?_
  · rw [Shape.rowMajor_val_one, Shape.rowMajor_val_two]
    show d.val = 0 * 1024 + d.val
    omega
  refine (shapeCast_apply (s := S1x1024) (t := S1024) _ _ (ix1 d) (ix2 0 d) ?_).trans ?_
  · rw [Shape.rowMajor_val_one, Shape.rowMajor_val_two]
    show 0 * 1024 + d.val = d.val
    omega
  · refine extractStridedSlice_apply (s := S2x1024) (t := S1x1024) _ (m ((c : Thread nD τ).loc main_arg6)) slices_S2x1024_S1x1024_0_0 (ix2 0 d) (ix2 0 d) (fun b => ?_)
    match b with
    | ⟨0, _⟩ => rfl
    | ⟨1, _⟩ => exact (Nat.zero_add _).symm

/-! ## A point's blocks -/

abbrev rowsM (c : Dev nD) : Fin 16 → Fin 2048 → Fin 1024 → EReal :=
  rows (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))
abbrev normedM (c : Dev nD) : Fin 16 → Fin 2048 → Fin 1024 → EReal :=
  normed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))
abbrev flatM (c : Dev nD) : Fin 32768 → Fin 1024 → EReal :=
  flat (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

theorem row_eq (c : Dev nD) (t : Fin cfg0.N) (r : Fin 512) (d : Fin 1024) :
    blockRow (iblk m c (0 : Fin 18) t) (iblk m c (1 : Fin 18) t) (iblk m c (2 : Fin 18) t) (iblk m c (3 : Fin 18) t) (iblk m c (4 : Fin 18) t) (iblk m c (5 : Fin 18) t) r d
      = rowsM m c (batch t) (time t r) d := by
  unfold blockRow rowsM rows
  rw [blk3_apply, blk4_apply]
  refine congrArg (fun a : EReal => _ + _ * a) (Finset.sum_congr rfl fun k _ => ?_)
  rw [blk0_apply, blk1_apply, blk2_apply, blk5_apply]

theorem norm_eq (c : Dev nD) (t : Fin cfg0.N) (r : Fin 512) :
    blockNorm (iblk m c (0 : Fin 18) t) (iblk m c (1 : Fin 18) t) (iblk m c (2 : Fin 18) t) (iblk m c (3 : Fin 18) t) (iblk m c (4 : Fin 18) t) (iblk m c (5 : Fin 18) t)
        (iblk m c (6 : Fin 18) t) (iblk m c (7 : Fin 18) t) (iblk m c (8 : Fin 18) t) r
      = normedM m c (batch t) (time t r) := by
  unfold blockNorm normedM normed
  congr 1
  · funext k; exact row_eq m c t r k
  · funext k; rw [blk6_apply]
  · funext k; rw [blk7_apply]
  · funext k; rw [blk8_apply]

/-- The flattened row `r` of point `t`. -/
def place (t : Fin cfg0.N) (r : Fin 512) : Fin 32768 := ⟨512 * t.val + r.val, by
  have h : t.val < 64 := t.isLt.trans_eq N_0
  omega⟩

theorem flat_place (c : Dev nD) (t : Fin cfg0.N) (r : Fin 512) (d : Fin 1024) :
    flatM m c (place t r) d = normedM m c (batch t) (time t r) d := by
  have e1 : (⟨(place t r).val / 2048, by have := (place t r).isLt; omega⟩ : Fin 16) = batch t :=
    Fin.ext (by show (512 * t.val + r.val) / 2048 = t.val / 4; omega)
  have e2 : (⟨(place t r).val % 2048, Nat.mod_lt _ (by decide)⟩ : Fin 2048) = time t r :=
    Fin.ext (by show (512 * t.val + r.val) % 2048 = 512 * (t.val % 4) + r.val; omega)
  unfold flatM flat normedM
  rw [e1, e2]

theorem rows_block (c : Dev nD) (t : Fin cfg0.N) (r : Fin 512) (d : Fin 1024) : (outsAt0 m c t.val t.isLt).1 (ix3 0 r d) = rowsM m c (batch t) (time t r) d := by
  by_cases h0 : t.val % 64 = 0
  · rw [outsAt0_A m c t h0]
    dsimp only
    exact (congrFun (rowsA_eq (F := Ideal)) (ix3 0 r d)).trans ((pay6_apply ..).trans (row_eq m c t r d))
  · rw [outsAt0_B m c t h0]
    dsimp only
    exact (congrFun (rowsB_eq (F := Ideal)) (ix3 0 r d)).trans ((pay6_apply ..).trans (row_eq m c t r d))

theorem left_block (c : Dev nD) (t : Fin cfg0.N) (r j : Fin 512) : (outsAt0 m c t.val t.isLt).2.2.2.2.2.1 (ix2 r j) = flatM m c (place t r) ⟨j.val, by omega⟩ := by
  by_cases h0 : t.val % 64 = 0
  · rw [outsAt0_A m c t h0]
    dsimp only
    exact (congrFun (leftA_eq (F := Ideal)) (ix2 r j)).trans ((pay8_apply ..).trans ((congrFun (norm_eq m c t r) _).trans (flat_place m c t r _).symm))
  · rw [outsAt0_B m c t h0]
    dsimp only
    exact (congrFun (leftB_eq (F := Ideal)) (ix2 r j)).trans ((pay8_apply ..).trans ((congrFun (norm_eq m c t r) _).trans (flat_place m c t r _).symm))

theorem right_block (c : Dev nD) (t : Fin cfg0.N) (r j : Fin 512) : (outsAt0 m c t.val t.isLt).2.2.2.2.2.2.1 (ix2 r j) = flatM m c (place t r) ⟨512 + j.val, by omega⟩ := by
  by_cases h0 : t.val % 64 = 0
  · rw [outsAt0_A m c t h0]
    dsimp only
    exact (congrFun (rightA_eq (F := Ideal)) (ix2 r j)).trans ((pay9_apply ..).trans ((congrFun (norm_eq m c t r) _).trans (flat_place m c t r _).symm))
  · rw [outsAt0_B m c t h0]
    dsimp only
    exact (congrFun (rightB_eq (F := Ideal)) (ix2 r j)).trans ((pay9_apply ..).trans ((congrFun (norm_eq m c t r) _).trans (flat_place m c t r _).symm))

/-! ## The result arrays -/

theorem rows_end (c : Dev nD) : (dats m 0 c).arrAt 11 cfg0.N = fun i => rowsM m c (i 0) (i 1) (i 2) := by
  refine (dats m 0 c).arrAt_eq_of_covers (11 : Fin 18) _ ?_ fun t _ y => ?_
  · refine (cfg0.win (11 : Fin 18)).covers_of_index_surj rfl (show ∀ a, 0 < (spec0 (11 : Fin 18)).size a by decide) fun β => ?_
    have h0 : (β (0 : Fin 3)).val < 16 := (β (0 : Fin 3)).isLt.trans_eq (show (16 + 1 - 1) / 1 = 16 by norm_num)
    have h1 : (β (1 : Fin 3)).val < 4 := (β (1 : Fin 3)).isLt.trans_eq (show (2048 + 512 - 1) / 512 = 4 by norm_num)
    have h2 : (β (2 : Fin 3)).val < 1 := (β (2 : Fin 3)).isLt.trans_eq (show (1024 + 1024 - 1) / 1024 = 1 by norm_num)
    obtain ⟨t, -, ht⟩ := Cert.RouterIdeal.Value.idx_onto11 ⟨(β (0 : Fin 3)).val, h0⟩ ⟨(β (1 : Fin 3)).val, h1⟩ ⟨(β (2 : Fin 3)).val, h2⟩
    refine ⟨t, fun b => ?_⟩
    match b with
    | ⟨0, _⟩ => exact congrFun ht (0 : Fin 3)
    | ⟨1, _⟩ => exact congrFun ht (1 : Fin 3)
    | ⟨2, _⟩ => exact congrFun ht (2 : Fin 3)
  · have hn : ((cfg0.win (11 : Fin 18)).blk t).view.emb y = (ix3 (batch t) (time t (y 1)) (y 2) : S16x2048x1024.Idx) := by
      refine funext fun b => Fin.ext ?_
      refine (Window.rect_emb_val (cfg0.win (11 : Fin 18)) t y b).trans ?_
      rw [index11]
      match b with
      | ⟨0, _⟩ =>
        have hy : (y (0 : Fin 3)).val < 1 := (y (0 : Fin 3)).isLt
        show t.val / 4 * 1 + (y (0 : Fin 3)).val = t.val / 4
        omega
      | ⟨1, _⟩ => show t.val % 4 * 512 + (y (1 : Fin 3)).val = 512 * (t.val % 4) + (y (1 : Fin 3)).val; omega
      | ⟨2, _⟩ => show 0 * 1024 + (y (2 : Fin 3)).val = (y (2 : Fin 3)).val; omega
    refine Eq.trans (α := EReal) ?_ (congrArg (fun i : S16x2048x1024.Idx => rowsM m c (i 0) (i 1) (i 2)) hn).symm
    show ((dats m 0 c).after 11 t) y = _
    rw [after0_11]
    have hy : y = (ix3 0 (y 1) (y 2) : S1x512x1024.Idx) := funext fun b => by
      match b with
      | ⟨0, _⟩ => exact Subsingleton.elim (α := Fin 1) _ _
      | ⟨1, _⟩ => rfl
      | ⟨2, _⟩ => rfl
    exact Eq.trans (α := EReal) (congrArg _ hy) (rows_block m c t (y 1) (y 2))

theorem left_end (c : Dev nD) : (dats m 0 c).arrAt 16 cfg0.N = fun i : S32768x512.Idx => flatM m c (i 0) ⟨(i 1).val, by have h : (i 1).val < 512 := (i 1).isLt; omega⟩ := by
  refine (dats m 0 c).arrAt_eq_of_covers (16 : Fin 18) _ ?_ fun t _ y => ?_
  · refine (cfg0.win (16 : Fin 18)).covers_of_index_surj rfl (show ∀ a, 0 < (spec0 (16 : Fin 18)).size a by decide) fun β => ?_
    have h0 : (β (0 : Fin 2)).val < 64 := (β (0 : Fin 2)).isLt.trans_eq (show (32768 + 512 - 1) / 512 = 64 by norm_num)
    have h1 : (β (1 : Fin 2)).val < 1 := (β (1 : Fin 2)).isLt.trans_eq (show (512 + 512 - 1) / 512 = 1 by norm_num)
    obtain ⟨t, -, ht⟩ := Cert.RouterIdeal.Value.idx_onto16 ⟨(β (0 : Fin 2)).val, h0⟩ ⟨(β (1 : Fin 2)).val, h1⟩
    refine ⟨t, fun b => ?_⟩
    match b with
    | ⟨0, _⟩ => exact congrFun ht (0 : Fin 2)
    | ⟨1, _⟩ => exact congrFun ht (1 : Fin 2)
  · have hn : ((cfg0.win (16 : Fin 18)).blk t).view.emb y = (ix2 (place t (y 0)) (y 1) : S32768x512.Idx) := by
      refine funext fun b => Fin.ext ?_
      refine (Window.rect_emb_val (cfg0.win (16 : Fin 18)) t y b).trans ?_
      rw [index16]
      match b with
      | ⟨0, _⟩ => show t.val * 512 + (y (0 : Fin 2)).val = 512 * t.val + (y (0 : Fin 2)).val; omega
      | ⟨1, _⟩ => show 0 * 512 + (y (1 : Fin 2)).val = (y (1 : Fin 2)).val; omega
    refine Eq.trans (α := EReal) ?_ (congrArg (fun i : S32768x512.Idx => flatM m c (i 0) ⟨(i 1).val, by have h : (i 1).val < 512 := (i 1).isLt; omega⟩) hn).symm
    show ((dats m 0 c).after 16 t) y = _
    rw [after0_16]
    have hy : y = (ix2 (y 0) (y 1) : S512x512.Idx) := funext fun b => by
      match b with
      | ⟨0, _⟩ => rfl
      | ⟨1, _⟩ => rfl
    exact Eq.trans (α := EReal) (congrArg _ hy) (left_block m c t (y 0) (y 1))

theorem right_end (c : Dev nD) : (dats m 0 c).arrAt 17 cfg0.N = fun i : S32768x512.Idx => flatM m c (i 0) ⟨512 + (i 1).val, by have h : (i 1).val < 512 := (i 1).isLt; omega⟩ := by
  refine (dats m 0 c).arrAt_eq_of_covers (17 : Fin 18) _ ?_ fun t _ y => ?_
  · refine (cfg0.win (17 : Fin 18)).covers_of_index_surj rfl (show ∀ a, 0 < (spec0 (17 : Fin 18)).size a by decide) fun β => ?_
    have h0 : (β (0 : Fin 2)).val < 64 := (β (0 : Fin 2)).isLt.trans_eq (show (32768 + 512 - 1) / 512 = 64 by norm_num)
    have h1 : (β (1 : Fin 2)).val < 1 := (β (1 : Fin 2)).isLt.trans_eq (show (512 + 512 - 1) / 512 = 1 by norm_num)
    obtain ⟨t, -, ht⟩ := Cert.RouterIdeal.Value.idx_onto17 ⟨(β (0 : Fin 2)).val, h0⟩ ⟨(β (1 : Fin 2)).val, h1⟩
    refine ⟨t, fun b => ?_⟩
    match b with
    | ⟨0, _⟩ => exact congrFun ht (0 : Fin 2)
    | ⟨1, _⟩ => exact congrFun ht (1 : Fin 2)
  · have hn : ((cfg0.win (17 : Fin 18)).blk t).view.emb y = (ix2 (place t (y 0)) (y 1) : S32768x512.Idx) := by
      refine funext fun b => Fin.ext ?_
      refine (Window.rect_emb_val (cfg0.win (17 : Fin 18)) t y b).trans ?_
      rw [index17]
      match b with
      | ⟨0, _⟩ => show t.val * 512 + (y (0 : Fin 2)).val = 512 * t.val + (y (0 : Fin 2)).val; omega
      | ⟨1, _⟩ => show 0 * 512 + (y (1 : Fin 2)).val = (y (1 : Fin 2)).val; omega
    refine Eq.trans (α := EReal) ?_ (congrArg (fun i : S32768x512.Idx => flatM m c (i 0) ⟨512 + (i 1).val, by have h : (i 1).val < 512 := (i 1).isLt; omega⟩) hn).symm
    show ((dats m 0 c).after 17 t) y = _
    rw [after0_17]
    have hy : y = (ix2 (y 0) (y 1) : S512x512.Idx) := funext fun b => by
      match b with
      | ⟨0, _⟩ => rfl
      | ⟨1, _⟩ => rfl
    exact Eq.trans (α := EReal) (congrArg _ hy) (right_block m c t (y 0) (y 1))

/-- The run, the three result arrays named by what the points leave in them, the arguments as they were. -/
theorem run_arrays : θ_run defs (onTc (τ := τ) (main (F := Ideal))) ⟨m, fun _ => 0, ρ⟩ fun r => ∀ c : Dev nD,
    r.2.mem ((c.tc : Thread nD τ).loc main_v21_0) = (dats m 0 c).arrAt 11 cfg0.N
    ∧ r.2.mem ((c.tc : Thread nD τ).loc main_v21_5) = (dats m 0 c).arrAt 16 cfg0.N
    ∧ r.2.mem ((c.tc : Thread nD τ).loc main_v21_6) = (dats m 0 c).arrAt 17 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (Cert.RouterIdeal.Value.run_blocks m ρ)
  obtain ⟨h0, -, -, -, -, h5, h6, kept⟩ := h c
  exact ⟨h0, h5, h6, kept⟩

end Cert.Proof.R

end
-- ==== Proof.R.RefValue.lean ====
/-
  The output projection's reference: its run with its three results in named stages, and those results at coordinates at the
  extended reals.
-/
module

public import proofs.«01_k».proof.Proof.R.Spec
public import proofs.«01_k».proof.Proof.Gen.RouterRefIdeal
public import proofs.«01_k».proof.Proof.Gen.RouterRefIdeal.Run
public import Idealize.ShloMosaic.Lib.Claim
public import Idealize.ShloMosaic.Lib.StackMember
public import Idealize.ShloMosaic.Lib.KernelVsHost
public import Idealize.ShloMosaic.Lib.Pipeline.Value

@[expose] public section

set_option maxRecDepth 65536

noncomputable section

namespace Cert.Proof.RRef

open Cert.RouterRefIdeal Cert.RouterRefIdeal.Gen
open Idealize.ShloMosaic Idealize.ShloMosaic.TcCoe Idealize.SL.Sem
open Idealize.ShloMosaic.ValueIdx (ix1 ix2 ix3 truncf_apply extf_apply contrEquiv1 contrEquiv1_symm_val)
open scoped BigOperators

section

variable {F : FTy → Type} [FloatOps F]

/-- A batch's row, at every time. -/
def along (y : FVec F S16x1024 .f32) : FVec F S16x2048x1024 .f32 :=
  broadcastInDim S16x2048x1024 ![0, 1, 2] bcast_S16x1x1024_S16x2048x1024_0_1_2 (broadcastInDim S16x1x1024 ![0, 2] bcast_S16x1024_S16x1x1024_0_2 y)

/-- The three branches' sum. -/
def mixed (ma mb mc : FVec F S16x2048x1024 .bf16) : FVec F S16x2048x1024 .f32 :=
  addf (addf (extf .f32 ma bitsLt_bf16_f32) (extf .f32 mb bitsLt_bf16_f32)) (extf .f32 mc bitsLt_bf16_f32)

/-- The first layer's matrix. -/
def matrix (wo : FVec F S2x1024x1024 .f32) : FVec F S1024x1024 .f32 :=
  shapeCast S1024x1024 (extractStridedSlice S1x1024x1024 ![0, 0, 0] wo slices_S2x1024x1024_S1x1024x1024_0_0_0) shapeCasts_S1x1024x1024_S1024x1024

/-- The new residual. -/
def residual (ma mb mc : FVec F S16x2048x1024 .bf16) (x : FVec F S16x2048x1024 .f32) (gate : FVec F S16x1024 .f32) (wo : FVec F S2x1024x1024 .f32) :
    FVec F S16x2048x1024 .f32 :=
  addf x (mulf (along gate) (Host.dotGeneral dot_S16x2048x1024_S1024x1024_S16x2048x1024_2_0_01_1_n_n none (mixed ma mb mc) (matrix wo)))

/-- A row over its root mean square. -/
def unitRow (x : FVec F S16x2048x1024 .f32) : FVec F S16x2048x1024 .f32 :=
  mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))

/-- The first layer's gain, along every row. -/
def gain (g : FVec F S2x1024 .f32) : FVec F S16x2048x1024 .f32 :=
  broadcastInDim S16x2048x1024 ![0, 1, 2] bcast_S1x1x1024_S16x2048x1024_0_1_2 (broadcastInDim S1x1x1024 ![2] bcast_S1024_S1x1x1024_2 (shapeCast S1024 (extractStridedSlice S1x1024 ![0, 0] g slices_S2x1024_S1x1024_0_0) shapeCasts_S1x1024_S1024))

/-- One plus the batch's scale, along every row. -/
def scaled (sc : FVec F S16x1024 .f32) : FVec F S16x2048x1024 .f32 :=
  broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 sc))

/-- The modulated norm of a residual, its batches and times flattened. -/
def flattened (x : FVec F S16x2048x1024 .f32) (g : FVec F S2x1024 .f32) (sh sc : FVec F S16x1024 .f32) : FVec F S32768x1024 .f32 :=
  shapeCast S32768x1024 (addf (mulf (mulf (unitRow x) (gain g)) (scaled sc)) (along sh)) shapeCasts_S16x2048x1024_S32768x1024

def leftHalf (h : FVec F S32768x1024 .f32) : FVec F S32768x512 .bf16 :=
  truncf .bf16 (extractStridedSlice S32768x512 ![0, 0] h slices_S32768x1024_S32768x512_0_0) bitsLt_bf16_f32

def rightHalf (h : FVec F S32768x1024 .f32) : FVec F S32768x512 .bf16 :=
  truncf .bf16 (extractStridedSlice S32768x512 ![0, 512] h slices_S32768x1024_S32768x512_0_512) bitsLt_bf16_f32

variable (m : (ℓ : Loc nD τ sig) → Buf (Elt F) ℓ) (ρ : Dev nD → PrngReg)

/-- The new residual and the flattened norm, from the launch contents. -/
abbrev residualM (c : Dev nD) : FVec F S16x2048x1024 .f32 :=
  residual (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

abbrev flattenedM (c : Dev nD) : FVec F S32768x1024 .f32 :=
  flattened (residualM m c) (m ((c.tc : Thread nD τ).loc main_arg6)) (m ((c.tc : Thread nD τ).loc main_arg7)) (m ((c.tc : Thread nD τ).loc main_arg8))

theorem run_main : θ_run (defs (F := F)) (onTc (τ := τ) (main (F := F))) ⟨m, fun _ => 0, ρ⟩ fun r => ∀ c : Dev nD,
    r.2.mem ((c.tc : Thread nD τ).loc main_v11) = residualM m c
    ∧ r.2.mem ((c.tc : Thread nD τ).loc main_v37) = leftHalf (flattenedM m c)
    ∧ r.2.mem ((c.tc : Thread nD τ).loc main_v39) = rightHalf (flattenedM m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run _ _ _).mono (fun r h c => ⟨(h c).1.trans rfl, (h c).2.1.trans rfl, (h c).2.2.1.trans rfl, (h c).2.2.2⟩)
    (Cert.RouterRefIdeal.Value.run m ρ)

end

/-! ## At coordinates -/

open Cert.Proof.A (count eps one nrm)
open Cert.Proof.R (rows normed flat)

/-- A stack of rows times one matrix, at an entry: the sum over the contracted coordinate. -/
theorem dot_apply (prec : Option ContractPrecision) (A : FVec Ideal S16x2048x1024 .f32) (B : FVec Ideal S1024x1024 .f32) (b : Fin 16) (t : Fin 2048) (f : Fin 1024) :
    Host.dotGeneral dot_S16x2048x1024_S1024x1024_S16x2048x1024_2_0_01_1_n_n prec A B (ix3 b t f) = ∑ d : Fin 1024, A (ix3 b t d) * B (ix2 d f) := by
  show FloatOps.dotGeneral _ prec _ A B (ix3 b t f) = _
  rw [Ideal.dotGeneral_apply, ← Equiv.sum_comp (contrEquiv1 dot_S16x2048x1024_S1024x1024_S16x2048x1024_2_0_01_1_n_n 1024 rfl rfl).symm]
  refine Finset.sum_congr rfl fun d _ => ?_
  have hd := contrEquiv1_symm_val dot_S16x2048x1024_S1024x1024_S16x2048x1024_2_0_01_1_n_n 1024 rfl rfl d
  refine congrArg₂ (fun a b : EReal => a * b) (congrArg A (funext fun a => Fin.ext ?_)) (congrArg B (funext fun a => Fin.ext ?_))
  · match a with
    | ⟨0, _⟩ => simp [DotDims.lhsIdx]; rfl
    | ⟨1, _⟩ => simp [DotDims.lhsIdx]; rfl
    | ⟨2, _⟩ => simp [DotDims.lhsIdx]; exact hd
  · match a with
    | ⟨0, _⟩ => simp [DotDims.rhsIdx]; exact hd
    | ⟨1, _⟩ => simp [DotDims.rhsIdx]; rfl

theorem spread_apply (y : FVec Ideal S16x1x1024 .f32) (b : Fin 16) (t : Fin 2048) (d : Fin 1024) :
    broadcastInDim S16x2048x1024 ![0, 1, 2] bcast_S16x1x1024_S16x2048x1024_0_1_2 y (ix3 b t d) = y (ix3 b 0 d) := by
  refine broadcastInDim_apply (s := S16x1x1024) (t := S16x2048x1024) _ _ _ (ix3 b t d) (ix3 b 0 d) (fun a => ?_)
  match a with
  | ⟨0, _⟩ => rfl
  | ⟨1, _⟩ => rfl
  | ⟨2, _⟩ => rfl

theorem batch_apply (y : FVec Ideal S16x1024 .f32) (b : Fin 16) (d : Fin 1024) :
    broadcastInDim S16x1x1024 ![0, 2] bcast_S16x1024_S16x1x1024_0_2 y (ix3 b 0 d) = y (ix2 b d) := by
  refine broadcastInDim_apply (s := S16x1024) (t := S16x1x1024) _ _ _ (ix3 b 0 d) (ix2 b d) (fun a => ?_)
  match a with
  | ⟨0, _⟩ => rfl
  | ⟨1, _⟩ => rfl

theorem along_apply (y : FVec Ideal S16x1024 .f32) (b : Fin 16) (t : Fin 2048) (d : Fin 1024) : along y (ix3 b t d) = y (ix2 b d) :=
  (spread_apply _ b t d).trans (batch_apply y b d)

theorem matrix_apply (wo : FVec Ideal S2x1024x1024 .f32) (k d : Fin 1024) : matrix wo (ix2 k d) = wo (ix3 0 k d) := by
  unfold matrix
  refine (shapeCast_apply (s := S1x1024x1024) (t := S1024x1024) _ _ (ix2 k d) (ix3 0 k d) ?_).trans ?_
  · rw [Shape.rowMajor_val_three, Shape.rowMajor_val_two]
    show (0 * 1024 + k.val) * 1024 + d.val = k.val * 1024 + d.val
    omega
  · refine extractStridedSlice_apply (s := S2x1024x1024) (t := S1x1024x1024) _ wo _ (ix3 0 k d) (ix3 0 k d) (fun a => ?_)
    match a with
    | ⟨0, _⟩ => rfl
    | ⟨1, _⟩ => exact (Nat.zero_add _).symm
    | ⟨2, _⟩ => exact (Nat.zero_add _).symm

variable (ma mb mc : FVec Ideal S16x2048x1024 .bf16) (x : FVec Ideal S16x2048x1024 .f32) (gate : FVec Ideal S16x1024 .f32)
  (wo : FVec Ideal S2x1024x1024 .f32) (g : FVec Ideal S2x1024 .f32) (sh sc : FVec Ideal S16x1024 .f32)

theorem residual_apply (b : Fin 16) (t : Fin 2048) (d : Fin 1024) :
    residual ma mb mc x gate wo (ix3 b t d) = rows ma mb mc x gate wo b t d := by
  unfold residual rows
  refine congrArg (fun a : EReal => x (ix3 b t d) + a) (congrArg₂ (fun a b : EReal => a * b) (along_apply gate b t d) ?_)
  refine (dot_apply none _ _ b t d).trans (Finset.sum_congr rfl fun k _ => ?_)
  exact congrArg (fun a : EReal => (ma (ix3 b t k) + mb (ix3 b t k) + mc (ix3 b t k)) * a) (matrix_apply wo k d)

theorem unitRow_apply (b : Fin 16) (t : Fin 2048) (d : Fin 1024) :
    unitRow x (ix3 b t d) = x (ix3 b t d) * Ideal.rsqrt (Ideal.div (∑ k, x (ix3 b t k) * x (ix3 b t k)) count + eps) := by
  unfold unitRow
  refine congrArg (fun a : EReal => x (ix3 b t d) * a) ?_
  refine (broadcastInDim_apply (s := S16x2048x1) (t := S16x2048x1024) _ _ _ (ix3 b t d) (ix3 b t 0) (fun a => ?_)).trans ?_
  · match a with
    | ⟨0, _⟩ => rfl
    | ⟨1, _⟩ => rfl
    | ⟨2, _⟩ => rfl
  refine congrArg (fun a : EReal => Ideal.rsqrt (Ideal.div a count + eps)) ?_
  refine (broadcastInDim_apply (s := S16x2048) (t := S16x2048x1) _ _ _ (ix3 b t 0) (ix2 b t) (fun a => ?_)).trans ?_
  · match a with
    | ⟨0, _⟩ => rfl
    | ⟨1, _⟩ => rfl
  have h : S16x2048x1024.Reduces [2] S16x2048 := by decide
  refine (Ideal.hostReduceAdd_single (a := 2) reducesTo_S16x2048x1024_S16x2048_d2 h _ _ (ix2 b t)).trans ?_
  refine (congrArg₂ (fun a b : EReal => a + b) Ideal.ofBits_zero_f32 (Finset.sum_congr rfl fun k _ => ?_)).trans (zero_add _)
  have hk : h.lift (ix2 b t) k = ix3 b t k := funext fun a => by
    match a with
    | ⟨0, _⟩ => rfl
    | ⟨1, _⟩ => rfl
    | ⟨2, _⟩ => rfl
  rw [hk]
  rfl

theorem gain_apply (b : Fin 16) (t : Fin 2048) (d : Fin 1024) : gain g (ix3 b t d) = g (ix2 0 d) := by
  unfold gain
  refine (broadcastInDim_apply (s := S1x1x1024) (t := S16x2048x1024) _ _ _ (ix3 b t d) (ix3 0 0 d) (fun a => ?_)).trans ?_
  · match a with
    | ⟨0, _⟩ => rfl
    | ⟨1, _⟩ => rfl
    | ⟨2, _⟩ => rfl
  refine (broadcastInDim_apply (s := S1024) (t := S1x1x1024) _ _ _ (ix3 0 0 d) (ix1 d) (fun a => ?_)).trans ?_
  · match a with
    | ⟨0, _⟩ => rfl
  refine (shapeCast_apply (s := S1x1024) (t := S1024) _ _ (ix1 d) (ix2 0 d) ?_).trans ?_
  · rw [Shape.rowMajor_val_one, Shape.rowMajor_val_two]
    show 0 * 1024 + d.val = d.val
    omega
  · refine extractStridedSlice_apply (s := S2x1024) (t := S1x1024) _ g _ (ix2 0 d) (ix2 0 d) (fun a => ?_)
    match a with
    | ⟨0, _⟩ => rfl
    | ⟨1, _⟩ => exact (Nat.zero_add _).symm

theorem flattened_apply (n : Fin 32768) (d : Fin 1024) :
    flattened (residual ma mb mc x gate wo) g sh sc (ix2 n d) = flat ma mb mc x gate wo g sh sc n d := by
  have hb : n.val / 2048 < 16 := by omega
  have ht : n.val % 2048 < 2048 := Nat.mod_lt _ (by decide)
  unfold flattened flat
  refine (shapeCast_apply (s := S16x2048x1024) (t := S32768x1024) _ _ (ix2 n d) (ix3 ⟨n.val / 2048, hb⟩ ⟨n.val % 2048, ht⟩ d) ?_).trans ?_
  · rw [Shape.rowMajor_val_three, Shape.rowMajor_val_two]
    show (n.val / 2048 * 2048 + n.val % 2048) * 1024 + d.val = n.val * 1024 + d.val
    rw [Nat.div_add_mod' n.val 2048]
  generalize (⟨n.val / 2048, hb⟩ : Fin 16) = b
  generalize (⟨n.val % 2048, ht⟩ : Fin 2048) = t
  unfold normed nrm
  refine congrArg₂ (fun a b : EReal => a + b) (congrArg₂ (fun a b : EReal => a * b) (congrArg₂ (fun a b : EReal => a * b) ?_ (gain_apply g b t d)) ?_) (along_apply sh b t d)
  · refine (unitRow_apply _ b t d).trans ?_
    simp only [residual_apply]
  · exact (spread_apply _ b t d).trans (congrArg (fun a : EReal => one + a) (batch_apply sc b d))

theorem left_apply (n : Fin 32768) (j : Fin 512) :
    leftHalf (flattened (residual ma mb mc x gate wo) g sh sc) (ix2 n j) = flat ma mb mc x gate wo g sh sc n ⟨j.val, by omega⟩ := by
  unfold leftHalf
  refine (truncf_apply (φ := .f32) (ψ := .bf16) _ bitsLt_bf16_f32 _).trans ?_
  refine (extractStridedSlice_apply (s := S32768x1024) (t := S32768x512) _ _ _ (ix2 n j) (ix2 n (⟨j.val, by omega⟩ : Fin 1024)) (fun a => ?_)).trans (flattened_apply ..)
  match a with
  | ⟨0, _⟩ => exact (Nat.zero_add _).symm
  | ⟨1, _⟩ => exact (Nat.zero_add _).symm

theorem right_apply (n : Fin 32768) (j : Fin 512) :
    rightHalf (flattened (residual ma mb mc x gate wo) g sh sc) (ix2 n j) = flat ma mb mc x gate wo g sh sc n ⟨512 + j.val, by omega⟩ := by
  unfold rightHalf
  refine (truncf_apply (φ := .f32) (ψ := .bf16) _ bitsLt_bf16_f32 _).trans ?_
  refine (extractStridedSlice_apply (s := S32768x1024) (t := S32768x512) _ _ _ (ix2 n j) (ix2 n (⟨512 + j.val, by omega⟩ : Fin 1024)) (fun a => ?_)).trans (flattened_apply ..)
  match a with
  | ⟨0, _⟩ => exact (Nat.zero_add _).symm
  | ⟨1, _⟩ => rfl

end Cert.Proof.RRef

end
-- ==== Proof.lean ====
/-
  The certificate, of seven calls.
  * The row gather on the SparseCores runs, from every launch memory whose indices are row numbers, to the rows the
    indices name, leaves its arguments as they were and every semaphore counter at zero, and so equals `src[indices]`,
    word for word, at both instances. The kernel's run is `Cert.Proof.Sc.run_main` (Proof/Launch.lean), the reference's
    `Cert.Proof.RefRun.run_main` (Proof/Ref.lean), each stated over every instance.
  * The experts' call runs, from every launch memory whose blocks name one of the 32 experts, to each block's rows
    through its expert, and so equals the reference's experts at the extended reals. The kernel's run is
    `Cert.Proof.Ex.run_main` (Proof/Ex/Launch.lean; at the machine's words Proof/Ex/Words.lean), its value `Ex.endL_eq` and `Ex.endR_eq` (Proof/Ex/Close.lean); the
    reference's run is `Cert.Proof.ExRef.run_main` (Proof/Ex/Ref.lean), its value `ExRef.left_eq` and `ExRef.right_eq`
    (Proof/Ex/RefValue.lean).
  * The convolution branch's call runs, from every launch memory, to the branch's map of its arguments, and so equals the
    reference's branch at the extended reals. The kernel's result is `A.end_eq` (Proof/A/Close.lean); the reference's run is
    `Cert.Proof.ARef.run_main` (Proof/A/Ref.lean), its value `ARef.result_apply` (Proof/A/RefValue.lean).
  * The combination's call runs, from every launch memory, to the combination's map of its arguments, and so equals the
    reference's at the extended reals. The kernel's result is `C.end_eq` (Proof/C/Close.lean); the reference's run is
    `Cert.Proof.CRef.run_main`, its value `CRef.result_apply` (Proof/C/RefValue.lean).
  * The modulation's call runs, from every launch memory, to both layers' modulation of its arguments, and so equals the
    reference's at the extended reals: `M.end_eq` (Proof/M/Close.lean), `MRef.result_apply` (Proof/M/RefValue.lean).
  * The rotary tables' call runs, from every launch memory, to the cosines and signed sines of the positions times the
    frequencies, and so equals the reference's at the extended reals: `P.cos_end` and `P.sin_end` (Proof/P/Close.lean),
    `PRef.cosines_apply` and `PRef.sines_apply` (Proof/P/RefValue.lean).
  * The output projection's call runs, from every launch memory, to the new residual rows and to the two halves of their
    modulated norm, and so equals the reference's three results at the extended reals: `R.rows_end`, `R.left_end` and
    `R.right_end` (Proof/R/Close.lean), `RRef.residual_apply`, `RRef.left_apply` and `RRef.right_apply` (Proof/R/RefValue.lean).
    Of its other four results, the routing's, nothing is claimed.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Ref
public import proofs.«01_k».proof.Proof.Gen.Experts
public import proofs.«01_k».proof.Proof.Gen.ExpertsIdeal
public import proofs.«01_k».proof.Proof.Gen.ExpertsRefIdeal
public import proofs.«01_k».proof.Proof.Ex.Launch
public import proofs.«01_k».proof.Proof.Ex.Close
public import proofs.«01_k».proof.Proof.Ex.Words
public import proofs.«01_k».proof.Proof.Ex.Ref
public import proofs.«01_k».proof.Proof.Ex.RefValue
public import proofs.«01_k».proof.Proof.Gen.BranchA.Frame
public import proofs.«01_k».proof.Proof.Gen.BranchAIdeal.Frame
public import proofs.«01_k».proof.Proof.Gen.BranchAIdeal.Value
public import proofs.«01_k».proof.Proof.Gen.BranchARefIdeal
public import proofs.«01_k».proof.Proof.Gen.BranchARefIdeal.Run
public import proofs.«01_k».proof.Proof.Gen.Combine.Frame
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Gen.Rope.Frame
public import proofs.«01_k».proof.Proof.Gen.RopeIdeal.Frame
public import proofs.«01_k».proof.Proof.Gen.RopeRefIdeal
public import proofs.«01_k».proof.Proof.Gen.RopeRefIdeal.Run
public import proofs.«01_k».proof.Proof.Gen.Router.Frame
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.A.Close
public import proofs.«01_k».proof.Proof.A.Ref
public import proofs.«01_k».proof.Proof.A.RefValue
public import proofs.«01_k».proof.Proof.C.Close
public import proofs.«01_k».proof.Proof.C.RefValue
public import proofs.«01_k».proof.Proof.M.Close
public import proofs.«01_k».proof.Proof.M.RefValue
public import proofs.«01_k».proof.Proof.P.Close
public import proofs.«01_k».proof.Proof.P.RefValue
public import proofs.«01_k».proof.Proof.R.Close
public import proofs.«01_k».proof.Proof.R.RefValue

@[expose] public section

noncomputable section

namespace Cert.Proof

open Idealize.ShloMosaic hiding ix1 ix2
open Idealize.SL.Sem
open Idealize.ShloMosaic.ValueIdx (ix1 ix2)

/-! ## The stated facts no generated module proves -/

instance factsReference₀ : Cert.Reference.Facts₀ where
  bcast_S_S147456 := by decide
  bcast_S147456_S147456x1_0 := by decide
  gather_S32768x256_S147456x1_S147456x256_1_0_n_n_0_1_1256_wf := by decide

instance factsReference : Cert.Reference.Facts where

instance factsPre : Cert.Pre_rows_in_range.Facts where
  bcast_S_S147456 := by decide

instance factsPreExperts : Cert.Pre_experts_in_range.Facts where
  bcast_S_S288 := by decide

/-! ## The gather's two runs, as one pair over any instance -/

section
variable {F : FTy → Type} [FloatOps F]

/-- The precondition gives what the kernel's run asks of the launch memory. -/
theorem preOK (m : (ℓ : Loc Cert.KernelIdeal.nD Cert.KernelIdeal.τ Cert.KernelIdeal.sig) → Buf (Elt F) ℓ)
    (h : ∀ c : Dev Cert.KernelIdeal.nD, Cert.Pre_rows_in_range.fn (F := F) (m (Sc.xLoc c)) (m (Sc.lLoc c)) = fun _ => 1#1) :
    Sc.PreOK m := fun d j => RefRun.lt_of_pre (F := F) (m (Sc.xLoc d)) (m (Sc.lLoc d)) (h d) j

/-- What the kernel leaves in its result is what the reference computes from the same two arrays. -/
theorem value_eq (m : (ℓ : Loc Cert.KernelIdeal.nD Cert.KernelIdeal.τ Cert.KernelIdeal.sig) → Buf (Elt F) ℓ) (hm : Sc.PreOK m)
    (d : Dev Cert.KernelIdeal.nD) :
    Host.gather Cert.ReferenceIdeal.gather_S32768x256_S147456x1_S147456x256_1_0_n_n_0_1_1256
        (m (Sc.xLoc d) : Cert.ReferenceIdeal.S32768x256.Idx → BitVec 32) (RefRun.wrapped (m (Sc.lLoc d)))
      = (Sc.OV (Sc.iwOf m d) (Sc.xwOf m d) : Cert.ReferenceIdeal.S147456x256.Idx → BitVec 32) := by
  funext y
  rw [RefRun.gather_of_lt _ _ (hm d) y]
  have hy0 : (y 0).val < 147456 := (y 0).isLt
  have hy1 : (y 1).val < 256 := (y 1).isLt
  have hw : Sc.iwOf m d (y 0).val = m (Sc.lLoc d) (ix1 (y 0)) :=
    congrArg (fun k => m (Sc.lLoc d) (ix1 k)) (Fin.ext (Nat.mod_eq_of_lt hy0))
  show _ = Sc.xwOf m d (Sc.iwOf m d (y 0).val).toNat (y 1).val
  rw [hw]
  exact congrArg₂ (fun a b => m (Sc.xLoc d) (ix2 a b)) (Fin.ext (Nat.mod_eq_of_lt (hm d _)).symm)
    (Fin.ext (Nat.mod_eq_of_lt hy1).symm)

end

/-! ## The gather's claims -/

theorem frame_kernel : Cert.quiescent_Kernel := fun m ρ hpre =>
  (θ_run Cert.KernelIdeal.defs _ _).mono (fun _ h => ⟨fun c => ⟨(h.1 c).2.1, (h.1 c).2.2⟩, h.2⟩)
    (Sc.run_main (F := Bits) m ρ (preOK m hpre))

theorem frame_kernelIdeal : Cert.quiescent_KernelIdeal := fun m ρ hpre =>
  (θ_run Cert.KernelIdeal.defs _ _).mono (fun _ h => ⟨fun c => ⟨(h.1 c).2.1, (h.1 c).2.2⟩, h.2⟩)
    (Sc.run_main (F := Ideal) m ρ (preOK m hpre))

theorem frame_referenceIdeal : Cert.quiescent_ReferenceIdeal := fun m ρ _ =>
  (θ_run Cert.ReferenceIdeal.defs _ _).mono (fun _ h => ⟨fun c => ⟨(h.1 c).2.1, (h.1 c).2.2⟩, h.2⟩)
    (RefRun.run_main (F := Ideal) m ρ)

theorem frame_reference : Cert.quiescent_Reference := fun m ρ _ =>
  (θ_run Cert.ReferenceIdeal.defs _ _).mono (fun _ h => ⟨fun c => ⟨(h.1 c).2.1, (h.1 c).2.2⟩, h.2⟩)
    (RefRun.run_main (F := Bits) m ρ)

theorem alg : Cert.algebraic_KernelIdeal_ReferenceIdeal := fun m g m' g' hpre hagree =>
  ⟨fun c => Sc.OV (Sc.iwOf m c) (Sc.xwOf m c),
    (θ_run Cert.KernelIdeal.defs _ _).mono (fun _ h => h.1) (Sc.run_main (F := Ideal) m g (preOK m hpre)),
    (θ_run Cert.ReferenceIdeal.defs _ _).mono
      (fun _ h c => ⟨(h.1 c).1.trans (by rw [(hagree c).1, (hagree c).2]; exact value_eq m (preOK m hpre) c), (h.1 c).2⟩)
      (RefRun.run_main (F := Ideal) m' g')⟩

theorem bits : Cert.bitexact_Kernel_Reference := fun m g m' g' hpre hagree =>
  ⟨fun c => Sc.OV (Sc.iwOf m c) (Sc.xwOf m c),
    (θ_run Cert.KernelIdeal.defs _ _).mono (fun _ h => h.1) (Sc.run_main (F := Bits) m g (preOK m hpre)),
    (θ_run Cert.ReferenceIdeal.defs _ _).mono
      (fun _ h c => ⟨(h.1 c).1.trans (by rw [(hagree c).1, (hagree c).2]; exact value_eq (F := Bits) m (preOK m hpre) c), (h.1 c).2⟩)
      (RefRun.run_main (F := Bits) m' g')⟩

/-! ## The experts' claims -/

/-- The precondition gives what the experts' run asks of the launch memory. -/
theorem expertsInRange {F : FTy → Type} [FloatOps F]
    (m : (ℓ : Loc Cert.ExpertsIdeal.nD Cert.ExpertsIdeal.τ Cert.ExpertsIdeal.sig) → Buf (Elt F) ℓ)
    (h : ∀ c : Dev Cert.ExpertsIdeal.nD, Cert.Pre_experts_in_range.fn (F := F)
      (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5)) = fun _ => 1#1) :
    Ex.InRange m := fun j => ExRef.lt_of_pre (F := F) _ _ _ _ _ _ (h 0) j

theorem frame_experts : Cert.quiescent_Experts := fun m ρ hpre => Ex.run_words m ρ (expertsInRange m hpre)

theorem frame_expertsIdeal : Cert.quiescent_ExpertsIdeal := fun m ρ hpre =>
  (θ_run Cert.ExpertsIdeal.defs _ _).mono (fun _ h => ⟨fun c => (h.1 c).2.2, h.2⟩)
    (Ex.run_main (F := Ideal) m ρ (expertsInRange m hpre))

theorem frame_expertsRefIdeal : Cert.quiescent_ExpertsRefIdeal := fun m ρ _ =>
  (θ_run Cert.ExpertsRefIdeal.defs _ _).mono (fun _ h => ⟨fun c => (h.1 c).2.2, h.2⟩)
    (ExRef.run_main (F := Ideal) m ρ)

theorem experts_value (m : (ℓ : Loc Cert.ExpertsIdeal.nD Cert.ExpertsIdeal.τ Cert.ExpertsIdeal.sig) → Buf (Elt Ideal) ℓ)
    (h : Ex.InRange m) (m' : (ℓ : Loc Cert.ExpertsRefIdeal.nD Cert.ExpertsRefIdeal.τ Cert.ExpertsRefIdeal.sig) → Buf (Elt Ideal) ℓ)
    (c : Dev Cert.ExpertsIdeal.nD)
    (a : ExRef.rowsM m' c = ExRef.rows (F := Ideal)
      (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5)))
    (hl : ∀ j, ((m ((c.tc : Thread Cert.ExpertsIdeal.nD Cert.ExpertsIdeal.τ).loc Cert.ExpertsIdeal.main_arg1) : IVec Cert.ExpertsIdeal.S288 32) j).toNat < 32) :
    ExRef.left (ExRef.rowsM m' c) = Ex.endL m h c ∧ ExRef.right (ExRef.rowsM m' c) = Ex.endR m h c := by
  rw [a]
  exact ⟨(ExRef.left_eq _ hl _ _ _ _ _).trans (Ex.endL_eq m h c).symm, (ExRef.right_eq _ hl _ _ _ _ _).trans (Ex.endR_eq m h c).symm⟩

theorem algExperts : Cert.algebraic_ExpertsIdeal_ExpertsRefIdeal := fun m g m' g' hpre hagree => by
  have hv := fun c : Dev Cert.ExpertsIdeal.nD => experts_value m (expertsInRange m hpre) m' c
    (by
      obtain ⟨e0, e1, e2, e3, e4, e5⟩ := hagree c
      unfold ExRef.rowsM
      rw [e0, e1, e2, e3, e4, e5])
    (fun j => ExRef.lt_of_pre (F := Ideal) _ _ _ _ _ _ (hpre c) j)
  exact ⟨fun c => Ex.endL m (expertsInRange m hpre) c, fun c => Ex.endR m (expertsInRange m hpre) c,
    (θ_run Cert.ExpertsIdeal.defs _ _).mono (fun _ h => h.1) (Ex.run_main (F := Ideal) m g (expertsInRange m hpre)),
    (θ_run Cert.ExpertsRefIdeal.defs _ _).mono
      (fun _ h c => ⟨(h.1 c).1.trans (hv c).1, (h.1 c).2.1.trans (hv c).2, (h.1 c).2.2⟩)
      (ExRef.run_main (F := Ideal) m' g')⟩

/-! ## The convolution branch's claims -/

theorem frame_branchA : Cert.quiescent_BranchA := fun m ρ _ => Cert.BranchA.Gen.frame m ρ

theorem frame_branchAIdeal : Cert.quiescent_BranchAIdeal := fun m ρ _ => Cert.BranchAIdeal.Gen.frame m ρ

theorem frame_branchARefIdeal : Cert.quiescent_BranchARefIdeal := fun m ρ _ =>
  (θ_run Cert.BranchARefIdeal.defs _ _).mono (fun _ h => ⟨fun c => (h.1 c).2, h.2⟩) (ARef.run_main (F := Ideal) m ρ)

theorem branchA_value (m : (ℓ : Loc Cert.BranchAIdeal.nD Cert.BranchAIdeal.τ Cert.BranchAIdeal.sig) → Buf (Elt Ideal) ℓ)
    (m' : (ℓ : Loc Cert.BranchARefIdeal.nD Cert.BranchARefIdeal.τ Cert.BranchARefIdeal.sig) → Buf (Elt Ideal) ℓ) (c : Dev Cert.BranchAIdeal.nD)
    (a : ARef.resultM m' c = ARef.result (F := Ideal) (m ((c.tc : Thread Cert.BranchAIdeal.nD Cert.BranchAIdeal.τ).loc Cert.BranchAIdeal.main_arg0))
      (m ((c.tc : Thread Cert.BranchAIdeal.nD Cert.BranchAIdeal.τ).loc Cert.BranchAIdeal.main_arg1)) (m ((c.tc : Thread Cert.BranchAIdeal.nD Cert.BranchAIdeal.τ).loc Cert.BranchAIdeal.main_arg2))
      (m ((c.tc : Thread Cert.BranchAIdeal.nD Cert.BranchAIdeal.τ).loc Cert.BranchAIdeal.main_arg3)) (m ((c.tc : Thread Cert.BranchAIdeal.nD Cert.BranchAIdeal.τ).loc Cert.BranchAIdeal.main_arg4))
      (m ((c.tc : Thread Cert.BranchAIdeal.nD Cert.BranchAIdeal.τ).loc Cert.BranchAIdeal.main_arg5)) (m ((c.tc : Thread Cert.BranchAIdeal.nD Cert.BranchAIdeal.τ).loc Cert.BranchAIdeal.main_arg6))) :
    ARef.resultM m' c = (Cert.BranchAIdeal.Gen.dats m 0 c).arrAt 8 Cert.BranchAIdeal.cfg0.N := by
  rw [a]
  refine Eq.trans ?_ (A.end_eq m c).symm
  funext i
  rw [ValueIdx.eq_ix3 i]
  exact ARef.result_apply _ _ _ _ _ _ _ (i 0) (i 1) (i 2)

theorem algBranchA : Cert.algebraic_BranchAIdeal_BranchARefIdeal := fun m g m' g' _ hagree => by
  have hv := fun c : Dev Cert.BranchAIdeal.nD => branchA_value m m' c (by
    obtain ⟨e0, e1, e2, e3, e4, e5, e6⟩ := hagree c
    unfold ARef.resultM
    rw [e0, e1, e2, e3, e4, e5, e6])
  exact ⟨fun c => (Cert.BranchAIdeal.Gen.dats m 0 c).arrAt 8 Cert.BranchAIdeal.cfg0.N,
    Cert.BranchAIdeal.Value.run_blocks m g,
    (θ_run Cert.BranchARefIdeal.defs _ _).mono (fun _ h c => ⟨(h.1 c).1.trans (hv c), (h.1 c).2⟩)
      (ARef.run_main (F := Ideal) m' g')⟩

/-! ## The combination's claims -/

theorem frame_combine : Cert.quiescent_Combine := fun m ρ _ => Cert.Combine.Gen.frame m ρ

theorem frame_combineIdeal : Cert.quiescent_CombineIdeal := fun m ρ _ => Cert.CombineIdeal.Gen.frame m ρ

theorem frame_combineRefIdeal : Cert.quiescent_CombineRefIdeal := fun m ρ _ =>
  (θ_run Cert.CombineRefIdeal.defs _ _).mono (fun _ h => ⟨fun c => (h.1 c).2, h.2⟩) (CRef.run_main (F := Ideal) m ρ)

theorem combine_value (m : (ℓ : Loc Cert.CombineIdeal.nD Cert.CombineIdeal.τ Cert.CombineIdeal.sig) → Buf (Elt Ideal) ℓ)
    (m' : (ℓ : Loc Cert.CombineRefIdeal.nD Cert.CombineRefIdeal.τ Cert.CombineRefIdeal.sig) → Buf (Elt Ideal) ℓ) (c : Dev Cert.CombineIdeal.nD)
    (a : CRef.resultM m' c = CRef.result (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1))
      (m ((c.tc : Thread Cert.CombineIdeal.nD Cert.CombineIdeal.τ).loc Cert.CombineIdeal.main_arg2)) (m ((c.tc : Thread Cert.CombineIdeal.nD Cert.CombineIdeal.τ).loc Cert.CombineIdeal.main_arg3))
      (m ((c.tc : Thread Cert.CombineIdeal.nD Cert.CombineIdeal.τ).loc Cert.CombineIdeal.main_arg4)) (m ((c.tc : Thread Cert.CombineIdeal.nD Cert.CombineIdeal.τ).loc Cert.CombineIdeal.main_arg5))
      (m ((c.tc : Thread Cert.CombineIdeal.nD Cert.CombineIdeal.τ).loc Cert.CombineIdeal.main_arg6))) :
    CRef.resultM m' c = (Cert.CombineIdeal.Gen.dats m 0 c).arrAt 6 Cert.CombineIdeal.cfg0.N := by
  rw [a]
  refine Eq.trans ?_ (C.end_eq m c).symm
  funext i
  rw [ValueIdx.eq_ix2 i]
  exact CRef.result_apply _ _ _ _ _ _ _ (i 0) (i 1)

theorem algCombine : Cert.algebraic_CombineIdeal_CombineRefIdeal := fun m g m' g' _ hagree => by
  have hv := fun c : Dev Cert.CombineIdeal.nD => combine_value m m' c (by
    obtain ⟨e0, e1, e2, e3, e4, e5, e6⟩ := hagree c
    unfold CRef.resultM
    rw [e0, e1, e2, e3, e4, e5, e6])
  exact ⟨fun c => (Cert.CombineIdeal.Gen.dats m 0 c).arrAt 6 Cert.CombineIdeal.cfg0.N,
    Cert.CombineIdeal.Value.run_blocks m g,
    (θ_run Cert.CombineRefIdeal.defs _ _).mono (fun _ h c => ⟨(h.1 c).1.trans (hv c), (h.1 c).2⟩)
      (CRef.run_main (F := Ideal) m' g')⟩

/-! ## The modulation's claims -/

theorem frame_modulation : Cert.quiescent_Modulation := fun m ρ _ => Cert.Modulation.Gen.frame m ρ

theorem frame_modulationIdeal : Cert.quiescent_ModulationIdeal := fun m ρ _ => Cert.ModulationIdeal.Gen.frame m ρ

theorem frame_modulationRefIdeal : Cert.quiescent_ModulationRefIdeal := fun m ρ _ =>
  (θ_run Cert.ModulationRefIdeal.defs _ _).mono (fun _ h => ⟨fun c => (h.1 c).2, h.2⟩) (MRef.run_main (F := Ideal) m ρ)

theorem modulation_value (m : (ℓ : Loc Cert.ModulationIdeal.nD Cert.ModulationIdeal.τ Cert.ModulationIdeal.sig) → Buf (Elt Ideal) ℓ)
    (m' : (ℓ : Loc Cert.ModulationRefIdeal.nD Cert.ModulationRefIdeal.τ Cert.ModulationRefIdeal.sig) → Buf (Elt Ideal) ℓ) (c : Dev Cert.ModulationIdeal.nD)
    (a : MRef.resultM m' c = MRef.result (F := Ideal) (m ((c.tc : Thread Cert.ModulationIdeal.nD Cert.ModulationIdeal.τ).loc Cert.ModulationIdeal.main_arg0))
      (m ((c.tc : Thread Cert.ModulationIdeal.nD Cert.ModulationIdeal.τ).loc Cert.ModulationIdeal.main_arg1))
      (m ((c.tc : Thread Cert.ModulationIdeal.nD Cert.ModulationIdeal.τ).loc Cert.ModulationIdeal.main_arg2))) :
    MRef.resultM m' c = (Cert.ModulationIdeal.Gen.dats m 0 c).arrAt 3 Cert.ModulationIdeal.cfg0.N := by
  rw [a]
  refine Eq.trans ?_ (M.end_eq m c).symm
  funext i
  rw [ValueIdx.eq_ix3 i]
  exact MRef.result_apply _ _ _ (i 0) (i 1) (i 2)

theorem algModulation : Cert.algebraic_ModulationIdeal_ModulationRefIdeal := fun m g m' g' _ hagree => by
  have hv := fun c : Dev Cert.ModulationIdeal.nD => modulation_value m m' c (by
    obtain ⟨e0, e1, e2⟩ := hagree c
    unfold MRef.resultM
    rw [e0, e1, e2])
  exact ⟨fun c => (Cert.ModulationIdeal.Gen.dats m 0 c).arrAt 3 Cert.ModulationIdeal.cfg0.N,
    Cert.ModulationIdeal.Value.run_blocks m g,
    (θ_run Cert.ModulationRefIdeal.defs _ _).mono (fun _ h c => ⟨(h.1 c).1.trans (hv c), (h.1 c).2⟩)
      (MRef.run_main (F := Ideal) m' g')⟩

/-! ## The rotary tables' claims -/

theorem frame_rope : Cert.quiescent_Rope := fun m ρ _ => Cert.Rope.Gen.frame m ρ

theorem frame_ropeIdeal : Cert.quiescent_RopeIdeal := fun m ρ _ => Cert.RopeIdeal.Gen.frame m ρ

theorem frame_ropeRefIdeal : Cert.quiescent_RopeRefIdeal := fun m ρ _ => PRef.run_kept ρ m

theorem rope_cos (m : (ℓ : Loc Cert.RopeIdeal.nD Cert.RopeIdeal.τ Cert.RopeIdeal.sig) → Buf (Elt Ideal) ℓ) (c : Dev Cert.RopeIdeal.nD) :
    PRef.cosines (m ((c.tc : Thread Cert.RopeIdeal.nD Cert.RopeIdeal.τ).loc Cert.RopeIdeal.main_arg0))
      = (Cert.RopeIdeal.Gen.dats m 0 c).arrAt 2 Cert.RopeIdeal.cfg0.N := by
  refine Eq.trans ?_ (P.cos_end m c).symm
  funext i
  rw [ValueIdx.eq_ix3 i]
  exact PRef.cosines_apply _ (i 0) (i 1) (i 2)

theorem rope_sin (m : (ℓ : Loc Cert.RopeIdeal.nD Cert.RopeIdeal.τ Cert.RopeIdeal.sig) → Buf (Elt Ideal) ℓ) (c : Dev Cert.RopeIdeal.nD) :
    PRef.sines (m ((c.tc : Thread Cert.RopeIdeal.nD Cert.RopeIdeal.τ).loc Cert.RopeIdeal.main_arg0))
      = (Cert.RopeIdeal.Gen.dats m 0 c).arrAt 3 Cert.RopeIdeal.cfg0.N := by
  refine Eq.trans ?_ (P.sin_end m c).symm
  funext i
  rw [ValueIdx.eq_ix3 i]
  exact PRef.sines_apply _ (i 0) (i 1) (i 2)

theorem algRope : Cert.algebraic_RopeIdeal_RopeRefIdeal := fun m g m' g' _ hagree =>
  ⟨fun c => (Cert.RopeIdeal.Gen.dats m 0 c).arrAt 2 Cert.RopeIdeal.cfg0.N, fun c => (Cert.RopeIdeal.Gen.dats m 0 c).arrAt 3 Cert.RopeIdeal.cfg0.N,
    P.run_tables m g,
    (θ_run Cert.RopeRefIdeal.defs _ _).mono (fun _ h c =>
      ⟨(h c).1.trans ((congrArg PRef.cosines (hagree c)).trans (rope_cos m c)), (h c).2.1.trans ((congrArg PRef.sines (hagree c)).trans (rope_sin m c)), (h c).2.2⟩)
      (PRef.run_main m' g')⟩

/-! ## The output projection's claims -/

theorem frame_router : Cert.quiescent_Router := fun m ρ _ => Cert.Router.Gen.frame m ρ

theorem frame_routerIdeal : Cert.quiescent_RouterIdeal := fun m ρ _ => Cert.RouterIdeal.Gen.frame m ρ

theorem frame_routerRefIdeal : Cert.quiescent_RouterRefIdeal := fun m ρ _ =>
  (θ_run Cert.RouterRefIdeal.defs _ _).mono (fun r h => ⟨fun c => (h c).2.2.2, sem_eq_zero_of_no_sems (by decide) r.2⟩)
    (RRef.run_main (F := Ideal) m ρ)

theorem router_rows (m : (ℓ : Loc Cert.RouterIdeal.nD Cert.RouterIdeal.τ Cert.RouterIdeal.sig) → Buf (Elt Ideal) ℓ) (c : Dev Cert.RouterIdeal.nD) :
    RRef.residual (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))
      = (Cert.RouterIdeal.Gen.dats m 0 c).arrAt 11 Cert.RouterIdeal.cfg0.N := by
  refine Eq.trans ?_ (R.rows_end m c).symm
  funext i
  rw [ValueIdx.eq_ix3 i]
  exact RRef.residual_apply _ _ _ _ _ _ (i 0) (i 1) (i 2)

theorem router_left (m : (ℓ : Loc Cert.RouterIdeal.nD Cert.RouterIdeal.τ Cert.RouterIdeal.sig) → Buf (Elt Ideal) ℓ) (c : Dev Cert.RouterIdeal.nD) :
    RRef.leftHalf (RRef.flattened (RRef.residual (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)))
      = (Cert.RouterIdeal.Gen.dats m 0 c).arrAt 16 Cert.RouterIdeal.cfg0.N := by
  refine Eq.trans ?_ (R.left_end m c).symm
  funext i
  rw [ValueIdx.eq_ix2 i]
  exact RRef.left_apply _ _ _ _ _ _ _ _ _ (i 0) (i 1)

theorem router_right (m : (ℓ : Loc Cert.RouterIdeal.nD Cert.RouterIdeal.τ Cert.RouterIdeal.sig) → Buf (Elt Ideal) ℓ) (c : Dev Cert.RouterIdeal.nD) :
    RRef.rightHalf (RRef.flattened (RRef.residual (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)))
      = (Cert.RouterIdeal.Gen.dats m 0 c).arrAt 17 Cert.RouterIdeal.cfg0.N := by
  refine Eq.trans ?_ (R.right_end m c).symm
  funext i
  rw [ValueIdx.eq_ix2 i]
  exact RRef.right_apply _ _ _ _ _ _ _ _ _ (i 0) (i 1)

theorem algRouter : Cert.algebraic_RouterIdeal_RouterRefIdeal := fun m g m' g' _ hagree => by
  have hr := fun c : Dev Cert.RouterIdeal.nD => show RRef.residualM m' c = RRef.residual (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) by
    obtain ⟨e0, e1, e2, e3, e4, e5, -⟩ := hagree c
    unfold RRef.residualM
    rw [e0, e1, e2, e3, e4, e5]
  have hf := fun c : Dev Cert.RouterIdeal.nD => show RRef.flattenedM m' c = RRef.flattened (RRef.residual (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) by
    obtain ⟨-, -, -, -, -, -, e6, e7, e8, -⟩ := hagree c
    unfold RRef.flattenedM
    rw [hr c, e6, e7, e8]
  exact ⟨fun c => (Cert.RouterIdeal.Gen.dats m 0 c).arrAt 11 Cert.RouterIdeal.cfg0.N, fun c => (Cert.RouterIdeal.Gen.dats m 0 c).arrAt 16 Cert.RouterIdeal.cfg0.N,
    fun c => (Cert.RouterIdeal.Gen.dats m 0 c).arrAt 17 Cert.RouterIdeal.cfg0.N,
    R.run_arrays m g,
    (θ_run Cert.RouterRefIdeal.defs _ _).mono (fun _ h c =>
      ⟨(h c).1.trans ((hr c).trans (router_rows m c)), (h c).2.1.trans ((congrArg RRef.leftHalf (hf c)).trans (router_left m c)),
        (h c).2.2.1.trans ((congrArg RRef.rightHalf (hf c)).trans (router_right m c)), (h c).2.2.2⟩)
      (RRef.run_main (F := Ideal) m' g')⟩

theorem claim : Cert.Claim :=
  ⟨Cert.Kernel.Gen.facts, Cert.KernelIdeal.Gen.facts, Cert.ReferenceIdeal.Gen.facts, factsReference,
    Cert.Experts.Gen.facts, Cert.ExpertsIdeal.Gen.facts, Cert.ExpertsRefIdeal.Gen.facts,
    Cert.BranchA.Gen.facts, Cert.BranchAIdeal.Gen.facts, Cert.BranchARefIdeal.Gen.facts,
    Cert.Combine.Gen.facts, Cert.CombineIdeal.Gen.facts, Cert.CombineRefIdeal.Gen.facts,
    Cert.Modulation.Gen.facts, Cert.ModulationIdeal.Gen.facts, Cert.ModulationRefIdeal.Gen.facts,
    Cert.Rope.Gen.facts, Cert.RopeIdeal.Gen.facts, Cert.RopeRefIdeal.Gen.facts,
    Cert.Router.Gen.facts, Cert.RouterIdeal.Gen.facts, Cert.RouterRefIdeal.Gen.facts, factsPre, factsPreExperts,
    frame_kernel, frame_kernelIdeal, frame_referenceIdeal, frame_reference, frame_experts, frame_expertsIdeal,
    frame_expertsRefIdeal, frame_branchA, frame_branchAIdeal, frame_branchARefIdeal, frame_combine, frame_combineIdeal,
    frame_combineRefIdeal, frame_modulation, frame_modulationIdeal, frame_modulationRefIdeal, frame_rope, frame_ropeIdeal,
    frame_ropeRefIdeal, frame_router, frame_routerIdeal, frame_routerRefIdeal, trivial, alg, bits, trivial, algExperts, trivial, algBranchA, trivial, algCombine,
    trivial, algModulation, trivial, algRope, trivial, algRouter⟩

end Cert.Proof

end
